-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Keys (m : (ℓ : Loc Cert.Keys.nD Cert.Keys.τ Cert.Keys.sig) → Buf (Elt Bits) ℓ) : Prop :=
  True

def Pre_KeysIdeal (m : (ℓ : Loc Cert.KeysIdeal.nD Cert.KeysIdeal.τ Cert.KeysIdeal.sig) → Buf (Elt Ideal) ℓ) : Prop :=
  True

def Pre_KeysRefIdeal (m : (ℓ : Loc Cert.KeysRefIdeal.nD Cert.KeysRefIdeal.τ Cert.KeysRefIdeal.sig) → Buf (Elt Ideal) ℓ) : Prop :=
  True

def Pre_Values (m : (ℓ : Loc Cert.Values.nD Cert.Values.τ Cert.Values.sig) → Buf (Elt Bits) ℓ) : Prop :=
  True

def Pre_ValuesIdeal (m : (ℓ : Loc Cert.ValuesIdeal.nD Cert.ValuesIdeal.τ Cert.ValuesIdeal.sig) → Buf (Elt Ideal) ℓ) : Prop :=
  True

def Pre_ValuesRefIdeal (m : (ℓ : Loc Cert.ValuesRefIdeal.nD Cert.ValuesRefIdeal.τ Cert.ValuesRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_Kvb (m : (ℓ : Loc Cert.Kvb.nD Cert.Kvb.τ Cert.Kvb.sig) → Buf (Elt Bits) ℓ) : Prop :=
  True

def Pre_KvbIdeal (m : (ℓ : Loc Cert.KvbIdeal.nD Cert.KvbIdeal.τ Cert.KvbIdeal.sig) → Buf (Elt Ideal) ℓ) : Prop :=
  True

def Pre_KvbRefIdeal (m : (ℓ : Loc Cert.KvbRefIdeal.nD Cert.KvbRefIdeal.τ Cert.KvbRefIdeal.sig) → Buf (Elt Ideal) ℓ) : Prop :=
  True

def Pre_KeysStep (m : (ℓ : Loc Cert.KeysStep.nD Cert.KeysStep.τ Cert.KeysStep.sig) → Buf (Elt Bits) ℓ) : Prop :=
  True

def Pre_KeysStepIdeal (m : (ℓ : Loc Cert.KeysStepIdeal.nD Cert.KeysStepIdeal.τ Cert.KeysStepIdeal.sig) → Buf (Elt Ideal) ℓ) : Prop :=
  True

def Pre_KeysStepRefIdeal (m : (ℓ : Loc Cert.KeysStepRefIdeal.nD Cert.KeysStepRefIdeal.τ Cert.KeysStepRefIdeal.sig) → Buf (Elt Ideal) ℓ) : Prop :=
  True

def Pre_ValuesStep (m : (ℓ : Loc Cert.ValuesStep.nD Cert.ValuesStep.τ Cert.ValuesStep.sig) → Buf (Elt Bits) ℓ) : Prop :=
  True

def Pre_ValuesStepIdeal (m : (ℓ : Loc Cert.ValuesStepIdeal.nD Cert.ValuesStepIdeal.τ Cert.ValuesStepIdeal.sig) → Buf (Elt Ideal) ℓ) : Prop :=
  True

def Pre_ValuesStepRefIdeal (m : (ℓ : Loc Cert.ValuesStepRefIdeal.nD Cert.ValuesStepRefIdeal.τ Cert.ValuesStepRefIdeal.sig) → Buf (Elt Ideal) ℓ) : Prop :=
  True

def Pre_TailStep (m : (ℓ : Loc Cert.TailStep.nD Cert.TailStep.τ Cert.TailStep.sig) → Buf (Elt Bits) ℓ) : Prop :=
  True

def Pre_TailStepIdeal (m : (ℓ : Loc Cert.TailStepIdeal.nD Cert.TailStepIdeal.τ Cert.TailStepIdeal.sig) → Buf (Elt Ideal) ℓ) : Prop :=
  True

def Pre_TailStepRefIdeal (m : (ℓ : Loc Cert.TailStepRefIdeal.nD Cert.TailStepRefIdeal.τ Cert.TailStepRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_IndexQuery (m : (ℓ : Loc Cert.IndexQuery.nD Cert.IndexQuery.τ Cert.IndexQuery.sig) → Buf (Elt Bits) ℓ) : Prop :=
  True

def Pre_IndexQueryIdeal (m : (ℓ : Loc Cert.IndexQueryIdeal.nD Cert.IndexQueryIdeal.τ Cert.IndexQueryIdeal.sig) → Buf (Elt Ideal) ℓ) : Prop :=
  True

def Pre_IndexQueryIdeal_finite_prompt [hPre_finite_prompt : Cert.Pre_finite_prompt.Facts] (m : (ℓ : Loc Cert.IndexQueryIdeal.nD Cert.IndexQueryIdeal.τ Cert.IndexQueryIdeal.sig) → Buf (Elt Ideal) ℓ) : Prop :=
  ∀ c : Dev Cert.IndexQueryIdeal.nD,
    (Cert.Pre_finite_prompt.fn (F := Ideal) (m ((c.tc : Thread Cert.IndexQueryIdeal.nD Cert.IndexQueryIdeal.τ).loc Cert.IndexQueryIdeal.main_arg0)) (m ((c.tc : Thread Cert.IndexQueryIdeal.nD Cert.IndexQueryIdeal.τ).loc Cert.IndexQueryIdeal.main_arg1))) = (fun _ => 1#1)

def Pre_IndexQueryRefIdeal (m : (ℓ : Loc Cert.IndexQueryRefIdeal.nD Cert.IndexQueryRefIdeal.τ Cert.IndexQueryRefIdeal.sig) → Buf (Elt Ideal) ℓ) : Prop :=
  True

def Pre_IndexQueryRefIdeal_finite_prompt [hPre_finite_prompt : Cert.Pre_finite_prompt.Facts] (m : (ℓ : Loc Cert.IndexQueryRefIdeal.nD Cert.IndexQueryRefIdeal.τ Cert.IndexQueryRefIdeal.sig) → Buf (Elt Ideal) ℓ) : Prop :=
  ∀ c : Dev Cert.IndexQueryRefIdeal.nD,
    (Cert.Pre_finite_prompt.fn (F := Ideal) (m ((c.tc : Thread Cert.IndexQueryRefIdeal.nD Cert.IndexQueryRefIdeal.τ).loc Cert.IndexQueryRefIdeal.main_arg0)) (m ((c.tc : Thread Cert.IndexQueryRefIdeal.nD Cert.IndexQueryRefIdeal.τ).loc Cert.IndexQueryRefIdeal.main_arg1))) = (fun _ => 1#1)

def Pre_IndexKey (m : (ℓ : Loc Cert.IndexKey.nD Cert.IndexKey.τ Cert.IndexKey.sig) → Buf (Elt Bits) ℓ) : Prop :=
  True

def Pre_IndexKeyIdeal (m : (ℓ : Loc Cert.IndexKeyIdeal.nD Cert.IndexKeyIdeal.τ Cert.IndexKeyIdeal.sig) → Buf (Elt Ideal) ℓ) : Prop :=
  True

def Pre_IndexKeyIdeal_finite_prompt [hPre_finite_prompt : Cert.Pre_finite_prompt.Facts] (m : (ℓ : Loc Cert.IndexKeyIdeal.nD Cert.IndexKeyIdeal.τ Cert.IndexKeyIdeal.sig) → Buf (Elt Ideal) ℓ) : Prop :=
  ∀ c : Dev Cert.IndexKeyIdeal.nD,
    (Cert.Pre_finite_prompt.fn (F := Ideal) (m ((c.tc : Thread Cert.IndexKeyIdeal.nD Cert.IndexKeyIdeal.τ).loc Cert.IndexKeyIdeal.main_arg0)) (m ((c.tc : Thread Cert.IndexKeyIdeal.nD Cert.IndexKeyIdeal.τ).loc Cert.IndexKeyIdeal.main_arg1))) = (fun _ => 1#1)

def Pre_IndexKeyRefIdeal (m : (ℓ : Loc Cert.IndexKeyRefIdeal.nD Cert.IndexKeyRefIdeal.τ Cert.IndexKeyRefIdeal.sig) → Buf (Elt Ideal) ℓ) : Prop :=
  True

def Pre_IndexKeyRefIdeal_finite_prompt [hPre_finite_prompt : Cert.Pre_finite_prompt.Facts] (m : (ℓ : Loc Cert.IndexKeyRefIdeal.nD Cert.IndexKeyRefIdeal.τ Cert.IndexKeyRefIdeal.sig) → Buf (Elt Ideal) ℓ) : Prop :=
  ∀ c : Dev Cert.IndexKeyRefIdeal.nD,
    (Cert.Pre_finite_prompt.fn (F := Ideal) (m ((c.tc : Thread Cert.IndexKeyRefIdeal.nD Cert.IndexKeyRefIdeal.τ).loc Cert.IndexKeyRefIdeal.main_arg0)) (m ((c.tc : Thread Cert.IndexKeyRefIdeal.nD Cert.IndexKeyRefIdeal.τ).loc Cert.IndexKeyRefIdeal.main_arg1))) = (fun _ => 1#1)

def Pre_IndexKeyStep (m : (ℓ : Loc Cert.IndexKeyStep.nD Cert.IndexKeyStep.τ Cert.IndexKeyStep.sig) → Buf (Elt Bits) ℓ) : Prop :=
  True

def Pre_IndexKeyStepIdeal (m : (ℓ : Loc Cert.IndexKeyStepIdeal.nD Cert.IndexKeyStepIdeal.τ Cert.IndexKeyStepIdeal.sig) → Buf (Elt Ideal) ℓ) : Prop :=
  True

def Pre_IndexKeyStepIdeal_finite_step [hPre_finite_step : Cert.Pre_finite_step.Facts] (m : (ℓ : Loc Cert.IndexKeyStepIdeal.nD Cert.IndexKeyStepIdeal.τ Cert.IndexKeyStepIdeal.sig) → Buf (Elt Ideal) ℓ) : Prop :=
  ∀ c : Dev Cert.IndexKeyStepIdeal.nD,
    (Cert.Pre_finite_step.fn (F := Ideal) (m ((c.tc : Thread Cert.IndexKeyStepIdeal.nD Cert.IndexKeyStepIdeal.τ).loc Cert.IndexKeyStepIdeal.main_arg0)) (m ((c.tc : Thread Cert.IndexKeyStepIdeal.nD Cert.IndexKeyStepIdeal.τ).loc Cert.IndexKeyStepIdeal.main_arg1))) = (fun _ => 1#1)

def Pre_IndexKeyStepRefIdeal (m : (ℓ : Loc Cert.IndexKeyStepRefIdeal.nD Cert.IndexKeyStepRefIdeal.τ Cert.IndexKeyStepRefIdeal.sig) → Buf (Elt Ideal) ℓ) : Prop :=
  True

def Pre_IndexKeyStepRefIdeal_finite_step [hPre_finite_step : Cert.Pre_finite_step.Facts] (m : (ℓ : Loc Cert.IndexKeyStepRefIdeal.nD Cert.IndexKeyStepRefIdeal.τ Cert.IndexKeyStepRefIdeal.sig) → Buf (Elt Ideal) ℓ) : Prop :=
  ∀ c : Dev Cert.IndexKeyStepRefIdeal.nD,
    (Cert.Pre_finite_step.fn (F := Ideal) (m ((c.tc : Thread Cert.IndexKeyStepRefIdeal.nD Cert.IndexKeyStepRefIdeal.τ).loc Cert.IndexKeyStepRefIdeal.main_arg0)) (m ((c.tc : Thread Cert.IndexKeyStepRefIdeal.nD Cert.IndexKeyStepRefIdeal.τ).loc Cert.IndexKeyStepRefIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4))
      ∧ r.2.sem = fun _ => 0)

def quiescent_Keys [hKeys : Cert.Keys.Facts] : Prop :=
  ∀ (m : (ℓ : Loc Cert.Keys.nD Cert.Keys.τ Cert.Keys.sig) → Buf (Elt Bits) ℓ) (g : Dev Cert.Keys.nD → PrngReg), Pre_Keys m →
    θ_run (Cert.Keys.defs (F := Bits)) (onTc (τ := Cert.Keys.τ) (Cert.Keys.main (F := Bits))) ⟨m, fun _ => 0, g⟩ (fun r => (∀ c : Dev Cert.Keys.nD,
      r.2.mem ((c.tc : Thread Cert.Keys.nD Cert.Keys.τ).loc Cert.Keys.main_arg0) = m ((c.tc : Thread Cert.Keys.nD Cert.Keys.τ).loc Cert.Keys.main_arg0)
      ∧ r.2.mem ((c.tc : Thread Cert.Keys.nD Cert.Keys.τ).loc Cert.Keys.main_arg1) = m ((c.tc : Thread Cert.Keys.nD Cert.Keys.τ).loc Cert.Keys.main_arg1))
      ∧ r.2.sem = fun _ => 0)

def quiescent_KeysIdeal [hKeysIdeal : Cert.KeysIdeal.Facts] : Prop :=
  ∀ (m : (ℓ : Loc Cert.KeysIdeal.nD Cert.KeysIdeal.τ Cert.KeysIdeal.sig) → Buf (Elt Ideal) ℓ) (g : Dev Cert.KeysIdeal.nD → PrngReg), Pre_KeysIdeal m →
    θ_run (Cert.KeysIdeal.defs (F := Ideal)) (onTc (τ := Cert.KeysIdeal.τ) (Cert.KeysIdeal.main (F := Ideal))) ⟨m, fun _ => 0, g⟩ (fun r => (∀ c : Dev Cert.KeysIdeal.nD,
      r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
      ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1))
      ∧ r.2.sem = fun _ => 0)

def quiescent_KeysRefIdeal [hKeysRefIdeal : Cert.KeysRefIdeal.Facts] : Prop :=
  ∀ (m : (ℓ : Loc Cert.KeysRefIdeal.nD Cert.KeysRefIdeal.τ Cert.KeysRefIdeal.sig) → Buf (Elt Ideal) ℓ) (g : Dev Cert.KeysRefIdeal.nD → PrngReg), Pre_KeysRefIdeal m →
    θ_run (Cert.KeysRefIdeal.defs (F := Ideal)) (onTc (τ := Cert.KeysRefIdeal.τ) (Cert.KeysRefIdeal.main (F := Ideal))) ⟨m, fun _ => 0, g⟩ (fun r => (∀ c : Dev Cert.KeysRefIdeal.nD,
      r.2.mem ((c.tc : Thread Cert.KeysRefIdeal.nD Cert.KeysRefIdeal.τ).loc Cert.KeysRefIdeal.main_arg0) = m ((c.tc : Thread Cert.KeysRefIdeal.nD Cert.KeysRefIdeal.τ).loc Cert.KeysRefIdeal.main_arg0)
      ∧ r.2.mem ((c.tc : Thread Cert.KeysRefIdeal.nD Cert.KeysRefIdeal.τ).loc Cert.KeysRefIdeal.main_arg1) = m ((c.tc : Thread Cert.KeysRefIdeal.nD Cert.KeysRefIdeal.τ).loc Cert.KeysRefIdeal.main_arg1))
      ∧ r.2.sem = fun _ => 0)

def quiescent_Values [hValues : Cert.Values.Facts] : Prop :=
  ∀ (m : (ℓ : Loc Cert.Values.nD Cert.Values.τ Cert.Values.sig) → Buf (Elt Bits) ℓ) (g : Dev Cert.Values.nD → PrngReg), Pre_Values m →
    θ_run (Cert.Values.defs (F := Bits)) (onTc (τ := Cert.Values.τ) (Cert.Values.main (F := Bits))) ⟨m, fun _ => 0, g⟩ (fun r => (∀ c : Dev Cert.Values.nD,
      r.2.mem ((c.tc : Thread Cert.Values.nD Cert.Values.τ).loc Cert.Values.main_arg0) = m ((c.tc : Thread Cert.Values.nD Cert.Values.τ).loc Cert.Values.main_arg0)
      ∧ r.2.mem ((c.tc : Thread Cert.Values.nD Cert.Values.τ).loc Cert.Values.main_arg1) = m ((c.tc : Thread Cert.Values.nD Cert.Values.τ).loc Cert.Values.main_arg1))
      ∧ r.2.sem = fun _ => 0)

def quiescent_ValuesIdeal [hValuesIdeal : Cert.ValuesIdeal.Facts] : Prop :=
  ∀ (m : (ℓ : Loc Cert.ValuesIdeal.nD Cert.ValuesIdeal.τ Cert.ValuesIdeal.sig) → Buf (Elt Ideal) ℓ) (g : Dev Cert.ValuesIdeal.nD → PrngReg), Pre_ValuesIdeal m →
    θ_run (Cert.ValuesIdeal.defs (F := Ideal)) (onTc (τ := Cert.ValuesIdeal.τ) (Cert.ValuesIdeal.main (F := Ideal))) ⟨m, fun _ => 0, g⟩ (fun r => (∀ c : Dev Cert.ValuesIdeal.nD,
      r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
      ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1))
      ∧ r.2.sem = fun _ => 0)

def quiescent_ValuesRefIdeal [hValuesRefIdeal : Cert.ValuesRefIdeal.Facts] : Prop :=
  ∀ (m : (ℓ : Loc Cert.ValuesRefIdeal.nD Cert.ValuesRefIdeal.τ Cert.ValuesRefIdeal.sig) → Buf (Elt Ideal) ℓ) (g : Dev Cert.ValuesRefIdeal.nD → PrngReg), Pre_ValuesRefIdeal m →
    θ_run (Cert.ValuesRefIdeal.defs (F := Ideal)) (onTc (τ := Cert.ValuesRefIdeal.τ) (Cert.ValuesRefIdeal.main (F := Ideal))) ⟨m, fun _ => 0, g⟩ (fun r => (∀ c : Dev Cert.ValuesRefIdeal.nD,
      r.2.mem ((c.tc : Thread Cert.ValuesRefIdeal.nD Cert.ValuesRefIdeal.τ).loc Cert.ValuesRefIdeal.main_arg0) = m ((c.tc : Thread Cert.ValuesRefIdeal.nD Cert.ValuesRefIdeal.τ).loc Cert.ValuesRefIdeal.main_arg0)
      ∧ r.2.mem ((c.tc : Thread Cert.ValuesRefIdeal.nD Cert.ValuesRefIdeal.τ).loc Cert.ValuesRefIdeal.main_arg1) = m ((c.tc : Thread Cert.ValuesRefIdeal.nD Cert.ValuesRefIdeal.τ).loc Cert.ValuesRefIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1))
      ∧ r.2.sem = fun _ => 0)

def quiescent_Kvb [hKvb : Cert.Kvb.Facts] : Prop :=
  ∀ (m : (ℓ : Loc Cert.Kvb.nD Cert.Kvb.τ Cert.Kvb.sig) → Buf (Elt Bits) ℓ) (g : Dev Cert.Kvb.nD → PrngReg), Pre_Kvb m →
    θ_run (Cert.Kvb.defs (F := Bits)) (onTc (τ := Cert.Kvb.τ) (Cert.Kvb.main (F := Bits))) ⟨m, fun _ => 0, g⟩ (fun r => (∀ c : Dev Cert.Kvb.nD,
      r.2.mem ((c.tc : Thread Cert.Kvb.nD Cert.Kvb.τ).loc Cert.Kvb.main_arg0) = m ((c.tc : Thread Cert.Kvb.nD Cert.Kvb.τ).loc Cert.Kvb.main_arg0)
      ∧ r.2.mem ((c.tc : Thread Cert.Kvb.nD Cert.Kvb.τ).loc Cert.Kvb.main_arg1) = m ((c.tc : Thread Cert.Kvb.nD Cert.Kvb.τ).loc Cert.Kvb.main_arg1))
      ∧ r.2.sem = fun _ => 0)

def quiescent_KvbIdeal [hKvbIdeal : Cert.KvbIdeal.Facts] : Prop :=
  ∀ (m : (ℓ : Loc Cert.KvbIdeal.nD Cert.KvbIdeal.τ Cert.KvbIdeal.sig) → Buf (Elt Ideal) ℓ) (g : Dev Cert.KvbIdeal.nD → PrngReg), Pre_KvbIdeal m →
    θ_run (Cert.KvbIdeal.defs (F := Ideal)) (onTc (τ := Cert.KvbIdeal.τ) (Cert.KvbIdeal.main (F := Ideal))) ⟨m, fun _ => 0, g⟩ (fun r => (∀ c : Dev Cert.KvbIdeal.nD,
      r.2.mem ((c.tc : Thread Cert.KvbIdeal.nD Cert.KvbIdeal.τ).loc Cert.KvbIdeal.main_arg0) = m ((c.tc : Thread Cert.KvbIdeal.nD Cert.KvbIdeal.τ).loc Cert.KvbIdeal.main_arg0)
      ∧ r.2.mem ((c.tc : Thread Cert.KvbIdeal.nD Cert.KvbIdeal.τ).loc Cert.KvbIdeal.main_arg1) = m ((c.tc : Thread Cert.KvbIdeal.nD Cert.KvbIdeal.τ).loc Cert.KvbIdeal.main_arg1))
      ∧ r.2.sem = fun _ => 0)

def quiescent_KvbRefIdeal [hKvbRefIdeal : Cert.KvbRefIdeal.Facts] : Prop :=
  ∀ (m : (ℓ : Loc Cert.KvbRefIdeal.nD Cert.KvbRefIdeal.τ Cert.KvbRefIdeal.sig) → Buf (Elt Ideal) ℓ) (g : Dev Cert.KvbRefIdeal.nD → PrngReg), Pre_KvbRefIdeal m →
    θ_run (Cert.KvbRefIdeal.defs (F := Ideal)) (onTc (τ := Cert.KvbRefIdeal.τ) (Cert.KvbRefIdeal.main (F := Ideal))) ⟨m, fun _ => 0, g⟩ (fun r => (∀ c : Dev Cert.KvbRefIdeal.nD,
      r.2.mem ((c.tc : Thread Cert.KvbRefIdeal.nD Cert.KvbRefIdeal.τ).loc Cert.KvbRefIdeal.main_arg0) = m ((c.tc : Thread Cert.KvbRefIdeal.nD Cert.KvbRefIdeal.τ).loc Cert.KvbRefIdeal.main_arg0)
      ∧ r.2.mem ((c.tc : Thread Cert.KvbRefIdeal.nD Cert.KvbRefIdeal.τ).loc Cert.KvbRefIdeal.main_arg1) = m ((c.tc : Thread Cert.KvbRefIdeal.nD Cert.KvbRefIdeal.τ).loc Cert.KvbRefIdeal.main_arg1))
      ∧ r.2.sem = fun _ => 0)

def quiescent_KeysStep [hKeysStep : Cert.KeysStep.Facts] : Prop :=
  ∀ (m : (ℓ : Loc Cert.KeysStep.nD Cert.KeysStep.τ Cert.KeysStep.sig) → Buf (Elt Bits) ℓ) (g : Dev Cert.KeysStep.nD → PrngReg), Pre_KeysStep m →
    θ_run (Cert.KeysStep.defs (F := Bits)) (onTc (τ := Cert.KeysStep.τ) (Cert.KeysStep.main (F := Bits))) ⟨m, fun _ => 0, g⟩ (fun r => (∀ c : Dev Cert.KeysStep.nD,
      r.2.mem ((c.tc : Thread Cert.KeysStep.nD Cert.KeysStep.τ).loc Cert.KeysStep.main_arg0) = m ((c.tc : Thread Cert.KeysStep.nD Cert.KeysStep.τ).loc Cert.KeysStep.main_arg0)
      ∧ r.2.mem ((c.tc : Thread Cert.KeysStep.nD Cert.KeysStep.τ).loc Cert.KeysStep.main_arg1) = m ((c.tc : Thread Cert.KeysStep.nD Cert.KeysStep.τ).loc Cert.KeysStep.main_arg1))
      ∧ r.2.sem = fun _ => 0)

def quiescent_KeysStepIdeal [hKeysStepIdeal : Cert.KeysStepIdeal.Facts] : Prop :=
  ∀ (m : (ℓ : Loc Cert.KeysStepIdeal.nD Cert.KeysStepIdeal.τ Cert.KeysStepIdeal.sig) → Buf (Elt Ideal) ℓ) (g : Dev Cert.KeysStepIdeal.nD → PrngReg), Pre_KeysStepIdeal m →
    θ_run (Cert.KeysStepIdeal.defs (F := Ideal)) (onTc (τ := Cert.KeysStepIdeal.τ) (Cert.KeysStepIdeal.main (F := Ideal))) ⟨m, fun _ => 0, g⟩ (fun r => (∀ c : Dev Cert.KeysStepIdeal.nD,
      r.2.mem ((c.tc : Thread Cert.KeysStepIdeal.nD Cert.KeysStepIdeal.τ).loc Cert.KeysStepIdeal.main_arg0) = m ((c.tc : Thread Cert.KeysStepIdeal.nD Cert.KeysStepIdeal.τ).loc Cert.KeysStepIdeal.main_arg0)
      ∧ r.2.mem ((c.tc : Thread Cert.KeysStepIdeal.nD Cert.KeysStepIdeal.τ).loc Cert.KeysStepIdeal.main_arg1) = m ((c.tc : Thread Cert.KeysStepIdeal.nD Cert.KeysStepIdeal.τ).loc Cert.KeysStepIdeal.main_arg1))
      ∧ r.2.sem = fun _ => 0)

def quiescent_KeysStepRefIdeal [hKeysStepRefIdeal : Cert.KeysStepRefIdeal.Facts] : Prop :=
  ∀ (m : (ℓ : Loc Cert.KeysStepRefIdeal.nD Cert.KeysStepRefIdeal.τ Cert.KeysStepRefIdeal.sig) → Buf (Elt Ideal) ℓ) (g : Dev Cert.KeysStepRefIdeal.nD → PrngReg), Pre_KeysStepRefIdeal m →
    θ_run (Cert.KeysStepRefIdeal.defs (F := Ideal)) (onTc (τ := Cert.KeysStepRefIdeal.τ) (Cert.KeysStepRefIdeal.main (F := Ideal))) ⟨m, fun _ => 0, g⟩ (fun r => (∀ c : Dev Cert.KeysStepRefIdeal.nD,
      r.2.mem ((c.tc : Thread Cert.KeysStepRefIdeal.nD Cert.KeysStepRefIdeal.τ).loc Cert.KeysStepRefIdeal.main_arg0) = m ((c.tc : Thread Cert.KeysStepRefIdeal.nD Cert.KeysStepRefIdeal.τ).loc Cert.KeysStepRefIdeal.main_arg0)
      ∧ r.2.mem ((c.tc : Thread Cert.KeysStepRefIdeal.nD Cert.KeysStepRefIdeal.τ).loc Cert.KeysStepRefIdeal.main_arg1) = m ((c.tc : Thread Cert.KeysStepRefIdeal.nD Cert.KeysStepRefIdeal.τ).loc Cert.KeysStepRefIdeal.main_arg1))
      ∧ r.2.sem = fun _ => 0)

def quiescent_ValuesStep [hValuesStep : Cert.ValuesStep.Facts] : Prop :=
  ∀ (m : (ℓ : Loc Cert.ValuesStep.nD Cert.ValuesStep.τ Cert.ValuesStep.sig) → Buf (Elt Bits) ℓ) (g : Dev Cert.ValuesStep.nD → PrngReg), Pre_ValuesStep m →
    θ_run (Cert.ValuesStep.defs (F := Bits)) (onTc (τ := Cert.ValuesStep.τ) (Cert.ValuesStep.main (F := Bits))) ⟨m, fun _ => 0, g⟩ (fun r => (∀ c : Dev Cert.ValuesStep.nD,
      r.2.mem ((c.tc : Thread Cert.ValuesStep.nD Cert.ValuesStep.τ).loc Cert.ValuesStep.main_arg0) = m ((c.tc : Thread Cert.ValuesStep.nD Cert.ValuesStep.τ).loc Cert.ValuesStep.main_arg0)
      ∧ r.2.mem ((c.tc : Thread Cert.ValuesStep.nD Cert.ValuesStep.τ).loc Cert.ValuesStep.main_arg1) = m ((c.tc : Thread Cert.ValuesStep.nD Cert.ValuesStep.τ).loc Cert.ValuesStep.main_arg1))
      ∧ r.2.sem = fun _ => 0)

def quiescent_ValuesStepIdeal [hValuesStepIdeal : Cert.ValuesStepIdeal.Facts] : Prop :=
  ∀ (m : (ℓ : Loc Cert.ValuesStepIdeal.nD Cert.ValuesStepIdeal.τ Cert.ValuesStepIdeal.sig) → Buf (Elt Ideal) ℓ) (g : Dev Cert.ValuesStepIdeal.nD → PrngReg), Pre_ValuesStepIdeal m →
    θ_run (Cert.ValuesStepIdeal.defs (F := Ideal)) (onTc (τ := Cert.ValuesStepIdeal.τ) (Cert.ValuesStepIdeal.main (F := Ideal))) ⟨m, fun _ => 0, g⟩ (fun r => (∀ c : Dev Cert.ValuesStepIdeal.nD,
      r.2.mem ((c.tc : Thread Cert.ValuesStepIdeal.nD Cert.ValuesStepIdeal.τ).loc Cert.ValuesStepIdeal.main_arg0) = m ((c.tc : Thread Cert.ValuesStepIdeal.nD Cert.ValuesStepIdeal.τ).loc Cert.ValuesStepIdeal.main_arg0)
      ∧ r.2.mem ((c.tc : Thread Cert.ValuesStepIdeal.nD Cert.ValuesStepIdeal.τ).loc Cert.ValuesStepIdeal.main_arg1) = m ((c.tc : Thread Cert.ValuesStepIdeal.nD Cert.ValuesStepIdeal.τ).loc Cert.ValuesStepIdeal.main_arg1))
      ∧ r.2.sem = fun _ => 0)

def quiescent_ValuesStepRefIdeal [hValuesStepRefIdeal : Cert.ValuesStepRefIdeal.Facts] : Prop :=
  ∀ (m : (ℓ : Loc Cert.ValuesStepRefIdeal.nD Cert.ValuesStepRefIdeal.τ Cert.ValuesStepRefIdeal.sig) → Buf (Elt Ideal) ℓ) (g : Dev Cert.ValuesStepRefIdeal.nD → PrngReg), Pre_ValuesStepRefIdeal m →
    θ_run (Cert.ValuesStepRefIdeal.defs (F := Ideal)) (onTc (τ := Cert.ValuesStepRefIdeal.τ) (Cert.ValuesStepRefIdeal.main (F := Ideal))) ⟨m, fun _ => 0, g⟩ (fun r => (∀ c : Dev Cert.ValuesStepRefIdeal.nD,
      r.2.mem ((c.tc : Thread Cert.ValuesStepRefIdeal.nD Cert.ValuesStepRefIdeal.τ).loc Cert.ValuesStepRefIdeal.main_arg0) = m ((c.tc : Thread Cert.ValuesStepRefIdeal.nD Cert.ValuesStepRefIdeal.τ).loc Cert.ValuesStepRefIdeal.main_arg0)
      ∧ r.2.mem ((c.tc : Thread Cert.ValuesStepRefIdeal.nD Cert.ValuesStepRefIdeal.τ).loc Cert.ValuesStepRefIdeal.main_arg1) = m ((c.tc : Thread Cert.ValuesStepRefIdeal.nD Cert.ValuesStepRefIdeal.τ).loc Cert.ValuesStepRefIdeal.main_arg1))
      ∧ r.2.sem = fun _ => 0)

def quiescent_TailStep [hTailStep : Cert.TailStep.Facts] : Prop :=
  ∀ (m : (ℓ : Loc Cert.TailStep.nD Cert.TailStep.τ Cert.TailStep.sig) → Buf (Elt Bits) ℓ) (g : Dev Cert.TailStep.nD → PrngReg), Pre_TailStep m →
    θ_run (Cert.TailStep.defs (F := Bits)) (onTc (τ := Cert.TailStep.τ) (Cert.TailStep.main (F := Bits))) ⟨m, fun _ => 0, g⟩ (fun r => (∀ c : Dev Cert.TailStep.nD,
      r.2.mem ((c.tc : Thread Cert.TailStep.nD Cert.TailStep.τ).loc Cert.TailStep.main_arg0) = m ((c.tc : Thread Cert.TailStep.nD Cert.TailStep.τ).loc Cert.TailStep.main_arg0)
      ∧ r.2.mem ((c.tc : Thread Cert.TailStep.nD Cert.TailStep.τ).loc Cert.TailStep.main_arg1) = m ((c.tc : Thread Cert.TailStep.nD Cert.TailStep.τ).loc Cert.TailStep.main_arg1))
      ∧ r.2.sem = fun _ => 0)

def quiescent_TailStepIdeal [hTailStepIdeal : Cert.TailStepIdeal.Facts] : Prop :=
  ∀ (m : (ℓ : Loc Cert.TailStepIdeal.nD Cert.TailStepIdeal.τ Cert.TailStepIdeal.sig) → Buf (Elt Ideal) ℓ) (g : Dev Cert.TailStepIdeal.nD → PrngReg), Pre_TailStepIdeal m →
    θ_run (Cert.TailStepIdeal.defs (F := Ideal)) (onTc (τ := Cert.TailStepIdeal.τ) (Cert.TailStepIdeal.main (F := Ideal))) ⟨m, fun _ => 0, g⟩ (fun r => (∀ c : Dev Cert.TailStepIdeal.nD,
      r.2.mem ((c.tc : Thread Cert.TailStepIdeal.nD Cert.TailStepIdeal.τ).loc Cert.TailStepIdeal.main_arg0) = m ((c.tc : Thread Cert.TailStepIdeal.nD Cert.TailStepIdeal.τ).loc Cert.TailStepIdeal.main_arg0)
      ∧ r.2.mem ((c.tc : Thread Cert.TailStepIdeal.nD Cert.TailStepIdeal.τ).loc Cert.TailStepIdeal.main_arg1) = m ((c.tc : Thread Cert.TailStepIdeal.nD Cert.TailStepIdeal.τ).loc Cert.TailStepIdeal.main_arg1))
      ∧ r.2.sem = fun _ => 0)

def quiescent_TailStepRefIdeal [hTailStepRefIdeal : Cert.TailStepRefIdeal.Facts] : Prop :=
  ∀ (m : (ℓ : Loc Cert.TailStepRefIdeal.nD Cert.TailStepRefIdeal.τ Cert.TailStepRefIdeal.sig) → Buf (Elt Ideal) ℓ) (g : Dev Cert.TailStepRefIdeal.nD → PrngReg), Pre_TailStepRefIdeal m →
    θ_run (Cert.TailStepRefIdeal.defs (F := Ideal)) (onTc (τ := Cert.TailStepRefIdeal.τ) (Cert.TailStepRefIdeal.main (F := Ideal))) ⟨m, fun _ => 0, g⟩ (fun r => (∀ c : Dev Cert.TailStepRefIdeal.nD,
      r.2.mem ((c.tc : Thread Cert.TailStepRefIdeal.nD Cert.TailStepRefIdeal.τ).loc Cert.TailStepRefIdeal.main_arg0) = m ((c.tc : Thread Cert.TailStepRefIdeal.nD Cert.TailStepRefIdeal.τ).loc Cert.TailStepRefIdeal.main_arg0)
      ∧ r.2.mem ((c.tc : Thread Cert.TailStepRefIdeal.nD Cert.TailStepRefIdeal.τ).loc Cert.TailStepRefIdeal.main_arg1) = m ((c.tc : Thread Cert.TailStepRefIdeal.nD Cert.TailStepRefIdeal.τ).loc Cert.TailStepRefIdeal.main_arg1))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1))
      ∧ r.2.sem = fun _ => 0)

def quiescent_IndexQuery [hIndexQuery : Cert.IndexQuery.Facts] : Prop :=
  ∀ (m : (ℓ : Loc Cert.IndexQuery.nD Cert.IndexQuery.τ Cert.IndexQuery.sig) → Buf (Elt Bits) ℓ) (g : Dev Cert.IndexQuery.nD → PrngReg), Pre_IndexQuery m →
    θ_run (Cert.IndexQuery.defs (F := Bits)) (onTc (τ := Cert.IndexQuery.τ) (Cert.IndexQuery.main (F := Bits))) ⟨m, fun _ => 0, g⟩ (fun r => (∀ c : Dev Cert.IndexQuery.nD,
      r.2.mem ((c.tc : Thread Cert.IndexQuery.nD Cert.IndexQuery.τ).loc Cert.IndexQuery.main_arg0) = m ((c.tc : Thread Cert.IndexQuery.nD Cert.IndexQuery.τ).loc Cert.IndexQuery.main_arg0)
      ∧ r.2.mem ((c.tc : Thread Cert.IndexQuery.nD Cert.IndexQuery.τ).loc Cert.IndexQuery.main_arg1) = m ((c.tc : Thread Cert.IndexQuery.nD Cert.IndexQuery.τ).loc Cert.IndexQuery.main_arg1))
      ∧ r.2.sem = fun _ => 0)

def quiescent_IndexQueryIdeal [hIndexQueryIdeal : Cert.IndexQueryIdeal.Facts] : Prop :=
  ∀ (m : (ℓ : Loc Cert.IndexQueryIdeal.nD Cert.IndexQueryIdeal.τ Cert.IndexQueryIdeal.sig) → Buf (Elt Ideal) ℓ) (g : Dev Cert.IndexQueryIdeal.nD → PrngReg), Pre_IndexQueryIdeal m →
    θ_run (Cert.IndexQueryIdeal.defs (F := Ideal)) (onTc (τ := Cert.IndexQueryIdeal.τ) (Cert.IndexQueryIdeal.main (F := Ideal))) ⟨m, fun _ => 0, g⟩ (fun r => (∀ c : Dev Cert.IndexQueryIdeal.nD,
      r.2.mem ((c.tc : Thread Cert.IndexQueryIdeal.nD Cert.IndexQueryIdeal.τ).loc Cert.IndexQueryIdeal.main_arg0) = m ((c.tc : Thread Cert.IndexQueryIdeal.nD Cert.IndexQueryIdeal.τ).loc Cert.IndexQueryIdeal.main_arg0)
      ∧ r.2.mem ((c.tc : Thread Cert.IndexQueryIdeal.nD Cert.IndexQueryIdeal.τ).loc Cert.IndexQueryIdeal.main_arg1) = m ((c.tc : Thread Cert.IndexQueryIdeal.nD Cert.IndexQueryIdeal.τ).loc Cert.IndexQueryIdeal.main_arg1))
      ∧ r.2.sem = fun _ => 0)

def quiescent_IndexQueryIdeal_pre_finite_prompt [hIndexQueryIdeal : Cert.IndexQueryIdeal.Facts] [hPre_finite_prompt : Cert.Pre_finite_prompt.Facts] : Prop :=
  ∀ (m : (ℓ : Loc Cert.IndexQueryIdeal.nD Cert.IndexQueryIdeal.τ Cert.IndexQueryIdeal.sig) → Buf (Elt Ideal) ℓ) (g : Dev Cert.IndexQueryIdeal.nD → PrngReg), Pre_IndexQueryIdeal_finite_prompt m →
    θ_run (Cert.IndexQueryIdeal.defs (F := Ideal)) (onTc (τ := Cert.IndexQueryIdeal.τ) (Cert.IndexQueryIdeal.main (F := Ideal))) ⟨m, fun _ => 0, g⟩ (fun r => (∀ c : Dev Cert.IndexQueryIdeal.nD,
      r.2.mem ((c.tc : Thread Cert.IndexQueryIdeal.nD Cert.IndexQueryIdeal.τ).loc Cert.IndexQueryIdeal.main_arg0) = m ((c.tc : Thread Cert.IndexQueryIdeal.nD Cert.IndexQueryIdeal.τ).loc Cert.IndexQueryIdeal.main_arg0)
      ∧ r.2.mem ((c.tc : Thread Cert.IndexQueryIdeal.nD Cert.IndexQueryIdeal.τ).loc Cert.IndexQueryIdeal.main_arg1) = m ((c.tc : Thread Cert.IndexQueryIdeal.nD Cert.IndexQueryIdeal.τ).loc Cert.IndexQueryIdeal.main_arg1))
      ∧ r.2.sem = fun _ => 0)

def quiescent_IndexQueryRefIdeal [hIndexQueryRefIdeal : Cert.IndexQueryRefIdeal.Facts] : Prop :=
  ∀ (m : (ℓ : Loc Cert.IndexQueryRefIdeal.nD Cert.IndexQueryRefIdeal.τ Cert.IndexQueryRefIdeal.sig) → Buf (Elt Ideal) ℓ) (g : Dev Cert.IndexQueryRefIdeal.nD → PrngReg), Pre_IndexQueryRefIdeal m →
    θ_run (Cert.IndexQueryRefIdeal.defs (F := Ideal)) (onTc (τ := Cert.IndexQueryRefIdeal.τ) (Cert.IndexQueryRefIdeal.main (F := Ideal))) ⟨m, fun _ => 0, g⟩ (fun r => (∀ c : Dev Cert.IndexQueryRefIdeal.nD,
      r.2.mem ((c.tc : Thread Cert.IndexQueryRefIdeal.nD Cert.IndexQueryRefIdeal.τ).loc Cert.IndexQueryRefIdeal.main_arg0) = m ((c.tc : Thread Cert.IndexQueryRefIdeal.nD Cert.IndexQueryRefIdeal.τ).loc Cert.IndexQueryRefIdeal.main_arg0)
      ∧ r.2.mem ((c.tc : Thread Cert.IndexQueryRefIdeal.nD Cert.IndexQueryRefIdeal.τ).loc Cert.IndexQueryRefIdeal.main_arg1) = m ((c.tc : Thread Cert.IndexQueryRefIdeal.nD Cert.IndexQueryRefIdeal.τ).loc Cert.IndexQueryRefIdeal.main_arg1))
      ∧ r.2.sem = fun _ => 0)

def quiescent_IndexQueryRefIdeal_pre_finite_prompt [hIndexQueryRefIdeal : Cert.IndexQueryRefIdeal.Facts] [hPre_finite_prompt : Cert.Pre_finite_prompt.Facts] : Prop :=
  ∀ (m : (ℓ : Loc Cert.IndexQueryRefIdeal.nD Cert.IndexQueryRefIdeal.τ Cert.IndexQueryRefIdeal.sig) → Buf (Elt Ideal) ℓ) (g : Dev Cert.IndexQueryRefIdeal.nD → PrngReg), Pre_IndexQueryRefIdeal_finite_prompt m →
    θ_run (Cert.IndexQueryRefIdeal.defs (F := Ideal)) (onTc (τ := Cert.IndexQueryRefIdeal.τ) (Cert.IndexQueryRefIdeal.main (F := Ideal))) ⟨m, fun _ => 0, g⟩ (fun r => (∀ c : Dev Cert.IndexQueryRefIdeal.nD,
      r.2.mem ((c.tc : Thread Cert.IndexQueryRefIdeal.nD Cert.IndexQueryRefIdeal.τ).loc Cert.IndexQueryRefIdeal.main_arg0) = m ((c.tc : Thread Cert.IndexQueryRefIdeal.nD Cert.IndexQueryRefIdeal.τ).loc Cert.IndexQueryRefIdeal.main_arg0)
      ∧ r.2.mem ((c.tc : Thread Cert.IndexQueryRefIdeal.nD Cert.IndexQueryRefIdeal.τ).loc Cert.IndexQueryRefIdeal.main_arg1) = m ((c.tc : Thread Cert.IndexQueryRefIdeal.nD Cert.IndexQueryRefIdeal.τ).loc Cert.IndexQueryRefIdeal.main_arg1))
      ∧ r.2.sem = fun _ => 0)

def quiescent_IndexKey [hIndexKey : Cert.IndexKey.Facts] : Prop :=
  ∀ (m : (ℓ : Loc Cert.IndexKey.nD Cert.IndexKey.τ Cert.IndexKey.sig) → Buf (Elt Bits) ℓ) (g : Dev Cert.IndexKey.nD → PrngReg), Pre_IndexKey m →
    θ_run (Cert.IndexKey.defs (F := Bits)) (onTc (τ := Cert.IndexKey.τ) (Cert.IndexKey.main (F := Bits))) ⟨m, fun _ => 0, g⟩ (fun r => (∀ c : Dev Cert.IndexKey.nD,
      r.2.mem ((c.tc : Thread Cert.IndexKey.nD Cert.IndexKey.τ).loc Cert.IndexKey.main_arg0) = m ((c.tc : Thread Cert.IndexKey.nD Cert.IndexKey.τ).loc Cert.IndexKey.main_arg0)
      ∧ r.2.mem ((c.tc : Thread Cert.IndexKey.nD Cert.IndexKey.τ).loc Cert.IndexKey.main_arg1) = m ((c.tc : Thread Cert.IndexKey.nD Cert.IndexKey.τ).loc Cert.IndexKey.main_arg1))
      ∧ r.2.sem = fun _ => 0)

def quiescent_IndexKeyIdeal [hIndexKeyIdeal : Cert.IndexKeyIdeal.Facts] : Prop :=
  ∀ (m : (ℓ : Loc Cert.IndexKeyIdeal.nD Cert.IndexKeyIdeal.τ Cert.IndexKeyIdeal.sig) → Buf (Elt Ideal) ℓ) (g : Dev Cert.IndexKeyIdeal.nD → PrngReg), Pre_IndexKeyIdeal m →
    θ_run (Cert.IndexKeyIdeal.defs (F := Ideal)) (onTc (τ := Cert.IndexKeyIdeal.τ) (Cert.IndexKeyIdeal.main (F := Ideal))) ⟨m, fun _ => 0, g⟩ (fun r => (∀ c : Dev Cert.IndexKeyIdeal.nD,
      r.2.mem ((c.tc : Thread Cert.IndexKeyIdeal.nD Cert.IndexKeyIdeal.τ).loc Cert.IndexKeyIdeal.main_arg0) = m ((c.tc : Thread Cert.IndexKeyIdeal.nD Cert.IndexKeyIdeal.τ).loc Cert.IndexKeyIdeal.main_arg0)
      ∧ r.2.mem ((c.tc : Thread Cert.IndexKeyIdeal.nD Cert.IndexKeyIdeal.τ).loc Cert.IndexKeyIdeal.main_arg1) = m ((c.tc : Thread Cert.IndexKeyIdeal.nD Cert.IndexKeyIdeal.τ).loc Cert.IndexKeyIdeal.main_arg1))
      ∧ r.2.sem = fun _ => 0)

def quiescent_IndexKeyIdeal_pre_finite_prompt [hIndexKeyIdeal : Cert.IndexKeyIdeal.Facts] [hPre_finite_prompt : Cert.Pre_finite_prompt.Facts] : Prop :=
  ∀ (m : (ℓ : Loc Cert.IndexKeyIdeal.nD Cert.IndexKeyIdeal.τ Cert.IndexKeyIdeal.sig) → Buf (Elt Ideal) ℓ) (g : Dev Cert.IndexKeyIdeal.nD → PrngReg), Pre_IndexKeyIdeal_finite_prompt m →
    θ_run (Cert.IndexKeyIdeal.defs (F := Ideal)) (onTc (τ := Cert.IndexKeyIdeal.τ) (Cert.IndexKeyIdeal.main (F := Ideal))) ⟨m, fun _ => 0, g⟩ (fun r => (∀ c : Dev Cert.IndexKeyIdeal.nD,
      r.2.mem ((c.tc : Thread Cert.IndexKeyIdeal.nD Cert.IndexKeyIdeal.τ).loc Cert.IndexKeyIdeal.main_arg0) = m ((c.tc : Thread Cert.IndexKeyIdeal.nD Cert.IndexKeyIdeal.τ).loc Cert.IndexKeyIdeal.main_arg0)
      ∧ r.2.mem ((c.tc : Thread Cert.IndexKeyIdeal.nD Cert.IndexKeyIdeal.τ).loc Cert.IndexKeyIdeal.main_arg1) = m ((c.tc : Thread Cert.IndexKeyIdeal.nD Cert.IndexKeyIdeal.τ).loc Cert.IndexKeyIdeal.main_arg1))
      ∧ r.2.sem = fun _ => 0)

def quiescent_IndexKeyRefIdeal [hIndexKeyRefIdeal : Cert.IndexKeyRefIdeal.Facts] : Prop :=
  ∀ (m : (ℓ : Loc Cert.IndexKeyRefIdeal.nD Cert.IndexKeyRefIdeal.τ Cert.IndexKeyRefIdeal.sig) → Buf (Elt Ideal) ℓ) (g : Dev Cert.IndexKeyRefIdeal.nD → PrngReg), Pre_IndexKeyRefIdeal m →
    θ_run (Cert.IndexKeyRefIdeal.defs (F := Ideal)) (onTc (τ := Cert.IndexKeyRefIdeal.τ) (Cert.IndexKeyRefIdeal.main (F := Ideal))) ⟨m, fun _ => 0, g⟩ (fun r => (∀ c : Dev Cert.IndexKeyRefIdeal.nD,
      r.2.mem ((c.tc : Thread Cert.IndexKeyRefIdeal.nD Cert.IndexKeyRefIdeal.τ).loc Cert.IndexKeyRefIdeal.main_arg0) = m ((c.tc : Thread Cert.IndexKeyRefIdeal.nD Cert.IndexKeyRefIdeal.τ).loc Cert.IndexKeyRefIdeal.main_arg0)
      ∧ r.2.mem ((c.tc : Thread Cert.IndexKeyRefIdeal.nD Cert.IndexKeyRefIdeal.τ).loc Cert.IndexKeyRefIdeal.main_arg1) = m ((c.tc : Thread Cert.IndexKeyRefIdeal.nD Cert.IndexKeyRefIdeal.τ).loc Cert.IndexKeyRefIdeal.main_arg1))
      ∧ r.2.sem = fun _ => 0)

def quiescent_IndexKeyRefIdeal_pre_finite_prompt [hIndexKeyRefIdeal : Cert.IndexKeyRefIdeal.Facts] [hPre_finite_prompt : Cert.Pre_finite_prompt.Facts] : Prop :=
  ∀ (m : (ℓ : Loc Cert.IndexKeyRefIdeal.nD Cert.IndexKeyRefIdeal.τ Cert.IndexKeyRefIdeal.sig) → Buf (Elt Ideal) ℓ) (g : Dev Cert.IndexKeyRefIdeal.nD → PrngReg), Pre_IndexKeyRefIdeal_finite_prompt m →
    θ_run (Cert.IndexKeyRefIdeal.defs (F := Ideal)) (onTc (τ := Cert.IndexKeyRefIdeal.τ) (Cert.IndexKeyRefIdeal.main (F := Ideal))) ⟨m, fun _ => 0, g⟩ (fun r => (∀ c : Dev Cert.IndexKeyRefIdeal.nD,
      r.2.mem ((c.tc : Thread Cert.IndexKeyRefIdeal.nD Cert.IndexKeyRefIdeal.τ).loc Cert.IndexKeyRefIdeal.main_arg0) = m ((c.tc : Thread Cert.IndexKeyRefIdeal.nD Cert.IndexKeyRefIdeal.τ).loc Cert.IndexKeyRefIdeal.main_arg0)
      ∧ r.2.mem ((c.tc : Thread Cert.IndexKeyRefIdeal.nD Cert.IndexKeyRefIdeal.τ).loc Cert.IndexKeyRefIdeal.main_arg1) = m ((c.tc : Thread Cert.IndexKeyRefIdeal.nD Cert.IndexKeyRefIdeal.τ).loc Cert.IndexKeyRefIdeal.main_arg1))
      ∧ r.2.sem = fun _ => 0)

def quiescent_IndexKeyStep [hIndexKeyStep : Cert.IndexKeyStep.Facts] : Prop :=
  ∀ (m : (ℓ : Loc Cert.IndexKeyStep.nD Cert.IndexKeyStep.τ Cert.IndexKeyStep.sig) → Buf (Elt Bits) ℓ) (g : Dev Cert.IndexKeyStep.nD → PrngReg), Pre_IndexKeyStep m →
    θ_run (Cert.IndexKeyStep.defs (F := Bits)) (onTc (τ := Cert.IndexKeyStep.τ) (Cert.IndexKeyStep.main (F := Bits))) ⟨m, fun _ => 0, g⟩ (fun r => (∀ c : Dev Cert.IndexKeyStep.nD,
      r.2.mem ((c.tc : Thread Cert.IndexKeyStep.nD Cert.IndexKeyStep.τ).loc Cert.IndexKeyStep.main_arg0) = m ((c.tc : Thread Cert.IndexKeyStep.nD Cert.IndexKeyStep.τ).loc Cert.IndexKeyStep.main_arg0)
      ∧ r.2.mem ((c.tc : Thread Cert.IndexKeyStep.nD Cert.IndexKeyStep.τ).loc Cert.IndexKeyStep.main_arg1) = m ((c.tc : Thread Cert.IndexKeyStep.nD Cert.IndexKeyStep.τ).loc Cert.IndexKeyStep.main_arg1))
      ∧ r.2.sem = fun _ => 0)

def quiescent_IndexKeyStepIdeal [hIndexKeyStepIdeal : Cert.IndexKeyStepIdeal.Facts] : Prop :=
  ∀ (m : (ℓ : Loc Cert.IndexKeyStepIdeal.nD Cert.IndexKeyStepIdeal.τ Cert.IndexKeyStepIdeal.sig) → Buf (Elt Ideal) ℓ) (g : Dev Cert.IndexKeyStepIdeal.nD → PrngReg), Pre_IndexKeyStepIdeal m →
    θ_run (Cert.IndexKeyStepIdeal.defs (F := Ideal)) (onTc (τ := Cert.IndexKeyStepIdeal.τ) (Cert.IndexKeyStepIdeal.main (F := Ideal))) ⟨m, fun _ => 0, g⟩ (fun r => (∀ c : Dev Cert.IndexKeyStepIdeal.nD,
      r.2.mem ((c.tc : Thread Cert.IndexKeyStepIdeal.nD Cert.IndexKeyStepIdeal.τ).loc Cert.IndexKeyStepIdeal.main_arg0) = m ((c.tc : Thread Cert.IndexKeyStepIdeal.nD Cert.IndexKeyStepIdeal.τ).loc Cert.IndexKeyStepIdeal.main_arg0)
      ∧ r.2.mem ((c.tc : Thread Cert.IndexKeyStepIdeal.nD Cert.IndexKeyStepIdeal.τ).loc Cert.IndexKeyStepIdeal.main_arg1) = m ((c.tc : Thread Cert.IndexKeyStepIdeal.nD Cert.IndexKeyStepIdeal.τ).loc Cert.IndexKeyStepIdeal.main_arg1))
      ∧ r.2.sem = fun _ => 0)

def quiescent_IndexKeyStepIdeal_pre_finite_step [hIndexKeyStepIdeal : Cert.IndexKeyStepIdeal.Facts] [hPre_finite_step : Cert.Pre_finite_step.Facts] : Prop :=
  ∀ (m : (ℓ : Loc Cert.IndexKeyStepIdeal.nD Cert.IndexKeyStepIdeal.τ Cert.IndexKeyStepIdeal.sig) → Buf (Elt Ideal) ℓ) (g : Dev Cert.IndexKeyStepIdeal.nD → PrngReg), Pre_IndexKeyStepIdeal_finite_step m →
    θ_run (Cert.IndexKeyStepIdeal.defs (F := Ideal)) (onTc (τ := Cert.IndexKeyStepIdeal.τ) (Cert.IndexKeyStepIdeal.main (F := Ideal))) ⟨m, fun _ => 0, g⟩ (fun r => (∀ c : Dev Cert.IndexKeyStepIdeal.nD,
      r.2.mem ((c.tc : Thread Cert.IndexKeyStepIdeal.nD Cert.IndexKeyStepIdeal.τ).loc Cert.IndexKeyStepIdeal.main_arg0) = m ((c.tc : Thread Cert.IndexKeyStepIdeal.nD Cert.IndexKeyStepIdeal.τ).loc Cert.IndexKeyStepIdeal.main_arg0)
      ∧ r.2.mem ((c.tc : Thread Cert.IndexKeyStepIdeal.nD Cert.IndexKeyStepIdeal.τ).loc Cert.IndexKeyStepIdeal.main_arg1) = m ((c.tc : Thread Cert.IndexKeyStepIdeal.nD Cert.IndexKeyStepIdeal.τ).loc Cert.IndexKeyStepIdeal.main_arg1))
      ∧ r.2.sem = fun _ => 0)

def quiescent_IndexKeyStepRefIdeal [hIndexKeyStepRefIdeal : Cert.IndexKeyStepRefIdeal.Facts] : Prop :=
  ∀ (m : (ℓ : Loc Cert.IndexKeyStepRefIdeal.nD Cert.IndexKeyStepRefIdeal.τ Cert.IndexKeyStepRefIdeal.sig) → Buf (Elt Ideal) ℓ) (g : Dev Cert.IndexKeyStepRefIdeal.nD → PrngReg), Pre_IndexKeyStepRefIdeal m →
    θ_run (Cert.IndexKeyStepRefIdeal.defs (F := Ideal)) (onTc (τ := Cert.IndexKeyStepRefIdeal.τ) (Cert.IndexKeyStepRefIdeal.main (F := Ideal))) ⟨m, fun _ => 0, g⟩ (fun r => (∀ c : Dev Cert.IndexKeyStepRefIdeal.nD,
      r.2.mem ((c.tc : Thread Cert.IndexKeyStepRefIdeal.nD Cert.IndexKeyStepRefIdeal.τ).loc Cert.IndexKeyStepRefIdeal.main_arg0) = m ((c.tc : Thread Cert.IndexKeyStepRefIdeal.nD Cert.IndexKeyStepRefIdeal.τ).loc Cert.IndexKeyStepRefIdeal.main_arg0)
      ∧ r.2.mem ((c.tc : Thread Cert.IndexKeyStepRefIdeal.nD Cert.IndexKeyStepRefIdeal.τ).loc Cert.IndexKeyStepRefIdeal.main_arg1) = m ((c.tc : Thread Cert.IndexKeyStepRefIdeal.nD Cert.IndexKeyStepRefIdeal.τ).loc Cert.IndexKeyStepRefIdeal.main_arg1))
      ∧ r.2.sem = fun _ => 0)

def quiescent_IndexKeyStepRefIdeal_pre_finite_step [hIndexKeyStepRefIdeal : Cert.IndexKeyStepRefIdeal.Facts] [hPre_finite_step : Cert.Pre_finite_step.Facts] : Prop :=
  ∀ (m : (ℓ : Loc Cert.IndexKeyStepRefIdeal.nD Cert.IndexKeyStepRefIdeal.τ Cert.IndexKeyStepRefIdeal.sig) → Buf (Elt Ideal) ℓ) (g : Dev Cert.IndexKeyStepRefIdeal.nD → PrngReg), Pre_IndexKeyStepRefIdeal_finite_step m →
    θ_run (Cert.IndexKeyStepRefIdeal.defs (F := Ideal)) (onTc (τ := Cert.IndexKeyStepRefIdeal.τ) (Cert.IndexKeyStepRefIdeal.main (F := Ideal))) ⟨m, fun _ => 0, g⟩ (fun r => (∀ c : Dev Cert.IndexKeyStepRefIdeal.nD,
      r.2.mem ((c.tc : Thread Cert.IndexKeyStepRefIdeal.nD Cert.IndexKeyStepRefIdeal.τ).loc Cert.IndexKeyStepRefIdeal.main_arg0) = m ((c.tc : Thread Cert.IndexKeyStepRefIdeal.nD Cert.IndexKeyStepRefIdeal.τ).loc Cert.IndexKeyStepRefIdeal.main_arg0)
      ∧ r.2.mem ((c.tc : Thread Cert.IndexKeyStepRefIdeal.nD Cert.IndexKeyStepRefIdeal.τ).loc Cert.IndexKeyStepRefIdeal.main_arg1) = m ((c.tc : Thread Cert.IndexKeyStepRefIdeal.nD Cert.IndexKeyStepRefIdeal.τ).loc Cert.IndexKeyStepRefIdeal.main_arg1))
      ∧ r.2.sem = fun _ => 0)

def preserves_Kernel_KernelIdeal : Prop :=
  IdealRules.named_const.Statement Cert.KernelIdeal.κ "scale_log2e" .f32 0x3E0293EE#32 (((Real.sqrt 128)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v10)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v10) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v18) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)) →
    ∃ (v0 : (c : Dev Cert.OutprojIdeal.nD) → Buf (Elt Ideal) ((c.tc : Thread Cert.OutprojIdeal.nD Cert.OutprojIdeal.τ).loc Cert.OutprojIdeal.main_v4_0)) (v1 : (c : Dev Cert.OutprojIdeal.nD) → Buf (Elt Ideal) ((c.tc : Thread Cert.OutprojIdeal.nD Cert.OutprojIdeal.τ).loc Cert.OutprojIdeal.main_v4_1)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v4_0) = v0 c
          ∧ r.2.mem ((c.tc : Thread Cert.OutprojIdeal.nD Cert.OutprojIdeal.τ).loc Cert.OutprojIdeal.main_v4_1) = v1 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v10) = v0 c
          ∧ r.2.mem ((c.tc : Thread Cert.OutprojRefIdeal.nD Cert.OutprojRefIdeal.τ).loc Cert.OutprojRefIdeal.main_v32) = v1 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4))

def preserves_Keys_KeysIdeal : Prop :=
  True

def algebraic_KeysIdeal_KeysRefIdeal [hKeysIdeal : Cert.KeysIdeal.Facts] [hKeysRefIdeal : Cert.KeysRefIdeal.Facts] : Prop :=
  ∀ (m : (ℓ : Loc Cert.KeysIdeal.nD Cert.KeysIdeal.τ Cert.KeysIdeal.sig) → Buf (Elt Ideal) ℓ) (g : Dev Cert.KeysIdeal.nD → PrngReg)
    (m' : (ℓ : Loc Cert.KeysRefIdeal.nD Cert.KeysRefIdeal.τ Cert.KeysRefIdeal.sig) → Buf (Elt Ideal) ℓ) (g' : Dev Cert.KeysRefIdeal.nD → PrngReg), Pre_KeysIdeal m →
    (∀ c : Dev Cert.KeysIdeal.nD,
      m' ((c.tc : Thread Cert.KeysRefIdeal.nD Cert.KeysRefIdeal.τ).loc Cert.KeysRefIdeal.main_arg0) = m ((c.tc : Thread Cert.KeysIdeal.nD Cert.KeysIdeal.τ).loc Cert.KeysIdeal.main_arg0)
      ∧ m' ((c.tc : Thread Cert.KeysRefIdeal.nD Cert.KeysRefIdeal.τ).loc Cert.KeysRefIdeal.main_arg1) = m ((c.tc : Thread Cert.KeysIdeal.nD Cert.KeysIdeal.τ).loc Cert.KeysIdeal.main_arg1)) →
    ∃ (v0 : (c : Dev Cert.KeysIdeal.nD) → Buf (Elt Ideal) ((c.tc : Thread Cert.KeysIdeal.nD Cert.KeysIdeal.τ).loc Cert.KeysIdeal.main_v4_0)) (v1 : (c : Dev Cert.KeysIdeal.nD) → Buf (Elt Ideal) ((c.tc : Thread Cert.KeysIdeal.nD Cert.KeysIdeal.τ).loc Cert.KeysIdeal.main_v4_1)),
      θ_run (Cert.KeysIdeal.defs (F := Ideal)) (onTc (τ := Cert.KeysIdeal.τ) (Cert.KeysIdeal.main (F := Ideal))) ⟨m, fun _ => 0, g⟩ (fun r => ∀ c : Dev Cert.KeysIdeal.nD,
          r.2.mem ((c.tc : Thread Cert.KeysIdeal.nD Cert.KeysIdeal.τ).loc Cert.KeysIdeal.main_v4_0) = v0 c
          ∧ r.2.mem ((c.tc : Thread Cert.KeysIdeal.nD Cert.KeysIdeal.τ).loc Cert.KeysIdeal.main_v4_1) = v1 c
          ∧ r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
          ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1))
      ∧ θ_run (Cert.KeysRefIdeal.defs (F := Ideal)) (onTc (τ := Cert.KeysRefIdeal.τ) (Cert.KeysRefIdeal.main (F := Ideal))) ⟨m', fun _ => 0, g'⟩ (fun r => ∀ c : Dev Cert.KeysRefIdeal.nD,
          r.2.mem ((c.tc : Thread Cert.KeysRefIdeal.nD Cert.KeysRefIdeal.τ).loc Cert.KeysRefIdeal.main_v10) = v0 c
          ∧ r.2.mem ((c.tc : Thread Cert.KeysRefIdeal.nD Cert.KeysRefIdeal.τ).loc Cert.KeysRefIdeal.main_v12) = v1 c
          ∧ r.2.mem ((c.tc : Thread Cert.KeysRefIdeal.nD Cert.KeysRefIdeal.τ).loc Cert.KeysRefIdeal.main_arg0) = m' ((c.tc : Thread Cert.KeysRefIdeal.nD Cert.KeysRefIdeal.τ).loc Cert.KeysRefIdeal.main_arg0)
          ∧ r.2.mem ((c.tc : Thread Cert.KeysRefIdeal.nD Cert.KeysRefIdeal.τ).loc Cert.KeysRefIdeal.main_arg1) = m' ((c.tc : Thread Cert.KeysRefIdeal.nD Cert.KeysRefIdeal.τ).loc Cert.KeysRefIdeal.main_arg1))

def preserves_Values_ValuesIdeal : Prop :=
  True

def algebraic_ValuesIdeal_ValuesRefIdeal [hValuesIdeal : Cert.ValuesIdeal.Facts] [hValuesRefIdeal : Cert.ValuesRefIdeal.Facts] : Prop :=
  ∀ (m : (ℓ : Loc Cert.ValuesIdeal.nD Cert.ValuesIdeal.τ Cert.ValuesIdeal.sig) → Buf (Elt Ideal) ℓ) (g : Dev Cert.ValuesIdeal.nD → PrngReg)
    (m' : (ℓ : Loc Cert.ValuesRefIdeal.nD Cert.ValuesRefIdeal.τ Cert.ValuesRefIdeal.sig) → Buf (Elt Ideal) ℓ) (g' : Dev Cert.ValuesRefIdeal.nD → PrngReg), Pre_ValuesIdeal m →
    (∀ c : Dev Cert.ValuesIdeal.nD,
      m' ((c.tc : Thread Cert.ValuesRefIdeal.nD Cert.ValuesRefIdeal.τ).loc Cert.ValuesRefIdeal.main_arg0) = m ((c.tc : Thread Cert.ValuesIdeal.nD Cert.ValuesIdeal.τ).loc Cert.ValuesIdeal.main_arg0)
      ∧ m' ((c.tc : Thread Cert.ValuesRefIdeal.nD Cert.ValuesRefIdeal.τ).loc Cert.ValuesRefIdeal.main_arg1) = m ((c.tc : Thread Cert.ValuesIdeal.nD Cert.ValuesIdeal.τ).loc Cert.ValuesIdeal.main_arg1)) →
    ∃ (v0 : (c : Dev Cert.ValuesIdeal.nD) → Buf (Elt Ideal) ((c.tc : Thread Cert.ValuesIdeal.nD Cert.ValuesIdeal.τ).loc Cert.ValuesIdeal.main_v4_0)) (v1 : (c : Dev Cert.ValuesIdeal.nD) → Buf (Elt Ideal) ((c.tc : Thread Cert.ValuesIdeal.nD Cert.ValuesIdeal.τ).loc Cert.ValuesIdeal.main_v4_1)),
      θ_run (Cert.ValuesIdeal.defs (F := Ideal)) (onTc (τ := Cert.ValuesIdeal.τ) (Cert.ValuesIdeal.main (F := Ideal))) ⟨m, fun _ => 0, g⟩ (fun r => ∀ c : Dev Cert.ValuesIdeal.nD,
          r.2.mem ((c.tc : Thread Cert.ValuesIdeal.nD Cert.ValuesIdeal.τ).loc Cert.ValuesIdeal.main_v4_0) = v0 c
          ∧ r.2.mem ((c.tc : Thread Cert.ValuesIdeal.nD Cert.ValuesIdeal.τ).loc Cert.ValuesIdeal.main_v4_1) = v1 c
          ∧ r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
          ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1))
      ∧ θ_run (Cert.ValuesRefIdeal.defs (F := Ideal)) (onTc (τ := Cert.ValuesRefIdeal.τ) (Cert.ValuesRefIdeal.main (F := Ideal))) ⟨m', fun _ => 0, g'⟩ (fun r => ∀ c : Dev Cert.ValuesRefIdeal.nD,
          r.2.mem ((c.tc : Thread Cert.ValuesRefIdeal.nD Cert.ValuesRefIdeal.τ).loc Cert.ValuesRefIdeal.main_v10) = v0 c
          ∧ r.2.mem ((c.tc : Thread Cert.ValuesRefIdeal.nD Cert.ValuesRefIdeal.τ).loc Cert.ValuesRefIdeal.main_v12) = v1 c
          ∧ r.2.mem ((c.tc : Thread Cert.ValuesRefIdeal.nD Cert.ValuesRefIdeal.τ).loc Cert.ValuesRefIdeal.main_arg0) = m' ((c.tc : Thread Cert.ValuesRefIdeal.nD Cert.ValuesRefIdeal.τ).loc Cert.ValuesRefIdeal.main_arg0)
          ∧ r.2.mem ((c.tc : Thread Cert.ValuesRefIdeal.nD Cert.ValuesRefIdeal.τ).loc Cert.ValuesRefIdeal.main_arg1) = m' ((c.tc : Thread Cert.ValuesRefIdeal.nD Cert.ValuesRefIdeal.τ).loc Cert.ValuesRefIdeal.main_arg1))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v9_0)) (v1 : (c : Dev Cert.FfnIdeal.nD) → Buf (Elt Ideal) ((c.tc : Thread Cert.FfnIdeal.nD Cert.FfnIdeal.τ).loc Cert.FfnIdeal.main_v9_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9_0) = v0 c
          ∧ r.2.mem ((c.tc : Thread Cert.FfnIdeal.nD Cert.FfnIdeal.τ).loc Cert.FfnIdeal.main_v9_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v56) = v0 c
          ∧ r.2.mem ((c.tc : Thread Cert.FfnRefIdeal.nD Cert.FfnRefIdeal.τ).loc Cert.FfnRefIdeal.main_v10) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)) →
    ∃ (v0 : (c : Dev Cert.TailIdeal.nD) → Buf (Elt Ideal) ((c.tc : Thread Cert.TailIdeal.nD Cert.TailIdeal.τ).loc Cert.TailIdeal.main_v5)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v5) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v13) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1))

def preserves_Kvb_KvbIdeal : Prop :=
  True

def algebraic_KvbIdeal_KvbRefIdeal [hKvbIdeal : Cert.KvbIdeal.Facts] [hKvbRefIdeal : Cert.KvbRefIdeal.Facts] : Prop :=
  ∀ (m : (ℓ : Loc Cert.KvbIdeal.nD Cert.KvbIdeal.τ Cert.KvbIdeal.sig) → Buf (Elt Ideal) ℓ) (g : Dev Cert.KvbIdeal.nD → PrngReg)
    (m' : (ℓ : Loc Cert.KvbRefIdeal.nD Cert.KvbRefIdeal.τ Cert.KvbRefIdeal.sig) → Buf (Elt Ideal) ℓ) (g' : Dev Cert.KvbRefIdeal.nD → PrngReg), Pre_KvbIdeal m →
    (∀ c : Dev Cert.KvbIdeal.nD,
      m' ((c.tc : Thread Cert.KvbRefIdeal.nD Cert.KvbRefIdeal.τ).loc Cert.KvbRefIdeal.main_arg0) = m ((c.tc : Thread Cert.KvbIdeal.nD Cert.KvbIdeal.τ).loc Cert.KvbIdeal.main_arg0)
      ∧ m' ((c.tc : Thread Cert.KvbRefIdeal.nD Cert.KvbRefIdeal.τ).loc Cert.KvbRefIdeal.main_arg1) = m ((c.tc : Thread Cert.KvbIdeal.nD Cert.KvbIdeal.τ).loc Cert.KvbIdeal.main_arg1)) →
    ∃ (v0 : (c : Dev Cert.KvbIdeal.nD) → Buf (Elt Ideal) ((c.tc : Thread Cert.KvbIdeal.nD Cert.KvbIdeal.τ).loc Cert.KvbIdeal.main_v4)),
      θ_run (Cert.KvbIdeal.defs (F := Ideal)) (onTc (τ := Cert.KvbIdeal.τ) (Cert.KvbIdeal.main (F := Ideal))) ⟨m, fun _ => 0, g⟩ (fun r => ∀ c : Dev Cert.KvbIdeal.nD,
          r.2.mem ((c.tc : Thread Cert.KvbIdeal.nD Cert.KvbIdeal.τ).loc Cert.KvbIdeal.main_v4) = v0 c
          ∧ r.2.mem ((c.tc : Thread Cert.KvbIdeal.nD Cert.KvbIdeal.τ).loc Cert.KvbIdeal.main_arg0) = m ((c.tc : Thread Cert.KvbIdeal.nD Cert.KvbIdeal.τ).loc Cert.KvbIdeal.main_arg0)
          ∧ r.2.mem ((c.tc : Thread Cert.KvbIdeal.nD Cert.KvbIdeal.τ).loc Cert.KvbIdeal.main_arg1) = m ((c.tc : Thread Cert.KvbIdeal.nD Cert.KvbIdeal.τ).loc Cert.KvbIdeal.main_arg1))
      ∧ θ_run (Cert.KvbRefIdeal.defs (F := Ideal)) (onTc (τ := Cert.KvbRefIdeal.τ) (Cert.KvbRefIdeal.main (F := Ideal))) ⟨m', fun _ => 0, g'⟩ (fun r => ∀ c : Dev Cert.KvbRefIdeal.nD,
          r.2.mem ((c.tc : Thread Cert.KvbRefIdeal.nD Cert.KvbRefIdeal.τ).loc Cert.KvbRefIdeal.main_v12) = v0 c
          ∧ r.2.mem ((c.tc : Thread Cert.KvbRefIdeal.nD Cert.KvbRefIdeal.τ).loc Cert.KvbRefIdeal.main_arg0) = m' ((c.tc : Thread Cert.KvbRefIdeal.nD Cert.KvbRefIdeal.τ).loc Cert.KvbRefIdeal.main_arg0)
          ∧ r.2.mem ((c.tc : Thread Cert.KvbRefIdeal.nD Cert.KvbRefIdeal.τ).loc Cert.KvbRefIdeal.main_arg1) = m' ((c.tc : Thread Cert.KvbRefIdeal.nD Cert.KvbRefIdeal.τ).loc Cert.KvbRefIdeal.main_arg1))

def preserves_KeysStep_KeysStepIdeal : Prop :=
  True

def algebraic_KeysStepIdeal_KeysStepRefIdeal [hKeysStepIdeal : Cert.KeysStepIdeal.Facts] [hKeysStepRefIdeal : Cert.KeysStepRefIdeal.Facts] : Prop :=
  ∀ (m : (ℓ : Loc Cert.KeysStepIdeal.nD Cert.KeysStepIdeal.τ Cert.KeysStepIdeal.sig) → Buf (Elt Ideal) ℓ) (g : Dev Cert.KeysStepIdeal.nD → PrngReg)
    (m' : (ℓ : Loc Cert.KeysStepRefIdeal.nD Cert.KeysStepRefIdeal.τ Cert.KeysStepRefIdeal.sig) → Buf (Elt Ideal) ℓ) (g' : Dev Cert.KeysStepRefIdeal.nD → PrngReg), Pre_KeysStepIdeal m →
    (∀ c : Dev Cert.KeysStepIdeal.nD,
      m' ((c.tc : Thread Cert.KeysStepRefIdeal.nD Cert.KeysStepRefIdeal.τ).loc Cert.KeysStepRefIdeal.main_arg0) = m ((c.tc : Thread Cert.KeysStepIdeal.nD Cert.KeysStepIdeal.τ).loc Cert.KeysStepIdeal.main_arg0)
      ∧ m' ((c.tc : Thread Cert.KeysStepRefIdeal.nD Cert.KeysStepRefIdeal.τ).loc Cert.KeysStepRefIdeal.main_arg1) = m ((c.tc : Thread Cert.KeysStepIdeal.nD Cert.KeysStepIdeal.τ).loc Cert.KeysStepIdeal.main_arg1)) →
    ∃ (v0 : (c : Dev Cert.KeysStepIdeal.nD) → Buf (Elt Ideal) ((c.tc : Thread Cert.KeysStepIdeal.nD Cert.KeysStepIdeal.τ).loc Cert.KeysStepIdeal.main_v4_0)) (v1 : (c : Dev Cert.KeysStepIdeal.nD) → Buf (Elt Ideal) ((c.tc : Thread Cert.KeysStepIdeal.nD Cert.KeysStepIdeal.τ).loc Cert.KeysStepIdeal.main_v4_1)),
      θ_run (Cert.KeysStepIdeal.defs (F := Ideal)) (onTc (τ := Cert.KeysStepIdeal.τ) (Cert.KeysStepIdeal.main (F := Ideal))) ⟨m, fun _ => 0, g⟩ (fun r => ∀ c : Dev Cert.KeysStepIdeal.nD,
          r.2.mem ((c.tc : Thread Cert.KeysStepIdeal.nD Cert.KeysStepIdeal.τ).loc Cert.KeysStepIdeal.main_v4_0) = v0 c
          ∧ r.2.mem ((c.tc : Thread Cert.KeysStepIdeal.nD Cert.KeysStepIdeal.τ).loc Cert.KeysStepIdeal.main_v4_1) = v1 c
          ∧ r.2.mem ((c.tc : Thread Cert.KeysStepIdeal.nD Cert.KeysStepIdeal.τ).loc Cert.KeysStepIdeal.main_arg0) = m ((c.tc : Thread Cert.KeysStepIdeal.nD Cert.KeysStepIdeal.τ).loc Cert.KeysStepIdeal.main_arg0)
          ∧ r.2.mem ((c.tc : Thread Cert.KeysStepIdeal.nD Cert.KeysStepIdeal.τ).loc Cert.KeysStepIdeal.main_arg1) = m ((c.tc : Thread Cert.KeysStepIdeal.nD Cert.KeysStepIdeal.τ).loc Cert.KeysStepIdeal.main_arg1))
      ∧ θ_run (Cert.KeysStepRefIdeal.defs (F := Ideal)) (onTc (τ := Cert.KeysStepRefIdeal.τ) (Cert.KeysStepRefIdeal.main (F := Ideal))) ⟨m', fun _ => 0, g'⟩ (fun r => ∀ c : Dev Cert.KeysStepRefIdeal.nD,
          r.2.mem ((c.tc : Thread Cert.KeysStepRefIdeal.nD Cert.KeysStepRefIdeal.τ).loc Cert.KeysStepRefIdeal.main_v10) = v0 c
          ∧ r.2.mem ((c.tc : Thread Cert.KeysStepRefIdeal.nD Cert.KeysStepRefIdeal.τ).loc Cert.KeysStepRefIdeal.main_v12) = v1 c
          ∧ r.2.mem ((c.tc : Thread Cert.KeysStepRefIdeal.nD Cert.KeysStepRefIdeal.τ).loc Cert.KeysStepRefIdeal.main_arg0) = m' ((c.tc : Thread Cert.KeysStepRefIdeal.nD Cert.KeysStepRefIdeal.τ).loc Cert.KeysStepRefIdeal.main_arg0)
          ∧ r.2.mem ((c.tc : Thread Cert.KeysStepRefIdeal.nD Cert.KeysStepRefIdeal.τ).loc Cert.KeysStepRefIdeal.main_arg1) = m' ((c.tc : Thread Cert.KeysStepRefIdeal.nD Cert.KeysStepRefIdeal.τ).loc Cert.KeysStepRefIdeal.main_arg1))

def preserves_ValuesStep_ValuesStepIdeal : Prop :=
  True

def algebraic_ValuesStepIdeal_ValuesStepRefIdeal [hValuesStepIdeal : Cert.ValuesStepIdeal.Facts] [hValuesStepRefIdeal : Cert.ValuesStepRefIdeal.Facts] : Prop :=
  ∀ (m : (ℓ : Loc Cert.ValuesStepIdeal.nD Cert.ValuesStepIdeal.τ Cert.ValuesStepIdeal.sig) → Buf (Elt Ideal) ℓ) (g : Dev Cert.ValuesStepIdeal.nD → PrngReg)
    (m' : (ℓ : Loc Cert.ValuesStepRefIdeal.nD Cert.ValuesStepRefIdeal.τ Cert.ValuesStepRefIdeal.sig) → Buf (Elt Ideal) ℓ) (g' : Dev Cert.ValuesStepRefIdeal.nD → PrngReg), Pre_ValuesStepIdeal m →
    (∀ c : Dev Cert.ValuesStepIdeal.nD,
      m' ((c.tc : Thread Cert.ValuesStepRefIdeal.nD Cert.ValuesStepRefIdeal.τ).loc Cert.ValuesStepRefIdeal.main_arg0) = m ((c.tc : Thread Cert.ValuesStepIdeal.nD Cert.ValuesStepIdeal.τ).loc Cert.ValuesStepIdeal.main_arg0)
      ∧ m' ((c.tc : Thread Cert.ValuesStepRefIdeal.nD Cert.ValuesStepRefIdeal.τ).loc Cert.ValuesStepRefIdeal.main_arg1) = m ((c.tc : Thread Cert.ValuesStepIdeal.nD Cert.ValuesStepIdeal.τ).loc Cert.ValuesStepIdeal.main_arg1)) →
    ∃ (v0 : (c : Dev Cert.ValuesStepIdeal.nD) → Buf (Elt Ideal) ((c.tc : Thread Cert.ValuesStepIdeal.nD Cert.ValuesStepIdeal.τ).loc Cert.ValuesStepIdeal.main_v4_0)) (v1 : (c : Dev Cert.ValuesStepIdeal.nD) → Buf (Elt Ideal) ((c.tc : Thread Cert.ValuesStepIdeal.nD Cert.ValuesStepIdeal.τ).loc Cert.ValuesStepIdeal.main_v4_1)),
      θ_run (Cert.ValuesStepIdeal.defs (F := Ideal)) (onTc (τ := Cert.ValuesStepIdeal.τ) (Cert.ValuesStepIdeal.main (F := Ideal))) ⟨m, fun _ => 0, g⟩ (fun r => ∀ c : Dev Cert.ValuesStepIdeal.nD,
          r.2.mem ((c.tc : Thread Cert.ValuesStepIdeal.nD Cert.ValuesStepIdeal.τ).loc Cert.ValuesStepIdeal.main_v4_0) = v0 c
          ∧ r.2.mem ((c.tc : Thread Cert.ValuesStepIdeal.nD Cert.ValuesStepIdeal.τ).loc Cert.ValuesStepIdeal.main_v4_1) = v1 c
          ∧ r.2.mem ((c.tc : Thread Cert.ValuesStepIdeal.nD Cert.ValuesStepIdeal.τ).loc Cert.ValuesStepIdeal.main_arg0) = m ((c.tc : Thread Cert.ValuesStepIdeal.nD Cert.ValuesStepIdeal.τ).loc Cert.ValuesStepIdeal.main_arg0)
          ∧ r.2.mem ((c.tc : Thread Cert.ValuesStepIdeal.nD Cert.ValuesStepIdeal.τ).loc Cert.ValuesStepIdeal.main_arg1) = m ((c.tc : Thread Cert.ValuesStepIdeal.nD Cert.ValuesStepIdeal.τ).loc Cert.ValuesStepIdeal.main_arg1))
      ∧ θ_run (Cert.ValuesStepRefIdeal.defs (F := Ideal)) (onTc (τ := Cert.ValuesStepRefIdeal.τ) (Cert.ValuesStepRefIdeal.main (F := Ideal))) ⟨m', fun _ => 0, g'⟩ (fun r => ∀ c : Dev Cert.ValuesStepRefIdeal.nD,
          r.2.mem ((c.tc : Thread Cert.ValuesStepRefIdeal.nD Cert.ValuesStepRefIdeal.τ).loc Cert.ValuesStepRefIdeal.main_v10) = v0 c
          ∧ r.2.mem ((c.tc : Thread Cert.ValuesStepRefIdeal.nD Cert.ValuesStepRefIdeal.τ).loc Cert.ValuesStepRefIdeal.main_v12) = v1 c
          ∧ r.2.mem ((c.tc : Thread Cert.ValuesStepRefIdeal.nD Cert.ValuesStepRefIdeal.τ).loc Cert.ValuesStepRefIdeal.main_arg0) = m' ((c.tc : Thread Cert.ValuesStepRefIdeal.nD Cert.ValuesStepRefIdeal.τ).loc Cert.ValuesStepRefIdeal.main_arg0)
          ∧ r.2.mem ((c.tc : Thread Cert.ValuesStepRefIdeal.nD Cert.ValuesStepRefIdeal.τ).loc Cert.ValuesStepRefIdeal.main_arg1) = m' ((c.tc : Thread Cert.ValuesStepRefIdeal.nD Cert.ValuesStepRefIdeal.τ).loc Cert.ValuesStepRefIdeal.main_arg1))

def preserves_TailStep_TailStepIdeal : Prop :=
  True

def algebraic_TailStepIdeal_TailStepRefIdeal [hTailStepIdeal : Cert.TailStepIdeal.Facts] [hTailStepRefIdeal : Cert.TailStepRefIdeal.Facts] : Prop :=
  ∀ (m : (ℓ : Loc Cert.TailStepIdeal.nD Cert.TailStepIdeal.τ Cert.TailStepIdeal.sig) → Buf (Elt Ideal) ℓ) (g : Dev Cert.TailStepIdeal.nD → PrngReg)
    (m' : (ℓ : Loc Cert.TailStepRefIdeal.nD Cert.TailStepRefIdeal.τ Cert.TailStepRefIdeal.sig) → Buf (Elt Ideal) ℓ) (g' : Dev Cert.TailStepRefIdeal.nD → PrngReg), Pre_TailStepIdeal m →
    (∀ c : Dev Cert.TailStepIdeal.nD,
      m' ((c.tc : Thread Cert.TailStepRefIdeal.nD Cert.TailStepRefIdeal.τ).loc Cert.TailStepRefIdeal.main_arg0) = m ((c.tc : Thread Cert.TailStepIdeal.nD Cert.TailStepIdeal.τ).loc Cert.TailStepIdeal.main_arg0)
      ∧ m' ((c.tc : Thread Cert.TailStepRefIdeal.nD Cert.TailStepRefIdeal.τ).loc Cert.TailStepRefIdeal.main_arg1) = m ((c.tc : Thread Cert.TailStepIdeal.nD Cert.TailStepIdeal.τ).loc Cert.TailStepIdeal.main_arg1)) →
    ∃ (v0 : (c : Dev Cert.TailStepIdeal.nD) → Buf (Elt Ideal) ((c.tc : Thread Cert.TailStepIdeal.nD Cert.TailStepIdeal.τ).loc Cert.TailStepIdeal.main_v4)),
      θ_run (Cert.TailStepIdeal.defs (F := Ideal)) (onTc (τ := Cert.TailStepIdeal.τ) (Cert.TailStepIdeal.main (F := Ideal))) ⟨m, fun _ => 0, g⟩ (fun r => ∀ c : Dev Cert.TailStepIdeal.nD,
          r.2.mem ((c.tc : Thread Cert.TailStepIdeal.nD Cert.TailStepIdeal.τ).loc Cert.TailStepIdeal.main_v4) = v0 c
          ∧ r.2.mem ((c.tc : Thread Cert.TailStepIdeal.nD Cert.TailStepIdeal.τ).loc Cert.TailStepIdeal.main_arg0) = m ((c.tc : Thread Cert.TailStepIdeal.nD Cert.TailStepIdeal.τ).loc Cert.TailStepIdeal.main_arg0)
          ∧ r.2.mem ((c.tc : Thread Cert.TailStepIdeal.nD Cert.TailStepIdeal.τ).loc Cert.TailStepIdeal.main_arg1) = m ((c.tc : Thread Cert.TailStepIdeal.nD Cert.TailStepIdeal.τ).loc Cert.TailStepIdeal.main_arg1))
      ∧ θ_run (Cert.TailStepRefIdeal.defs (F := Ideal)) (onTc (τ := Cert.TailStepRefIdeal.τ) (Cert.TailStepRefIdeal.main (F := Ideal))) ⟨m', fun _ => 0, g'⟩ (fun r => ∀ c : Dev Cert.TailStepRefIdeal.nD,
          r.2.mem ((c.tc : Thread Cert.TailStepRefIdeal.nD Cert.TailStepRefIdeal.τ).loc Cert.TailStepRefIdeal.main_v11) = v0 c
          ∧ r.2.mem ((c.tc : Thread Cert.TailStepRefIdeal.nD Cert.TailStepRefIdeal.τ).loc Cert.TailStepRefIdeal.main_arg0) = m' ((c.tc : Thread Cert.TailStepRefIdeal.nD Cert.TailStepRefIdeal.τ).loc Cert.TailStepRefIdeal.main_arg0)
          ∧ r.2.mem ((c.tc : Thread Cert.TailStepRefIdeal.nD Cert.TailStepRefIdeal.τ).loc Cert.TailStepRefIdeal.main_arg1) = m' ((c.tc : Thread Cert.TailStepRefIdeal.nD Cert.TailStepRefIdeal.τ).loc Cert.TailStepRefIdeal.main_arg1))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v4)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v4) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v11) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1))

def preserves_IndexQuery_IndexQueryIdeal : Prop :=
  True

def algebraic_IndexQueryIdeal_IndexQueryRefIdeal_pre_finite_prompt [hIndexQueryIdeal : Cert.IndexQueryIdeal.Facts] [hIndexQueryRefIdeal : Cert.IndexQueryRefIdeal.Facts] [hPre_finite_prompt : Cert.Pre_finite_prompt.Facts] : Prop :=
  ∀ (m : (ℓ : Loc Cert.IndexQueryIdeal.nD Cert.IndexQueryIdeal.τ Cert.IndexQueryIdeal.sig) → Buf (Elt Ideal) ℓ) (g : Dev Cert.IndexQueryIdeal.nD → PrngReg)
    (m' : (ℓ : Loc Cert.IndexQueryRefIdeal.nD Cert.IndexQueryRefIdeal.τ Cert.IndexQueryRefIdeal.sig) → Buf (Elt Ideal) ℓ) (g' : Dev Cert.IndexQueryRefIdeal.nD → PrngReg), Pre_IndexQueryIdeal_finite_prompt m →
    (∀ c : Dev Cert.IndexQueryIdeal.nD,
      m' ((c.tc : Thread Cert.IndexQueryRefIdeal.nD Cert.IndexQueryRefIdeal.τ).loc Cert.IndexQueryRefIdeal.main_arg0) = m ((c.tc : Thread Cert.IndexQueryIdeal.nD Cert.IndexQueryIdeal.τ).loc Cert.IndexQueryIdeal.main_arg0)
      ∧ m' ((c.tc : Thread Cert.IndexQueryRefIdeal.nD Cert.IndexQueryRefIdeal.τ).loc Cert.IndexQueryRefIdeal.main_arg1) = m ((c.tc : Thread Cert.IndexQueryIdeal.nD Cert.IndexQueryIdeal.τ).loc Cert.IndexQueryIdeal.main_arg1)) →
    ∃ (v0 : (c : Dev Cert.IndexQueryIdeal.nD) → Buf (Elt Ideal) ((c.tc : Thread Cert.IndexQueryIdeal.nD Cert.IndexQueryIdeal.τ).loc Cert.IndexQueryIdeal.main_v11)),
      θ_run (Cert.IndexQueryIdeal.defs (F := Ideal)) (onTc (τ := Cert.IndexQueryIdeal.τ) (Cert.IndexQueryIdeal.main (F := Ideal))) ⟨m, fun _ => 0, g⟩ (fun r => ∀ c : Dev Cert.IndexQueryIdeal.nD,
          r.2.mem ((c.tc : Thread Cert.IndexQueryIdeal.nD Cert.IndexQueryIdeal.τ).loc Cert.IndexQueryIdeal.main_v11) = v0 c
          ∧ r.2.mem ((c.tc : Thread Cert.IndexQueryIdeal.nD Cert.IndexQueryIdeal.τ).loc Cert.IndexQueryIdeal.main_arg0) = m ((c.tc : Thread Cert.IndexQueryIdeal.nD Cert.IndexQueryIdeal.τ).loc Cert.IndexQueryIdeal.main_arg0)
          ∧ r.2.mem ((c.tc : Thread Cert.IndexQueryIdeal.nD Cert.IndexQueryIdeal.τ).loc Cert.IndexQueryIdeal.main_arg1) = m ((c.tc : Thread Cert.IndexQueryIdeal.nD Cert.IndexQueryIdeal.τ).loc Cert.IndexQueryIdeal.main_arg1))
      ∧ θ_run (Cert.IndexQueryRefIdeal.defs (F := Ideal)) (onTc (τ := Cert.IndexQueryRefIdeal.τ) (Cert.IndexQueryRefIdeal.main (F := Ideal))) ⟨m', fun _ => 0, g'⟩ (fun r => ∀ c : Dev Cert.IndexQueryRefIdeal.nD,
          r.2.mem ((c.tc : Thread Cert.IndexQueryRefIdeal.nD Cert.IndexQueryRefIdeal.τ).loc Cert.IndexQueryRefIdeal.main_v10) = v0 c
          ∧ r.2.mem ((c.tc : Thread Cert.IndexQueryRefIdeal.nD Cert.IndexQueryRefIdeal.τ).loc Cert.IndexQueryRefIdeal.main_arg0) = m' ((c.tc : Thread Cert.IndexQueryRefIdeal.nD Cert.IndexQueryRefIdeal.τ).loc Cert.IndexQueryRefIdeal.main_arg0)
          ∧ r.2.mem ((c.tc : Thread Cert.IndexQueryRefIdeal.nD Cert.IndexQueryRefIdeal.τ).loc Cert.IndexQueryRefIdeal.main_arg1) = m' ((c.tc : Thread Cert.IndexQueryRefIdeal.nD Cert.IndexQueryRefIdeal.τ).loc Cert.IndexQueryRefIdeal.main_arg1))

def preserves_IndexKey_IndexKeyIdeal : Prop :=
  True

def algebraic_IndexKeyIdeal_IndexKeyRefIdeal_pre_finite_prompt [hIndexKeyIdeal : Cert.IndexKeyIdeal.Facts] [hIndexKeyRefIdeal : Cert.IndexKeyRefIdeal.Facts] [hPre_finite_prompt : Cert.Pre_finite_prompt.Facts] : Prop :=
  ∀ (m : (ℓ : Loc Cert.IndexKeyIdeal.nD Cert.IndexKeyIdeal.τ Cert.IndexKeyIdeal.sig) → Buf (Elt Ideal) ℓ) (g : Dev Cert.IndexKeyIdeal.nD → PrngReg)
    (m' : (ℓ : Loc Cert.IndexKeyRefIdeal.nD Cert.IndexKeyRefIdeal.τ Cert.IndexKeyRefIdeal.sig) → Buf (Elt Ideal) ℓ) (g' : Dev Cert.IndexKeyRefIdeal.nD → PrngReg), Pre_IndexKeyIdeal_finite_prompt m →
    (∀ c : Dev Cert.IndexKeyIdeal.nD,
      m' ((c.tc : Thread Cert.IndexKeyRefIdeal.nD Cert.IndexKeyRefIdeal.τ).loc Cert.IndexKeyRefIdeal.main_arg0) = m ((c.tc : Thread Cert.IndexKeyIdeal.nD Cert.IndexKeyIdeal.τ).loc Cert.IndexKeyIdeal.main_arg0)
      ∧ m' ((c.tc : Thread Cert.IndexKeyRefIdeal.nD Cert.IndexKeyRefIdeal.τ).loc Cert.IndexKeyRefIdeal.main_arg1) = m ((c.tc : Thread Cert.IndexKeyIdeal.nD Cert.IndexKeyIdeal.τ).loc Cert.IndexKeyIdeal.main_arg1)) →
    ∃ (v0 : (c : Dev Cert.IndexKeyIdeal.nD) → Buf (Elt Ideal) ((c.tc : Thread Cert.IndexKeyIdeal.nD Cert.IndexKeyIdeal.τ).loc Cert.IndexKeyIdeal.main_v17)) (v1 : (c : Dev Cert.IndexKeyIdeal.nD) → Buf (Elt Ideal) ((c.tc : Thread Cert.IndexKeyIdeal.nD Cert.IndexKeyIdeal.τ).loc Cert.IndexKeyIdeal.main_v18)),
      θ_run (Cert.IndexKeyIdeal.defs (F := Ideal)) (onTc (τ := Cert.IndexKeyIdeal.τ) (Cert.IndexKeyIdeal.main (F := Ideal))) ⟨m, fun _ => 0, g⟩ (fun r => ∀ c : Dev Cert.IndexKeyIdeal.nD,
          r.2.mem ((c.tc : Thread Cert.IndexKeyIdeal.nD Cert.IndexKeyIdeal.τ).loc Cert.IndexKeyIdeal.main_v17) = v0 c
          ∧ r.2.mem ((c.tc : Thread Cert.IndexKeyIdeal.nD Cert.IndexKeyIdeal.τ).loc Cert.IndexKeyIdeal.main_v18) = v1 c
          ∧ r.2.mem ((c.tc : Thread Cert.IndexKeyIdeal.nD Cert.IndexKeyIdeal.τ).loc Cert.IndexKeyIdeal.main_arg0) = m ((c.tc : Thread Cert.IndexKeyIdeal.nD Cert.IndexKeyIdeal.τ).loc Cert.IndexKeyIdeal.main_arg0)
          ∧ r.2.mem ((c.tc : Thread Cert.IndexKeyIdeal.nD Cert.IndexKeyIdeal.τ).loc Cert.IndexKeyIdeal.main_arg1) = m ((c.tc : Thread Cert.IndexKeyIdeal.nD Cert.IndexKeyIdeal.τ).loc Cert.IndexKeyIdeal.main_arg1))
      ∧ θ_run (Cert.IndexKeyRefIdeal.defs (F := Ideal)) (onTc (τ := Cert.IndexKeyRefIdeal.τ) (Cert.IndexKeyRefIdeal.main (F := Ideal))) ⟨m', fun _ => 0, g'⟩ (fun r => ∀ c : Dev Cert.IndexKeyRefIdeal.nD,
          r.2.mem ((c.tc : Thread Cert.IndexKeyRefIdeal.nD Cert.IndexKeyRefIdeal.τ).loc Cert.IndexKeyRefIdeal.main_v5) = v0 c
          ∧ r.2.mem ((c.tc : Thread Cert.IndexKeyRefIdeal.nD Cert.IndexKeyRefIdeal.τ).loc Cert.IndexKeyRefIdeal.main_v6) = v1 c
          ∧ r.2.mem ((c.tc : Thread Cert.IndexKeyRefIdeal.nD Cert.IndexKeyRefIdeal.τ).loc Cert.IndexKeyRefIdeal.main_arg0) = m' ((c.tc : Thread Cert.IndexKeyRefIdeal.nD Cert.IndexKeyRefIdeal.τ).loc Cert.IndexKeyRefIdeal.main_arg0)
          ∧ r.2.mem ((c.tc : Thread Cert.IndexKeyRefIdeal.nD Cert.IndexKeyRefIdeal.τ).loc Cert.IndexKeyRefIdeal.main_arg1) = m' ((c.tc : Thread Cert.IndexKeyRefIdeal.nD Cert.IndexKeyRefIdeal.τ).loc Cert.IndexKeyRefIdeal.main_arg1))

def preserves_IndexKeyStep_IndexKeyStepIdeal : Prop :=
  True

def algebraic_IndexKeyStepIdeal_IndexKeyStepRefIdeal_pre_finite_step [hIndexKeyStepIdeal : Cert.IndexKeyStepIdeal.Facts] [hIndexKeyStepRefIdeal : Cert.IndexKeyStepRefIdeal.Facts] [hPre_finite_step : Cert.Pre_finite_step.Facts] : Prop :=
  ∀ (m : (ℓ : Loc Cert.IndexKeyStepIdeal.nD Cert.IndexKeyStepIdeal.τ Cert.IndexKeyStepIdeal.sig) → Buf (Elt Ideal) ℓ) (g : Dev Cert.IndexKeyStepIdeal.nD → PrngReg)
    (m' : (ℓ : Loc Cert.IndexKeyStepRefIdeal.nD Cert.IndexKeyStepRefIdeal.τ Cert.IndexKeyStepRefIdeal.sig) → Buf (Elt Ideal) ℓ) (g' : Dev Cert.IndexKeyStepRefIdeal.nD → PrngReg), Pre_IndexKeyStepIdeal_finite_step m →
    (∀ c : Dev Cert.IndexKeyStepIdeal.nD,
      m' ((c.tc : Thread Cert.IndexKeyStepRefIdeal.nD Cert.IndexKeyStepRefIdeal.τ).loc Cert.IndexKeyStepRefIdeal.main_arg0) = m ((c.tc : Thread Cert.IndexKeyStepIdeal.nD Cert.IndexKeyStepIdeal.τ).loc Cert.IndexKeyStepIdeal.main_arg0)
      ∧ m' ((c.tc : Thread Cert.IndexKeyStepRefIdeal.nD Cert.IndexKeyStepRefIdeal.τ).loc Cert.IndexKeyStepRefIdeal.main_arg1) = m ((c.tc : Thread Cert.IndexKeyStepIdeal.nD Cert.IndexKeyStepIdeal.τ).loc Cert.IndexKeyStepIdeal.main_arg1)) →
    ∃ (v0 : (c : Dev Cert.IndexKeyStepIdeal.nD) → Buf (Elt Ideal) ((c.tc : Thread Cert.IndexKeyStepIdeal.nD Cert.IndexKeyStepIdeal.τ).loc Cert.IndexKeyStepIdeal.main_v17)) (v1 : (c : Dev Cert.IndexKeyStepIdeal.nD) → Buf (Elt Ideal) ((c.tc : Thread Cert.IndexKeyStepIdeal.nD Cert.IndexKeyStepIdeal.τ).loc Cert.IndexKeyStepIdeal.main_v18)),
      θ_run (Cert.IndexKeyStepIdeal.defs (F := Ideal)) (onTc (τ := Cert.IndexKeyStepIdeal.τ) (Cert.IndexKeyStepIdeal.main (F := Ideal))) ⟨m, fun _ => 0, g⟩ (fun r => ∀ c : Dev Cert.IndexKeyStepIdeal.nD,
          r.2.mem ((c.tc : Thread Cert.IndexKeyStepIdeal.nD Cert.IndexKeyStepIdeal.τ).loc Cert.IndexKeyStepIdeal.main_v17) = v0 c
          ∧ r.2.mem ((c.tc : Thread Cert.IndexKeyStepIdeal.nD Cert.IndexKeyStepIdeal.τ).loc Cert.IndexKeyStepIdeal.main_v18) = v1 c
          ∧ r.2.mem ((c.tc : Thread Cert.IndexKeyStepIdeal.nD Cert.IndexKeyStepIdeal.τ).loc Cert.IndexKeyStepIdeal.main_arg0) = m ((c.tc : Thread Cert.IndexKeyStepIdeal.nD Cert.IndexKeyStepIdeal.τ).loc Cert.IndexKeyStepIdeal.main_arg0)
          ∧ r.2.mem ((c.tc : Thread Cert.IndexKeyStepIdeal.nD Cert.IndexKeyStepIdeal.τ).loc Cert.IndexKeyStepIdeal.main_arg1) = m ((c.tc : Thread Cert.IndexKeyStepIdeal.nD Cert.IndexKeyStepIdeal.τ).loc Cert.IndexKeyStepIdeal.main_arg1))
      ∧ θ_run (Cert.IndexKeyStepRefIdeal.defs (F := Ideal)) (onTc (τ := Cert.IndexKeyStepRefIdeal.τ) (Cert.IndexKeyStepRefIdeal.main (F := Ideal))) ⟨m', fun _ => 0, g'⟩ (fun r => ∀ c : Dev Cert.IndexKeyStepRefIdeal.nD,
          r.2.mem ((c.tc : Thread Cert.IndexKeyStepRefIdeal.nD Cert.IndexKeyStepRefIdeal.τ).loc Cert.IndexKeyStepRefIdeal.main_v5) = v0 c
          ∧ r.2.mem ((c.tc : Thread Cert.IndexKeyStepRefIdeal.nD Cert.IndexKeyStepRefIdeal.τ).loc Cert.IndexKeyStepRefIdeal.main_v6) = v1 c
          ∧ r.2.mem ((c.tc : Thread Cert.IndexKeyStepRefIdeal.nD Cert.IndexKeyStepRefIdeal.τ).loc Cert.IndexKeyStepRefIdeal.main_arg0) = m' ((c.tc : Thread Cert.IndexKeyStepRefIdeal.nD Cert.IndexKeyStepRefIdeal.τ).loc Cert.IndexKeyStepRefIdeal.main_arg0)
          ∧ r.2.mem ((c.tc : Thread Cert.IndexKeyStepRefIdeal.nD Cert.IndexKeyStepRefIdeal.τ).loc Cert.IndexKeyStepRefIdeal.main_arg1) = m' ((c.tc : Thread Cert.IndexKeyStepRefIdeal.nD Cert.IndexKeyStepRefIdeal.τ).loc Cert.IndexKeyStepRefIdeal.main_arg1))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeRefIdeal : Cert.MergeRefIdeal.Facts) (hOutproj : Cert.Outproj.Facts) (hOutprojIdeal : Cert.OutprojIdeal.Facts) (hOutprojRefIdeal : Cert.OutprojRefIdeal.Facts) (hKeys : Cert.Keys.Facts) (hKeysIdeal : Cert.KeysIdeal.Facts) (hKeysRefIdeal : Cert.KeysRefIdeal.Facts) (hValues : Cert.Values.Facts) (hValuesIdeal : Cert.ValuesIdeal.Facts) (hValuesRefIdeal : Cert.ValuesRefIdeal.Facts) (hFfn : Cert.Ffn.Facts) (hFfnIdeal : Cert.FfnIdeal.Facts) (hFfnRefIdeal : Cert.FfnRefIdeal.Facts) (hTail : Cert.Tail.Facts) (hTailIdeal : Cert.TailIdeal.Facts) (hTailRefIdeal : Cert.TailRefIdeal.Facts) (hKvb : Cert.Kvb.Facts) (hKvbIdeal : Cert.KvbIdeal.Facts) (hKvbRefIdeal : Cert.KvbRefIdeal.Facts) (hKeysStep : Cert.KeysStep.Facts) (hKeysStepIdeal : Cert.KeysStepIdeal.Facts) (hKeysStepRefIdeal : Cert.KeysStepRefIdeal.Facts) (hValuesStep : Cert.ValuesStep.Facts) (hValuesStepIdeal : Cert.ValuesStepIdeal.Facts) (hValuesStepRefIdeal : Cert.ValuesStepRefIdeal.Facts) (hTailStep : Cert.TailStep.Facts) (hTailStepIdeal : Cert.TailStepIdeal.Facts) (hTailStepRefIdeal : Cert.TailStepRefIdeal.Facts) (hQuery : Cert.Query.Facts) (hQueryIdeal : Cert.QueryIdeal.Facts) (hQueryRefIdeal : Cert.QueryRefIdeal.Facts) (hIndexQuery : Cert.IndexQuery.Facts) (hIndexQueryIdeal : Cert.IndexQueryIdeal.Facts) (hIndexQueryRefIdeal : Cert.IndexQueryRefIdeal.Facts) (hIndexKey : Cert.IndexKey.Facts) (hIndexKeyIdeal : Cert.IndexKeyIdeal.Facts) (hIndexKeyRefIdeal : Cert.IndexKeyRefIdeal.Facts) (hIndexKeyStep : Cert.IndexKeyStep.Facts) (hIndexKeyStepIdeal : Cert.IndexKeyStepIdeal.Facts) (hIndexKeyStepRefIdeal : Cert.IndexKeyStepRefIdeal.Facts) (hPre_finite : Cert.Pre_finite.Facts) (hPre_finite_prompt : Cert.Pre_finite_prompt.Facts) (hPre_finite_step : Cert.Pre_finite_step.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Merge (hMerge := hMerge)
    ∧ quiescent_MergeIdeal (hMergeIdeal := hMergeIdeal)
    ∧ quiescent_MergeRefIdeal (hMergeRefIdeal := hMergeRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Keys (hKeys := hKeys)
    ∧ quiescent_KeysIdeal (hKeysIdeal := hKeysIdeal)
    ∧ quiescent_KeysRefIdeal (hKeysRefIdeal := hKeysRefIdeal)
    ∧ quiescent_Values (hValues := hValues)
    ∧ quiescent_ValuesIdeal (hValuesIdeal := hValuesIdeal)
    ∧ quiescent_ValuesRefIdeal (hValuesRefIdeal := hValuesRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Tail (hTail := hTail)
    ∧ quiescent_TailIdeal (hTailIdeal := hTailIdeal)
    ∧ quiescent_TailRefIdeal (hTailRefIdeal := hTailRefIdeal)
    ∧ quiescent_Kvb (hKvb := hKvb)
    ∧ quiescent_KvbIdeal (hKvbIdeal := hKvbIdeal)
    ∧ quiescent_KvbRefIdeal (hKvbRefIdeal := hKvbRefIdeal)
    ∧ quiescent_KeysStep (hKeysStep := hKeysStep)
    ∧ quiescent_KeysStepIdeal (hKeysStepIdeal := hKeysStepIdeal)
    ∧ quiescent_KeysStepRefIdeal (hKeysStepRefIdeal := hKeysStepRefIdeal)
    ∧ quiescent_ValuesStep (hValuesStep := hValuesStep)
    ∧ quiescent_ValuesStepIdeal (hValuesStepIdeal := hValuesStepIdeal)
    ∧ quiescent_ValuesStepRefIdeal (hValuesStepRefIdeal := hValuesStepRefIdeal)
    ∧ quiescent_TailStep (hTailStep := hTailStep)
    ∧ quiescent_TailStepIdeal (hTailStepIdeal := hTailStepIdeal)
    ∧ quiescent_TailStepRefIdeal (hTailStepRefIdeal := hTailStepRefIdeal)
    ∧ quiescent_Query (hQuery := hQuery)
    ∧ quiescent_QueryIdeal (hQueryIdeal := hQueryIdeal)
    ∧ quiescent_QueryRefIdeal (hQueryRefIdeal := hQueryRefIdeal)
    ∧ quiescent_IndexQuery (hIndexQuery := hIndexQuery)
    ∧ quiescent_IndexQueryIdeal (hIndexQueryIdeal := hIndexQueryIdeal)
    ∧ quiescent_IndexQueryIdeal_pre_finite_prompt (hIndexQueryIdeal := hIndexQueryIdeal) (hPre_finite_prompt := hPre_finite_prompt)
    ∧ quiescent_IndexQueryRefIdeal (hIndexQueryRefIdeal := hIndexQueryRefIdeal)
    ∧ quiescent_IndexQueryRefIdeal_pre_finite_prompt (hIndexQueryRefIdeal := hIndexQueryRefIdeal) (hPre_finite_prompt := hPre_finite_prompt)
    ∧ quiescent_IndexKey (hIndexKey := hIndexKey)
    ∧ quiescent_IndexKeyIdeal (hIndexKeyIdeal := hIndexKeyIdeal)
    ∧ quiescent_IndexKeyIdeal_pre_finite_prompt (hIndexKeyIdeal := hIndexKeyIdeal) (hPre_finite_prompt := hPre_finite_prompt)
    ∧ quiescent_IndexKeyRefIdeal (hIndexKeyRefIdeal := hIndexKeyRefIdeal)
    ∧ quiescent_IndexKeyRefIdeal_pre_finite_prompt (hIndexKeyRefIdeal := hIndexKeyRefIdeal) (hPre_finite_prompt := hPre_finite_prompt)
    ∧ quiescent_IndexKeyStep (hIndexKeyStep := hIndexKeyStep)
    ∧ quiescent_IndexKeyStepIdeal (hIndexKeyStepIdeal := hIndexKeyStepIdeal)
    ∧ quiescent_IndexKeyStepIdeal_pre_finite_step (hIndexKeyStepIdeal := hIndexKeyStepIdeal) (hPre_finite_step := hPre_finite_step)
    ∧ quiescent_IndexKeyStepRefIdeal (hIndexKeyStepRefIdeal := hIndexKeyStepRefIdeal)
    ∧ quiescent_IndexKeyStepRefIdeal_pre_finite_step (hIndexKeyStepRefIdeal := hIndexKeyStepRefIdeal) (hPre_finite_step := hPre_finite_step)
    ∧ preserves_Kernel_KernelIdeal
    ∧ algebraic_KernelIdeal_ReferenceIdeal_pre_finite (hKernelIdeal := hKernelIdeal) (hReferenceIdeal := hReferenceIdeal) (hPre_finite := hPre_finite)
    ∧ preserves_Merge_MergeIdeal
    ∧ algebraic_MergeIdeal_MergeRefIdeal (hMergeIdeal := hMergeIdeal) (hMergeRefIdeal := hMergeRefIdeal)
    ∧ preserves_Outproj_OutprojIdeal
    ∧ algebraic_OutprojIdeal_OutprojRefIdeal (hOutprojIdeal := hOutprojIdeal) (hOutprojRefIdeal := hOutprojRefIdeal)
    ∧ preserves_Keys_KeysIdeal
    ∧ algebraic_KeysIdeal_KeysRefIdeal (hKeysIdeal := hKeysIdeal) (hKeysRefIdeal := hKeysRefIdeal)
    ∧ preserves_Values_ValuesIdeal
    ∧ algebraic_ValuesIdeal_ValuesRefIdeal (hValuesIdeal := hValuesIdeal) (hValuesRefIdeal := hValuesRefIdeal)
    ∧ preserves_Ffn_FfnIdeal
    ∧ algebraic_FfnIdeal_FfnRefIdeal (hFfnIdeal := hFfnIdeal) (hFfnRefIdeal := hFfnRefIdeal)
    ∧ preserves_Tail_TailIdeal
    ∧ algebraic_TailIdeal_TailRefIdeal (hTailIdeal := hTailIdeal) (hTailRefIdeal := hTailRefIdeal)
    ∧ preserves_Kvb_KvbIdeal
    ∧ algebraic_KvbIdeal_KvbRefIdeal (hKvbIdeal := hKvbIdeal) (hKvbRefIdeal := hKvbRefIdeal)
    ∧ preserves_KeysStep_KeysStepIdeal
    ∧ algebraic_KeysStepIdeal_KeysStepRefIdeal (hKeysStepIdeal := hKeysStepIdeal) (hKeysStepRefIdeal := hKeysStepRefIdeal)
    ∧ preserves_ValuesStep_ValuesStepIdeal
    ∧ algebraic_ValuesStepIdeal_ValuesStepRefIdeal (hValuesStepIdeal := hValuesStepIdeal) (hValuesStepRefIdeal := hValuesStepRefIdeal)
    ∧ preserves_TailStep_TailStepIdeal
    ∧ algebraic_TailStepIdeal_TailStepRefIdeal (hTailStepIdeal := hTailStepIdeal) (hTailStepRefIdeal := hTailStepRefIdeal)
    ∧ preserves_Query_QueryIdeal
    ∧ algebraic_QueryIdeal_QueryRefIdeal (hQueryIdeal := hQueryIdeal) (hQueryRefIdeal := hQueryRefIdeal)
    ∧ preserves_IndexQuery_IndexQueryIdeal
    ∧ algebraic_IndexQueryIdeal_IndexQueryRefIdeal_pre_finite_prompt (hIndexQueryIdeal := hIndexQueryIdeal) (hIndexQueryRefIdeal := hIndexQueryRefIdeal) (hPre_finite_prompt := hPre_finite_prompt)
    ∧ preserves_IndexKey_IndexKeyIdeal
    ∧ algebraic_IndexKeyIdeal_IndexKeyRefIdeal_pre_finite_prompt (hIndexKeyIdeal := hIndexKeyIdeal) (hIndexKeyRefIdeal := hIndexKeyRefIdeal) (hPre_finite_prompt := hPre_finite_prompt)
    ∧ preserves_IndexKeyStep_IndexKeyStepIdeal
    ∧ algebraic_IndexKeyStepIdeal_IndexKeyStepRefIdeal_pre_finite_step (hIndexKeyStepIdeal := hIndexKeyStepIdeal) (hIndexKeyStepRefIdeal := hIndexKeyStepRefIdeal) (hPre_finite_step := hPre_finite_step)
-- ==== Pre_finite.lean ====
abbrev S4x8192x8x128 : Shape := ⟨4, ![4, 8192, 8, 128]⟩
abbrev S8x257 : Shape := ⟨2, ![8, 257]⟩
abbrev S_ : Shape := ⟨0, ![]⟩

class Facts : Prop where
  bcast_S_S4x8192x8x128 : S_.BroadcastsInDim S4x8192x8x128 (![] : Fin 0 → Fin S4x8192x8x128.rank)
  reducesTo_S4x8192x8x128_S_d0_1_2_3 : S4x8192x8x128.ReducesTo [0, 1, 2, 3] S_
  h_S_ : 0 < S_.numel
  bcast_S_S8x257 : S_.BroadcastsInDim S8x257 (![] : Fin 0 → Fin S8x257.rank)
  reducesTo_S8x257_S_d0_1 : S8x257.ReducesTo [0, 1] S_

variable [Facts]

def fn {F : FTy → Type} [FloatOps F] (main_arg0 : FVec F S4x8192x8x128 .f32) (main_arg1 : FVec F S4x8192x8x128 .f32) (main_arg2 : FVec F S4x8192x8x128 .f32) (main_arg3 : FVec F S8x257 .f32) : IVec S_ 1 :=
  let main_v0 : FVec F S4x8192x8x128 .f32 := Host.absf main_arg0
  let main_cst : FVec F S_ .f32 := constant S_ .f32 0x7F800000#32
  let main_v1 : FVec F S4x8192x8x128 .f32 := broadcastInDim S4x8192x8x128 ![] bcast_S_S4x8192x8x128 main_cst
  let main_v2 : IVec S4x8192x8x128 1 := cmpf .olt main_v0 main_v1
  let main_c : IVec S_ 1 := constantI S_ 1 1#1
  let main_v3 : IVec S_ 1 := (fun x v => Host.reduce IntOp.andi x v reducesTo_S4x8192x8x128_S_d0_1_2_3 h_S_) main_v2 main_c
  let main_v4 : FVec F S4x8192x8x128 .f32 := Host.absf main_arg1
  let main_cst_0 : FVec F S_ .f32 := constant S_ .f32 0x7F800000#32
  let main_v5 : FVec F S4x8192x8x128 .f32 := broadcastInDim S4x8192x8x128 ![] bcast_S_S4x8192x8x128 main_cst_0
  let main_v6 : IVec S4x8192x8x128 1 := cmpf .olt main_v4 main_v5
  let main_c_1 : IVec S_ 1 := constantI S_ 1 1#1
  let main_v7 : IVec S_ 1 := (fun x v => Host.reduce IntOp.andi x v reducesTo_S4x8192x8x128_S_d0_1_2_3 h_S_) main_v6 main_c_1
  let main_v8 : IVec S_ 1 := andi main_v3 main_v7
  let main_v9 : FVec F S8x257 .f32 := Host.absf main_arg3
  let main_cst_2 : FVec F S_ .f32 := constant S_ .f32 0x7F800000#32
  let main_v10 : FVec F S8x257 .f32 := broadcastInDim S8x257 ![] bcast_S_S8x257 main_cst_2
  let main_v11 : IVec S8x257 1 := cmpf .olt main_v9 main_v10
  let main_c_3 : IVec S_ 1 := constantI S_ 1 1#1
  let main_v12 : IVec S_ 1 := (fun x v => Host.reduce IntOp.andi x v reducesTo_S8x257_S_d0_1 h_S_) main_v11 main_c_3
  let main_v13 : IVec S_ 1 := andi main_v8 main_v12
  main_v13
-- ==== Pre_finite_prompt.lean ====
abbrev S4x8192x2048 : Shape := ⟨3, ![4, 8192, 2048]⟩
abbrev S2048x7248 : Shape := ⟨2, ![2048, 7248]⟩
abbrev S_ : Shape := ⟨0, ![]⟩

class Facts : Prop where
  bcast_S_S4x8192x2048 : S_.BroadcastsInDim S4x8192x2048 (![] : Fin 0 → Fin S4x8192x2048.rank)
  reducesTo_S4x8192x2048_S_d0_1_2 : S4x8192x2048.ReducesTo [0, 1, 2] S_
  h_S_ : 0 < S_.numel
  bcast_S_S2048x7248 : S_.BroadcastsInDim S2048x7248 (![] : Fin 0 → Fin S2048x7248.rank)
  reducesTo_S2048x7248_S_d0_1 : S2048x7248.ReducesTo [0, 1] S_

variable [Facts]

def fn {F : FTy → Type} [FloatOps F] (main_arg0 : FVec F S4x8192x2048 .f32) (main_arg1 : FVec F S2048x7248 .f32) : IVec S_ 1 :=
  let main_v0 : FVec F S4x8192x2048 .f32 := Host.absf main_arg0
  let main_cst : FVec F S_ .f32 := constant S_ .f32 0x7F800000#32
  let main_v1 : FVec F S4x8192x2048 .f32 := broadcastInDim S4x8192x2048 ![] bcast_S_S4x8192x2048 main_cst
  let main_v2 : IVec S4x8192x2048 1 := cmpf .olt main_v0 main_v1
  let main_c : IVec S_ 1 := constantI S_ 1 1#1
  let main_v3 : IVec S_ 1 := (fun x v => Host.reduce IntOp.andi x v reducesTo_S4x8192x2048_S_d0_1_2 h_S_) main_v2 main_c
  let main_v4 : FVec F S2048x7248 .f32 := Host.absf main_arg1
  let main_cst_0 : FVec F S_ .f32 := constant S_ .f32 0x7F800000#32
  let main_v5 : FVec F S2048x7248 .f32 := broadcastInDim S2048x7248 ![] bcast_S_S2048x7248 main_cst_0
  let main_v6 : IVec S2048x7248 1 := cmpf .olt main_v4 main_v5
  let main_c_1 : IVec S_ 1 := constantI S_ 1 1#1
  let main_v7 : IVec S_ 1 := (fun x v => Host.reduce IntOp.andi x v reducesTo_S2048x7248_S_d0_1 h_S_) main_v6 main_c_1
  let main_v8 : IVec S_ 1 := andi main_v3 main_v7
  main_v8
-- ==== Pre_finite_step.lean ====
abbrev S16x16x2048 : Shape := ⟨3, ![16, 16, 2048]⟩
abbrev S2048x7248 : Shape := ⟨2, ![2048, 7248]⟩
abbrev S_ : Shape := ⟨0, ![]⟩

class Facts : Prop where
  bcast_S_S16x16x2048 : S_.BroadcastsInDim S16x16x2048 (![] : Fin 0 → Fin S16x16x2048.rank)
  reducesTo_S16x16x2048_S_d0_1_2 : S16x16x2048.ReducesTo [0, 1, 2] S_
  h_S_ : 0 < S_.numel
  bcast_S_S2048x7248 : S_.BroadcastsInDim S2048x7248 (![] : Fin 0 → Fin S2048x7248.rank)
  reducesTo_S2048x7248_S_d0_1 : S2048x7248.ReducesTo [0, 1] S_

variable [Facts]

def fn {F : FTy → Type} [FloatOps F] (main_arg0 : FVec F S16x16x2048 .f32) (main_arg1 : FVec F S2048x7248 .f32) : IVec S_ 1 :=
  let main_v0 : FVec F S16x16x2048 .f32 := Host.absf main_arg0
  let main_cst : FVec F S_ .f32 := constant S_ .f32 0x7F800000#32
  let main_v1 : FVec F S16x16x2048 .f32 := broadcastInDim S16x16x2048 ![] bcast_S_S16x16x2048 main_cst
  let main_v2 : IVec S16x16x2048 1 := cmpf .olt main_v0 main_v1
  let main_c : IVec S_ 1 := constantI S_ 1 1#1
  let main_v3 : IVec S_ 1 := (fun x v => Host.reduce IntOp.andi x v reducesTo_S16x16x2048_S_d0_1_2 h_S_) main_v2 main_c
  let main_v4 : FVec F S2048x7248 .f32 := Host.absf main_arg1
  let main_cst_0 : FVec F S_ .f32 := constant S_ .f32 0x7F800000#32
  let main_v5 : FVec F S2048x7248 .f32 := broadcastInDim S2048x7248 ![] bcast_S_S2048x7248 main_cst_0
  let main_v6 : IVec S2048x7248 1 := cmpf .olt main_v4 main_v5
  let main_c_1 : IVec S_ 1 := constantI S_ 1 1#1
  let main_v7 : IVec S_ 1 := (fun x v => Host.reduce IntOp.andi x v reducesTo_S2048x7248_S_d0_1 h_S_) main_v6 main_c_1
  let main_v8 : IVec S_ 1 := andi main_v3 main_v7
  main_v8
-- ==== Kernel.lean ====
abbrev S4x8192x8x128 : Shape := ⟨4, ![4, 8192, 8, 128]⟩
abbrev S8x257 : Shape := ⟨2, ![8, 257]⟩
abbrev S1024 : Shape := ⟨1, ![1024]⟩
abbrev S4x8192x1024 : Shape := ⟨3, ![4, 8192, 1024]⟩
abbrev S4x8192x2048 : Shape := ⟨3, ![4, 8192, 2048]⟩
abbrev S_ : Shape := ⟨0, ![]⟩
abbrev S1024x1 : Shape := ⟨2, ![1024, 1]⟩
abbrev S8x1024 : Shape := ⟨2, ![8, 1024]⟩
abbrev S1x8x1x1024 : Shape := ⟨4, ![1, 8, 1, 1024]⟩
abbrev S1x8x256x1024 : Shape := ⟨4, ![1, 8, 256, 1024]⟩
abbrev S8x262144 : Shape := ⟨2, ![8, 262144]⟩
abbrev S8x261888 : Shape := ⟨2, ![8, 261888]⟩
abbrev S8x256x1023 : Shape := ⟨3, ![8, 256, 1023]⟩
abbrev S8x256x768 : Shape := ⟨3, ![8, 256, 768]⟩
abbrev S8x768x256 : Shape := ⟨3, ![8, 768, 256]⟩
abbrev S768 : Shape := ⟨1, ![768]⟩
abbrev S768x1 : Shape := ⟨2, ![768, 1]⟩
abbrev S256 : Shape := ⟨1, ![256]⟩
abbrev S1x256 : Shape := ⟨2, ![1, 256]⟩
abbrev S768x256 : Shape := ⟨2, ![768, 256]⟩
abbrev S1x768x256 : Shape := ⟨3, ![1, 768, 256]⟩
abbrev S1x8x768x256 : Shape := ⟨4, ![1, 8, 768, 256]⟩
abbrev S3x8x768x256 : Shape := ⟨4, ![3, 8, 768, 256]⟩
abbrev S1x256x1024 : Shape := ⟨3, ![1, 256, 1024]⟩
abbrev S1x256x128 : Shape := ⟨3, ![1, 256, 128]⟩
abbrev S256x128 : Shape := ⟨2, ![256, 128]⟩
abbrev S256x256 : Shape := ⟨2, ![256, 256]⟩
abbrev S1x1x256x256 : Shape := ⟨4, ![1, 1, 256, 256]⟩
abbrev S128x256 : Shape := ⟨2, ![128, 256]⟩

abbrev nBuf : Space → Nat
  | .hbm => 127
  | .vmem => 18
  | .smem => 0
  | _ => 0

abbrev bufTy : (tb : Table) → Fin (tcTables nBuf tb) → BufTy
  | .hbm, ⟨0, _⟩ => ⟨S4x8192x8x128, .f32⟩
  | .hbm, ⟨1, _⟩ => ⟨S4x8192x8x128, .f32⟩
  | .hbm, ⟨2, _⟩ => ⟨S4x8192x8x128, .f32⟩
  | .hbm, ⟨3, _⟩ => ⟨S8x257, .f32⟩
  | .hbm, ⟨4, _⟩ => ⟨S1024, .i32⟩
  | .hbm, ⟨5, _⟩ => ⟨S1024, .i1⟩
  | .hbm, ⟨6, _⟩ => ⟨S4x8192x1024, .f32⟩
  | .hbm, ⟨7, _⟩ => ⟨S4x8192x1024, .bf16⟩
  | .hbm, ⟨8, _⟩ => ⟨S4x8192x1024, .f32⟩
  | .hbm, ⟨9, _⟩ => ⟨S4x8192x1024, .f32⟩
  | .hbm, ⟨10, _⟩ => ⟨S4x8192x2048, .f32⟩
  | .hbm, ⟨11, _⟩ => ⟨S4x8192x2048, .bf16⟩
  | .hbm, ⟨12, _⟩ => ⟨S_, .i32⟩
  | .hbm, ⟨13, _⟩ => ⟨S1024, .i32⟩
  | .hbm, ⟨14, _⟩ => ⟨S1024, .i32⟩
  | .hbm, ⟨15, _⟩ => ⟨S1024, .i32⟩
  | .hbm, ⟨16, _⟩ => ⟨S1024x1, .i32⟩
  | .hbm, ⟨17, _⟩ => ⟨S8x1024, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S8x1024, .f32⟩
  | .hbm, ⟨23, _⟩ => ⟨S8x1024, .f32⟩
  | .hbm, ⟨24, _⟩ => ⟨S1x8x1x1024, .f32⟩
  | .hbm, ⟨25, _⟩ => ⟨S1x8x256x1024, .f32⟩
  | .hbm, ⟨26, _⟩ => ⟨S8x262144, .f32⟩
  | .hbm, ⟨27, _⟩ => ⟨S8x261888, .f32⟩
  | .hbm, ⟨28, _⟩ => ⟨S8x256x1023, .f32⟩
  | .hbm, ⟨29, _⟩ => ⟨S8x256x768, .f32⟩
  | .hbm, ⟨30, _⟩ => ⟨S8x768x256, .f32⟩
  | .hbm, ⟨31, _⟩ => ⟨S768, .i32⟩
  | .hbm, ⟨32, _⟩ => ⟨S768x1, .i32⟩
  | .hbm, ⟨33, _⟩ => ⟨S256, .i32⟩
  | .hbm, ⟨34, _⟩ => ⟨S1x256, .i32⟩
  | .hbm, ⟨35, _⟩ => ⟨S_, .i32⟩
  | .hbm, ⟨36, _⟩ => ⟨S_, .i32⟩
  | .hbm, ⟨37, _⟩ => ⟨S1x256, .i32⟩
  | .hbm, ⟨38, _⟩ => ⟨S1x256, .i32⟩
  | .hbm, ⟨39, _⟩ => ⟨S1x256, .i32⟩
  | .hbm, ⟨40, _⟩ => ⟨S_, .i32⟩
  | .hbm, ⟨41, _⟩ => ⟨S1x256, .i32⟩
  | .hbm, ⟨42, _⟩ => ⟨S1x256, .i1⟩
  | .hbm, ⟨43, _⟩ => ⟨S1x256, .i32⟩
  | .hbm, ⟨44, _⟩ => ⟨S1x256, .i32⟩
  | .hbm, ⟨45, _⟩ => ⟨S_, .i32⟩
  | .hbm, ⟨46, _⟩ => ⟨S1x256, .i32⟩
  | .hbm, ⟨47, _⟩ => ⟨S1x256, .i1⟩
  | .hbm, ⟨48, _⟩ => ⟨S1x256, .i1⟩
  | .hbm, ⟨49, _⟩ => ⟨S_, .i32⟩
  | .hbm, ⟨50, _⟩ => ⟨S1x256, .i32⟩
  | .hbm, ⟨51, _⟩ => ⟨S1x256, .i32⟩
  | .hbm, ⟨52, _⟩ => ⟨S1x256, .i32⟩
  | .hbm, ⟨53, _⟩ => ⟨S_, .i32⟩
  | .hbm, ⟨54, _⟩ => ⟨S768x1, .i32⟩
  | .hbm, ⟨55, _⟩ => ⟨S768x1, .i32⟩
  | .hbm, ⟨56, _⟩ => ⟨S_, .i32⟩
  | .hbm, ⟨57, _⟩ => ⟨S_, .i32⟩
  | .hbm, ⟨58, _⟩ => ⟨S768x1, .i32⟩
  | .hbm, ⟨59, _⟩ => ⟨S768x1, .i32⟩
  | .hbm, ⟨60, _⟩ => ⟨S768x1, .i32⟩
  | .hbm, ⟨61, _⟩ => ⟨S_, .i32⟩
  | .hbm, ⟨62, _⟩ => ⟨S768x1, .i32⟩
  | .hbm, ⟨63, _⟩ => ⟨S768x1, .i1⟩
  | .hbm, ⟨64, _⟩ => ⟨S768x1, .i32⟩
  | .hbm, ⟨65, _⟩ => ⟨S768x1, .i32⟩
  | .hbm, ⟨66, _⟩ => ⟨S_, .i32⟩
  | .hbm, ⟨67, _⟩ => ⟨S768x1, .i32⟩
  | .hbm, ⟨68, _⟩ => ⟨S768x1, .i1⟩
  | .hbm, ⟨69, _⟩ => ⟨S768x1, .i1⟩
  | .hbm, ⟨70, _⟩ => ⟨S_, .i32⟩
  | .hbm, ⟨71, _⟩ => ⟨S768x1, .i32⟩
  | .hbm, ⟨72, _⟩ => ⟨S768x1, .i32⟩
  | .hbm, ⟨73, _⟩ => ⟨S768x1, .i32⟩
  | .hbm, ⟨74, _⟩ => ⟨S768x256, .i32⟩
  | .hbm, ⟨75, _⟩ => ⟨S768x256, .i32⟩
  | .hbm, ⟨76, _⟩ => ⟨S768x256, .i1⟩
  | .hbm, ⟨77, _⟩ => ⟨S_, .i32⟩
  | .hbm, ⟨78, _⟩ => ⟨S1x256, .i32⟩
  | .hbm, ⟨79, _⟩ => ⟨S1x256, .i32⟩
  | .hbm, ⟨80, _⟩ => ⟨S768x256, .i32⟩
  | .hbm, ⟨81, _⟩ => ⟨S768x256, .i32⟩
  | .hbm, ⟨82, _⟩ => ⟨S768x256, .i1⟩
  | .hbm, ⟨83, _⟩ => ⟨S768x256, .i1⟩
  | .hbm, ⟨84, _⟩ => ⟨S_, .i32⟩
  | .hbm, ⟨85, _⟩ => ⟨S768x1, .i32⟩
  | .hbm, ⟨86, _⟩ => ⟨S768x1, .i1⟩
  | .hbm, ⟨87, _⟩ => ⟨S768x256, .i1⟩
  | .hbm, ⟨88, _⟩ => ⟨S768x256, .i1⟩
  | .hbm, ⟨89, _⟩ => ⟨S_, .i32⟩
  | .hbm, ⟨90, _⟩ => ⟨S768x1, .i32⟩
  | .hbm, ⟨91, _⟩ => ⟨S768x1, .i1⟩
  | .hbm, ⟨92, _⟩ => ⟨S768x256, .i1⟩
  | .hbm, ⟨93, _⟩ => ⟨S768x256, .i1⟩
  | .hbm, ⟨94, _⟩ => ⟨S1x768x256, .i1⟩
  | .hbm, ⟨95, _⟩ => ⟨S_, .f32⟩
  | .hbm, ⟨96, _⟩ => ⟨S_, .f32⟩
  | .hbm, ⟨97, _⟩ => ⟨S8x768x256, .i1⟩
  | .hbm, ⟨98, _⟩ => ⟨S8x768x256, .f32⟩
  | .hbm, ⟨99, _⟩ => ⟨S8x768x256, .f32⟩
  | .hbm, ⟨100, _⟩ => ⟨S_, .i32⟩
  | .hbm, ⟨101, _⟩ => ⟨S768x1, .i32⟩
  | .hbm, ⟨102, _⟩ => ⟨S768x1, .i1⟩
  | .hbm, ⟨103, _⟩ => ⟨S768x256, .i1⟩
  | .hbm, ⟨104, _⟩ => ⟨S768x256, .i1⟩
  | .hbm, ⟨105, _⟩ => ⟨S1x768x256, .i1⟩
  | .hbm, ⟨106, _⟩ => ⟨S_, .f32⟩
  | .hbm, ⟨107, _⟩ => ⟨S_, .f32⟩
  | .hbm, ⟨108, _⟩ => ⟨S8x768x256, .i1⟩
  | .hbm, ⟨109, _⟩ => ⟨S8x768x256, .f32⟩
  | .hbm, ⟨110, _⟩ => ⟨S8x768x256, .f32⟩
  | .hbm, ⟨111, _⟩ => ⟨S_, .i32⟩
  | .hbm, ⟨112, _⟩ => ⟨S768x1, .i32⟩
  | .hbm, ⟨113, _⟩ => ⟨S768x1, .i1⟩
  | .hbm, ⟨114, _⟩ => ⟨S768x256, .i1⟩
  | .hbm, ⟨115, _⟩ => ⟨S768x256, .i1⟩
  | .hbm, ⟨116, _⟩ => ⟨S1x768x256, .i1⟩
  | .hbm, ⟨117, _⟩ => ⟨S_, .f32⟩
  | .hbm, ⟨118, _⟩ => ⟨S_, .f32⟩
  | .hbm, ⟨119, _⟩ => ⟨S8x768x256, .i1⟩
  | .hbm, ⟨120, _⟩ => ⟨S8x768x256, .f32⟩
  | .hbm, ⟨121, _⟩ => ⟨S8x768x256, .f32⟩
  | .hbm, ⟨122, _⟩ => ⟨S1x8x768x256, .f32⟩
  | .hbm, ⟨123, _⟩ => ⟨S1x8x768x256, .f32⟩
  | .hbm, ⟨124, _⟩ => ⟨S1x8x768x256, .f32⟩
  | .hbm, ⟨125, _⟩ => ⟨S3x8x768x256, .f32⟩
  | .hbm, ⟨126, _⟩ => ⟨S4x8192x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x8x768x256, .f32⟩
  | .local _ .vmem, ⟨15, _⟩ => ⟨S1x8x768x256, .f32⟩
  | .local _ .vmem, ⟨16, _⟩ => ⟨S1x256x1024, .bf16⟩
  | .local _ .vmem, ⟨17, _⟩ => ⟨S1x256x1024, .bf16⟩
  | _, _ => ⟨S4x8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_3 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_c : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_0 : Ref sig .tc := ⟨.hbm, 49, rfl⟩
abbrev main_call0_v12 : Ref sig .tc := ⟨.hbm, 50, rfl⟩
abbrev main_call0_v13 : Ref sig .tc := ⟨.hbm, 51, rfl⟩
abbrev main_v26 : Ref sig .tc := ⟨.hbm, 52, rfl⟩
abbrev main_c_4 : Ref sig .tc := ⟨.hbm, 53, rfl⟩
abbrev main_v27 : Ref sig .tc := ⟨.hbm, 54, rfl⟩
abbrev main_v28 : Ref sig .tc := ⟨.hbm, 55, rfl⟩
abbrev main_c_5 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_c : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_0 : Ref sig .tc := ⟨.hbm, 70, rfl⟩
abbrev main_call1_v12 : Ref sig .tc := ⟨.hbm, 71, rfl⟩
abbrev main_call1_v13 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_c_6 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_c_7 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_c_8 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_cst_9 : Ref sig .tc := ⟨.hbm, 95, rfl⟩
abbrev main_call2_v0 : Ref sig .tc := ⟨.hbm, 96, rfl⟩
abbrev main_call2_v1 : Ref sig .tc := ⟨.hbm, 97, rfl⟩
abbrev main_call2_v2 : Ref sig .tc := ⟨.hbm, 98, rfl⟩
abbrev main_v48 : Ref sig .tc := ⟨.hbm, 99, rfl⟩
abbrev main_c_10 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_cst_11 : Ref sig .tc := ⟨.hbm, 106, rfl⟩
abbrev main_call3_v0 : Ref sig .tc := ⟨.hbm, 107, rfl⟩
abbrev main_call3_v1 : Ref sig .tc := ⟨.hbm, 108, rfl⟩
abbrev main_call3_v2 : Ref sig .tc := ⟨.hbm, 109, rfl⟩
abbrev main_v54 : Ref sig .tc := ⟨.hbm, 110, rfl⟩
abbrev main_c_12 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_cst_13 : Ref sig .tc := ⟨.hbm, 117, rfl⟩
abbrev main_call4_v0 : Ref sig .tc := ⟨.hbm, 118, rfl⟩
abbrev main_call4_v1 : Ref sig .tc := ⟨.hbm, 119, rfl⟩
abbrev main_call4_v2 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.addi v0 c0_i32
  let c0_i32_0 : BitVec 32 := 0#32
  let v2 : BitVec 32 := Scalar.maxsi v1 c0_i32_0
  let c0_i32_1 : BitVec 32 := 0#32
  let c0_i32_2 : BitVec 32 := 0#32
  ![arg0.toNat, v2.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c1_i32 : BitVec 32 := 1#32
  let v1 : BitVec 32 := Scalar.addi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c2_i32_0 : BitVec 32 := 2#32
  let v1 : BitVec 32 := Scalar.addi v0 c2_i32_0
  let c0_i32 : BitVec 32 := 0#32
  let v2 : BitVec 32 := Scalar.maxsi v1 c0_i32
  let c0_i32_1 : BitVec 32 := 0#32
  let c0_i32_2 : BitVec 32 := 0#32
  ![arg0.toNat, v2.toNat, c0_i32_1.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.addi v0 c0_i32
  let c0_i32_0 : BitVec 32 := 0#32
  let v2 : BitVec 32 := Scalar.maxsi v1 c0_i32_0
  let c1_i32 : BitVec 32 := 1#32
  let c0_i32_1 : BitVec 32 := 0#32
  ![arg0.toNat, v2.toNat, c1_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c1_i32 : BitVec 32 := 1#32
  let v1 : BitVec 32 := Scalar.addi v0 c1_i32
  let c0_i32 : BitVec 32 := 0#32
  let v2 : BitVec 32 := Scalar.maxsi v1 c0_i32
  let c1_i32_0 : BitVec 32 := 1#32
  let c0_i32_1 : BitVec 32 := 0#32
  ![arg0.toNat, v2.toNat, c1_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c2_i32_0 : BitVec 32 := 2#32
  let v1 : BitVec 32 := Scalar.addi v0 c2_i32_0
  let c0_i32 : BitVec 32 := 0#32
  let v2 : BitVec 32 := Scalar.maxsi v1 c0_i32
  let c1_i32 : BitVec 32 := 1#32
  let c0_i32_1 : BitVec 32 := 0#32
  ![arg0.toNat, v2.toNat, c1_i32.toNat]

def cc0_transform_7 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.minsi arg1 c2_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x768x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "scale_log2e" => some (((Real.sqrt 128)⁻¹ * (Real.log 2)⁻¹ : ℝ) : EReal)
  | _ => none
-- ==== ReferenceIdeal.lean ====
abbrev S4x8192x8x128 : Shape := ⟨4, ![4, 8192, 8, 128]⟩
abbrev S8x257 : Shape := ⟨2, ![8, 257]⟩
abbrev S8192 : Shape := ⟨1, ![8192]⟩
abbrev S4x8x8192x8192 : Shape := ⟨4, ![4, 8, 8192, 8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S8192x8192x1 : Shape := ⟨3, ![8192, 8192, 1]⟩
abbrev S8x8192x8192 : Shape := ⟨3, ![8, 8192, 8192]⟩
abbrev S1x1x8192x8192 : Shape := ⟨4, ![1, 1, 8192, 8192]⟩
abbrev S1x8x8192x8192 : Shape := ⟨4, ![1, 8, 8192, 8192]⟩
abbrev S4x8x8192 : Shape := ⟨3, ![4, 8, 8192]⟩
abbrev S4x8x8192x1 : Shape := ⟨4, ![4, 8, 8192, 1]⟩
abbrev S4x8x128x8192 : Shape := ⟨4, ![4, 8, 128, 8192]⟩
abbrev S4x8192x1024 : Shape := ⟨3, ![4, 8192, 1024]⟩

abbrev nBuf : Space → Nat
  | .hbm => 116
  | .vmem => 0
  | .smem => 0
  | _ => 0

abbrev bufTy : (tb : Table) → Fin (tcTables nBuf tb) → BufTy
  | .hbm, ⟨0, _⟩ => ⟨S4x8192x8x128, .f32⟩
  | .hbm, ⟨1, _⟩ => ⟨S4x8192x8x128, .f32⟩
  | .hbm, ⟨2, _⟩ => ⟨S4x8192x8x128, .f32⟩
  | .hbm, ⟨3, _⟩ => ⟨S8x257, .f32⟩
  | .hbm, ⟨4, _⟩ => ⟨S8192, .i32⟩
  | .hbm, ⟨5, _⟩ => ⟨S4x8x8192x8192, .f32⟩
  | .hbm, ⟨6, _⟩ => ⟨S_, .f32⟩
  | .hbm, ⟨7, _⟩ => ⟨S_, .f32⟩
  | .hbm, ⟨8, _⟩ => ⟨S4x8x8192x8192, .f32⟩
  | .hbm, ⟨9, _⟩ => ⟨S4x8x8192x8192, .f32⟩
  | .hbm, ⟨10, _⟩ => ⟨S8192x1, .i32⟩
  | .hbm, ⟨11, _⟩ => ⟨S1x8192, .i32⟩
  | .hbm, ⟨12, _⟩ => ⟨S8192x8192, .i32⟩
  | .hbm, ⟨13, _⟩ => ⟨S8192x8192, .i32⟩
  | .hbm, ⟨14, _⟩ => ⟨S8192x8192, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S8192x8192, .i32⟩
  | .hbm, ⟨19, _⟩ => ⟨S8192x8192, .i32⟩
  | .hbm, ⟨20, _⟩ => ⟨S_, .i32⟩
  | .hbm, ⟨21, _⟩ => ⟨S8192x8192, .i32⟩
  | .hbm, ⟨22, _⟩ => ⟨S8192x8192, .i32⟩
  | .hbm, ⟨23, _⟩ => ⟨S_, .i32⟩
  | .hbm, ⟨24, _⟩ => ⟨S8192x8192, .i32⟩
  | .hbm, ⟨25, _⟩ => ⟨S8192x8192, .i32⟩
  | .hbm, ⟨26, _⟩ => ⟨S_, .i32⟩
  | .hbm, ⟨27, _⟩ => ⟨S8192x8192, .i32⟩
  | .hbm, ⟨28, _⟩ => ⟨S8192x8192, .i1⟩
  | .hbm, ⟨29, _⟩ => ⟨S_, .i32⟩
  | .hbm, ⟨30, _⟩ => ⟨S8192x8192, .i32⟩
  | .hbm, ⟨31, _⟩ => ⟨S8192x8192, .i32⟩
  | .hbm, ⟨32, _⟩ => ⟨S8192x8192, .i32⟩
  | .hbm, ⟨33, _⟩ => ⟨S8192x8192x1, .i32⟩
  | .hbm, ⟨34, _⟩ => ⟨S8x8192x8192, .f32⟩
  | .hbm, ⟨35, _⟩ => ⟨S8192x1, .i32⟩
  | .hbm, ⟨36, _⟩ => ⟨S_, .i32⟩
  | .hbm, ⟨37, _⟩ => ⟨S_, .i32⟩
  | .hbm, ⟨38, _⟩ => ⟨S8192x1, .i32⟩
  | .hbm, ⟨39, _⟩ => ⟨S8192x1, .i32⟩
  | .hbm, ⟨40, _⟩ => ⟨S8192x1, .i32⟩
  | .hbm, ⟨41, _⟩ => ⟨S_, .i32⟩
  | .hbm, ⟨42, _⟩ => ⟨S8192x1, .i32⟩
  | .hbm, ⟨43, _⟩ => ⟨S8192x1, .i1⟩
  | .hbm, ⟨44, _⟩ => ⟨S8192x1, .i32⟩
  | .hbm, ⟨45, _⟩ => ⟨S8192x1, .i32⟩
  | .hbm, ⟨46, _⟩ => ⟨S_, .i32⟩
  | .hbm, ⟨47, _⟩ => ⟨S8192x1, .i32⟩
  | .hbm, ⟨48, _⟩ => ⟨S8192x1, .i1⟩
  | .hbm, ⟨49, _⟩ => ⟨S8192x1, .i1⟩
  | .hbm, ⟨50, _⟩ => ⟨S_, .i32⟩
  | .hbm, ⟨51, _⟩ => ⟨S8192x1, .i32⟩
  | .hbm, ⟨52, _⟩ => ⟨S8192x1, .i32⟩
  | .hbm, ⟨53, _⟩ => ⟨S8192x1, .i32⟩
  | .hbm, ⟨54, _⟩ => ⟨S1x8192, .i32⟩
  | .hbm, ⟨55, _⟩ => ⟨S_, .i32⟩
  | .hbm, ⟨56, _⟩ => ⟨S_, .i32⟩
  | .hbm, ⟨57, _⟩ => ⟨S1x8192, .i32⟩
  | .hbm, ⟨58, _⟩ => ⟨S1x8192, .i32⟩
  | .hbm, ⟨59, _⟩ => ⟨S1x8192, .i32⟩
  | .hbm, ⟨60, _⟩ => ⟨S_, .i32⟩
  | .hbm, ⟨61, _⟩ => ⟨S1x8192, .i32⟩
  | .hbm, ⟨62, _⟩ => ⟨S1x8192, .i1⟩
  | .hbm, ⟨63, _⟩ => ⟨S1x8192, .i32⟩
  | .hbm, ⟨64, _⟩ => ⟨S1x8192, .i32⟩
  | .hbm, ⟨65, _⟩ => ⟨S_, .i32⟩
  | .hbm, ⟨66, _⟩ => ⟨S1x8192, .i32⟩
  | .hbm, ⟨67, _⟩ => ⟨S1x8192, .i1⟩
  | .hbm, ⟨68, _⟩ => ⟨S1x8192, .i1⟩
  | .hbm, ⟨69, _⟩ => ⟨S_, .i32⟩
  | .hbm, ⟨70, _⟩ => ⟨S1x8192, .i32⟩
  | .hbm, ⟨71, _⟩ => ⟨S1x8192, .i32⟩
  | .hbm, ⟨72, _⟩ => ⟨S1x8192, .i32⟩
  | .hbm, ⟨73, _⟩ => ⟨S1x8192, .i32⟩
  | .hbm, ⟨74, _⟩ => ⟨S_, .i32⟩
  | .hbm, ⟨75, _⟩ => ⟨S1x8192, .i32⟩
  | .hbm, ⟨76, _⟩ => ⟨S1x8192, .i1⟩
  | .hbm, ⟨77, _⟩ => ⟨S8192x8192, .i32⟩
  | .hbm, ⟨78, _⟩ => ⟨S8192x8192, .i32⟩
  | .hbm, ⟨79, _⟩ => ⟨S8192x8192, .i1⟩
  | .hbm, ⟨80, _⟩ => ⟨S8192x8192, .i1⟩
  | .hbm, ⟨81, _⟩ => ⟨S8192x8192, .i1⟩
  | .hbm, ⟨82, _⟩ => ⟨S_, .i32⟩
  | .hbm, ⟨83, _⟩ => ⟨S8192x1, .i32⟩
  | .hbm, ⟨84, _⟩ => ⟨S8192x1, .i32⟩
  | .hbm, ⟨85, _⟩ => ⟨S8192x8192, .i32⟩
  | .hbm, ⟨86, _⟩ => ⟨S8192x8192, .i32⟩
  | .hbm, ⟨87, _⟩ => ⟨S8192x8192, .i1⟩
  | .hbm, ⟨88, _⟩ => ⟨S8192x8192, .i1⟩
  | .hbm, ⟨89, _⟩ => ⟨S1x1x8192x8192, .i1⟩
  | .hbm, ⟨90, _⟩ => ⟨S1x8x8192x8192, .f32⟩
  | .hbm, ⟨91, _⟩ => ⟨S4x8x8192x8192, .f32⟩
  | .hbm, ⟨92, _⟩ => ⟨S4x8x8192x8192, .f32⟩
  | .hbm, ⟨93, _⟩ => ⟨S_, .f32⟩
  | .hbm, ⟨94, _⟩ => ⟨S_, .f32⟩
  | .hbm, ⟨95, _⟩ => ⟨S4x8x8192x8192, .i1⟩
  | .hbm, ⟨96, _⟩ => ⟨S4x8x8192x8192, .f32⟩
  | .hbm, ⟨97, _⟩ => ⟨S4x8x8192x8192, .f32⟩
  | .hbm, ⟨98, _⟩ => ⟨S_, .f32⟩
  | .hbm, ⟨99, _⟩ => ⟨S4x8x8192, .f32⟩
  | .hbm, ⟨100, _⟩ => ⟨S_, .f32⟩
  | .hbm, ⟨101, _⟩ => ⟨S4x8x8192, .f32⟩
  | .hbm, ⟨102, _⟩ => ⟨S4x8x8192, .f32⟩
  | .hbm, ⟨103, _⟩ => ⟨S4x8x8192x1, .f32⟩
  | .hbm, ⟨104, _⟩ => ⟨S4x8x8192x8192, .f32⟩
  | .hbm, ⟨105, _⟩ => ⟨S4x8x8192x8192, .f32⟩
  | .hbm, ⟨106, _⟩ => ⟨S4x8x8192x8192, .f32⟩
  | .hbm, ⟨107, _⟩ => ⟨S_, .f32⟩
  | .hbm, ⟨108, _⟩ => ⟨S4x8x8192, .f32⟩
  | .hbm, ⟨109, _⟩ => ⟨S4x8x8192x1, .f32⟩
  | .hbm, ⟨110, _⟩ => ⟨S4x8x8192x8192, .f32⟩
  | .hbm, ⟨111, _⟩ => ⟨S4x8x8192x8192, .f32⟩
  | .hbm, ⟨112, _⟩ => ⟨S4x8x128x8192, .f32⟩
  | .hbm, ⟨113, _⟩ => ⟨S4x8192x8x128, .f32⟩
  | .hbm, ⟨114, _⟩ => ⟨S4x8192x1024, .f32⟩
  | .hbm, ⟨115, _⟩ => ⟨S4x8192x1024, .bf16⟩
  | _, _ => ⟨S4x8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_c_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_c : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_0 : Ref sig .tc := ⟨.hbm, 50, rfl⟩
abbrev main_call1_v12 : Ref sig .tc := ⟨.hbm, 51, rfl⟩
abbrev main_call1_v13 : Ref sig .tc := ⟨.hbm, 52, rfl⟩
abbrev main_v21 : Ref sig .tc := ⟨.hbm, 53, rfl⟩
abbrev main_v22 : Ref sig .tc := ⟨.hbm, 54, rfl⟩
abbrev main_c_5 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_c : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_0 : Ref sig .tc := ⟨.hbm, 69, rfl⟩
abbrev main_call2_v12 : Ref sig .tc := ⟨.hbm, 70, rfl⟩
abbrev main_call2_v13 : Ref sig .tc := ⟨.hbm, 71, rfl⟩
abbrev main_v23 : Ref sig .tc := ⟨.hbm, 72, rfl⟩
abbrev main_v24 : Ref sig .tc := ⟨.hbm, 73, rfl⟩
abbrev main_c_6 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_c_7 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_cst_8 : Ref sig .tc := ⟨.hbm, 93, rfl⟩
abbrev main_call3_v0 : Ref sig .tc := ⟨.hbm, 94, rfl⟩
abbrev main_call3_v1 : Ref sig .tc := ⟨.hbm, 95, rfl⟩
abbrev main_call3_v2 : Ref sig .tc := ⟨.hbm, 96, rfl⟩
abbrev main_v42 : Ref sig .tc := ⟨.hbm, 97, rfl⟩
abbrev main_cst_9 : Ref sig .tc := ⟨.hbm, 98, rfl⟩
abbrev main_v43 : Ref sig .tc := ⟨.hbm, 99, rfl⟩
abbrev main_cst_10 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_cst_11 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩

abbrev nD : Nat := 1
abbrev τ : Topo := Topo.v7x

variable {F : FTy → Type} [FloatOps F]
-- ==== Merge.lean ====
abbrev S4x8192x2048 : Shape := ⟨3, ![4, 8192, 2048]⟩
abbrev S4x8192x1024 : Shape := ⟨3, ![4, 8192, 1024]⟩
abbrev S1024x2048 : Shape := ⟨2, ![1024, 2048]⟩
abbrev S2048x4096 : Shape := ⟨2, ![2048, 4096]⟩
abbrev S4096 : Shape := ⟨1, ![4096]⟩
abbrev S32768x2048 : Shape := ⟨2, ![32768, 2048]⟩
abbrev S32768x1024 : Shape := ⟨2, ![32768, 1024]⟩
abbrev S1x4096 : Shape := ⟨2, ![1, 4096]⟩
abbrev S1024x1024 : Shape := ⟨2, ![1024, 1024]⟩
abbrev S1024x512 : Shape := ⟨2, ![1024, 512]⟩
abbrev S2048x512 : Shape := ⟨2, ![2048, 512]⟩
abbrev S1x512 : Shape := ⟨2, ![1, 512]⟩

abbrev nBuf : Space → Nat
  | .hbm => 18
  | .vmem => 20
  | .smem => 0
  | _ => 0

abbrev bufTy : (tb : Table) → Fin (tcTables nBuf tb) → BufTy
  | .hbm, ⟨0, _⟩ => ⟨S4x8192x2048, .f32⟩
  | .hbm, ⟨1, _⟩ => ⟨S4x8192x1024, .f32⟩
  | .hbm, ⟨2, _⟩ => ⟨S4x8192x1024, .f32⟩
  | .hbm, ⟨3, _⟩ => ⟨S1024x2048, .f32⟩
  | .hbm, ⟨4, _⟩ => ⟨S1024x2048, .f32⟩
  | .hbm, ⟨5, _⟩ => ⟨S2048x4096, .f32⟩
  | .hbm, ⟨6, _⟩ => ⟨S4096, .f32⟩
  | .hbm, ⟨7, _⟩ => ⟨S4x8192x2048, .bf16⟩
  | .hbm, ⟨8, _⟩ => ⟨S32768x2048, .bf16⟩
  | .hbm, ⟨9, _⟩ => ⟨S4x8192x1024, .bf16⟩
  | .hbm, ⟨10, _⟩ => ⟨S32768x1024, .bf16⟩
  | .hbm, ⟨11, _⟩ => ⟨S4x8192x1024, .bf16⟩
  | .hbm, ⟨12, _⟩ => ⟨S32768x1024, .bf16⟩
  | .hbm, ⟨13, _⟩ => ⟨S1024x2048, .bf16⟩
  | .hbm, ⟨14, _⟩ => ⟨S1024x2048, .bf16⟩
  | .hbm, ⟨15, _⟩ => ⟨S2048x4096, .bf16⟩
  | .hbm, ⟨16, _⟩ => ⟨S1x4096, .f32⟩
  | .hbm, ⟨17, _⟩ => ⟨S32768x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1024x512, .bf16⟩
  | .local _ .vmem, ⟨19, _⟩ => ⟨S1024x512, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeRefIdeal.lean ====
abbrev S4x8192x2048 : Shape := ⟨3, ![4, 8192, 2048]⟩
abbrev S4x8192x1024 : Shape := ⟨3, ![4, 8192, 1024]⟩
abbrev S1024x2048 : Shape := ⟨2, ![1024, 2048]⟩
abbrev S2048x4096 : Shape := ⟨2, ![2048, 4096]⟩
abbrev S4096 : Shape := ⟨1, ![4096]⟩
abbrev S4x8192x4096 : Shape := ⟨3, ![4, 8192, 4096]⟩
abbrev S1x1x4096 : Shape := ⟨3, ![1, 1, 4096]⟩
abbrev S_ : Shape := ⟨0, ![]⟩
abbrev S32768x2048 : Shape := ⟨2, ![32768, 2048]⟩

abbrev nBuf : Space → Nat
  | .hbm => 28
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x8192x1024, .f32⟩
  | .hbm, ⟨2, _⟩ => ⟨S4x8192x1024, .f32⟩
  | .hbm, ⟨3, _⟩ => ⟨S1024x2048, .f32⟩
  | .hbm, ⟨4, _⟩ => ⟨S1024x2048, .f32⟩
  | .hbm, ⟨5, _⟩ => ⟨S2048x4096, .f32⟩
  | .hbm, ⟨6, _⟩ => ⟨S4096, .f32⟩
  | .hbm, ⟨7, _⟩ => ⟨S4x8192x4096, .f32⟩
  | .hbm, ⟨8, _⟩ => ⟨S1x1x4096, .f32⟩
  | .hbm, ⟨9, _⟩ => ⟨S4x8192x4096, .f32⟩
  | .hbm, ⟨10, _⟩ => ⟨S4x8192x4096, .f32⟩
  | .hbm, ⟨11, _⟩ => ⟨S4x8192x4096, .f32⟩
  | .hbm, ⟨12, _⟩ => ⟨S4x8192x4096, .f32⟩
  | .hbm, ⟨13, _⟩ => ⟨S_, .f32⟩
  | .hbm, ⟨14, _⟩ => ⟨S4x8192x4096, .f32⟩
  | .hbm, ⟨15, _⟩ => ⟨S4x8192x4096, .f32⟩
  | .hbm, ⟨16, _⟩ => ⟨S_, .f32⟩
  | .hbm, ⟨17, _⟩ => ⟨S4x8192x4096, .f32⟩
  | .hbm, ⟨18, _⟩ => ⟨S4x8192x4096, .f32⟩
  | .hbm, ⟨19, _⟩ => ⟨S4x8192x2048, .f32⟩
  | .hbm, ⟨20, _⟩ => ⟨S4x8192x2048, .f32⟩
  | .hbm, ⟨21, _⟩ => ⟨S4x8192x2048, .f32⟩
  | .hbm, ⟨22, _⟩ => ⟨S4x8192x2048, .f32⟩
  | .hbm, ⟨23, _⟩ => ⟨S4x8192x2048, .f32⟩
  | .hbm, ⟨24, _⟩ => ⟨S4x8192x2048, .f32⟩
  | .hbm, ⟨25, _⟩ => ⟨S4x8192x2048, .f32⟩
  | .hbm, ⟨26, _⟩ => ⟨S32768x2048, .f32⟩
  | .hbm, ⟨27, _⟩ => ⟨S32768x2048, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Outproj.lean ====
abbrev S4x8192x2048 : Shape := ⟨3, ![4, 8192, 2048]⟩
abbrev S2048x2048 : Shape := ⟨2, ![2048, 2048]⟩
abbrev S4x12288 : Shape := ⟨2, ![4, 12288]⟩
abbrev S2048 : Shape := ⟨1, ![2048]⟩
abbrev S4x6x2048 : Shape := ⟨3, ![4, 6, 2048]⟩
abbrev S1x2048 : Shape := ⟨2, ![1, 2048]⟩
abbrev S1x512x2048 : Shape := ⟨3, ![1, 512, 2048]⟩
abbrev S1x6x2048 : Shape := ⟨3, ![1, 6, 2048]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 11
  | .vmem => 12
  | .smem => 0
  | _ => 0

abbrev bufTy : (tb : Table) → Fin (tcTables nBuf tb) → BufTy
  | .hbm, ⟨0, _⟩ => ⟨S4x8192x2048, .f32⟩
  | .hbm, ⟨1, _⟩ => ⟨S4x8192x2048, .f32⟩
  | .hbm, ⟨2, _⟩ => ⟨S2048x2048, .f32⟩
  | .hbm, ⟨3, _⟩ => ⟨S4x12288, .f32⟩
  | .hbm, ⟨4, _⟩ => ⟨S2048, .f32⟩
  | .hbm, ⟨5, _⟩ => ⟨S4x8192x2048, .bf16⟩
  | .hbm, ⟨6, _⟩ => ⟨S2048x2048, .bf16⟩
  | .hbm, ⟨7, _⟩ => ⟨S4x6x2048, .f32⟩
  | .hbm, ⟨8, _⟩ => ⟨S1x2048, .f32⟩
  | .hbm, ⟨9, _⟩ => ⟨S4x8192x2048, .f32⟩
  | .hbm, ⟨10, _⟩ => ⟨S4x8192x2048, .bf16⟩
  | .local _ .vmem, ⟨0, _⟩ => ⟨S1x512x2048, .bf16⟩
  | .local _ .vmem, ⟨1, _⟩ => ⟨S1x512x2048, .bf16⟩
  | .local _ .vmem, ⟨2, _⟩ => ⟨S1x512x2048, .f32⟩
  | .local _ .vmem, ⟨3, _⟩ => ⟨S1x512x2048, .f32⟩
  | .local _ .vmem, ⟨4, _⟩ => ⟨S2048x2048, .bf16⟩
  | .local _ .vmem, ⟨5, _⟩ => ⟨S1x6x2048, .f32⟩
  | .local _ .vmem, ⟨6, _⟩ => ⟨S1x6x2048, .f32⟩
  | .local _ .vmem, ⟨7, _⟩ => ⟨S1x2048, .f32⟩
  | .local _ .vmem, ⟨8, _⟩ => ⟨S1x512x2048, .f32⟩
  | .local _ .vmem, ⟨9, _⟩ => ⟨S1x512x2048, .f32⟩
  | .local _ .vmem, ⟨10, _⟩ => ⟨S1x512x2048, .bf16⟩
  | .local _ .vmem, ⟨11, _⟩ => ⟨S1x512x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OutprojRefIdeal.lean ====
abbrev S4x8192x2048 : Shape := ⟨3, ![4, 8192, 2048]⟩
abbrev S2048x2048 : Shape := ⟨2, ![2048, 2048]⟩
abbrev S4x12288 : Shape := ⟨2, ![4, 12288]⟩
abbrev S2048 : Shape := ⟨1, ![2048]⟩
abbrev S4x2048 : Shape := ⟨2, ![4, 2048]⟩
abbrev S4x1x2048 : Shape := ⟨3, ![4, 1, 2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩

abbrev nBuf : Space → Nat
  | .hbm => 42
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x8192x2048, .f32⟩
  | .hbm, ⟨2, _⟩ => ⟨S2048x2048, .f32⟩
  | .hbm, ⟨3, _⟩ => ⟨S4x12288, .f32⟩
  | .hbm, ⟨4, _⟩ => ⟨S2048, .f32⟩
  | .hbm, ⟨5, _⟩ => ⟨S4x2048, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x1x2048, .f32⟩
  | .hbm, ⟨12, _⟩ => ⟨S4x8192x2048, .f32⟩
  | .hbm, ⟨13, _⟩ => ⟨S4x8192x2048, .f32⟩
  | .hbm, ⟨14, _⟩ => ⟨S4x8192x2048, .f32⟩
  | .hbm, ⟨15, _⟩ => ⟨S4x8192x2048, .f32⟩
  | .hbm, ⟨16, _⟩ => ⟨S4x8192x2048, .f32⟩
  | .hbm, ⟨17, _⟩ => ⟨S_, .f32⟩
  | .hbm, ⟨18, _⟩ => ⟨S4x8192, .f32⟩
  | .hbm, ⟨19, _⟩ => ⟨S4x8192x1, .f32⟩
  | .hbm, ⟨20, _⟩ => ⟨S_, .f32⟩
  | .hbm, ⟨21, _⟩ => ⟨S4x8192x1, .f32⟩
  | .hbm, ⟨22, _⟩ => ⟨S4x8192x1, .f32⟩
  | .hbm, ⟨23, _⟩ => ⟨S_, .f32⟩
  | .hbm, ⟨24, _⟩ => ⟨S4x8192x1, .f32⟩
  | .hbm, ⟨25, _⟩ => ⟨S4x8192x1, .f32⟩
  | .hbm, ⟨26, _⟩ => ⟨S4x8192x1, .f32⟩
  | .hbm, ⟨27, _⟩ => ⟨S4x8192x2048, .f32⟩
  | .hbm, ⟨28, _⟩ => ⟨S4x8192x2048, .f32⟩
  | .hbm, ⟨29, _⟩ => ⟨S1x1x2048, .f32⟩
  | .hbm, ⟨30, _⟩ => ⟨S4x8192x2048, .f32⟩
  | .hbm, ⟨31, _⟩ => ⟨S4x8192x2048, .f32⟩
  | .hbm, ⟨32, _⟩ => ⟨S4x1x2048, .f32⟩
  | .hbm, ⟨33, _⟩ => ⟨S_, .f32⟩
  | .hbm, ⟨34, _⟩ => ⟨S4x1x2048, .f32⟩
  | .hbm, ⟨35, _⟩ => ⟨S4x1x2048, .f32⟩
  | .hbm, ⟨36, _⟩ => ⟨S4x8192x2048, .f32⟩
  | .hbm, ⟨37, _⟩ => ⟨S4x8192x2048, .f32⟩
  | .hbm, ⟨38, _⟩ => ⟨S4x1x2048, .f32⟩
  | .hbm, ⟨39, _⟩ => ⟨S4x8192x2048, .f32⟩
  | .hbm, ⟨40, _⟩ => ⟨S4x8192x2048, .f32⟩
  | .hbm, ⟨41, _⟩ => ⟨S4x8192x2048, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== Keys.lean ====
abbrev S4x8192x2048 : Shape := ⟨3, ![4, 8192, 2048]⟩
abbrev S2048x7248 : Shape := ⟨2, ![2048, 7248]⟩
abbrev S32768x2048 : Shape := ⟨2, ![32768, 2048]⟩
abbrev S2048x1024 : Shape := ⟨2, ![2048, 1024]⟩
abbrev S32768x8x128 : Shape := ⟨3, ![32768, 8, 128]⟩
abbrev S32768x1024 : Shape := ⟨2, ![32768, 1024]⟩
abbrev S1024x2048 : Shape := ⟨2, ![1024, 2048]⟩
abbrev S1024x8x128 : Shape := ⟨3, ![1024, 8, 128]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4x8192x2048, .f32⟩
  | .hbm, ⟨1, _⟩ => ⟨S2048x7248, .f32⟩
  | .hbm, ⟨2, _⟩ => ⟨S4x8192x2048, .bf16⟩
  | .hbm, ⟨3, _⟩ => ⟨S32768x2048, .bf16⟩
  | .hbm, ⟨4, _⟩ => ⟨S2048x1024, .f32⟩
  | .hbm, ⟨5, _⟩ => ⟨S2048x1024, .bf16⟩
  | .hbm, ⟨6, _⟩ => ⟨S32768x8x128, .f32⟩
  | .hbm, ⟨7, _⟩ => ⟨S32768x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x8x128, .f32⟩
  | .local _ .vmem, ⟨4, _⟩ => ⟨S1024x8x128, .f32⟩
  | .local _ .vmem, ⟨5, _⟩ => ⟨S1024x1024, .bf16⟩
  | .local _ .vmem, ⟨6, _⟩ => ⟨S1024x1024, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KeysIdeal.lean ====
abbrev S4x8192x2048 : Shape := ⟨3, ![4, 8192, 2048]⟩
abbrev S2048x7248 : Shape := ⟨2, ![2048, 7248]⟩
abbrev S32768x2048 : Shape := ⟨2, ![32768, 2048]⟩
abbrev S2048x1024 : Shape := ⟨2, ![2048, 1024]⟩
abbrev S32768x8x128 : Shape := ⟨3, ![32768, 8, 128]⟩
abbrev S32768x1024 : Shape := ⟨2, ![32768, 1024]⟩
abbrev S1024x2048 : Shape := ⟨2, ![1024, 2048]⟩
abbrev S1024x8x128 : Shape := ⟨3, ![1024, 8, 128]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4x8192x2048, .f32⟩
  | .hbm, ⟨1, _⟩ => ⟨S2048x7248, .f32⟩
  | .hbm, ⟨2, _⟩ => ⟨S4x8192x2048, .bf16⟩
  | .hbm, ⟨3, _⟩ => ⟨S32768x2048, .bf16⟩
  | .hbm, ⟨4, _⟩ => ⟨S2048x1024, .f32⟩
  | .hbm, ⟨5, _⟩ => ⟨S2048x1024, .bf16⟩
  | .hbm, ⟨6, _⟩ => ⟨S32768x8x128, .f32⟩
  | .hbm, ⟨7, _⟩ => ⟨S32768x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x8x128, .f32⟩
  | .local _ .vmem, ⟨4, _⟩ => ⟨S1024x8x128, .f32⟩
  | .local _ .vmem, ⟨5, _⟩ => ⟨S1024x1024, .bf16⟩
  | .local _ .vmem, ⟨6, _⟩ => ⟨S1024x1024, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KeysRefIdeal.lean ====
abbrev S4x8192x2048 : Shape := ⟨3, ![4, 8192, 2048]⟩
abbrev S2048x7248 : Shape := ⟨2, ![2048, 7248]⟩
abbrev S4x8192x7248 : Shape := ⟨3, ![4, 8192, 7248]⟩
abbrev S4x8192x1024 : Shape := ⟨3, ![4, 8192, 1024]⟩
abbrev S4x8192x64 : Shape := ⟨3, ![4, 8192, 64]⟩
abbrev S4x8192x16 : Shape := ⟨3, ![4, 8192, 16]⟩
abbrev S32768x8x128 : Shape := ⟨3, ![32768, 8, 128]⟩
abbrev S32768x1024 : Shape := ⟨2, ![32768, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048x7248, .f32⟩
  | .hbm, ⟨2, _⟩ => ⟨S4x8192x7248, .f32⟩
  | .hbm, ⟨3, _⟩ => ⟨S4x8192x1024, .f32⟩
  | .hbm, ⟨4, _⟩ => ⟨S4x8192x1024, .f32⟩
  | .hbm, ⟨5, _⟩ => ⟨S4x8192x1024, .f32⟩
  | .hbm, ⟨6, _⟩ => ⟨S4x8192x1024, .f32⟩
  | .hbm, ⟨7, _⟩ => ⟨S4x8192x64, .f32⟩
  | .hbm, ⟨8, _⟩ => ⟨S4x8192x16, .f32⟩
  | .hbm, ⟨9, _⟩ => ⟨S4x8192x1024, .f32⟩
  | .hbm, ⟨10, _⟩ => ⟨S4x8192x1024, .f32⟩
  | .hbm, ⟨11, _⟩ => ⟨S4x8192x1024, .f32⟩
  | .hbm, ⟨12, _⟩ => ⟨S32768x8x128, .f32⟩
  | .hbm, ⟨13, _⟩ => ⟨S32768x1024, .f32⟩
  | .hbm, ⟨14, _⟩ => ⟨S32768x1024, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== Values.lean ====
abbrev S4x8192x2048 : Shape := ⟨3, ![4, 8192, 2048]⟩
abbrev S2048x7248 : Shape := ⟨2, ![2048, 7248]⟩
abbrev S32768x2048 : Shape := ⟨2, ![32768, 2048]⟩
abbrev S2048x1024 : Shape := ⟨2, ![2048, 1024]⟩
abbrev S32768x8x128 : Shape := ⟨3, ![32768, 8, 128]⟩
abbrev S32768x1024 : Shape := ⟨2, ![32768, 1024]⟩
abbrev S1024x2048 : Shape := ⟨2, ![1024, 2048]⟩
abbrev S1024x8x128 : Shape := ⟨3, ![1024, 8, 128]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4x8192x2048, .f32⟩
  | .hbm, ⟨1, _⟩ => ⟨S2048x7248, .f32⟩
  | .hbm, ⟨2, _⟩ => ⟨S4x8192x2048, .bf16⟩
  | .hbm, ⟨3, _⟩ => ⟨S32768x2048, .bf16⟩
  | .hbm, ⟨4, _⟩ => ⟨S2048x1024, .f32⟩
  | .hbm, ⟨5, _⟩ => ⟨S2048x1024, .bf16⟩
  | .hbm, ⟨6, _⟩ => ⟨S32768x8x128, .f32⟩
  | .hbm, ⟨7, _⟩ => ⟨S32768x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x8x128, .f32⟩
  | .local _ .vmem, ⟨4, _⟩ => ⟨S1024x8x128, .f32⟩
  | .local _ .vmem, ⟨5, _⟩ => ⟨S1024x1024, .bf16⟩
  | .local _ .vmem, ⟨6, _⟩ => ⟨S1024x1024, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ValuesIdeal.lean ====
abbrev S4x8192x2048 : Shape := ⟨3, ![4, 8192, 2048]⟩
abbrev S2048x7248 : Shape := ⟨2, ![2048, 7248]⟩
abbrev S32768x2048 : Shape := ⟨2, ![32768, 2048]⟩
abbrev S2048x1024 : Shape := ⟨2, ![2048, 1024]⟩
abbrev S32768x8x128 : Shape := ⟨3, ![32768, 8, 128]⟩
abbrev S32768x1024 : Shape := ⟨2, ![32768, 1024]⟩
abbrev S1024x2048 : Shape := ⟨2, ![1024, 2048]⟩
abbrev S1024x8x128 : Shape := ⟨3, ![1024, 8, 128]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4x8192x2048, .f32⟩
  | .hbm, ⟨1, _⟩ => ⟨S2048x7248, .f32⟩
  | .hbm, ⟨2, _⟩ => ⟨S4x8192x2048, .bf16⟩
  | .hbm, ⟨3, _⟩ => ⟨S32768x2048, .bf16⟩
  | .hbm, ⟨4, _⟩ => ⟨S2048x1024, .f32⟩
  | .hbm, ⟨5, _⟩ => ⟨S2048x1024, .bf16⟩
  | .hbm, ⟨6, _⟩ => ⟨S32768x8x128, .f32⟩
  | .hbm, ⟨7, _⟩ => ⟨S32768x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x8x128, .f32⟩
  | .local _ .vmem, ⟨4, _⟩ => ⟨S1024x8x128, .f32⟩
  | .local _ .vmem, ⟨5, _⟩ => ⟨S1024x1024, .bf16⟩
  | .local _ .vmem, ⟨6, _⟩ => ⟨S1024x1024, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ValuesRefIdeal.lean ====
abbrev S4x8192x2048 : Shape := ⟨3, ![4, 8192, 2048]⟩
abbrev S2048x7248 : Shape := ⟨2, ![2048, 7248]⟩
abbrev S4x8192x7248 : Shape := ⟨3, ![4, 8192, 7248]⟩
abbrev S4x8192x1024 : Shape := ⟨3, ![4, 8192, 1024]⟩
abbrev S4x8192x64 : Shape := ⟨3, ![4, 8192, 64]⟩
abbrev S4x8192x16 : Shape := ⟨3, ![4, 8192, 16]⟩
abbrev S32768x8x128 : Shape := ⟨3, ![32768, 8, 128]⟩
abbrev S32768x1024 : Shape := ⟨2, ![32768, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048x7248, .f32⟩
  | .hbm, ⟨2, _⟩ => ⟨S4x8192x7248, .f32⟩
  | .hbm, ⟨3, _⟩ => ⟨S4x8192x1024, .f32⟩
  | .hbm, ⟨4, _⟩ => ⟨S4x8192x1024, .f32⟩
  | .hbm, ⟨5, _⟩ => ⟨S4x8192x1024, .f32⟩
  | .hbm, ⟨6, _⟩ => ⟨S4x8192x1024, .f32⟩
  | .hbm, ⟨7, _⟩ => ⟨S4x8192x64, .f32⟩
  | .hbm, ⟨8, _⟩ => ⟨S4x8192x16, .f32⟩
  | .hbm, ⟨9, _⟩ => ⟨S4x8192x1024, .f32⟩
  | .hbm, ⟨10, _⟩ => ⟨S4x8192x1024, .f32⟩
  | .hbm, ⟨11, _⟩ => ⟨S4x8192x1024, .f32⟩
  | .hbm, ⟨12, _⟩ => ⟨S32768x8x128, .f32⟩
  | .hbm, ⟨13, _⟩ => ⟨S32768x1024, .f32⟩
  | .hbm, ⟨14, _⟩ => ⟨S32768x1024, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== Ffn.lean ====
abbrev S4x8192x2048 : Shape := ⟨3, ![4, 8192, 2048]⟩
abbrev S4x12288 : Shape := ⟨2, ![4, 12288]⟩
abbrev S2048x11264 : Shape := ⟨2, ![2048, 11264]⟩
abbrev S3x5632 : Shape := ⟨2, ![3, 5632]⟩
abbrev S5632 : Shape := ⟨1, ![5632]⟩
abbrev S5632x2048 : Shape := ⟨2, ![5632, 2048]⟩
abbrev S4x2x5632 : Shape := ⟨3, ![4, 2, 5632]⟩
abbrev S2048 : Shape := ⟨1, ![2048]⟩
abbrev S4x6x2048 : Shape := ⟨3, ![4, 6, 2048]⟩
abbrev S2048x5632 : Shape := ⟨2, ![2048, 5632]⟩
abbrev S1x5632 : Shape := ⟨2, ![1, 5632]⟩
abbrev S1x2048 : Shape := ⟨2, ![1, 2048]⟩
abbrev S4x16x2x5632 : Shape := ⟨4, ![4, 16, 2, 5632]⟩
abbrev S1x512x2048 : Shape := ⟨3, ![1, 512, 2048]⟩
abbrev S1x6x2048 : Shape := ⟨3, ![1, 6, 2048]⟩
abbrev S2048x512 : Shape := ⟨2, ![2048, 512]⟩
abbrev S512x2048 : Shape := ⟨2, ![512, 2048]⟩
abbrev S3x512 : Shape := ⟨2, ![3, 512]⟩
abbrev S1x512 : Shape := ⟨2, ![1, 512]⟩
abbrev S1x2x512 : Shape := ⟨3, ![1, 2, 512]⟩
abbrev S1x1x2x512 : Shape := ⟨4, ![1, 1, 2, 512]⟩
abbrev S520x512 : Shape := ⟨2, ![520, 512]⟩
abbrev S11x2x512 : Shape := ⟨3, ![11, 2, 512]⟩
abbrev S2x512 : Shape := ⟨2, ![2, 512]⟩
abbrev S2048x256 : Shape := ⟨2, ![2048, 256]⟩
abbrev S512x256 : Shape := ⟨2, ![512, 256]⟩
abbrev S2x256 : Shape := ⟨2, ![2, 256]⟩
abbrev S1x2x256 : Shape := ⟨3, ![1, 2, 256]⟩
abbrev S1x1x2x256 : Shape := ⟨4, ![1, 1, 2, 256]⟩
abbrev S1x256 : Shape := ⟨2, ![1, 256]⟩
abbrev S256x2048 : Shape := ⟨2, ![256, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 20
  | .vmem => 26
  | .smem => 0
  | _ => 0

abbrev bufTy : (tb : Table) → Fin (tcTables nBuf tb) → BufTy
  | .hbm, ⟨0, _⟩ => ⟨S4x8192x2048, .f32⟩
  | .hbm, ⟨1, _⟩ => ⟨S4x8192x2048, .f32⟩
  | .hbm, ⟨2, _⟩ => ⟨S4x12288, .f32⟩
  | .hbm, ⟨3, _⟩ => ⟨S2048x11264, .f32⟩
  | .hbm, ⟨4, _⟩ => ⟨S3x5632, .f32⟩
  | .hbm, ⟨5, _⟩ => ⟨S5632, .f32⟩
  | .hbm, ⟨6, _⟩ => ⟨S5632x2048, .f32⟩
  | .hbm, ⟨7, _⟩ => ⟨S4x2x5632, .f32⟩
  | .hbm, ⟨8, _⟩ => ⟨S2048, .f32⟩
  | .hbm, ⟨9, _⟩ => ⟨S4x8192x2048, .bf16⟩
  | .hbm, ⟨10, _⟩ => ⟨S4x6x2048, .f32⟩
  | .hbm, ⟨11, _⟩ => ⟨S2048x5632, .f32⟩
  | .hbm, ⟨12, _⟩ => ⟨S2048x5632, .bf16⟩
  | .hbm, ⟨13, _⟩ => ⟨S2048x5632, .f32⟩
  | .hbm, ⟨14, _⟩ => ⟨S2048x5632, .bf16⟩
  | .hbm, ⟨15, _⟩ => ⟨S5632x2048, .bf16⟩
  | .hbm, ⟨16, _⟩ => ⟨S1x5632, .f32⟩
  | .hbm, ⟨17, _⟩ => ⟨S1x2048, .f32⟩
  | .hbm, ⟨18, _⟩ => ⟨S4x8192x2048, .f32⟩
  | .hbm, ⟨19, _⟩ => ⟨S4x16x2x5632, .f32⟩
  | .local _ .vmem, ⟨0, _⟩ => ⟨S1x512x2048, .bf16⟩
  | .local _ .vmem, ⟨1, _⟩ => ⟨S1x512x2048, .bf16⟩
  | .local _ .vmem, ⟨2, _⟩ => ⟨S1x512x2048, .f32⟩
  | .local _ .vmem, ⟨3, _⟩ => ⟨S1x512x2048, .f32⟩
  | .local _ .vmem, ⟨4, _⟩ => ⟨S1x6x2048, .f32⟩
  | .local _ .vmem, ⟨5, _⟩ => ⟨S1x6x2048, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S512x2048, .bf16⟩
  | .local _ .vmem, ⟨11, _⟩ => ⟨S512x2048, .bf16⟩
  | .local _ .vmem, ⟨12, _⟩ => ⟨S3x512, .f32⟩
  | .local _ .vmem, ⟨13, _⟩ => ⟨S3x512, .f32⟩
  | .local _ .vmem, ⟨14, _⟩ => ⟨S1x512, .f32⟩
  | .local _ .vmem, ⟨15, _⟩ => ⟨S1x512, .f32⟩
  | .local _ .vmem, ⟨16, _⟩ => ⟨S1x2x512, .f32⟩
  | .local _ .vmem, ⟨17, _⟩ => ⟨S1x2x512, .f32⟩
  | .local _ .vmem, ⟨18, _⟩ => ⟨S1x2048, .f32⟩
  | .local _ .vmem, ⟨19, _⟩ => ⟨S1x512x2048, .f32⟩
  | .local _ .vmem, ⟨20, _⟩ => ⟨S1x512x2048, .f32⟩
  | .local _ .vmem, ⟨21, _⟩ => ⟨S1x1x2x512, .f32⟩
  | .local _ .vmem, ⟨22, _⟩ => ⟨S1x1x2x512, .f32⟩
  | .local _ .vmem, ⟨23, _⟩ => ⟨S520x512, .f32⟩
  | .local _ .vmem, ⟨24, _⟩ => ⟨S11x2x512, .f32⟩
  | .local _ .vmem, ⟨25, _⟩ => ⟨S1x512x2048, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨3, ![4, 16, 11], ![false, false, false]⟩

def k0_off1 (i : grid0.Coords) : Fin 3 → Nat :=
  let arg2 : BitVec 32 := BitVec.ofNat 32 (i 2).val
  let v8 : Index := Scalar.indexCast arg2
  let c0_7 : Index := 0#32
  let c0_8 : Index := 0#32
  ![v8.toNat, 0, 0]
def k0_off2 (i : grid0.Coords) : Fin 3 → Nat :=
  let arg2 : BitVec 32 := BitVec.ofNat 32 (i 2).val
  let v32 : Index := Scalar.indexCast arg2
  let c0_21 : Index := 0#32
  let c0_22 : Index := 0#32
  ![v32.toNat, 0, 0]
def k0_off3 (i : grid0.Coords) : Fin 3 → Nat :=
  let arg2 : BitVec 32 := BitVec.ofNat 32 (i 2).val
  let v77 : Index := Scalar.indexCast arg2
  let c0_49 : Index := 0#32
  let c256_50 : Index := 256#32
  ![v77.toNat, 0, 256]
def k0_cond2 (i : grid0.Coords) : BitVec 1 :=
  let arg2 : BitVec 32 := BitVec.ofNat 32 (i 2).val
  let c10_i32 : BitVec 32 := 10#32
  let v114 : BitVec 1 := Scalar.cmpi .eq arg2 c10_i32
  let v115 : BitVec 32 := Scalar.extui v114
  let c0_i32_76 : BitVec 32 := 0#32
  let v116 : BitVec 1 := Scalar.cmpi .ne v115 c0_i32_76
  v116

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x2x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1x512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1x1x2x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== FfnRefIdeal.lean ====
abbrev S4x8192x2048 : Shape := ⟨3, ![4, 8192, 2048]⟩
abbrev S4x12288 : Shape := ⟨2, ![4, 12288]⟩
abbrev S2048x11264 : Shape := ⟨2, ![2048, 11264]⟩
abbrev S3x5632 : Shape := ⟨2, ![3, 5632]⟩
abbrev S5632 : Shape := ⟨1, ![5632]⟩
abbrev S5632x2048 : Shape := ⟨2, ![5632, 2048]⟩
abbrev S4x2x5632 : Shape := ⟨3, ![4, 2, 5632]⟩
abbrev S2048 : Shape := ⟨1, ![2048]⟩
abbrev S4x2048 : Shape := ⟨2, ![4, 2048]⟩
abbrev S4x8192x11264 : Shape := ⟨3, ![4, 8192, 11264]⟩
abbrev S4x8192x5632 : Shape := ⟨3, ![4, 8192, 5632]⟩
abbrev S4x16x512x5632 : Shape := ⟨4, ![4, 16, 512, 5632]⟩
abbrev S4x16x2x5632 : Shape := ⟨4, ![4, 16, 2, 5632]⟩
abbrev S4x8194x5632 : Shape := ⟨3, ![4, 8194, 5632]⟩
abbrev S1x5632 : Shape := ⟨2, ![1, 5632]⟩
abbrev S1x1x5632 : Shape := ⟨3, ![1, 1, 5632]⟩
abbrev S_ : Shape := ⟨0, ![]⟩
abbrev S4x1x2048 : Shape := ⟨3, ![4, 1, 2048]⟩
abbrev S4x8192 : Shape := ⟨2, ![4, 8192]⟩
abbrev S4x8192x1 : Shape := ⟨3, ![4, 8192, 1]⟩
abbrev S1x1x2048 : Shape := ⟨3, ![1, 1, 2048]⟩

abbrev nBuf : Space → Nat
  | .hbm => 78
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x8192x2048, .f32⟩
  | .hbm, ⟨2, _⟩ => ⟨S4x12288, .f32⟩
  | .hbm, ⟨3, _⟩ => ⟨S2048x11264, .f32⟩
  | .hbm, ⟨4, _⟩ => ⟨S3x5632, .f32⟩
  | .hbm, ⟨5, _⟩ => ⟨S5632, .f32⟩
  | .hbm, ⟨6, _⟩ => ⟨S5632x2048, .f32⟩
  | .hbm, ⟨7, _⟩ => ⟨S4x2x5632, .f32⟩
  | .hbm, ⟨8, _⟩ => ⟨S2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S4x2048, .f32⟩
  | .hbm, ⟨14, _⟩ => ⟨S4x2048, .f32⟩
  | .hbm, ⟨15, _⟩ => ⟨S4x8192x11264, .f32⟩
  | .hbm, ⟨16, _⟩ => ⟨S4x8192x5632, .f32⟩
  | .hbm, ⟨17, _⟩ => ⟨S4x8192x5632, .f32⟩
  | .hbm, ⟨18, _⟩ => ⟨S4x16x512x5632, .f32⟩
  | .hbm, ⟨19, _⟩ => ⟨S4x16x2x5632, .f32⟩
  | .hbm, ⟨20, _⟩ => ⟨S4x8194x5632, .f32⟩
  | .hbm, ⟨21, _⟩ => ⟨S4x8192x5632, .f32⟩
  | .hbm, ⟨22, _⟩ => ⟨S1x5632, .f32⟩
  | .hbm, ⟨23, _⟩ => ⟨S5632, .f32⟩
  | .hbm, ⟨24, _⟩ => ⟨S1x1x5632, .f32⟩
  | .hbm, ⟨25, _⟩ => ⟨S4x8192x5632, .f32⟩
  | .hbm, ⟨26, _⟩ => ⟨S4x8192x5632, .f32⟩
  | .hbm, ⟨27, _⟩ => ⟨S_, .f32⟩
  | .hbm, ⟨28, _⟩ => ⟨S4x8192x5632, .f32⟩
  | .hbm, ⟨29, _⟩ => ⟨S4x8192x5632, .f32⟩
  | .hbm, ⟨30, _⟩ => ⟨S4x8192x5632, .f32⟩
  | .hbm, ⟨31, _⟩ => ⟨S1x5632, .f32⟩
  | .hbm, ⟨32, _⟩ => ⟨S5632, .f32⟩
  | .hbm, ⟨33, _⟩ => ⟨S1x1x5632, .f32⟩
  | .hbm, ⟨34, _⟩ => ⟨S4x8192x5632, .f32⟩
  | .hbm, ⟨35, _⟩ => ⟨S4x8192x5632, .f32⟩
  | .hbm, ⟨36, _⟩ => ⟨S4x8192x5632, .f32⟩
  | .hbm, ⟨37, _⟩ => ⟨S4x8192x5632, .f32⟩
  | .hbm, ⟨38, _⟩ => ⟨S1x5632, .f32⟩
  | .hbm, ⟨39, _⟩ => ⟨S5632, .f32⟩
  | .hbm, ⟨40, _⟩ => ⟨S1x1x5632, .f32⟩
  | .hbm, ⟨41, _⟩ => ⟨S4x8192x5632, .f32⟩
  | .hbm, ⟨42, _⟩ => ⟨S4x8192x5632, .f32⟩
  | .hbm, ⟨43, _⟩ => ⟨S4x8192x5632, .f32⟩
  | .hbm, ⟨44, _⟩ => ⟨S1x1x5632, .f32⟩
  | .hbm, ⟨45, _⟩ => ⟨S4x8192x5632, .f32⟩
  | .hbm, ⟨46, _⟩ => ⟨S4x8192x5632, .f32⟩
  | .hbm, ⟨47, _⟩ => ⟨S4x1x2048, .f32⟩
  | .hbm, ⟨48, _⟩ => ⟨S4x8192x5632, .f32⟩
  | .hbm, ⟨49, _⟩ => ⟨S4x8192x5632, .f32⟩
  | .hbm, ⟨50, _⟩ => ⟨S_, .f32⟩
  | .hbm, ⟨51, _⟩ => ⟨S4x8192x5632, .f32⟩
  | .hbm, ⟨52, _⟩ => ⟨S4x8192x5632, .f32⟩
  | .hbm, ⟨53, _⟩ => ⟨S_, .f32⟩
  | .hbm, ⟨54, _⟩ => ⟨S4x8192x5632, .f32⟩
  | .hbm, ⟨55, _⟩ => ⟨S4x8192x5632, .f32⟩
  | .hbm, ⟨56, _⟩ => ⟨S4x8192x5632, .f32⟩
  | .hbm, ⟨57, _⟩ => ⟨S4x8192x5632, .f32⟩
  | .hbm, ⟨58, _⟩ => ⟨S4x8192x2048, .f32⟩
  | .hbm, ⟨59, _⟩ => ⟨S4x8192x2048, .f32⟩
  | .hbm, ⟨60, _⟩ => ⟨S4x8192x2048, .f32⟩
  | .hbm, ⟨61, _⟩ => ⟨S4x8192x2048, .f32⟩
  | .hbm, ⟨62, _⟩ => ⟨S4x8192x2048, .f32⟩
  | .hbm, ⟨63, _⟩ => ⟨S_, .f32⟩
  | .hbm, ⟨64, _⟩ => ⟨S4x8192, .f32⟩
  | .hbm, ⟨65, _⟩ => ⟨S4x8192x1, .f32⟩
  | .hbm, ⟨66, _⟩ => ⟨S_, .f32⟩
  | .hbm, ⟨67, _⟩ => ⟨S4x8192x1, .f32⟩
  | .hbm, ⟨68, _⟩ => ⟨S4x8192x1, .f32⟩
  | .hbm, ⟨69, _⟩ => ⟨S_, .f32⟩
  | .hbm, ⟨70, _⟩ => ⟨S4x8192x1, .f32⟩
  | .hbm, ⟨71, _⟩ => ⟨S4x8192x1, .f32⟩
  | .hbm, ⟨72, _⟩ => ⟨S4x8192x1, .f32⟩
  | .hbm, ⟨73, _⟩ => ⟨S4x8192x2048, .f32⟩
  | .hbm, ⟨74, _⟩ => ⟨S4x8192x2048, .f32⟩
  | .hbm, ⟨75, _⟩ => ⟨S1x1x2048, .f32⟩
  | .hbm, ⟨76, _⟩ => ⟨S4x8192x2048, .f32⟩
  | .hbm, ⟨77, _⟩ => ⟨S4x8192x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_0 : Ref sig .tc := ⟨.hbm, 63, rfl⟩
abbrev main_v45 : Ref sig .tc := ⟨.hbm, 64, rfl⟩
abbrev main_v46 : Ref sig .tc := ⟨.hbm, 65, rfl⟩
abbrev main_cst_1 : Ref sig .tc := ⟨.hbm, 66, rfl⟩
abbrev main_v47 : Ref sig .tc := ⟨.hbm, 67, rfl⟩
abbrev main_v48 : Ref sig .tc := ⟨.hbm, 68, rfl⟩
abbrev main_cst_2 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]
-- ==== Tail.lean ====
abbrev S4x8192x2048 : Shape := ⟨3, ![4, 8192, 2048]⟩
abbrev S2048x7248 : Shape := ⟨2, ![2048, 7248]⟩
abbrev S4x512x2048 : Shape := ⟨3, ![4, 512, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S4x8192x2048, .f32⟩
  | .hbm, ⟨1, _⟩ => ⟨S2048x7248, .f32⟩
  | .hbm, ⟨2, _⟩ => ⟨S4x8192x2048, .bf16⟩
  | .hbm, ⟨3, _⟩ => ⟨S4x512x2048, .bf16⟩
  | .hbm, ⟨4, _⟩ => ⟨S2048x2048, .bf16⟩
  | .hbm, ⟨5, _⟩ => ⟨S2048x2048, .f32⟩
  | .hbm, ⟨6, _⟩ => ⟨S2048x2048, .bf16⟩
  | .hbm, ⟨7, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== TailIdeal.lean ====
abbrev S4x8192x2048 : Shape := ⟨3, ![4, 8192, 2048]⟩
abbrev S2048x7248 : Shape := ⟨2, ![2048, 7248]⟩
abbrev S4x512x2048 : Shape := ⟨3, ![4, 512, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S4x8192x2048, .f32⟩
  | .hbm, ⟨1, _⟩ => ⟨S2048x7248, .f32⟩
  | .hbm, ⟨2, _⟩ => ⟨S4x8192x2048, .bf16⟩
  | .hbm, ⟨3, _⟩ => ⟨S4x512x2048, .bf16⟩
  | .hbm, ⟨4, _⟩ => ⟨S2048x2048, .bf16⟩
  | .hbm, ⟨5, _⟩ => ⟨S2048x2048, .f32⟩
  | .hbm, ⟨6, _⟩ => ⟨S2048x2048, .bf16⟩
  | .hbm, ⟨7, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== TailRefIdeal.lean ====
abbrev S4x8192x2048 : Shape := ⟨3, ![4, 8192, 2048]⟩
abbrev S2048x7248 : Shape := ⟨2, ![2048, 7248]⟩
abbrev S4x8192x7248 : Shape := ⟨3, ![4, 8192, 7248]⟩
abbrev S4x8192x1024 : Shape := ⟨3, ![4, 8192, 1024]⟩
abbrev S4x8192x64 : Shape := ⟨3, ![4, 8192, 64]⟩
abbrev S4x8192x16 : Shape := ⟨3, ![4, 8192, 16]⟩
abbrev S4x512x1024 : Shape := ⟨3, ![4, 512, 1024]⟩
abbrev S4x512x2048 : Shape := ⟨3, ![4, 512, 2048]⟩
abbrev S2048x2048 : Shape := ⟨2, ![2048, 2048]⟩

abbrev nBuf : Space → Nat
  | .hbm => 16
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048x7248, .f32⟩
  | .hbm, ⟨2, _⟩ => ⟨S4x8192x7248, .f32⟩
  | .hbm, ⟨3, _⟩ => ⟨S4x8192x1024, .f32⟩
  | .hbm, ⟨4, _⟩ => ⟨S4x8192x1024, .f32⟩
  | .hbm, ⟨5, _⟩ => ⟨S4x8192x1024, .f32⟩
  | .hbm, ⟨6, _⟩ => ⟨S4x8192x1024, .f32⟩
  | .hbm, ⟨7, _⟩ => ⟨S4x8192x64, .f32⟩
  | .hbm, ⟨8, _⟩ => ⟨S4x8192x16, .f32⟩
  | .hbm, ⟨9, _⟩ => ⟨S4x8192x1024, .f32⟩
  | .hbm, ⟨10, _⟩ => ⟨S4x8192x1024, .f32⟩
  | .hbm, ⟨11, _⟩ => ⟨S4x8192x1024, .f32⟩
  | .hbm, ⟨12, _⟩ => ⟨S4x512x1024, .f32⟩
  | .hbm, ⟨13, _⟩ => ⟨S4x512x1024, .f32⟩
  | .hbm, ⟨14, _⟩ => ⟨S4x512x2048, .f32⟩
  | .hbm, ⟨15, _⟩ => ⟨S2048x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩

abbrev nD : Nat := 1
abbrev τ : Topo := Topo.v7x

variable {F : FTy → Type} [FloatOps F]
-- ==== Kvb.lean ====
abbrev S4x8192x2048 : Shape := ⟨3, ![4, 8192, 2048]⟩
abbrev S2048x7248 : Shape := ⟨2, ![2048, 7248]⟩
abbrev S32768x2048 : Shape := ⟨2, ![32768, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4x8192x2048, .f32⟩
  | .hbm, ⟨1, _⟩ => ⟨S2048x7248, .f32⟩
  | .hbm, ⟨2, _⟩ => ⟨S4x8192x2048, .bf16⟩
  | .hbm, ⟨3, _⟩ => ⟨S32768x2048, .bf16⟩
  | .hbm, ⟨4, _⟩ => ⟨S2048x2048, .f32⟩
  | .hbm, ⟨5, _⟩ => ⟨S2048x2048, .bf16⟩
  | .hbm, ⟨6, _⟩ => ⟨S32768x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KvbRefIdeal.lean ====
abbrev S4x8192x2048 : Shape := ⟨3, ![4, 8192, 2048]⟩
abbrev S2048x7248 : Shape := ⟨2, ![2048, 7248]⟩
abbrev S4x8192x7248 : Shape := ⟨3, ![4, 8192, 7248]⟩
abbrev S4x8192x1024 : Shape := ⟨3, ![4, 8192, 1024]⟩
abbrev S4x8192x64 : Shape := ⟨3, ![4, 8192, 64]⟩
abbrev S4x8192x16 : Shape := ⟨3, ![4, 8192, 16]⟩
abbrev S32768x2048 : Shape := ⟨2, ![32768, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048x7248, .f32⟩
  | .hbm, ⟨2, _⟩ => ⟨S4x8192x7248, .f32⟩
  | .hbm, ⟨3, _⟩ => ⟨S4x8192x1024, .f32⟩
  | .hbm, ⟨4, _⟩ => ⟨S4x8192x1024, .f32⟩
  | .hbm, ⟨5, _⟩ => ⟨S4x8192x1024, .f32⟩
  | .hbm, ⟨6, _⟩ => ⟨S4x8192x1024, .f32⟩
  | .hbm, ⟨7, _⟩ => ⟨S4x8192x64, .f32⟩
  | .hbm, ⟨8, _⟩ => ⟨S4x8192x16, .f32⟩
  | .hbm, ⟨9, _⟩ => ⟨S4x8192x1024, .f32⟩
  | .hbm, ⟨10, _⟩ => ⟨S4x8192x1024, .f32⟩
  | .hbm, ⟨11, _⟩ => ⟨S4x8192x1024, .f32⟩
  | .hbm, ⟨12, _⟩ => ⟨S4x8192x2048, .f32⟩
  | .hbm, ⟨13, _⟩ => ⟨S32768x2048, .f32⟩
  | .hbm, ⟨14, _⟩ => ⟨S32768x2048, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== KeysStep.lean ====
abbrev S16x16x2048 : Shape := ⟨3, ![16, 16, 2048]⟩
abbrev S2048x7248 : Shape := ⟨2, ![2048, 7248]⟩
abbrev S256x2048 : Shape := ⟨2, ![256, 2048]⟩
abbrev S2048x1024 : Shape := ⟨2, ![2048, 1024]⟩
abbrev S256x8x128 : Shape := ⟨3, ![256, 8, 128]⟩
abbrev S256x1024 : Shape := ⟨2, ![256, 1024]⟩

abbrev nBuf : Space → Nat
  | .hbm => 8
  | .vmem => 4
  | .smem => 0
  | _ => 0

abbrev bufTy : (tb : Table) → Fin (tcTables nBuf tb) → BufTy
  | .hbm, ⟨0, _⟩ => ⟨S16x16x2048, .f32⟩
  | .hbm, ⟨1, _⟩ => ⟨S2048x7248, .f32⟩
  | .hbm, ⟨2, _⟩ => ⟨S16x16x2048, .bf16⟩
  | .hbm, ⟨3, _⟩ => ⟨S256x2048, .bf16⟩
  | .hbm, ⟨4, _⟩ => ⟨S2048x1024, .f32⟩
  | .hbm, ⟨5, _⟩ => ⟨S2048x1024, .bf16⟩
  | .hbm, ⟨6, _⟩ => ⟨S256x8x128, .f32⟩
  | .hbm, ⟨7, _⟩ => ⟨S256x1024, .bf16⟩
  | .local _ .vmem, ⟨0, _⟩ => ⟨S256x2048, .bf16⟩
  | .local _ .vmem, ⟨1, _⟩ => ⟨S2048x1024, .bf16⟩
  | .local _ .vmem, ⟨2, _⟩ => ⟨S256x8x128, .f32⟩
  | .local _ .vmem, ⟨3, _⟩ => ⟨S256x1024, .bf16⟩
  | _, _ => ⟨S16x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S256x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== KeysStepRefIdeal.lean ====
abbrev S16x16x2048 : Shape := ⟨3, ![16, 16, 2048]⟩
abbrev S2048x7248 : Shape := ⟨2, ![2048, 7248]⟩
abbrev S16x16x7248 : Shape := ⟨3, ![16, 16, 7248]⟩
abbrev S16x16x1024 : Shape := ⟨3, ![16, 16, 1024]⟩
abbrev S16x16x64 : Shape := ⟨3, ![16, 16, 64]⟩
abbrev S16x16x16 : Shape := ⟨3, ![16, 16, 16]⟩
abbrev S256x8x128 : Shape := ⟨3, ![256, 8, 128]⟩
abbrev S256x1024 : Shape := ⟨2, ![256, 1024]⟩

abbrev nBuf : Space → Nat
  | .hbm => 15
  | .vmem => 0
  | .smem => 0
  | _ => 0

abbrev bufTy : (tb : Table) → Fin (tcTables nBuf tb) → BufTy
  | .hbm, ⟨0, _⟩ => ⟨S16x16x2048, .f32⟩
  | .hbm, ⟨1, _⟩ => ⟨S2048x7248, .f32⟩
  | .hbm, ⟨2, _⟩ => ⟨S16x16x7248, .f32⟩
  | .hbm, ⟨3, _⟩ => ⟨S16x16x1024, .f32⟩
  | .hbm, ⟨4, _⟩ => ⟨S16x16x1024, .f32⟩
  | .hbm, ⟨5, _⟩ => ⟨S16x16x1024, .f32⟩
  | .hbm, ⟨6, _⟩ => ⟨S16x16x1024, .f32⟩
  | .hbm, ⟨7, _⟩ => ⟨S16x16x64, .f32⟩
  | .hbm, ⟨8, _⟩ => ⟨S16x16x16, .f32⟩
  | .hbm, ⟨9, _⟩ => ⟨S16x16x1024, .f32⟩
  | .hbm, ⟨10, _⟩ => ⟨S16x16x1024, .f32⟩
  | .hbm, ⟨11, _⟩ => ⟨S16x16x1024, .f32⟩
  | .hbm, ⟨12, _⟩ => ⟨S256x8x128, .f32⟩
  | .hbm, ⟨13, _⟩ => ⟨S256x1024, .f32⟩
  | .hbm, ⟨14, _⟩ => ⟨S256x1024, .bf16⟩
  | _, _ => ⟨S16x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== ValuesStep.lean ====
abbrev S16x16x2048 : Shape := ⟨3, ![16, 16, 2048]⟩
abbrev S2048x7248 : Shape := ⟨2, ![2048, 7248]⟩
abbrev S256x2048 : Shape := ⟨2, ![256, 2048]⟩
abbrev S2048x1024 : Shape := ⟨2, ![2048, 1024]⟩
abbrev S256x8x128 : Shape := ⟨3, ![256, 8, 128]⟩
abbrev S256x1024 : Shape := ⟨2, ![256, 1024]⟩

abbrev nBuf : Space → Nat
  | .hbm => 8
  | .vmem => 4
  | .smem => 0
  | _ => 0

abbrev bufTy : (tb : Table) → Fin (tcTables nBuf tb) → BufTy
  | .hbm, ⟨0, _⟩ => ⟨S16x16x2048, .f32⟩
  | .hbm, ⟨1, _⟩ => ⟨S2048x7248, .f32⟩
  | .hbm, ⟨2, _⟩ => ⟨S16x16x2048, .bf16⟩
  | .hbm, ⟨3, _⟩ => ⟨S256x2048, .bf16⟩
  | .hbm, ⟨4, _⟩ => ⟨S2048x1024, .f32⟩
  | .hbm, ⟨5, _⟩ => ⟨S2048x1024, .bf16⟩
  | .hbm, ⟨6, _⟩ => ⟨S256x8x128, .f32⟩
  | .hbm, ⟨7, _⟩ => ⟨S256x1024, .bf16⟩
  | .local _ .vmem, ⟨0, _⟩ => ⟨S256x2048, .bf16⟩
  | .local _ .vmem, ⟨1, _⟩ => ⟨S2048x1024, .bf16⟩
  | .local _ .vmem, ⟨2, _⟩ => ⟨S256x8x128, .f32⟩
  | .local _ .vmem, ⟨3, _⟩ => ⟨S256x1024, .bf16⟩
  | _, _ => ⟨S16x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S256x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== ValuesStepRefIdeal.lean ====
abbrev S16x16x2048 : Shape := ⟨3, ![16, 16, 2048]⟩
abbrev S2048x7248 : Shape := ⟨2, ![2048, 7248]⟩
abbrev S16x16x7248 : Shape := ⟨3, ![16, 16, 7248]⟩
abbrev S16x16x1024 : Shape := ⟨3, ![16, 16, 1024]⟩
abbrev S16x16x64 : Shape := ⟨3, ![16, 16, 64]⟩
abbrev S16x16x16 : Shape := ⟨3, ![16, 16, 16]⟩
abbrev S256x8x128 : Shape := ⟨3, ![256, 8, 128]⟩
abbrev S256x1024 : Shape := ⟨2, ![256, 1024]⟩

abbrev nBuf : Space → Nat
  | .hbm => 15
  | .vmem => 0
  | .smem => 0
  | _ => 0

abbrev bufTy : (tb : Table) → Fin (tcTables nBuf tb) → BufTy
  | .hbm, ⟨0, _⟩ => ⟨S16x16x2048, .f32⟩
  | .hbm, ⟨1, _⟩ => ⟨S2048x7248, .f32⟩
  | .hbm, ⟨2, _⟩ => ⟨S16x16x7248, .f32⟩
  | .hbm, ⟨3, _⟩ => ⟨S16x16x1024, .f32⟩
  | .hbm, ⟨4, _⟩ => ⟨S16x16x1024, .f32⟩
  | .hbm, ⟨5, _⟩ => ⟨S16x16x1024, .f32⟩
  | .hbm, ⟨6, _⟩ => ⟨S16x16x1024, .f32⟩
  | .hbm, ⟨7, _⟩ => ⟨S16x16x64, .f32⟩
  | .hbm, ⟨8, _⟩ => ⟨S16x16x16, .f32⟩
  | .hbm, ⟨9, _⟩ => ⟨S16x16x1024, .f32⟩
  | .hbm, ⟨10, _⟩ => ⟨S16x16x1024, .f32⟩
  | .hbm, ⟨11, _⟩ => ⟨S16x16x1024, .f32⟩
  | .hbm, ⟨12, _⟩ => ⟨S256x8x128, .f32⟩
  | .hbm, ⟨13, _⟩ => ⟨S256x1024, .f32⟩
  | .hbm, ⟨14, _⟩ => ⟨S256x1024, .bf16⟩
  | _, _ => ⟨S16x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== TailStep.lean ====
abbrev S16x16x2048 : Shape := ⟨3, ![16, 16, 2048]⟩
abbrev S2048x7248 : Shape := ⟨2, ![2048, 7248]⟩
abbrev S256x2048 : Shape := ⟨2, ![256, 2048]⟩
abbrev S2048x2048 : Shape := ⟨2, ![2048, 2048]⟩
abbrev S2048x1024 : Shape := ⟨2, ![2048, 1024]⟩
abbrev S256x1024 : Shape := ⟨2, ![256, 1024]⟩

abbrev nBuf : Space → Nat
  | .hbm => 7
  | .vmem => 5
  | .smem => 0
  | _ => 0

abbrev bufTy : (tb : Table) → Fin (tcTables nBuf tb) → BufTy
  | .hbm, ⟨0, _⟩ => ⟨S16x16x2048, .f32⟩
  | .hbm, ⟨1, _⟩ => ⟨S2048x7248, .f32⟩
  | .hbm, ⟨2, _⟩ => ⟨S16x16x2048, .bf16⟩
  | .hbm, ⟨3, _⟩ => ⟨S256x2048, .bf16⟩
  | .hbm, ⟨4, _⟩ => ⟨S2048x2048, .f32⟩
  | .hbm, ⟨5, _⟩ => ⟨S2048x2048, .bf16⟩
  | .hbm, ⟨6, _⟩ => ⟨S256x2048, .f32⟩
  | .local _ .vmem, ⟨0, _⟩ => ⟨S256x2048, .bf16⟩
  | .local _ .vmem, ⟨1, _⟩ => ⟨S2048x1024, .bf16⟩
  | .local _ .vmem, ⟨2, _⟩ => ⟨S2048x1024, .bf16⟩
  | .local _ .vmem, ⟨3, _⟩ => ⟨S256x1024, .f32⟩
  | .local _ .vmem, ⟨4, _⟩ => ⟨S256x1024, .f32⟩
  | _, _ => ⟨S16x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== TailStepRefIdeal.lean ====
abbrev S16x16x2048 : Shape := ⟨3, ![16, 16, 2048]⟩
abbrev S2048x7248 : Shape := ⟨2, ![2048, 7248]⟩
abbrev S16x16x7248 : Shape := ⟨3, ![16, 16, 7248]⟩
abbrev S16x16x1024 : Shape := ⟨3, ![16, 16, 1024]⟩
abbrev S16x16x64 : Shape := ⟨3, ![16, 16, 64]⟩
abbrev S16x16x16 : Shape := ⟨3, ![16, 16, 16]⟩
abbrev S256x2048 : Shape := ⟨2, ![256, 2048]⟩

abbrev nBuf : Space → Nat
  | .hbm => 14
  | .vmem => 0
  | .smem => 0
  | _ => 0

abbrev bufTy : (tb : Table) → Fin (tcTables nBuf tb) → BufTy
  | .hbm, ⟨0, _⟩ => ⟨S16x16x2048, .f32⟩
  | .hbm, ⟨1, _⟩ => ⟨S2048x7248, .f32⟩
  | .hbm, ⟨2, _⟩ => ⟨S16x16x7248, .f32⟩
  | .hbm, ⟨3, _⟩ => ⟨S16x16x1024, .f32⟩
  | .hbm, ⟨4, _⟩ => ⟨S16x16x1024, .f32⟩
  | .hbm, ⟨5, _⟩ => ⟨S16x16x1024, .f32⟩
  | .hbm, ⟨6, _⟩ => ⟨S16x16x1024, .f32⟩
  | .hbm, ⟨7, _⟩ => ⟨S16x16x64, .f32⟩
  | .hbm, ⟨8, _⟩ => ⟨S16x16x16, .f32⟩
  | .hbm, ⟨9, _⟩ => ⟨S16x16x1024, .f32⟩
  | .hbm, ⟨10, _⟩ => ⟨S16x16x1024, .f32⟩
  | .hbm, ⟨11, _⟩ => ⟨S16x16x1024, .f32⟩
  | .hbm, ⟨12, _⟩ => ⟨S16x16x2048, .f32⟩
  | .hbm, ⟨13, _⟩ => ⟨S256x2048, .f32⟩
  | _, _ => ⟨S16x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Query.lean ====
abbrev S4x8192x2048 : Shape := ⟨3, ![4, 8192, 2048]⟩
abbrev S2048x7248 : Shape := ⟨2, ![2048, 7248]⟩
abbrev S32768x2048 : Shape := ⟨2, ![32768, 2048]⟩
abbrev S2048x1024 : Shape := ⟨2, ![2048, 1024]⟩
abbrev S32768x1024 : Shape := ⟨2, ![32768, 1024]⟩
abbrev S1024x2048 : Shape := ⟨2, ![1024, 2048]⟩
abbrev S1024x1024 : Shape := ⟨2, ![1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S4x8192x2048, .f32⟩
  | .hbm, ⟨1, _⟩ => ⟨S2048x7248, .f32⟩
  | .hbm, ⟨2, _⟩ => ⟨S4x8192x2048, .bf16⟩
  | .hbm, ⟨3, _⟩ => ⟨S32768x2048, .bf16⟩
  | .hbm, ⟨4, _⟩ => ⟨S2048x1024, .f32⟩
  | .hbm, ⟨5, _⟩ => ⟨S2048x1024, .bf16⟩
  | .hbm, ⟨6, _⟩ => ⟨S32768x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QueryRefIdeal.lean ====
abbrev S4x8192x2048 : Shape := ⟨3, ![4, 8192, 2048]⟩
abbrev S2048x7248 : Shape := ⟨2, ![2048, 7248]⟩
abbrev S4x8192x7248 : Shape := ⟨3, ![4, 8192, 7248]⟩
abbrev S4x8192x1024 : Shape := ⟨3, ![4, 8192, 1024]⟩
abbrev S4x8192x64 : Shape := ⟨3, ![4, 8192, 64]⟩
abbrev S4x8192x16 : Shape := ⟨3, ![4, 8192, 16]⟩
abbrev S32768x1024 : Shape := ⟨2, ![32768, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048x7248, .f32⟩
  | .hbm, ⟨2, _⟩ => ⟨S4x8192x7248, .f32⟩
  | .hbm, ⟨3, _⟩ => ⟨S4x8192x1024, .f32⟩
  | .hbm, ⟨4, _⟩ => ⟨S4x8192x1024, .f32⟩
  | .hbm, ⟨5, _⟩ => ⟨S4x8192x1024, .f32⟩
  | .hbm, ⟨6, _⟩ => ⟨S4x8192x1024, .f32⟩
  | .hbm, ⟨7, _⟩ => ⟨S4x8192x64, .f32⟩
  | .hbm, ⟨8, _⟩ => ⟨S4x8192x16, .f32⟩
  | .hbm, ⟨9, _⟩ => ⟨S4x8192x1024, .f32⟩
  | .hbm, ⟨10, _⟩ => ⟨S4x8192x1024, .f32⟩
  | .hbm, ⟨11, _⟩ => ⟨S4x8192x1024, .f32⟩
  | .hbm, ⟨12, _⟩ => ⟨S32768x1024, .f32⟩
  | .hbm, ⟨13, _⟩ => ⟨S32768x1024, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== IndexQuery.lean ====
abbrev S4x8192x2048 : Shape := ⟨3, ![4, 8192, 2048]⟩
abbrev S2048x7248 : Shape := ⟨2, ![2048, 7248]⟩
abbrev S2048x1024 : Shape := ⟨2, ![2048, 1024]⟩
abbrev S32768x2048 : Shape := ⟨2, ![32768, 2048]⟩
abbrev S32768x1024 : Shape := ⟨2, ![32768, 1024]⟩
abbrev S1024x2048 : Shape := ⟨2, ![1024, 2048]⟩
abbrev S1024x1024 : Shape := ⟨2, ![1024, 1024]⟩

abbrev nBuf : Space → Nat
  | .hbm => 14
  | .vmem => 8
  | .smem => 0
  | _ => 0

abbrev bufTy : (tb : Table) → Fin (tcTables nBuf tb) → BufTy
  | .hbm, ⟨0, _⟩ => ⟨S4x8192x2048, .f32⟩
  | .hbm, ⟨1, _⟩ => ⟨S2048x7248, .f32⟩
  | .hbm, ⟨2, _⟩ => ⟨S4x8192x2048, .bf16⟩
  | .hbm, ⟨3, _⟩ => ⟨S4x8192x2048, .f32⟩
  | .hbm, ⟨4, _⟩ => ⟨S4x8192x2048, .f32⟩
  | .hbm, ⟨5, _⟩ => ⟨S4x8192x2048, .bf16⟩
  | .hbm, ⟨6, _⟩ => ⟨S2048x1024, .f32⟩
  | .hbm, ⟨7, _⟩ => ⟨S2048x1024, .bf16⟩
  | .hbm, ⟨8, _⟩ => ⟨S2048x1024, .f32⟩
  | .hbm, ⟨9, _⟩ => ⟨S2048x1024, .f32⟩
  | .hbm, ⟨10, _⟩ => ⟨S2048x1024, .bf16⟩
  | .hbm, ⟨11, _⟩ => ⟨S32768x2048, .bf16⟩
  | .hbm, ⟨12, _⟩ => ⟨S32768x2048, .bf16⟩
  | .hbm, ⟨13, _⟩ => ⟨S32768x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S1024x1024, .f32⟩
  | .local _ .vmem, ⟨7, _⟩ => ⟨S1024x1024, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== IndexQueryRefIdeal.lean ====
abbrev S4x8192x2048 : Shape := ⟨3, ![4, 8192, 2048]⟩
abbrev S2048x7248 : Shape := ⟨2, ![2048, 7248]⟩
abbrev S4x8192x7248 : Shape := ⟨3, ![4, 8192, 7248]⟩
abbrev S4x8192x1024 : Shape := ⟨3, ![4, 8192, 1024]⟩
abbrev S4x8192x64 : Shape := ⟨3, ![4, 8192, 64]⟩
abbrev S4x8192x16 : Shape := ⟨3, ![4, 8192, 16]⟩
abbrev S32768x1024 : Shape := ⟨2, ![32768, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048x7248, .f32⟩
  | .hbm, ⟨2, _⟩ => ⟨S4x8192x7248, .f32⟩
  | .hbm, ⟨3, _⟩ => ⟨S4x8192x1024, .f32⟩
  | .hbm, ⟨4, _⟩ => ⟨S4x8192x1024, .f32⟩
  | .hbm, ⟨5, _⟩ => ⟨S4x8192x1024, .f32⟩
  | .hbm, ⟨6, _⟩ => ⟨S4x8192x1024, .f32⟩
  | .hbm, ⟨7, _⟩ => ⟨S4x8192x64, .f32⟩
  | .hbm, ⟨8, _⟩ => ⟨S4x8192x16, .f32⟩
  | .hbm, ⟨9, _⟩ => ⟨S4x8192x1024, .f32⟩
  | .hbm, ⟨10, _⟩ => ⟨S4x8192x1024, .f32⟩
  | .hbm, ⟨11, _⟩ => ⟨S4x8192x1024, .f32⟩
  | .hbm, ⟨12, _⟩ => ⟨S32768x1024, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== IndexKey.lean ====
abbrev S4x8192x2048 : Shape := ⟨3, ![4, 8192, 2048]⟩
abbrev S2048x7248 : Shape := ⟨2, ![2048, 7248]⟩
abbrev S_ : Shape := ⟨0, ![]⟩
abbrev S2048x112 : Shape := ⟨2, ![2048, 112]⟩
abbrev S2048x64 : Shape := ⟨2, ![2048, 64]⟩
abbrev S2048x16 : Shape := ⟨2, ![2048, 16]⟩
abbrev S2048x256 : Shape := ⟨2, ![2048, 256]⟩
abbrev S32768x2048 : Shape := ⟨2, ![32768, 2048]⟩
abbrev S32768x256 : Shape := ⟨2, ![32768, 256]⟩
abbrev S1024x2048 : Shape := ⟨2, ![1024, 2048]⟩
abbrev S1024x256 : Shape := ⟨2, ![1024, 256]⟩
abbrev S4x8192x256 : Shape := ⟨3, ![4, 8192, 256]⟩
abbrev S4x8192x64 : Shape := ⟨3, ![4, 8192, 64]⟩
abbrev S4x8192x16 : Shape := ⟨3, ![4, 8192, 16]⟩

abbrev nBuf : Space → Nat
  | .hbm => 22
  | .vmem => 8
  | .smem => 0
  | _ => 0

abbrev bufTy : (tb : Table) → Fin (tcTables nBuf tb) → BufTy
  | .hbm, ⟨0, _⟩ => ⟨S4x8192x2048, .f32⟩
  | .hbm, ⟨1, _⟩ => ⟨S2048x7248, .f32⟩
  | .hbm, ⟨2, _⟩ => ⟨S4x8192x2048, .bf16⟩
  | .hbm, ⟨3, _⟩ => ⟨S4x8192x2048, .f32⟩
  | .hbm, ⟨4, _⟩ => ⟨S4x8192x2048, .f32⟩
  | .hbm, ⟨5, _⟩ => ⟨S4x8192x2048, .bf16⟩
  | .hbm, ⟨6, _⟩ => ⟨S_, .f32⟩
  | .hbm, ⟨7, _⟩ => ⟨S2048x112, .f32⟩
  | .hbm, ⟨8, _⟩ => ⟨S2048x64, .f32⟩
  | .hbm, ⟨9, _⟩ => ⟨S2048x64, .f32⟩
  | .hbm, ⟨10, _⟩ => ⟨S2048x16, .f32⟩
  | .hbm, ⟨11, _⟩ => ⟨S2048x256, .f32⟩
  | .hbm, ⟨12, _⟩ => ⟨S2048x256, .bf16⟩
  | .hbm, ⟨13, _⟩ => ⟨S2048x256, .f32⟩
  | .hbm, ⟨14, _⟩ => ⟨S2048x256, .f32⟩
  | .hbm, ⟨15, _⟩ => ⟨S2048x256, .bf16⟩
  | .hbm, ⟨16, _⟩ => ⟨S32768x2048, .bf16⟩
  | .hbm, ⟨17, _⟩ => ⟨S32768x2048, .bf16⟩
  | .hbm, ⟨18, _⟩ => ⟨S32768x256, .f32⟩
  | .hbm, ⟨19, _⟩ => ⟨S4x8192x256, .f32⟩
  | .hbm, ⟨20, _⟩ => ⟨S4x8192x64, .f32⟩
  | .hbm, ⟨21, _⟩ => ⟨S4x8192x16, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x256, .bf16⟩
  | .local _ .vmem, ⟨5, _⟩ => ⟨S2048x256, .bf16⟩
  | .local _ .vmem, ⟨6, _⟩ => ⟨S1024x256, .f32⟩
  | .local _ .vmem, ⟨7, _⟩ => ⟨S1024x256, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== IndexKeyIdeal.lean ====
abbrev S4x8192x2048 : Shape := ⟨3, ![4, 8192, 2048]⟩
abbrev S2048x7248 : Shape := ⟨2, ![2048, 7248]⟩
abbrev S_ : Shape := ⟨0, ![]⟩
abbrev S2048x112 : Shape := ⟨2, ![2048, 112]⟩
abbrev S2048x64 : Shape := ⟨2, ![2048, 64]⟩
abbrev S2048x16 : Shape := ⟨2, ![2048, 16]⟩
abbrev S2048x256 : Shape := ⟨2, ![2048, 256]⟩
abbrev S32768x2048 : Shape := ⟨2, ![32768, 2048]⟩
abbrev S32768x256 : Shape := ⟨2, ![32768, 256]⟩
abbrev S1024x2048 : Shape := ⟨2, ![1024, 2048]⟩
abbrev S1024x256 : Shape := ⟨2, ![1024, 256]⟩
abbrev S4x8192x256 : Shape := ⟨3, ![4, 8192, 256]⟩
abbrev S4x8192x64 : Shape := ⟨3, ![4, 8192, 64]⟩
abbrev S4x8192x16 : Shape := ⟨3, ![4, 8192, 16]⟩

abbrev nBuf : Space → Nat
  | .hbm => 22
  | .vmem => 8
  | .smem => 0
  | _ => 0

abbrev bufTy : (tb : Table) → Fin (tcTables nBuf tb) → BufTy
  | .hbm, ⟨0, _⟩ => ⟨S4x8192x2048, .f32⟩
  | .hbm, ⟨1, _⟩ => ⟨S2048x7248, .f32⟩
  | .hbm, ⟨2, _⟩ => ⟨S4x8192x2048, .bf16⟩
  | .hbm, ⟨3, _⟩ => ⟨S4x8192x2048, .f32⟩
  | .hbm, ⟨4, _⟩ => ⟨S4x8192x2048, .f32⟩
  | .hbm, ⟨5, _⟩ => ⟨S4x8192x2048, .bf16⟩
  | .hbm, ⟨6, _⟩ => ⟨S_, .f32⟩
  | .hbm, ⟨7, _⟩ => ⟨S2048x112, .f32⟩
  | .hbm, ⟨8, _⟩ => ⟨S2048x64, .f32⟩
  | .hbm, ⟨9, _⟩ => ⟨S2048x64, .f32⟩
  | .hbm, ⟨10, _⟩ => ⟨S2048x16, .f32⟩
  | .hbm, ⟨11, _⟩ => ⟨S2048x256, .f32⟩
  | .hbm, ⟨12, _⟩ => ⟨S2048x256, .bf16⟩
  | .hbm, ⟨13, _⟩ => ⟨S2048x256, .f32⟩
  | .hbm, ⟨14, _⟩ => ⟨S2048x256, .f32⟩
  | .hbm, ⟨15, _⟩ => ⟨S2048x256, .bf16⟩
  | .hbm, ⟨16, _⟩ => ⟨S32768x2048, .bf16⟩
  | .hbm, ⟨17, _⟩ => ⟨S32768x2048, .bf16⟩
  | .hbm, ⟨18, _⟩ => ⟨S32768x256, .f32⟩
  | .hbm, ⟨19, _⟩ => ⟨S4x8192x256, .f32⟩
  | .hbm, ⟨20, _⟩ => ⟨S4x8192x64, .f32⟩
  | .hbm, ⟨21, _⟩ => ⟨S4x8192x16, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x256, .bf16⟩
  | .local _ .vmem, ⟨5, _⟩ => ⟨S2048x256, .bf16⟩
  | .local _ .vmem, ⟨6, _⟩ => ⟨S1024x256, .f32⟩
  | .local _ .vmem, ⟨7, _⟩ => ⟨S1024x256, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== IndexKeyRefIdeal.lean ====
abbrev S4x8192x2048 : Shape := ⟨3, ![4, 8192, 2048]⟩
abbrev S2048x7248 : Shape := ⟨2, ![2048, 7248]⟩
abbrev S4x8192x7248 : Shape := ⟨3, ![4, 8192, 7248]⟩
abbrev S4x8192x1024 : Shape := ⟨3, ![4, 8192, 1024]⟩
abbrev S4x8192x64 : Shape := ⟨3, ![4, 8192, 64]⟩
abbrev S4x8192x16 : Shape := ⟨3, ![4, 8192, 16]⟩

abbrev nBuf : Space → Nat
  | .hbm => 12
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048x7248, .f32⟩
  | .hbm, ⟨2, _⟩ => ⟨S4x8192x7248, .f32⟩
  | .hbm, ⟨3, _⟩ => ⟨S4x8192x1024, .f32⟩
  | .hbm, ⟨4, _⟩ => ⟨S4x8192x1024, .f32⟩
  | .hbm, ⟨5, _⟩ => ⟨S4x8192x1024, .f32⟩
  | .hbm, ⟨6, _⟩ => ⟨S4x8192x1024, .f32⟩
  | .hbm, ⟨7, _⟩ => ⟨S4x8192x64, .f32⟩
  | .hbm, ⟨8, _⟩ => ⟨S4x8192x16, .f32⟩
  | .hbm, ⟨9, _⟩ => ⟨S4x8192x1024, .f32⟩
  | .hbm, ⟨10, _⟩ => ⟨S4x8192x1024, .f32⟩
  | .hbm, ⟨11, _⟩ => ⟨S4x8192x1024, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== IndexKeyStep.lean ====
abbrev S16x16x2048 : Shape := ⟨3, ![16, 16, 2048]⟩
abbrev S2048x7248 : Shape := ⟨2, ![2048, 7248]⟩
abbrev S_ : Shape := ⟨0, ![]⟩
abbrev S2048x112 : Shape := ⟨2, ![2048, 112]⟩
abbrev S2048x64 : Shape := ⟨2, ![2048, 64]⟩
abbrev S2048x16 : Shape := ⟨2, ![2048, 16]⟩
abbrev S2048x256 : Shape := ⟨2, ![2048, 256]⟩
abbrev S256x2048 : Shape := ⟨2, ![256, 2048]⟩
abbrev S256x256 : Shape := ⟨2, ![256, 256]⟩
abbrev S16x16x256 : Shape := ⟨3, ![16, 16, 256]⟩
abbrev S16x16x64 : Shape := ⟨3, ![16, 16, 64]⟩
abbrev S16x16x16 : Shape := ⟨3, ![16, 16, 16]⟩

abbrev nBuf : Space → Nat
  | .hbm => 22
  | .vmem => 5
  | .smem => 0
  | _ => 0

abbrev bufTy : (tb : Table) → Fin (tcTables nBuf tb) → BufTy
  | .hbm, ⟨0, _⟩ => ⟨S16x16x2048, .f32⟩
  | .hbm, ⟨1, _⟩ => ⟨S2048x7248, .f32⟩
  | .hbm, ⟨2, _⟩ => ⟨S16x16x2048, .bf16⟩
  | .hbm, ⟨3, _⟩ => ⟨S16x16x2048, .f32⟩
  | .hbm, ⟨4, _⟩ => ⟨S16x16x2048, .f32⟩
  | .hbm, ⟨5, _⟩ => ⟨S16x16x2048, .bf16⟩
  | .hbm, ⟨6, _⟩ => ⟨S_, .f32⟩
  | .hbm, ⟨7, _⟩ => ⟨S2048x112, .f32⟩
  | .hbm, ⟨8, _⟩ => ⟨S2048x64, .f32⟩
  | .hbm, ⟨9, _⟩ => ⟨S2048x64, .f32⟩
  | .hbm, ⟨10, _⟩ => ⟨S2048x16, .f32⟩
  | .hbm, ⟨11, _⟩ => ⟨S2048x256, .f32⟩
  | .hbm, ⟨12, _⟩ => ⟨S2048x256, .bf16⟩
  | .hbm, ⟨13, _⟩ => ⟨S2048x256, .f32⟩
  | .hbm, ⟨14, _⟩ => ⟨S2048x256, .f32⟩
  | .hbm, ⟨15, _⟩ => ⟨S2048x256, .bf16⟩
  | .hbm, ⟨16, _⟩ => ⟨S256x2048, .bf16⟩
  | .hbm, ⟨17, _⟩ => ⟨S256x2048, .bf16⟩
  | .hbm, ⟨18, _⟩ => ⟨S256x256, .f32⟩
  | .hbm, ⟨19, _⟩ => ⟨S16x16x256, .f32⟩
  | .hbm, ⟨20, _⟩ => ⟨S16x16x64, .f32⟩
  | .hbm, ⟨21, _⟩ => ⟨S16x16x16, .f32⟩
  | .local _ .vmem, ⟨0, _⟩ => ⟨S256x2048, .bf16⟩
  | .local _ .vmem, ⟨1, _⟩ => ⟨S256x2048, .bf16⟩
  | .local _ .vmem, ⟨2, _⟩ => ⟨S2048x256, .bf16⟩
  | .local _ .vmem, ⟨3, _⟩ => ⟨S2048x256, .bf16⟩
  | .local _ .vmem, ⟨4, _⟩ => ⟨S256x256, .f32⟩
  | _, _ => ⟨S16x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]
-- ==== IndexKeyStepRefIdeal.lean ====
abbrev S16x16x2048 : Shape := ⟨3, ![16, 16, 2048]⟩
abbrev S2048x7248 : Shape := ⟨2, ![2048, 7248]⟩
abbrev S16x16x7248 : Shape := ⟨3, ![16, 16, 7248]⟩
abbrev S16x16x1024 : Shape := ⟨3, ![16, 16, 1024]⟩
abbrev S16x16x64 : Shape := ⟨3, ![16, 16, 64]⟩
abbrev S16x16x16 : Shape := ⟨3, ![16, 16, 16]⟩

abbrev nBuf : Space → Nat
  | .hbm => 12
  | .vmem => 0
  | .smem => 0
  | _ => 0

abbrev bufTy : (tb : Table) → Fin (tcTables nBuf tb) → BufTy
  | .hbm, ⟨0, _⟩ => ⟨S16x16x2048, .f32⟩
  | .hbm, ⟨1, _⟩ => ⟨S2048x7248, .f32⟩
  | .hbm, ⟨2, _⟩ => ⟨S16x16x7248, .f32⟩
  | .hbm, ⟨3, _⟩ => ⟨S16x16x1024, .f32⟩
  | .hbm, ⟨4, _⟩ => ⟨S16x16x1024, .f32⟩
  | .hbm, ⟨5, _⟩ => ⟨S16x16x1024, .f32⟩
  | .hbm, ⟨6, _⟩ => ⟨S16x16x1024, .f32⟩
  | .hbm, ⟨7, _⟩ => ⟨S16x16x64, .f32⟩
  | .hbm, ⟨8, _⟩ => ⟨S16x16x16, .f32⟩
  | .hbm, ⟨9, _⟩ => ⟨S16x16x1024, .f32⟩
  | .hbm, ⟨10, _⟩ => ⟨S16x16x1024, .f32⟩
  | .hbm, ⟨11, _⟩ => ⟨S16x16x1024, .f32⟩
  | _, _ => ⟨S16x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Proof.BandHead.lean ====
/- One head of one grid point of the kernel: the three blocks of scores, their common maximum per query, the weights, the
   weighted values, and the division. The body does this for its eight heads one after another; each store's value is this
   function of the head's columns. -/
module

public import proofs.«01_k».proof.Proof.Gen.KernelIdeal.Frame

@[expose] public section

set_option maxRecDepth 16384

noncomputable section

namespace Cert.BandHead

open Cert.KernelIdeal Cert.KernelIdeal.Gen Idealize.ShloMosaic Idealize.ShloMosaic.TcCoe Idealize.SL.Sem

variable {F : FTy → Type} [FloatOps F] [Named F]

/-- A block of scores, keys down and queries across. -/
def score (k q : Vec F S1x256x128 .bf16) (b : Vec F S1x1x256x256 .f32) : FVec F S256x256 .f32 :=
  addf (mulf (matmul dot_S256x128_S256x128_S256x256_1_1_0_0_n_n none (shapeCast S256x128 k shapeCasts_S1x256x128_S256x128)
      (shapeCast S256x128 q shapeCasts_S1x256x128_S256x128) (constant S256x256 .f32 0x00000000#32))
    (broadcast S256x256 (Named.named κ "scale_log2e" 0x3E0293EE#32)))
    (shapeCast S256x256 b shapeCasts_S1x1x256x256_S256x256)

/-- The greatest score of each query in a block. -/
def colTop (s : FVec F S256x256 .f32) : FVec F S1x256 .f32 :=
  shapeCast S1x256 (multiReduction .maximumf [0] S256 s 0xFF800000#32 reduces_S256x256_S256 (.inl rfl) rfl) shapeCasts_S256_S1x256

/-- The weights of a block, given the maximum. -/
def weight (s : FVec F S256x256 .f32) (t : FVec F S1x256 .f32) : FVec F S256x256 .f32 :=
  exp2 (subf s (broadcastTo S256x256 t broadcasts_S1x256_S256x256))

/-- The weights' sum for each query. -/
def colSum (p : FVec F S256x256 .f32) : FVec F S1x256 .f32 :=
  shapeCast S1x256 (multiReduction .add [0] S256 p 0x00000000#32 reduces_S256x256_S256 (.inl rfl) rfl) shapeCasts_S256_S1x256

/-- The weighted values of a block, features down and queries across. -/
def mix (v : Vec F S1x256x128 .bf16) (p : FVec F S256x256 .f32) : FVec F S128x256 .f32 :=
  matmul dot_S256x128_S256x256_S128x256_0_0_1_1_n_n none (shapeCast S256x128 v shapeCasts_S1x256x128_S256x128)
    (truncf .bf16 p bitsLt_bf16_f32) (constant S128x256 .f32 0x00000000#32)

/-- The three blocks of scores to the head's output. -/
def fromScores (s0 s1 s2 : FVec F S256x256 .f32) (v0 v1 v2 : Vec F S1x256x128 .bf16) : FVec F S1x256x128 .bf16 :=
  let t := maximumf (maximumf (colTop s0) (colTop s1)) (colTop s2)
  shapeCast S1x256x128 (truncf .bf16 (transpose S256x128 [1, 0]
    (divf (addf (addf (mix v0 (weight s0 t)) (mix v1 (weight s1 t))) (mix v2 (weight s2 t)))
      (broadcastTo S128x256 (addf (addf (colSum (weight s0 t)) (colSum (weight s1 t))) (colSum (weight s2 t))) broadcasts_S1x256_S128x256))
    transposes_S128x256_p1_0_S256x128) bitsLt_bf16_f32) shapeCasts_S256x128_S1x256x128

/-- One head. -/
def headOut (q k0 k1 k2 v0 v1 v2 : Vec F S1x256x128 .bf16) (b0 b1 b2 : Vec F S1x1x256x256 .f32) : FVec F S1x256x128 .bf16 :=
  fromScores (score k0 q b0) (score k1 q b1) (score k2 q b2) v0 v1 v2

variable (x0 x1 x2 x3 x4 x5 x6 : Vec F S1x256x1024 .bf16) (x7 : Vec F S1x8x768x256 .f32)

theorem out_eq : out0_8 x0 x1 x2 x3 x4 x5 x6 x7 = View.canon [
    ⟨r0_25, headOut (View.ld x0 r0_25) (View.ld x1 r0_25) (View.ld x2 r0_25) (View.ld x3 r0_25) (View.ld x4 r0_25) (View.ld x5 r0_25) (View.ld x6 r0_25) (View.ld x7 r0_29) (View.ld x7 r0_30) (View.ld x7 r0_31)⟩,
    ⟨r0_21, headOut (View.ld x0 r0_21) (View.ld x1 r0_21) (View.ld x2 r0_21) (View.ld x3 r0_21) (View.ld x4 r0_21) (View.ld x5 r0_21) (View.ld x6 r0_21) (View.ld x7 r0_26) (View.ld x7 r0_27) (View.ld x7 r0_28)⟩,
    ⟨r0_17, headOut (View.ld x0 r0_17) (View.ld x1 r0_17) (View.ld x2 r0_17) (View.ld x3 r0_17) (View.ld x4 r0_17) (View.ld x5 r0_17) (View.ld x6 r0_17) (View.ld x7 r0_22) (View.ld x7 r0_23) (View.ld x7 r0_24)⟩,
    ⟨r0_13, headOut (View.ld x0 r0_13) (View.ld x1 r0_13) (View.ld x2 r0_13) (View.ld x3 r0_13) (View.ld x4 r0_13) (View.ld x5 r0_13) (View.ld x6 r0_13) (View.ld x7 r0_18) (View.ld x7 r0_19) (View.ld x7 r0_20)⟩,
    ⟨r0_9, headOut (View.ld x0 r0_9) (View.ld x1 r0_9) (View.ld x2 r0_9) (View.ld x3 r0_9) (View.ld x4 r0_9) (View.ld x5 r0_9) (View.ld x6 r0_9) (View.ld x7 r0_14) (View.ld x7 r0_15) (View.ld x7 r0_16)⟩,
    ⟨r0_5, headOut (View.ld x0 r0_5) (View.ld x1 r0_5) (View.ld x2 r0_5) (View.ld x3 r0_5) (View.ld x4 r0_5) (View.ld x5 r0_5) (View.ld x6 r0_5) (View.ld x7 r0_10) (View.ld x7 r0_11) (View.ld x7 r0_12)⟩,
    ⟨r0_1, headOut (View.ld x0 r0_1) (View.ld x1 r0_1) (View.ld x2 r0_1) (View.ld x3 r0_1) (View.ld x4 r0_1) (View.ld x5 r0_1) (View.ld x6 r0_1) (View.ld x7 r0_6) (View.ld x7 r0_7) (View.ld x7 r0_8)⟩,
    ⟨r0_0, headOut (View.ld x0 r0_0) (View.ld x1 r0_0) (View.ld x2 r0_0) (View.ld x3 r0_0) (View.ld x4 r0_0) (View.ld x5 r0_0) (View.ld x6 r0_0) (View.ld x7 r0_2) (View.ld x7 r0_3) (View.ld x7 r0_4)⟩] := by
  rfl

end Cert.BandHead
-- ==== Proof.BandWords.lean ====
/- Integer words of the band: jnp's floor division by the chunk length, the clipped distance, and the table lookup
   `rel_bias[:, index]` read at an index. Everything here is about 32-bit words and gathers; no float arithmetic. -/
module

public import Idealize.ShloMosaic.Lib.Pointwise
public import Idealize.ShloMosaic.Lib.WordArith
public import Idealize.ShloMosaic.Lib.WordCmp

@[expose] public section

set_option maxRecDepth 16384

noncomputable section

namespace Cert.Band

open Idealize.ShloMosaic

/-! ## Floor division by 64 -/

/-- The sign of a word, as it prints. -/
abbrev sgnW (x : BitVec 32) : BitVec 32 := if x = 0 then 0 else if x.msb then -1 else 1

/-- `jnp.floor_divide(x, k)` as it prints: the quotient rounded towards zero, less one when the signs differ and the
    remainder is not zero. -/
abbrev fdivW (k x : BitVec 32) : BitVec 32 :=
  Scalar.select (IntOp.andi (IntOp.cmpi .ne (sgnW x) (sgnW k)) (IntOp.cmpi .ne (IntOp.remsi ArithUnit.host x k) 0#32))
    (IntOp.subi (IntOp.divsi ArithUnit.host x k) 1#32) (IntOp.divsi ArithUnit.host x k)

/-- By 64 it is the integers' floor division. -/
theorem fdiv64_toInt (x : BitVec 32) : (fdivW 64#32 x).toInt = x.toInt / 64 := by
  have hc : ¬ IntOp.SDivCorner x 64#32 := by
    rintro (h | ⟨_, h⟩) <;> exact absurd h (by decide)
  have hd : IntOp.divsi ArithUnit.host x 64#32 = x.sdiv 64#32 := by
    unfold IntOp.divsi; rw [if_neg hc]
  have hr : IntOp.remsi ArithUnit.host x 64#32 = x.srem 64#32 := by
    unfold IntOp.remsi; rw [if_neg hc]
  have h64 : (64#32 : BitVec 32).toInt = 64 := by decide
  have hlo := BitVec.le_toInt x
  have hhi := BitVec.toInt_lt (x := x)
  have htd : (0 ≤ x.toInt → x.toInt.tdiv 64 = x.toInt / 64) ∧ (x.toInt < 0 → x.toInt.tdiv 64 = -((-x.toInt) / 64)) := by
    refine ⟨fun h => Int.tdiv_eq_ediv_of_nonneg h, fun h => ?_⟩
    rw [← Int.tdiv_eq_ediv_of_nonneg (by omega), Int.neg_tdiv, neg_neg]
  have htm : x.toInt.tmod 64 = x.toInt - 64 * x.toInt.tdiv 64 := Int.tmod_def _ _
  have hq : (x.sdiv 64#32).toInt = x.toInt.tdiv 64 := by
    rw [BitVec.toInt_sdiv, h64]
    rw [Int.bmod_eq_of_le] <;> (rcases lt_or_ge x.toInt 0 with h | h <;> [have := htd.2 h; have := htd.1 h] <;> omega)
  have hm : (x.srem 64#32).toInt = x.toInt.tmod 64 := by
    rw [BitVec.toInt_srem, h64]
  have hs64 : sgnW 64#32 = 1#32 := by decide
  have hz : x.srem 64#32 = 0#32 ↔ x.toInt.tmod 64 = 0 := by
    rw [← BitVec.toInt_inj, hm]; simp
  unfold fdivW
  rw [hd, hr, hs64, WordCmp.cmpi_ne_eq, WordCmp.cmpi_ne_eq, WordCmp.andi_ofBool]
  have hmsb : x.msb = decide (x.toInt < 0) := BitVec.msb_eq_toInt
  have hx0 : x = 0 ↔ x.toInt = 0 := by rw [← BitVec.toInt_inj]; simp
  by_cases hneg : x.toInt < 0
  · have e1 : sgnW x = -1 := by
      unfold sgnW
      rw [if_neg (by rw [hx0]; omega), hmsb, if_pos (by simpa using hneg)]
    rw [e1]
    by_cases hrem : x.toInt.tmod 64 = 0
    · have : x.srem 64#32 = 0#32 := hz.mpr hrem
      rw [this]
      show (x.sdiv 64#32).toInt = _
      rw [hq]
      have := htd.2 hneg
      omega
    · have hne : x.srem 64#32 ≠ 0#32 := fun h => hrem (hz.mp h)
      have : (BitVec.ofBool (decide ((-1 : BitVec 32) ≠ 1#32) && decide (x.srem 64#32 ≠ 0#32))) = 1#1 := by
        simp [hne]
      rw [this]
      show (x.sdiv 64#32 - 1#32).toInt = _
      have h1 : (1#32 : BitVec 32).toInt = 1 := by decide
      have := htd.2 hneg
      rw [WordArith.toInt_sub_of_bounds _ _ (by rw [hq, h1]; omega) (by rw [hq, h1]; omega), hq, h1]
      omega
  · have e1 : (x ≠ 0) → sgnW x = 1#32 := by
      intro h
      unfold sgnW
      rw [if_neg h, hmsb, if_neg (by simpa using hneg)]; rfl
    have e2 : (BitVec.ofBool (decide (sgnW x ≠ 1#32) && decide (x.srem 64#32 ≠ 0#32))) = 0#1 := by
      by_cases h0 : x = 0
      · have : x.srem 64#32 = 0#32 := hz.mpr (by rw [hx0.mp h0]; rfl)
        simp [this]
      · simp [e1 h0]
    rw [e2]
    show (x.sdiv 64#32).toInt = _
    rw [hq]
    have := htd.1 (by omega)
    omega

/-! ## The clipped distance -/

/-- `clip(d, -128, 128) + 128`, then jnp's wrap of a negative index, as they print: the index into the table. -/
abbrev relW (d : BitVec 32) : BitVec 32 :=
  Scalar.select (IntOp.cmpi .slt (IntOp.addi (IntOp.minsi 128#32 (IntOp.maxsi 4294967168#32 d)) 128#32) 0#32)
    (IntOp.addi (IntOp.addi (IntOp.minsi 128#32 (IntOp.maxsi 4294967168#32 d)) 128#32) 257#32)
    (IntOp.addi (IntOp.minsi 128#32 (IntOp.maxsi 4294967168#32 d)) 128#32)

/-- The index of distance `d` in the table: `d` clipped to `[-128, 128]`, plus 128. -/
def relIx (d : ℤ) : Fin 257 := ⟨(min 128 (max (-128) d) + 128).toNat, by omega⟩

theorem relW_toInt (d : BitVec 32) : (relW d).toInt = min 128 (max (-128) d.toInt) + 128 := by
  have h1 : (4294967168#32 : BitVec 32).toInt = -128 := by decide
  have h2 : (128#32 : BitVec 32).toInt = 128 := by decide
  have hmax : (IntOp.maxsi 4294967168#32 d).toInt = max (-128) d.toInt := by
    show (if BitVec.slt d 4294967168#32 then 4294967168#32 else d).toInt = _
    split <;> rename_i h <;> rw [BitVec.slt_iff_toInt_lt] at h <;> omega
  have hmin : (IntOp.minsi 128#32 (IntOp.maxsi 4294967168#32 d)).toInt = min 128 (max (-128) d.toInt) := by
    show (if BitVec.slt 128#32 (IntOp.maxsi 4294967168#32 d) then 128#32 else IntOp.maxsi 4294967168#32 d).toInt = _
    split <;> rename_i h <;> rw [BitVec.slt_iff_toInt_lt] at h <;> omega
  have hadd : (IntOp.addi (IntOp.minsi 128#32 (IntOp.maxsi 4294967168#32 d)) 128#32).toInt = min 128 (max (-128) d.toInt) + 128 := by
    show (_ + _ : BitVec 32).toInt = _
    rw [WordArith.toInt_add_of_bounds _ _ (by omega) (by omega), hmin, h2]
  unfold relW
  have h0 : (0#32 : BitVec 32).toInt = 0 := by decide
  rw [WordCmp.cmpi_slt_eq, hadd, h0, decide_eq_false (by omega)]
  exact hadd

/-- A clamped index word is the index of its distance. -/
theorem clamp_eq_relIx (w : BitVec 32) (d : ℤ) (h : w.toInt = min 128 (max (-128) d) + 128) :
    (⟨min w.toInt.toNat 256, by omega⟩ : Fin 257) = relIx d := by
  refine Fin.ext ?_
  show min w.toInt.toNat 256 = (min 128 (max (-128) d) + 128).toNat
  omega

/-! ## The table lookups -/

variable {α : Type}

/-- The lookup of columns of the table with a rectangle of indices. -/
abbrev rectDims (R C : Nat) (wf : GatherDims.WF ⟨2, ![8, 257]⟩ ⟨3, ![R, C, 1]⟩ ⟨3, ![8, R, C]⟩ [0] [1] [] [1] [] 2 ![8, 1]) :
    GatherDims ⟨2, ![8, 257]⟩ ⟨3, ![R, C, 1]⟩ ⟨3, ![8, R, C]⟩ := ⟨[0], [1], [], [], [1], 2, ![8, 1], wf⟩

/-- The lookup of columns of the table with a line of indices. -/
abbrev lineDims (C : Nat) (wf : GatherDims.WF ⟨2, ![8, 257]⟩ ⟨2, ![C, 1]⟩ ⟨2, ![8, C]⟩ [0] [1] [] [1] [] 1 ![8, 1]) :
    GatherDims ⟨2, ![8, 257]⟩ ⟨2, ![C, 1]⟩ ⟨2, ![8, C]⟩ := ⟨[0], [1], [], [], [1], 1, ![8, 1], wf⟩

/-- The lookup `rel_bias[:, index]` with a rectangle of indices, read at an index. -/
theorem gather_cols_rect_apply {R C : Nat}
    (wf : GatherDims.WF ⟨2, ![8, 257]⟩ ⟨3, ![R, C, 1]⟩ ⟨3, ![8, R, C]⟩ [0] [1] [] [1] [] 2 ![8, 1])
    (x : (⟨2, ![8, 257]⟩ : Shape).Idx → α) (idx : IVec ⟨3, ![R, C, 1]⟩ 32) (h : Fin 8) (r : Fin R) (c : Fin C) :
    Host.gather (rectDims R C wf) x idx (ix3 h r c)
      = x (ix2 h ⟨min (idx (ix3 r c 0)).toInt.toNat 256, by omega⟩) := by
  unfold Host.gather
  congr 1
  funext a
  refine Fin.ext ?_
  match a with
  | ⟨0, _⟩ =>
    show GatherDims.start (rectDims R C wf) (ix3 h r c) idx 0 + GatherDims.batchCoord (rectDims R C wf) (ix3 h r c) 0 + GatherDims.offCoord (rectDims R C wf) (ix3 h r c) 0 = _
    rw [GatherDims.batchCoord_eq_zero _ _ _ List.not_mem_nil]
    unfold GatherDims.start GatherDims.offCoord
    rw [dif_neg (show (0 : Fin 2) ∉ ((rectDims R C wf)).startIndexMap from by simp),
      dif_pos ((GatherDims.mem_sKept _ _).mpr ⟨by simp, by simp⟩)]
    exact Nat.zero_add _
  | ⟨1, _⟩ =>
    show GatherDims.start (rectDims R C wf) (ix3 h r c) idx 1 + GatherDims.batchCoord (rectDims R C wf) (ix3 h r c) 1 + GatherDims.offCoord (rectDims R C wf) (ix3 h r c) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ ((rectDims R C wf)).startIndexMap from List.mem_singleton.mpr rfl)]
    have hsi : ((rectDims R C wf)).siIdx (ix3 h r c) ⟨List.idxOf (1 : Fin 2) ((rectDims R C wf)).startIndexMap,
        List.idxOf_lt_length_iff.2 (List.mem_singleton.mpr rfl)⟩ = ix3 r c 0 := by
      funext b; refine Fin.ext ?_
      match b with
      | ⟨0, _⟩ => rfl
      | ⟨1, _⟩ => rfl
      | ⟨2, _⟩ => rfl
    rw [hsi]
    rfl

/-- The same with a line of indices. -/
theorem gather_cols_line_apply {C : Nat}
    (wf : GatherDims.WF ⟨2, ![8, 257]⟩ ⟨2, ![C, 1]⟩ ⟨2, ![8, C]⟩ [0] [1] [] [1] [] 1 ![8, 1])
    (x : (⟨2, ![8, 257]⟩ : Shape).Idx → α) (idx : IVec ⟨2, ![C, 1]⟩ 32) (h : Fin 8) (c : Fin C) :
    Host.gather (lineDims C wf) x idx (ix2 h c)
      = x (ix2 h ⟨min (idx (ix2 c 0)).toInt.toNat 256, by omega⟩) := by
  unfold Host.gather
  congr 1
  funext a
  refine Fin.ext ?_
  match a with
  | ⟨0, _⟩ =>
    show GatherDims.start (lineDims C wf) (ix2 h c) idx 0 + GatherDims.batchCoord (lineDims C wf) (ix2 h c) 0 + GatherDims.offCoord (lineDims C wf) (ix2 h c) 0 = _
    rw [GatherDims.batchCoord_eq_zero _ _ _ List.not_mem_nil]
    unfold GatherDims.start GatherDims.offCoord
    rw [dif_neg (show (0 : Fin 2) ∉ ((lineDims C wf)).startIndexMap from by simp),
      dif_pos ((GatherDims.mem_sKept _ _).mpr ⟨by simp, by simp⟩)]
    exact Nat.zero_add _
  | ⟨1, _⟩ =>
    show GatherDims.start (lineDims C wf) (ix2 h c) idx 1 + GatherDims.batchCoord (lineDims C wf) (ix2 h c) 1 + GatherDims.offCoord (lineDims C wf) (ix2 h c) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ ((lineDims C wf)).startIndexMap from List.mem_singleton.mpr rfl)]
    have hsi : ((lineDims C wf)).siIdx (ix2 h c) ⟨List.idxOf (1 : Fin 2) ((lineDims C wf)).startIndexMap,
        List.idxOf_lt_length_iff.2 (List.mem_singleton.mpr rfl)⟩ = ix2 c 0 := by
      funext b; refine Fin.ext ?_
      match b with
      | ⟨0, _⟩ => rfl
      | ⟨1, _⟩ => rfl
    rw [hsi]
    rfl

end Cert.Band
-- ==== Proof.BandMath.lean ====
module

public import proofs.«01_k».proof.Proof.BandWords
public import Idealize.ShloMosaic.PureOps.Ideal

/-! # What banded attention computes, and the two ways of writing it

The value of the layer's band attention at the ideal floats: query `s` of head `h` sees key `n` when the key's chunk of
64 positions is the query's own or one of the 8 before it. The reference takes the softmax over all 8192 keys with the
keys outside the band at `-∞`; the kernel takes it over the 768 keys of its window, in base 2, and divides last. -/

@[expose] public section

set_option maxRecDepth 16384

noncomputable section

namespace Cert.Band

open Idealize.ShloMosaic

/-- Key `n` lies in query `s`'s band: its chunk is the query's or one of the 8 chunks before. -/
def inBand (s n : ℕ) : Prop := n / 64 ≤ s / 64 ∧ s / 64 ≤ n / 64 + 8

instance (s n : ℕ) : Decidable (inBand s n) := inferInstanceAs (Decidable (_ ∧ _))

abbrev QKV := (⟨4, ![4, 8192, 8, 128]⟩ : Shape).Idx → EReal
abbrev Tab := (⟨2, ![8, 257]⟩ : Shape).Idx → EReal

/-- The scaled product of query and key with the position bias. -/
def raw (q k : QKV) (rb : Tab) (b : Fin 4) (h : Fin 8) (s n : Fin 8192) : EReal :=
  Ideal.div (∑ d : Fin 128, q (ix4 b s h d) * k (ix4 b n h d)) (Ideal.sqrt (Ideal.ofBits FTy.f32 1124073472#32))
    + rb (ix2 h (relIx ((s : ℤ) - n)))

/-- The logit of key `n` for query `s`: `-∞` outside the band. -/
def logit (q k : QKV) (rb : Tab) (b : Fin 4) (h : Fin 8) (s n : Fin 8192) : EReal :=
  if inBand s n then raw q k rb b h s n else ⊥

/-- The greatest of the logits of all keys. -/
def top {n : ℕ} (x : Fin n → EReal) : EReal := Finset.fold max ⊥ x Finset.univ

/-- The softmax over all keys, the values averaged by it. -/
def softAvg {n : ℕ} (x v : Fin n → EReal) : EReal :=
  ∑ a, v a * Ideal.div (Ideal.exp (x a - top x)) (∑ c, Ideal.exp (x c - top x))

/-- Band attention at batch row `b`, head `h`, query `s`, feature `d`. -/
def attend (q k v : QKV) (rb : Tab) (b : Fin 4) (h : Fin 8) (s : Fin 8192) (d : Fin 128) : EReal :=
  softAvg (logit q k rb b h s) (fun n => v (ix4 b n h d))

/-! ## The mask's words -/

theorem toInt_pos (s : Fin 8192) : (BitVec.ofNat 32 s.val).toInt = s.val :=
  WordArith.toInt_ofNat_small s.val (by omega)

/-- The mask as the reference's words, `k` the chunk's length. -/
abbrev bandW (k s n : BitVec 32) : BitVec 1 :=
  IntOp.andi (IntOp.andi (IntOp.cmpi .sge n 0#32) (IntOp.cmpi .sle (fdivW k n) (fdivW k s)))
    (IntOp.cmpi .sge (fdivW k n) (IntOp.subi (fdivW k s) 8#32))

theorem bandW_eq (s n : Fin 8192) : bandW 64#32 (BitVec.ofNat 32 s.val) (BitVec.ofNat 32 n.val) = BitVec.ofBool (decide (inBand s n)) := by
  have hs := toInt_pos s
  have hn := toInt_pos n
  have h8 : (IntOp.subi (fdivW 64#32 (BitVec.ofNat 32 s.val)) 8#32).toInt = (s.val : ℤ) / 64 - 8 := by
    show (_ - _ : BitVec 32).toInt = _
    have h8 : (8#32 : BitVec 32).toInt = 8 := by decide
    rw [WordArith.toInt_sub_of_bounds _ _ (by rw [fdiv64_toInt, hs]; omega) (by rw [fdiv64_toInt, hs]; omega), fdiv64_toInt, hs, h8]
  have h0 : (0#32 : BitVec 32).toInt = 0 := by decide
  unfold bandW
  rw [WordCmp.cmpi_sge_eq, WordCmp.cmpi_sle_eq, WordCmp.cmpi_sge_eq, h8, fdiv64_toInt, fdiv64_toInt, hs, hn, h0,
    WordCmp.andi_ofBool, WordCmp.andi_ofBool]
  congr 1
  unfold inBand
  rw [← Bool.decide_and, ← Bool.decide_and]
  exact decide_eq_decide.mpr (by omega)

/-- The pattern of `-∞`. -/
theorem ofBits_neg_inf : Ideal.ofBits FTy.f32 4286578688#32 = (⊥ : EReal) := by
  simp [Ideal.ofBits, Ideal.ieee]

/-- A choice by the mask's words. -/
theorem select_band {α : Type} (s n : Fin 8192) (a b : α) :
    Scalar.select (bandW 64#32 (BitVec.ofNat 32 s.val) (BitVec.ofNat 32 n.val)) a b = if inBand s n then a else b := by
  rw [bandW_eq]
  by_cases hb : inBand s n
  · rw [if_pos hb, decide_eq_true hb]; rfl
  · rw [if_neg hb, decide_eq_false hb]; rfl

end Cert.Band
-- ==== Proof.BandSoft.lean ====
module

public import proofs.«01_k».proof.Proof.BandMath

/-! # The softmax over a window is the softmax over all keys

The kernel sees the keys of a window of three blocks of 256, some of them masked to `-∞`; its logits are the reference's
times `1 / log 2`, its exponentials are powers of two, and it divides the weighted sum once, at the end. -/

@[expose] public section

noncomputable section

namespace Cert.Band

open Idealize.ShloMosaic

/-- What the kernel computes of the logits `y` and values `v` of its three blocks. -/
def windowAvg (y v : Fin 3 → Fin 256 → EReal) : EReal :=
  let M := max (max (top (y 0)) (top (y 1))) (top (y 2))
  Ideal.div
    (((∑ j, v 0 j * Ideal.exp2 (y 0 j - M)) + ∑ j, v 1 j * Ideal.exp2 (y 1 j - M)) + ∑ j, v 2 j * Ideal.exp2 (y 2 j - M))
    (((∑ j, Ideal.exp2 (y 0 j - M)) + ∑ j, Ideal.exp2 (y 1 j - M)) + ∑ j, Ideal.exp2 (y 2 j - M))

/-! ## The greatest logit -/

theorem top_le {n : ℕ} (x : Fin n → EReal) (m : EReal) : top x ≤ m ↔ ∀ i, x i ≤ m := by
  unfold top
  rw [Finset.fold_max_le]
  simp

theorem le_top' {n : ℕ} (x : Fin n → EReal) (i : Fin n) : x i ≤ top x := (top_le x _).mp le_rfl i

/-! ## Small facts about the extended reals -/

theorem exp2_scale (a : ℝ) : Ideal.exp2 (((Real.log 2)⁻¹ * a : ℝ) : EReal) = (Real.exp a : ℝ) := by
  show ((Real.rpow 2 ((Real.log 2)⁻¹ * a) : ℝ) : EReal) = _
  have h2 : Real.log 2 ≠ 0 := (Real.log_pos (by norm_num)).ne'
  congr 1
  show (2 : ℝ) ^ ((Real.log 2)⁻¹ * a) = _
  rw [Real.rpow_def_of_pos (by norm_num), ← mul_assoc, mul_inv_cancel₀ h2, one_mul]

theorem sum_mul_coe {ι : Type} (s : Finset ι) (f : ι → EReal) (t : ℝ) (ht : 0 ≤ t) :
    (∑ i ∈ s, f i) * (t : EReal) = ∑ i ∈ s, f i * (t : EReal) := by
  classical
  induction s using Finset.induction_on with
  | empty => simp
  | insert a s ha ih =>
    rw [Finset.sum_insert ha, Finset.sum_insert ha,
      EReal.right_distrib_of_nonneg_of_ne_top (EReal.coe_nonneg.mpr ht) (EReal.coe_ne_top t), ih]

theorem div_coe (x : EReal) (l : ℝ) (hl : 0 < l) : Ideal.div x (l : EReal) = x * ((l⁻¹ : ℝ) : EReal) := by
  unfold Ideal.div
  rw [if_neg (by exact_mod_cast hl.ne'), EReal.coe_inv]

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-! ## The two averages agree -/

section Main

variable (x v : Fin 8192 → EReal) (xr : Fin 8192 → ℝ) (band : Fin 8192 → Prop) [DecidablePred band]
  (y w : Fin 3 → Fin 256 → EReal) (key : Fin 3 → Fin 256 → Fin 8192) (valid : Fin 3 → Fin 256 → Prop)
  [∀ p j, Decidable (valid p j)]

/-- A sum over the window's valid entries is the sum over the keys of the band. -/
theorem sum_window (hinj : ∀ p j p' j', valid p j → valid p' j' → key p j = key p' j' → p = p' ∧ j = j')
    (hband : ∀ p j, valid p j → band (key p j)) (hsurj : ∀ n, band n → ∃ p j, valid p j ∧ key p j = n) (f : Fin 8192 → EReal) :
    ((∑ j, if valid 0 j then f (key 0 j) else 0) + ∑ j, if valid 1 j then f (key 1 j) else 0) + (∑ j, if valid 2 j then f (key 2 j) else 0)
      = ∑ n, if band n then f n else 0 := by
  have h1 : ((∑ j, if valid 0 j then f (key 0 j) else 0) + ∑ j, if valid 1 j then f (key 1 j) else 0) + (∑ j, if valid 2 j then f (key 2 j) else 0)
      = ∑ p : Fin 3, ∑ j, if valid p j then f (key p j) else 0 := by
    rw [Fin.sum_univ_three]
  rw [h1, ← Finset.sum_product', ← Finset.sum_filter, ← Finset.sum_filter]
  refine Finset.sum_nbij (fun a => key a.1 a.2) ?_ ?_ ?_ ?_
  · rintro ⟨p, j⟩ h
    have h' := (Finset.mem_filter.mp h).2
    exact Finset.mem_filter.mpr ⟨Finset.mem_univ _, hband p j h'⟩
  · rintro ⟨p, j⟩ h ⟨p', j'⟩ h' e
    obtain ⟨h2, h3⟩ := hinj p j p' j' (Finset.mem_filter.mp h).2 (Finset.mem_filter.mp h').2 e
    rw [h2, h3]
  · intro n hn
    obtain ⟨p, j, h, e⟩ := hsurj n (Finset.mem_filter.mp hn).2
    exact ⟨(p, j), Finset.mem_coe.mpr (Finset.mem_filter.mpr ⟨Finset.mem_product.mpr ⟨Finset.mem_univ _, Finset.mem_univ _⟩, h⟩), e⟩
  · intro _ _; rfl

theorem window_eq (hx : ∀ n, x n = if band n then (xr n : EReal) else ⊥)
    (hy : ∀ p j, y p j = if valid p j then (((Real.log 2)⁻¹ * xr (key p j) : ℝ) : EReal) else ⊥)
    (hw : ∀ p j, w p j = v (key p j))
    (hinj : ∀ p j p' j', valid p j → valid p' j' → key p j = key p' j' → p = p' ∧ j = j')
    (hband : ∀ p j, valid p j → band (key p j)) (hsurj : ∀ n, band n → ∃ p j, valid p j ∧ key p j = n)
    (hne : ∃ n, band n) : windowAvg y w = softAvg x v := by
  have hL : 0 < (Real.log 2)⁻¹ := inv_pos.mpr (Real.log_pos (by norm_num))
  -- the greatest logit is the greatest of the band's, a real
  obtain ⟨n₀, hn₀, hmax⟩ : ∃ n₀, band n₀ ∧ ∀ n, band n → xr n ≤ xr n₀ := by
    obtain ⟨n, hn⟩ := hne
    obtain ⟨n₀, h1, h2⟩ := Finset.exists_max_image (Finset.univ.filter band) xr ⟨n, Finset.mem_filter.mpr ⟨Finset.mem_univ _, hn⟩⟩
    exact ⟨n₀, (Finset.mem_filter.mp h1).2, fun k hk => h2 k (Finset.mem_filter.mpr ⟨Finset.mem_univ _, hk⟩)⟩
  set m : ℝ := xr n₀ with hm
  have htop : top x = (m : EReal) := by
    refine le_antisymm ((top_le x _).mpr fun n => ?_) ?_
    · rw [hx]; split
      · exact EReal.coe_le_coe_iff.mpr (hmax n ‹_›)
      · exact bot_le
    · have := le_top' x n₀
      rwa [hx, if_pos hn₀] at this
  have hyle : ∀ p j, y p j ≤ (((Real.log 2)⁻¹ * m : ℝ) : EReal) := fun p j => by
    rw [hy]; split
    · exact EReal.coe_le_coe_iff.mpr (mul_le_mul_of_nonneg_left (hmax _ (hband p j ‹_›)) hL.le)
    · exact bot_le
  have htopy : max (max (top (y 0)) (top (y 1))) (top (y 2)) = (((Real.log 2)⁻¹ * m : ℝ) : EReal) := by
    refine le_antisymm (max_le (max_le ((top_le _ _).mpr (hyle 0)) ((top_le _ _).mpr (hyle 1))) ((top_le _ _).mpr (hyle 2))) ?_
    obtain ⟨p, j, hv, he⟩ := hsurj n₀ hn₀
    have h1 : (((Real.log 2)⁻¹ * m : ℝ) : EReal) = y p j := by rw [hy, if_pos hv, he]
    rw [h1]
    have h2 := le_top' (y p) j
    match p, h2 with
    | 0, h2 => exact h2.trans ((le_max_left _ _).trans (le_max_left _ _))
    | 1, h2 => exact h2.trans ((le_max_right _ _).trans (le_max_left _ _))
    | 2, h2 => exact h2.trans (le_max_right _ _)
  -- the exponentials
  have hex : ∀ n, Ideal.exp (x n - m) = if band n then ((Real.exp (xr n - m) : ℝ) : EReal) else 0 := fun n => by
    rw [hx]; split
    · rw [← EReal.coe_sub]; rfl
    · rw [EReal.bot_sub]; rfl
  have hey : ∀ p j, Ideal.exp2 (y p j - (((Real.log 2)⁻¹ * m : ℝ) : EReal))
      = if valid p j then ((Real.exp (xr (key p j) - m) : ℝ) : EReal) else 0 := fun p j => by
    rw [hy]; split
    · rw [← EReal.coe_sub, ← mul_sub, exp2_scale]
    · rw [EReal.bot_sub]; rfl
  -- the sums
  set l : ℝ := ∑ n, if band n then Real.exp (xr n - m) else 0 with hl
  have hlpos : 0 < l := by
    refine Finset.sum_pos' (fun n _ => ?_) ⟨n₀, Finset.mem_univ _, ?_⟩
    · split
      · exact (Real.exp_pos _).le
      · exact le_rfl
    · rw [if_pos hn₀]; exact Real.exp_pos _
  have hsum : (∑ n, if band n then ((Real.exp (xr n - m) : ℝ) : EReal) else 0) = (l : EReal) := by
    rw [hl, ← coe_sum]
    refine Finset.sum_congr rfl fun n _ => ?_
    split <;> rfl
  have hden := (sum_window band key valid hinj hband hsurj (fun n => ((Real.exp (xr n - m) : ℝ) : EReal))).trans hsum
  have hnum := sum_window band key valid hinj hband hsurj (fun n => v n * ((Real.exp (xr n - m) : ℝ) : EReal))
  have hpush : ∀ (P : Prop) [Decidable P] (a e : EReal), a * (if P then e else 0) = if P then a * e else 0 := fun P _ a e => by
    split
    · rfl
    · exact mul_zero a
  unfold windowAvg softAvg
  simp only [htopy, htop, hex, hey, hw, hden, hsum, hpush, hnum]
  rw [div_coe _ _ hlpos, sum_mul_coe _ _ _ (inv_nonneg.mpr hlpos.le)]
  refine Finset.sum_congr rfl fun n _ => ?_
  rw [div_coe _ _ hlpos]
  split
  · rw [mul_assoc]
  · rw [zero_mul, mul_zero]

end Main

end Cert.Band
-- ==== Proof.BandBlock.lean ====
/- The block the body leaves at one grid point, read at an index: for each head the average of the window's values by base-2
   weights. -/
module

public import proofs.«01_k».proof.Proof.BandHead
public import proofs.«01_k».proof.Proof.BandSoft
public import Idealize.ShloMosaic.Lib.Pointwise
public import Idealize.ShloMosaic.Lib.Claim

@[expose] public section

set_option maxRecDepth 16384

noncomputable section

namespace Cert.BandHead

open Cert.KernelIdeal Cert.KernelIdeal.Gen Idealize.ShloMosaic Idealize.ShloMosaic.TcCoe Idealize.SL.Sem Cert.Band

theorem named_scale : (Named.named κ "scale_log2e" 0x3E0293EE#32 : Ideal .f32) = (((Real.sqrt 128)⁻¹ * (Real.log 2)⁻¹ : ℝ) : EReal) := by
  rfl

theorem score_apply (k q : Vec Ideal S1x256x128 .bf16) (b : Vec Ideal S1x1x256x256 .f32) (j r : Fin 256) :
    score k q b (ix2 j r) = (∑ d : Fin 128, k (ix3 0 j d) * q (ix3 0 r d)) * (((Real.sqrt 128)⁻¹ * (Real.log 2)⁻¹ : ℝ) : EReal) + b (ix4 0 0 j r) := by
  rw [← named_scale]
  unfold score
  pointwise

theorem colTop_apply (s : FVec Ideal S256x256 .f32) (r : Fin 256) : colTop s (ix2 0 r) = top fun j : Fin 256 => s (ix2 j r) := by
  unfold colTop
  pointwise
  rw [ofBits_neg_inf]
  rfl

theorem colSum_apply (s : FVec Ideal S256x256 .f32) (r : Fin 256) : colSum s (ix2 0 r) = ∑ j : Fin 256, s (ix2 j r) := by
  unfold colSum
  pointwise

theorem weight_apply (s : FVec Ideal S256x256 .f32) (t : FVec Ideal S1x256 .f32) (j r : Fin 256) :
    weight s t (ix2 j r) = Ideal.exp2 (s (ix2 j r) - t (ix2 0 r)) := by
  unfold weight
  pointwise
  rfl

theorem mix_apply (v : Vec Ideal S1x256x128 .bf16) (p : FVec Ideal S256x256 .f32) (d : Fin 128) (r : Fin 256) :
    mix v p (ix2 d r) = ∑ j : Fin 256, v (ix3 0 j d) * p (ix2 j r) := by
  unfold mix
  pointwise

/-- A head's output from its scores, at an index. -/
theorem fromScores_apply (s0 s1 s2 : FVec Ideal S256x256 .f32) (v0 v1 v2 : Vec Ideal S1x256x128 .bf16) (r : Fin 256) (d : Fin 128) :
    fromScores s0 s1 s2 v0 v1 v2 (ix3 0 r d)
      = windowAvg ![fun j => s0 (ix2 j r), fun j => s1 (ix2 j r), fun j => s2 (ix2 j r)]
          ![fun j => v0 (ix3 0 j d), fun j => v1 (ix3 0 j d), fun j => v2 (ix3 0 j d)] := by
  have ht : maximumf (maximumf (colTop s0) (colTop s1)) (colTop s2) (ix2 0 r)
      = max (max (top fun j => s0 (ix2 j r)) (top fun j => s1 (ix2 j r))) (top fun j => s2 (ix2 j r)) := by
    pointwise
    rw [colTop_apply, colTop_apply, colTop_apply]
  unfold fromScores
  pointwise
  simp only [mix_apply, colSum_apply, weight_apply, ht]
  rfl

/-! ## The body's block at an index -/

variable (x0 x1 x2 x3 x4 x5 x6 : Vec Ideal S1x256x1024 .bf16) (x7 : Vec Ideal S1x8x768x256 .f32)

/-- Feature `d` of head `h` among the 1024 columns. -/
def col (h : Fin 8) (d : Fin 128) : Fin 1024 := ⟨128 * h.val + d.val, by omega⟩

/-- Key `j` of block `p` among the 768 rows of the bias. -/
def row (p : Fin 3) (j : Fin 256) : Fin 768 := ⟨256 * p.val + j.val, by omega⟩

/-- The window's scores of query `r` in head `h`. -/
def winScore (h : Fin 8) (r : Fin 256) (p : Fin 3) (j : Fin 256) : EReal :=
  (∑ d : Fin 128, (![x1, x2, x3] p) (ix3 0 j (col h d)) * x0 (ix3 0 r (col h d))) * (((Real.sqrt 128)⁻¹ * (Real.log 2)⁻¹ : ℝ) : EReal)
    + x7 (ix4 0 h (row p j) r)

/-- The output block at query `r`, head `h`, feature `d`. -/
def blockOut (h : Fin 8) (r : Fin 256) (d : Fin 128) : EReal :=
  windowAvg (winScore x0 x1 x2 x3 x7 h r) fun p j => (![x4, x5, x6] p) (ix3 0 j (col h d))

/-- The output block as one function of its index. -/
def blockFn : S1x256x1024.Idx → EReal := fun i =>
  blockOut x0 x1 x2 x3 x4 x5 x6 x7 ⟨(i 2).val / 128, by have : (i 2).val < 1024 := (i 2).isLt; omega⟩ (i 1) ⟨(i 2).val % 128, by omega⟩

theorem ld_col (x : Vec Ideal S1x256x1024 .bf16) (h : Fin 8) (o : ℕ) (ho : o = 128 * h.val) (inb) (j : Fin 256) (d : Fin 128) :
    View.ld x (Rect.unit (s := S1x256x1024) ![0, 0, o] S1x256x128.size inb) (ix3 0 j d) = x (ix3 0 j (col h d)) := by
  subst ho
  show x _ = x _
  congr 1
  funext a
  refine Fin.ext ?_
  fin_cases a
  · rfl
  · show 0 + 1 * j.val = j.val
    omega
  · show 128 * h.val + 1 * d.val = 128 * h.val + d.val
    omega

theorem ld_bias (h : Fin 8) (p : Fin 3) (g o : ℕ) (hg : g = h.val) (ho : o = 256 * p.val) (inb) (j r : Fin 256) :
    View.ld x7 (Rect.unit (s := S1x8x768x256) ![0, g, o, 0] S1x1x256x256.size inb) (ix4 0 0 j r) = x7 (ix4 0 h (row p j) r) := by
  subst hg ho
  show x7 _ = x7 _
  congr 1
  funext a
  refine Fin.ext ?_
  fin_cases a
  · rfl
  · show h.val + 1 * 0 = h.val
    omega
  · show 256 * p.val + 1 * j.val = 256 * p.val + j.val
    omega
  · show 0 + 1 * r.val = r.val
    omega

/-- One store's value is the block's function on the store's rectangle. -/
theorem piece_eq (h : Fin 8) (o g : ℕ) (ho : o = 128 * h.val) (hg : g = h.val) (inb ib0 ib1 ib2) (x : S1x256x128.Idx) :
    headOut (View.ld x0 (Rect.unit (s := S1x256x1024) ![0, 0, o] S1x256x128.size inb))
      (View.ld x1 (Rect.unit (s := S1x256x1024) ![0, 0, o] S1x256x128.size inb))
      (View.ld x2 (Rect.unit (s := S1x256x1024) ![0, 0, o] S1x256x128.size inb))
      (View.ld x3 (Rect.unit (s := S1x256x1024) ![0, 0, o] S1x256x128.size inb))
      (View.ld x4 (Rect.unit (s := S1x256x1024) ![0, 0, o] S1x256x128.size inb))
      (View.ld x5 (Rect.unit (s := S1x256x1024) ![0, 0, o] S1x256x128.size inb))
      (View.ld x6 (Rect.unit (s := S1x256x1024) ![0, 0, o] S1x256x128.size inb))
      (View.ld x7 (Rect.unit (s := S1x8x768x256) ![0, g, 0, 0] S1x1x256x256.size ib0))
      (View.ld x7 (Rect.unit (s := S1x8x768x256) ![0, g, 256, 0] S1x1x256x256.size ib1))
      (View.ld x7 (Rect.unit (s := S1x8x768x256) ![0, g, 512, 0] S1x1x256x256.size ib2)) x
      = blockFn x0 x1 x2 x3 x4 x5 x6 x7 ((Rect.unit (s := S1x256x1024) ![0, 0, o] S1x256x128.size inb).emb x) := by
  obtain ⟨z, r, d, rfl⟩ : ∃ (z : Fin 1) (r : Fin 256) (d : Fin 128), x = ix3 z r d := ⟨x 0, x 1, x 2, by funext a; fin_cases a <;> rfl⟩
  obtain rfl : z = 0 := Subsingleton.elim _ _
  have hR : blockFn x0 x1 x2 x3 x4 x5 x6 x7 ((Rect.unit (s := S1x256x1024) ![0, 0, o] S1x256x128.size inb).emb (ix3 0 r d))
      = blockOut x0 x1 x2 x3 x4 x5 x6 x7 h r d := by
    unfold blockFn
    have e2 : (((Rect.unit (s := S1x256x1024) ![0, 0, o] S1x256x128.size inb).emb (ix3 0 r d)) 2).val = 128 * h.val + d.val := by
      subst ho
      show 128 * h.val + 1 * d.val = _
      omega
    congr 1
    · refine Fin.ext ?_
      show _ / 128 = _
      rw [e2]
      omega
    · refine Fin.ext ?_
      show 0 + 1 * r.val = _
      omega
    · refine Fin.ext ?_
      show _ % 128 = _
      rw [e2]
      omega
  rw [hR]
  unfold headOut
  rw [fromScores_apply]
  unfold blockOut
  congr 1
  · funext p j
    unfold winScore
    fin_cases p
    · refine (score_apply _ _ _ _ _).trans ?_
      exact congrArg₂ (· + ·) (congrArg (· * _) (Finset.sum_congr rfl fun d _ => congrArg₂ (· * ·) (ld_col _ h o ho _ _ _) (ld_col _ h o ho _ _ _)))
        (ld_bias x7 h 0 g 0 hg rfl _ _ _)
    · refine (score_apply _ _ _ _ _).trans ?_
      exact congrArg₂ (· + ·) (congrArg (· * _) (Finset.sum_congr rfl fun d _ => congrArg₂ (· * ·) (ld_col _ h o ho _ _ _) (ld_col _ h o ho _ _ _)))
        (ld_bias x7 h 1 g 256 hg rfl _ _ _)
    · refine (score_apply _ _ _ _ _).trans ?_
      exact congrArg₂ (· + ·) (congrArg (· * _) (Finset.sum_congr rfl fun d _ => congrArg₂ (· * ·) (ld_col _ h o ho _ _ _) (ld_col _ h o ho _ _ _)))
        (ld_bias x7 h 2 g 512 hg rfl _ _ _)
  · funext p j
    fin_cases p <;> exact ld_col _ h o ho _ _ _

/-- What the body leaves in the output's buffer, at an index. -/
theorem out_apply (y : S1x256x1024.Idx) : out0_8 x0 x1 x2 x3 x4 x5 x6 x7 y = blockFn x0 x1 x2 x3 x4 x5 x6 x7 y := by
  rw [out_eq]
  refine View.canon_apply_of_pieces (Val := Elt Ideal) (e := .bf16) (blockFn x0 x1 x2 x3 x4 x5 x6 x7) _ ?_ y (cover0_8 _ _ _ _ _ _ _ _ y)
  intro p hp
  simp only [List.mem_cons, List.not_mem_nil, or_false] at hp
  rcases hp with rfl | rfl | rfl | rfl | rfl | rfl | rfl | rfl
  · exact piece_eq x0 x1 x2 x3 x4 x5 x6 x7 7 896 7 rfl rfl _ _ _ _
  · exact piece_eq x0 x1 x2 x3 x4 x5 x6 x7 6 768 6 rfl rfl _ _ _ _
  · exact piece_eq x0 x1 x2 x3 x4 x5 x6 x7 5 640 5 rfl rfl _ _ _ _
  · exact piece_eq x0 x1 x2 x3 x4 x5 x6 x7 4 512 4 rfl rfl _ _ _ _
  · exact piece_eq x0 x1 x2 x3 x4 x5 x6 x7 3 384 3 rfl rfl _ _ _ _
  · exact piece_eq x0 x1 x2 x3 x4 x5 x6 x7 2 256 2 rfl rfl _ _ _ _
  · exact piece_eq x0 x1 x2 x3 x4 x5 x6 x7 1 128 1 rfl rfl _ _ _ _
  · exact piece_eq x0 x1 x2 x3 x4 x5 x6 x7 0 0 0 rfl rfl _ _ _ _

end Cert.BandHead
-- ==== Proof.BandHost.lean ====
/- What the windows of the kernel are staged from: the queries, the keys and values side by side, and the bias of the band in
   its three variants, each read at an index as a function of the arguments. -/
module

public import proofs.«01_k».proof.Proof.Gen.KernelIdeal.Frame
public import proofs.«01_k».proof.Proof.BandMath
public import Idealize.ShloMosaic.Lib.Pointwise
public import Idealize.ShloMosaic.Lib.Claim
public import Idealize.ShloMosaic.Lib.StableHlo.ReadAt

@[expose] public section

set_option maxRecDepth 16384

noncomputable section

namespace Cert.BandHost

open Cert.KernelIdeal Cert.KernelIdeal.Gen Idealize.ShloMosaic Idealize.ShloMosaic.TcCoe Idealize.SL.Sem Cert.Band

abbrev lineC : List (HloOp τ sig (Elt Ideal)) :=
  hostOps0_4 ++ (hostOps0_5 ++ (hostOps0_6 ++ (hostOps0_7 ++ (hostOps0_8 ++ (hostOps0_9 ++ hostOps0_10)))))

/-- The three variants of the bias stacked. -/
def tiles (a b c : FVec Ideal S1x8x768x256 .f32) : FVec Ideal S3x8x768x256 .f32 :=
  concatenate S3x8x768x256 0 [⟨S1x8x768x256, a⟩, ⟨S1x8x768x256, b⟩, ⟨S1x8x768x256, c⟩]
    concatenates_S1x8x768x256_S1x8x768x256_S1x8x768x256_S3x8x768x256_d0

/-- What the buffers hold before a part of the host's line. -/
abbrev Buffers := (b : DevRef τ sig) → b.ty.Contents (Elt Ideal)

variable (W : Buffers)

theorem tiles_of (x y z : FVec Ideal S1x8x768x256 .f32) (f : Fin 3 → EReal) (w : Fin 3) (h : Fin 8) (k : Fin 768) (r : Fin 256)
    (h0 : x (ix4 0 h k r) = f 0) (h1 : y (ix4 0 h k r) = f 1) (h2 : z (ix4 0 h k r) = f 2) : tiles x y z (ix4 w h k r) = f w := by
  unfold tiles
  fin_cases w <;> pointwise <;> assumption

abbrev okW (dk dq k lo : BitVec 32) : BitVec 1 :=
  IntOp.andi (IntOp.andi (IntOp.andi (IntOp.cmpi .sle dk dq) (IntOp.cmpi .sge dk (IntOp.subi dq 8#32))) (IntOp.cmpi .slt k 768#32))
    (IntOp.cmpi .sge k lo)

theorem tile61 (h : Fin 8) (k : Fin 768) (r : Fin 256) :
    StableHlo.after lineC W (Proc.devRef .tc main_v61) (ix4 0 h k r)
      = Scalar.select (okW (W (Proc.devRef .tc main_v29) (ix2 k 0)) (W (Proc.devRef .tc main_v26) (ix2 0 r)) (W (Proc.devRef .tc main_v23) (ix2 k 0)) 512#32)
          (W (Proc.devRef .tc main_v21) (ix3 h k r)) (Ideal.ofBits FTy.f32 4286578688#32) := by
  after_reads_simp
  simp -implicitDefEqProofs only [StableHlo.TRef.toBuf, StableHlo.TRef.ofBuf, cast_cast, cast_eq]
  clean_types
  pointwise
  rfl

theorem tile62 (h : Fin 8) (k : Fin 768) (r : Fin 256) :
    StableHlo.after lineC W (Proc.devRef .tc main_v62) (ix4 0 h k r)
      = Scalar.select (okW (W (Proc.devRef .tc main_v29) (ix2 k 0)) (W (Proc.devRef .tc main_v26) (ix2 0 r)) (W (Proc.devRef .tc main_v23) (ix2 k 0)) 256#32)
          (W (Proc.devRef .tc main_v21) (ix3 h k r)) (Ideal.ofBits FTy.f32 4286578688#32) := by
  after_reads_simp
  simp -implicitDefEqProofs only [StableHlo.TRef.toBuf, StableHlo.TRef.ofBuf, cast_cast, cast_eq]
  clean_types
  pointwise
  rfl

theorem tile63 (h : Fin 8) (k : Fin 768) (r : Fin 256) :
    StableHlo.after lineC W (Proc.devRef .tc main_v63) (ix4 0 h k r)
      = Scalar.select (okW (W (Proc.devRef .tc main_v29) (ix2 k 0)) (W (Proc.devRef .tc main_v26) (ix2 0 r)) (W (Proc.devRef .tc main_v23) (ix2 k 0)) 0#32)
          (W (Proc.devRef .tc main_v21) (ix3 h k r)) (Ideal.ofBits FTy.f32 4286578688#32) := by
  after_reads_simp
  simp -implicitDefEqProofs only [StableHlo.TRef.toBuf, StableHlo.TRef.ofBuf, cast_cast, cast_eq]
  clean_types
  pointwise
  rfl

theorem bias_eq : StableHlo.after lineC W (Proc.devRef .tc main_v64) = tiles (StableHlo.after lineC W (Proc.devRef .tc main_v61))
   (StableHlo.after lineC W (Proc.devRef .tc main_v62)) (StableHlo.after lineC W (Proc.devRef .tc main_v63)) := by
  after_reads_simp
  rfl

abbrev lineB : List (HloOp τ sig (Elt Ideal)) := hostOps0_1 ++ (hostOps0_2 ++ hostOps0_3)

theorem b29 (k : Fin 768) : StableHlo.after lineB W (Proc.devRef .tc main_v29) (ix2 k 0) =
    fdivW 64#32 (IntOp.subi (W (Proc.devRef .tc main_v23) (ix2 k 0)) 512#32) := by
  after_reads_at
  rfl
theorem b26 (hc : W (Proc.devRef .tc main_c_3) ix0 = 64#32) (r : Fin 256) : StableHlo.after lineB W (Proc.devRef .tc main_v26) (ix2 0 r) =
    fdivW 64#32 (W (Proc.devRef .tc main_v25) (ix2 0 r)) := by
  after_reads_at
  simp only [id, hc]
theorem b23 (k : Fin 768) : StableHlo.after lineB W (Proc.devRef .tc main_v23) (ix2 k 0) = W (Proc.devRef .tc main_v23) (ix2 k 0) := by
  after_reads_at
theorem b21  (h : Fin 8) (k : Fin 768) (r : Fin 256) : StableHlo.after lineB W (Proc.devRef .tc main_v21) (ix3 h k r) = W (Proc.devRef .tc main_v21) (ix3 h k r) := by
  after_reads_at
theorem a23 (k : Fin 768) : StableHlo.after hostOps0 W (Proc.devRef .tc main_v23) (ix2 k 0) = BitVec.ofNat 32 k := by
  after_reads_at
theorem a25 (k : Fin 256) : StableHlo.after hostOps0 W (Proc.devRef .tc main_v25) (ix2 0 k) = BitVec.ofNat 32 k := by
  after_reads_at

theorem ac3 : StableHlo.after hostOps0 W (Proc.devRef .tc main_c_3) ix0 = 64#32 := by
  after_reads_at

theorem lit0_toInt : ∀ e : Fin 1024, (lit0 e).toInt = min 128 (max (-128) (512 - (if e.val ≤ 768 then (e.val : ℤ) else e.val - 1024))) + 128 := by
  decide +kernel

/-- The table at a distance, in base-2 units. -/
def tabE (rb : Tab) (h : Fin 8) (d : ℤ) : EReal := rb (ix2 h (relIx d)) * Ideal.div 1 (Ideal.log (Ideal.ofBits FTy.f32 1073741824#32))

theorem a21  (h : Fin 8) (k : Fin 768) (r : Fin 256) : StableHlo.after hostOps0 W (Proc.devRef .tc main_v21) (ix3 h k r)
     = tabE (W (Proc.devRef .tc main_arg3)) h (512 + r - k) := by
  after_reads_at
  unfold tabE
  congr 1
  refine (gather_cols_line_apply _ _ _ _ _).trans ?_
  congr 2
  apply clamp_eq_relIx
  pointwise
  have he : S1024.rowMajor (ix1 ⟨(r.val * 1023 + k.val) % 1024, Nat.mod_lt _ (by decide)⟩) = (⟨(r.val * 1023 + k.val) % 1024, Nat.mod_lt _ (by decide)⟩ : Fin 1024) :=
    Fin.ext (Shape.rowMajor_val_one _)
  refine (congrArg (fun e : Fin 1024 => (lit0 e).toInt) he).trans ?_
  rw [lit0_toInt]
  congr 1
  by_cases hkr : r.val ≤ k.val
  · have e1 : (r.val * 1023 + k.val) % 1024 = k.val - r.val := by omega
    simp only [e1]
    rw [if_pos (by omega)]
    omega
  · have e1 : (r.val * 1023 + k.val) % 1024 = 1024 + k.val - r.val := by omega
    simp only [e1]
    rw [if_neg (by omega)]
    omega

/-- An entry of the bias: inside the band, and not before the first row. -/
def tileOk (w : Fin 3) (k : Fin 768) (r : Fin 256) : Prop := k.val / 64 ≤ r.val / 64 + 8 ∧ r.val / 64 ≤ k.val / 64 ∧ 512 ≤ k.val + 256 * w.val

instance (w : Fin 3) (k : Fin 768) (r : Fin 256) : Decidable (tileOk w k r) := inferInstanceAs (Decidable (_ ∧ _))

theorem okW_eq (w : Fin 3) (k : Fin 768) (r : Fin 256) :
    okW (fdivW 64#32 (IntOp.subi (BitVec.ofNat 32 k) 512#32)) (fdivW 64#32 (BitVec.ofNat 32 r)) (BitVec.ofNat 32 k) (![512#32, 256#32, 0#32] w)
      = BitVec.ofBool (decide (tileOk w k r)) := by
  have hk : (BitVec.ofNat 32 k.val).toInt = k.val := WordArith.toInt_ofNat_small k.val (by omega)
  have hr : (BitVec.ofNat 32 r.val).toInt = r.val := WordArith.toInt_ofNat_small r.val (by omega)
  have h8 : (8#32 : BitVec 32).toInt = 8 := by decide
  have h512 : (512#32 : BitVec 32).toInt = 512 := by decide
  have h768 : (768#32 : BitVec 32).toInt = 768 := by decide
  have e1 : (IntOp.subi (BitVec.ofNat 32 k) 512#32).toInt = (k.val : ℤ) - 512 := by
    show (_ - _ : BitVec 32).toInt = _
    rw [WordArith.toInt_sub_of_bounds _ _ (by rw [hk]; omega) (by rw [hk]; omega), hk, h512]
  have e2 : (IntOp.subi (fdivW 64#32 (BitVec.ofNat 32 r.val)) 8#32).toInt = (r.val : ℤ) / 64 - 8 := by
    show (_ - _ : BitVec 32).toInt = _
    rw [WordArith.toInt_sub_of_bounds _ _ (by rw [fdiv64_toInt, hr]; omega) (by rw [fdiv64_toInt, hr]; omega), fdiv64_toInt, hr, h8]
  have e3 : (![512#32, 256#32, 0#32] w : BitVec 32).toInt = 512 - 256 * (w.val : ℤ) := by
    revert w; decide
  unfold okW
  rw [WordCmp.cmpi_sle_eq, WordCmp.cmpi_sge_eq, WordCmp.cmpi_slt_eq, WordCmp.cmpi_sge_eq, e2, fdiv64_toInt, fdiv64_toInt, e1, hr, hk, h768, e3,
    WordCmp.andi_ofBool, WordCmp.andi_ofBool, WordCmp.andi_ofBool]
  congr 1
  unfold tileOk
  rw [← Bool.decide_and, ← Bool.decide_and, ← Bool.decide_and]
  exact decide_eq_decide.mpr (by omega)

theorem select_of {α : Type} (p : Prop) [Decidable p] (x y : α) : Scalar.select (BitVec.ofBool (decide p)) x y = if p then x else y := by
  by_cases hb : p
  · rw [if_pos hb, decide_eq_true hb]; rfl
  · rw [if_neg hb, decide_eq_false hb]; rfl

theorem after_append (l₁ l₂ : List (HloOp τ sig (Elt Ideal))) (V : Buffers) : StableHlo.after (l₁ ++ l₂) V = StableHlo.after l₂ (StableHlo.after l₁ V) := by
  induction l₁ generalizing V with
  | nil => rfl
  | cons op l ih => exact ih _

variable (m : (ℓ : Loc nD τ sig) → Buf (Elt Ideal) ℓ)

theorem bias_apply (c : Dev nD) (w : Fin 3) (h : Fin 8) (k : Fin 768) (r : Fin 256) :
    V m c main_v64 (ix4 w h k r) = (if tileOk w k r then
      tabE (m (c.tc.loc main_arg3)) h (512 + r - k) else ⊥) := by
  have hV : V m c main_v64 = StableHlo.after lineC (StableHlo.after lineB (StableHlo.after hostOps0 (fun b => m (c, b)))) (Proc.devRef .tc main_v64) := by
    rw [← after_append, ← after_append]
    simp only [List.append_assoc]
    show StableHlo.after (hostOps0 ++ (hostOps0_1 ++ (hostOps0_2 ++ (hostOps0_3 ++ (hostOps0_4 ++ (hostOps0_5 ++ (hostOps0_6 ++ (hostOps0_7 ++ (hostOps0_8 ++ (hostOps0_9 ++ (hostOps0_10 ++ []))))))))))) _ _ = _
    rw [List.append_nil]
  rw [hV, bias_eq]
  generalize hW : StableHlo.after lineB (StableHlo.after hostOps0 (fun b => m (c, b))) = W
  have h21 : W (Proc.devRef .tc main_v21) (ix3 h k r) = tabE (m (c.tc.loc main_arg3)) h (512 + r - k) := by rw [← hW, b21, a21]
  have h23 : W (Proc.devRef .tc main_v23) (ix2 k 0) = BitVec.ofNat 32 k := by rw [← hW, b23, a23]
  have h26 : W (Proc.devRef .tc main_v26) (ix2 0 r) = fdivW 64#32 (BitVec.ofNat 32 r) := by rw [← hW, b26 _ (ac3 _), a25]
  have h29 : W (Proc.devRef .tc main_v29) (ix2 k 0) = fdivW 64#32 (IntOp.subi (BitVec.ofNat 32 k) 512#32) := by rw [← hW, b29, a23]
  have h61 := tile61 W h k r
  have h62 := tile62 W h k r
  have h63 := tile63 W h k r
  rw [h21, h23, h26, h29, ofBits_neg_inf] at h61 h62 h63
  generalize tabE (m (c.tc.loc main_arg3)) h (512 + r - k) = T at h61 h62 h63 ⊢
  refine (tiles_of _ _ _ (fun w => Scalar.select (okW (fdivW 64#32 (IntOp.subi (BitVec.ofNat 32 k) 512#32)) (fdivW 64#32 (BitVec.ofNat 32 r)) (BitVec.ofNat 32 k) (![512#32, 256#32, 0#32] w)) T ⊥) w h k r h61 h62 h63).trans ?_
  rw [okW_eq]
  exact select_of _ _ _

abbrev hostLine : List (HloOp τ sig (Elt Ideal)) :=
  hostOps0 ++ (hostOps0_1 ++ (hostOps0_2 ++ (hostOps0_3 ++ (hostOps0_4 ++ (hostOps0_5 ++ (hostOps0_6 ++ (hostOps0_7 ++ (hostOps0_8 ++ (hostOps0_9 ++ (hostOps0_10 ++ []))))))))))

theorem q_apply (c : Dev nD) (b : Fin 4) (s : Fin 8192) (e : Fin 1024) :
    V m c main_v1 (ix3 b s e) = m (c.tc.loc main_arg0) (ix4 b s ⟨e / 128, by omega⟩ ⟨e % 128, by omega⟩) := by
  show StableHlo.after hostLine (fun b => m (c, b)) (Proc.devRef .tc main_v1) (ix3 b s e) = _
  after_reads_simp
  clean_types
  pointwise

/-- Keys and values side by side. -/
def joined (a b : FVec Ideal S4x8192x1024 .bf16) : FVec Ideal S4x8192x2048 .bf16 :=
  concatenate S4x8192x2048 2 [⟨S4x8192x1024, a⟩, ⟨S4x8192x1024, b⟩] concatenates_S4x8192x1024_S4x8192x1024_S4x8192x2048_d2

theorem joined_left (x y : FVec Ideal S4x8192x1024 .bf16) (b : Fin 4) (s : Fin 8192) (e : Fin 1024) :
    joined x y (ix3 b s ⟨e, by omega⟩) = x (ix3 b s e) := by
  unfold joined
  pointwise

theorem joined_right (x y : FVec Ideal S4x8192x1024 .bf16) (b : Fin 4) (s : Fin 8192) (e : Fin 1024) :
    joined x y (ix3 b s ⟨1024 + e, by omega⟩) = y (ix3 b s e) := by
  unfold joined
  pointwise

theorem kv_eq (c : Dev nD) : V m c main_v5 = joined (V m c main_v2) (V m c main_v3) := by
  have h (r) : V m c r = StableHlo.after hostLine (fun b => m (c, b)) (Proc.devRef .tc r) := rfl
  rw [h, h, h]
  after_reads_simp
  show joined (StableHlo.upto hostLine (fun b => m (c, b)) 6 (Proc.devRef .tc main_v2)) (StableHlo.upto hostLine (fun b => m (c, b)) 6 (Proc.devRef .tc main_v3)) = _
  after_reads_simp

theorem k_apply (c : Dev nD) (b : Fin 4) (s : Fin 8192) (e : Fin 1024) :
    V m c main_v5 (ix3 b s ⟨e, by omega⟩) = m (c.tc.loc main_arg1) (ix4 b s ⟨e / 128, by omega⟩ ⟨e % 128, by omega⟩) := by
  rw [kv_eq, joined_left]
  show StableHlo.after hostLine (fun b => m (c, b)) (Proc.devRef .tc main_v2) (ix3 b s e) = _
  after_reads_simp
  clean_types
  pointwise

theorem v_apply (c : Dev nD) (b : Fin 4) (s : Fin 8192) (e : Fin 1024) :
    V m c main_v5 (ix3 b s ⟨1024 + e, by omega⟩) = m (c.tc.loc main_arg2) (ix4 b s ⟨e / 128, by omega⟩ ⟨e % 128, by omega⟩) := by
  rw [kv_eq, joined_right]
  show StableHlo.after hostLine (fun b => m (c, b)) (Proc.devRef .tc main_v3) (ix3 b s e) = _
  after_reads_simp
  clean_types
  pointwise

end Cert.BandHost
-- ==== Proof.BandCore.lean ====
/- One block of the kernel's output is the band attention of its queries: the scores of the window are the logits times
   1/log 2, the entries the bias masks are the keys outside the band, and every key of the band is in the window once. -/
module

public import proofs.«01_k».proof.Proof.BandBlock
public import proofs.«01_k».proof.Proof.BandHost

@[expose] public section

set_option maxRecDepth 16384

noncomputable section

namespace Cert.BandCore

open Cert.KernelIdeal Cert.KernelIdeal.Gen Idealize.ShloMosaic Cert.Band Cert.BandHead Cert.BandHost

theorem ofBits_128 : Ideal.ofBits FTy.f32 1124073472#32 = ((128 : ℝ) : EReal) := by
  have h : ((8388608 : ℝ) : EReal) * (((2 ^ 16)⁻¹ : ℝ) : EReal) = ((128 : ℝ) : EReal) := by
    rw [← EReal.coe_mul]
    norm_num
  simpa [Ideal.ofBits, Ideal.ieee] using h

theorem ofBits_2 : Ideal.ofBits FTy.f32 1073741824#32 = ((2 : ℝ) : EReal) := by
  have h : ((8388608 : ℝ) : EReal) * (((2 ^ 22)⁻¹ : ℝ) : EReal) = ((2 : ℝ) : EReal) := by
    rw [← EReal.coe_mul]
    norm_num
  simpa [Ideal.ofBits, Ideal.ieee] using h

theorem sqrt_128 : Ideal.sqrt (Ideal.ofBits FTy.f32 1124073472#32) = ((Real.sqrt 128 : ℝ) : EReal) := by
  rw [ofBits_128]
  show (if (128 : ℝ) < 0 then (⊥ : EReal) else _) = _
  rw [if_neg (by norm_num)]

theorem log_2 : Ideal.log (Ideal.ofBits FTy.f32 1073741824#32) = ((Real.log 2 : ℝ) : EReal) := by
  rw [ofBits_2]
  show (if (2 : ℝ) ≤ 0 then (⊥ : EReal) else _) = _
  rw [if_neg (by norm_num)]

theorem div_real (x y : ℝ) (hy : 0 < y) : Ideal.div (x : EReal) (y : EReal) = ((x * y⁻¹ : ℝ) : EReal) := by
  unfold Ideal.div
  rw [if_neg (by simpa using hy.ne'), ← EReal.coe_inv, EReal.coe_mul]

theorem sum_real {n : ℕ} (f g : Fin n → ℝ) : (∑ d, (f d : EReal) * (g d : EReal)) = ((∑ d, f d * g d : ℝ) : EReal) := by
  rw [← coe_sum]
  exact Finset.sum_congr rfl fun d _ => (EReal.coe_mul _ _).symm

/-- Query `r` of block `i`. -/
def qpos (i : Fin 32) (r : Fin 256) : Fin 8192 := ⟨256 * i.val + r.val, by omega⟩

/-- Key `j` of block `p` of the window of query block `i`: the blocks before the first are the first again, masked. -/
def kpos (i : Fin 32) (p : Fin 3) (j : Fin 256) : Fin 8192 := ⟨256 * (i.val + p.val - 2) + j.val, by omega⟩

/-- The variant of the bias block `i` takes. -/
def variant (i : Fin 32) : Fin 3 := ⟨min i.val 2, by omega⟩

variable (q k v : QKV) (rb : Tab) (qr kr : (⟨4, ![4, 8192, 8, 128]⟩ : Shape).Idx → ℝ) (rr : (⟨2, ![8, 257]⟩ : Shape).Idx → ℝ)

/-- The logit as a real number. -/
def rawR (b : Fin 4) (h : Fin 8) (s n : Fin 8192) : ℝ :=
  (∑ d : Fin 128, qr (ix4 b s h d) * kr (ix4 b n h d)) * (Real.sqrt 128)⁻¹ + rr (ix2 h (relIx ((s : ℤ) - n)))

variable (hq : ∀ i, q i = (qr i : EReal)) (hk : ∀ i, k i = (kr i : EReal)) (hr : ∀ i, rb i = (rr i : EReal))
include hq hk hr

theorem raw_real (b : Fin 4) (h : Fin 8) (s n : Fin 8192) : raw q k rb b h s n = (rawR qr kr rr b h s n : EReal) := by
  unfold raw rawR
  simp only [hq, hk, hr]
  rw [sum_real, sqrt_128, div_real _ _ (Real.sqrt_pos.mpr (by norm_num)), EReal.coe_add]

variable (x0 x1 x2 x3 x4 x5 x6 : Vec Ideal S1x256x1024 .bf16) (x7 : Vec Ideal S1x8x768x256 .f32)

theorem block_attend (b : Fin 4) (i : Fin 32)
    (h0 : ∀ r h d, x0 (ix3 0 r (col h d)) = q (ix4 b (qpos i r) h d))
    (h1 : ∀ p j h d, (![x1, x2, x3] p) (ix3 0 j (col h d)) = k (ix4 b (kpos i p j) h d))
    (h2 : ∀ p j h d, (![x4, x5, x6] p) (ix3 0 j (col h d)) = v (ix4 b (kpos i p j) h d))
    (h7 : ∀ h n r, x7 (ix4 0 h n r) = if tileOk (variant i) n r then tabE rb h (512 + r - n) else ⊥)
    (h : Fin 8) (r : Fin 256) (d : Fin 128) :
    blockOut x0 x1 x2 x3 x4 x5 x6 x7 h r d = attend q k v rb b h (qpos i r) d := by
  unfold blockOut attend
  refine window_eq _ _ (rawR qr kr rr b h (qpos i r)) (fun n => inBand (qpos i r) n) _ _ (kpos i)
    (fun p j => tileOk (variant i) (row p j) r) ?_ ?_ ?_ ?_ ?_ ?_ ?_
  · intro n
    unfold logit
    rw [raw_real q k rb qr kr rr hq hk hr]
  · intro p j
    unfold winScore
    simp only [h0, h1, h7, hq, hk]
    rw [sum_real]
    split
    · rename_i hv
      unfold tabE
      rw [hr, log_2, show (1 : EReal) = ((1 : ℝ) : EReal) from rfl, div_real _ _ (Real.log_pos (by norm_num)), ← EReal.coe_mul, ← EReal.coe_mul, ← EReal.coe_add]
      congr 1
      have hd : ((512 : ℤ) + (r.val : ℤ) - ((row p j).val : ℤ)) = ((qpos i r).val : ℤ) - ((kpos i p j).val : ℤ) := by
        obtain ⟨-, -, hv⟩ := hv
        simp only [row, qpos, kpos, variant] at hv ⊢
        omega
      rw [hd]
      unfold rawR
      simp only [mul_comm (kr _)]
      ring
    · rw [EReal.add_bot]
  · intro p j
    exact h2 p j h d
  · intro p j p' j' hv hv' e
    obtain ⟨-, -, hv⟩ := hv
    obtain ⟨-, -, hv'⟩ := hv'
    have e' := congrArg Fin.val e
    simp only [row, kpos, variant] at hv hv' e'
    exact ⟨Fin.ext (by omega), Fin.ext (by omega)⟩
  · intro p j hv
    obtain ⟨ha, hb, hc⟩ := hv
    simp only [row, kpos, variant, qpos, inBand] at ha hb hc ⊢
    omega
  · intro n hn
    simp only [qpos, inBand] at hn
    have hp : n.val / 256 + 2 - i.val < 3 := by omega
    refine ⟨⟨n.val / 256 + 2 - i.val, hp⟩, ⟨n.val % 256, by omega⟩, ?_, Fin.ext ?_⟩
    · simp only [tileOk, row, variant]
      omega
    · simp only [kpos]
      omega
  · exact ⟨qpos i r, by simp [inBand]⟩

end Cert.BandCore
-- ==== Proof.BandKernel.lean ====
/- The kernel's result array is the band attention of the arguments: each grid point's windows are blocks of the staged
   arrays, the body's block is the attention of its queries, and the blocks tile the result. -/
module

public import proofs.«01_k».proof.Proof.Gen.KernelIdeal.Value
public import proofs.«01_k».proof.Proof.BandCore

@[expose] public section

set_option maxRecDepth 16384

noncomputable section

namespace Cert.BandKernel

open Cert.KernelIdeal Cert.KernelIdeal.Gen Idealize.ShloMosaic Idealize.ShloMosaic.TcCoe Idealize.SL.Sem
open Idealize.ShloMosaic.Pipeline (Dat)
open Cert.Band Cert.BandHead Cert.BandHost Cert.BandCore

variable (m : (ℓ : Loc nD τ sig) → Buf (Elt Ideal) ℓ)

/-! ## Where the windows stand -/

/-- The batch row of a grid point, -/
def bOf (t : Fin cfg0.N) : Fin 4 := ⟨t.val / 32, by have h := t.isLt; have : cfg0.N = 128 := N_0; omega⟩

/-- and its block of queries. -/
def iOf (t : Fin cfg0.N) : Fin 32 := ⟨t.val % 32, by omega⟩

theorem index_q : ∀ t : Fin grid0.N, win0_0.index t 0 = t.val / 32 ∧ win0_0.index t 1 = t.val % 32 ∧ win0_0.index t 2 = 0 := by decide +kernel
theorem index_k0 : ∀ t : Fin grid0.N, win0_1.index t 0 = t.val / 32 ∧ win0_1.index t 1 = t.val % 32 + 0 - 2 ∧ win0_1.index t 2 = 0 := by decide +kernel
theorem index_k1 : ∀ t : Fin grid0.N, win0_2.index t 0 = t.val / 32 ∧ win0_2.index t 1 = t.val % 32 + 1 - 2 ∧ win0_2.index t 2 = 0 := by decide +kernel
theorem index_k2 : ∀ t : Fin grid0.N, win0_3.index t 0 = t.val / 32 ∧ win0_3.index t 1 = t.val % 32 + 2 - 2 ∧ win0_3.index t 2 = 0 := by decide +kernel
theorem index_v0 : ∀ t : Fin grid0.N, win0_4.index t 0 = t.val / 32 ∧ win0_4.index t 1 = t.val % 32 + 0 - 2 ∧ win0_4.index t 2 = 1 := by decide +kernel
theorem index_v1 : ∀ t : Fin grid0.N, win0_5.index t 0 = t.val / 32 ∧ win0_5.index t 1 = t.val % 32 + 1 - 2 ∧ win0_5.index t 2 = 1 := by decide +kernel
theorem index_v2 : ∀ t : Fin grid0.N, win0_6.index t 0 = t.val / 32 ∧ win0_6.index t 1 = t.val % 32 + 2 - 2 ∧ win0_6.index t 2 = 1 := by decide +kernel
theorem index_bias : ∀ t : Fin grid0.N, win0_7.index t 0 = min (t.val % 32) 2 ∧ win0_7.index t 1 = 0 ∧ win0_7.index t 2 = 0 ∧ win0_7.index t 3 = 0 := by decide +kernel
theorem index_out : ∀ t : Fin grid0.N, win0_8.index t 0 = t.val / 32 ∧ win0_8.index t 1 = t.val % 32 ∧ win0_8.index t 2 = 0 := by decide +kernel
theorem xsize_out : ∀ t : Fin grid0.N, win0_8.xsize (grid0.coords t) 0 = 1 ∧ win0_8.xsize (grid0.coords t) 1 = 256 ∧ win0_8.xsize (grid0.coords t) 2 = 1024 := by decide +kernel

/-! ## An entry of a window's block is an entry of its array -/

theorem emb_q (t : Fin cfg0.N) (r : Fin 256) (e : Fin 1024) :
    (((cfg0.win 0).blk t).view.emb (ix3 (0 : Fin 1) r e) : S4x8192x1024.Idx) = ix3 (bOf t) (qpos (iOf t) r) e := by
  have h := index_q t
  funext a
  apply Fin.ext
  match a with
  | ⟨0, _⟩ => show win0_0.index t (0 : Fin 3) * 1 + 1 * 0 = t.val / 32; omega
  | ⟨1, _⟩ => show win0_0.index t (1 : Fin 3) * 256 + 1 * r.val = 256 * (t.val % 32) + r.val; omega
  | ⟨2, _⟩ => show win0_0.index t (2 : Fin 3) * 1024 + 1 * e.val = e.val; omega

theorem blk_q (c : Dev nD) (t : Fin cfg0.N) (r : Fin 256) (h : Fin 8) (d : Fin 128) :
    (iblk m c 0 t : Vec Ideal S1x256x1024 .bf16) (ix3 0 r (col h d)) = m (c.tc.loc main_arg0) (ix4 (bOf t) (qpos (iOf t) r) h d) := by
  show V m c main_v1 (((cfg0.win 0).blk t).view.emb (ix3 (0 : Fin 1) r (col h d))) = _
  rw [emb_q, q_apply]
  have e1 : (⟨(col h d).val / 128, by omega⟩ : Fin 8) = h := Fin.ext (by simp only [col]; omega)
  have e2 : (⟨(col h d).val % 128, by omega⟩ : Fin 128) = d := Fin.ext (by simp only [col]; omega)
  rw [e1, e2]

theorem emb_k0 (t : Fin cfg0.N) (j : Fin 256) (e : Fin 1024) :
    (((cfg0.win 1).blk t).view.emb (ix3 (0 : Fin 1) j e) : S4x8192x2048.Idx) = ix3 (bOf t) (kpos (iOf t) 0 j) ⟨e.val, by omega⟩ := by
  have h := index_k0 t
  funext a
  apply Fin.ext
  match a with
  | ⟨0, _⟩ => show win0_1.index t (0 : Fin 3) * 1 + 1 * 0 = t.val / 32; omega
  | ⟨1, _⟩ => show win0_1.index t (1 : Fin 3) * 256 + 1 * j.val = 256 * (t.val % 32 + 0 - 2) + j.val; omega
  | ⟨2, _⟩ => show win0_1.index t (2 : Fin 3) * 1024 + 1 * e.val = e.val; omega

theorem blk_k0 (c : Dev nD) (t : Fin cfg0.N) (j : Fin 256) (h : Fin 8) (d : Fin 128) :
    (iblk m c 1 t : Vec Ideal S1x256x1024 .bf16) (ix3 0 j (col h d)) = m (c.tc.loc main_arg1) (ix4 (bOf t) (kpos (iOf t) 0 j) h d) := by
  show V m c main_v5 (((cfg0.win 1).blk t).view.emb (ix3 (0 : Fin 1) j (col h d))) = _
  rw [emb_k0, k_apply]
  have e1 : (⟨(col h d).val / 128, by omega⟩ : Fin 8) = h := Fin.ext (by simp only [col]; omega)
  have e2 : (⟨(col h d).val % 128, by omega⟩ : Fin 128) = d := Fin.ext (by simp only [col]; omega)
  rw [e1, e2]

theorem emb_k1 (t : Fin cfg0.N) (j : Fin 256) (e : Fin 1024) :
    (((cfg0.win 2).blk t).view.emb (ix3 (0 : Fin 1) j e) : S4x8192x2048.Idx) = ix3 (bOf t) (kpos (iOf t) 1 j) ⟨e.val, by omega⟩ := by
  have h := index_k1 t
  funext a
  apply Fin.ext
  match a with
  | ⟨0, _⟩ => show win0_2.index t (0 : Fin 3) * 1 + 1 * 0 = t.val / 32; omega
  | ⟨1, _⟩ => show win0_2.index t (1 : Fin 3) * 256 + 1 * j.val = 256 * (t.val % 32 + 1 - 2) + j.val; omega
  | ⟨2, _⟩ => show win0_2.index t (2 : Fin 3) * 1024 + 1 * e.val = e.val; omega

theorem blk_k1 (c : Dev nD) (t : Fin cfg0.N) (j : Fin 256) (h : Fin 8) (d : Fin 128) :
    (iblk m c 2 t : Vec Ideal S1x256x1024 .bf16) (ix3 0 j (col h d)) = m (c.tc.loc main_arg1) (ix4 (bOf t) (kpos (iOf t) 1 j) h d) := by
  show V m c main_v5 (((cfg0.win 2).blk t).view.emb (ix3 (0 : Fin 1) j (col h d))) = _
  rw [emb_k1, k_apply]
  have e1 : (⟨(col h d).val / 128, by omega⟩ : Fin 8) = h := Fin.ext (by simp only [col]; omega)
  have e2 : (⟨(col h d).val % 128, by omega⟩ : Fin 128) = d := Fin.ext (by simp only [col]; omega)
  rw [e1, e2]

theorem emb_k2 (t : Fin cfg0.N) (j : Fin 256) (e : Fin 1024) :
    (((cfg0.win 3).blk t).view.emb (ix3 (0 : Fin 1) j e) : S4x8192x2048.Idx) = ix3 (bOf t) (kpos (iOf t) 2 j) ⟨e.val, by omega⟩ := by
  have h := index_k2 t
  funext a
  apply Fin.ext
  match a with
  | ⟨0, _⟩ => show win0_3.index t (0 : Fin 3) * 1 + 1 * 0 = t.val / 32; omega
  | ⟨1, _⟩ => show win0_3.index t (1 : Fin 3) * 256 + 1 * j.val = 256 * (t.val % 32 + 2 - 2) + j.val; omega
  | ⟨2, _⟩ => show win0_3.index t (2 : Fin 3) * 1024 + 1 * e.val = e.val; omega

theorem blk_k2 (c : Dev nD) (t : Fin cfg0.N) (j : Fin 256) (h : Fin 8) (d : Fin 128) :
    (iblk m c 3 t : Vec Ideal S1x256x1024 .bf16) (ix3 0 j (col h d)) = m (c.tc.loc main_arg1) (ix4 (bOf t) (kpos (iOf t) 2 j) h d) := by
  show V m c main_v5 (((cfg0.win 3).blk t).view.emb (ix3 (0 : Fin 1) j (col h d))) = _
  rw [emb_k2, k_apply]
  have e1 : (⟨(col h d).val / 128, by omega⟩ : Fin 8) = h := Fin.ext (by simp only [col]; omega)
  have e2 : (⟨(col h d).val % 128, by omega⟩ : Fin 128) = d := Fin.ext (by simp only [col]; omega)
  rw [e1, e2]

theorem emb_v0 (t : Fin cfg0.N) (j : Fin 256) (e : Fin 1024) :
    (((cfg0.win 4).blk t).view.emb (ix3 (0 : Fin 1) j e) : S4x8192x2048.Idx) = ix3 (bOf t) (kpos (iOf t) 0 j) ⟨1024 + e.val, by omega⟩ := by
  have h := index_v0 t
  funext a
  apply Fin.ext
  match a with
  | ⟨0, _⟩ => show win0_4.index t (0 : Fin 3) * 1 + 1 * 0 = t.val / 32; omega
  | ⟨1, _⟩ => show win0_4.index t (1 : Fin 3) * 256 + 1 * j.val = 256 * (t.val % 32 + 0 - 2) + j.val; omega
  | ⟨2, _⟩ => show win0_4.index t (2 : Fin 3) * 1024 + 1 * e.val = 1024 + e.val; omega

theorem blk_v0 (c : Dev nD) (t : Fin cfg0.N) (j : Fin 256) (h : Fin 8) (d : Fin 128) :
    (iblk m c 4 t : Vec Ideal S1x256x1024 .bf16) (ix3 0 j (col h d)) = m (c.tc.loc main_arg2) (ix4 (bOf t) (kpos (iOf t) 0 j) h d) := by
  show V m c main_v5 (((cfg0.win 4).blk t).view.emb (ix3 (0 : Fin 1) j (col h d))) = _
  rw [emb_v0, v_apply]
  have e1 : (⟨(col h d).val / 128, by omega⟩ : Fin 8) = h := Fin.ext (by simp only [col]; omega)
  have e2 : (⟨(col h d).val % 128, by omega⟩ : Fin 128) = d := Fin.ext (by simp only [col]; omega)
  rw [e1, e2]

theorem emb_v1 (t : Fin cfg0.N) (j : Fin 256) (e : Fin 1024) :
    (((cfg0.win 5).blk t).view.emb (ix3 (0 : Fin 1) j e) : S4x8192x2048.Idx) = ix3 (bOf t) (kpos (iOf t) 1 j) ⟨1024 + e.val, by omega⟩ := by
  have h := index_v1 t
  funext a
  apply Fin.ext
  match a with
  | ⟨0, _⟩ => show win0_5.index t (0 : Fin 3) * 1 + 1 * 0 = t.val / 32; omega
  | ⟨1, _⟩ => show win0_5.index t (1 : Fin 3) * 256 + 1 * j.val = 256 * (t.val % 32 + 1 - 2) + j.val; omega
  | ⟨2, _⟩ => show win0_5.index t (2 : Fin 3) * 1024 + 1 * e.val = 1024 + e.val; omega

theorem blk_v1 (c : Dev nD) (t : Fin cfg0.N) (j : Fin 256) (h : Fin 8) (d : Fin 128) :
    (iblk m c 5 t : Vec Ideal S1x256x1024 .bf16) (ix3 0 j (col h d)) = m (c.tc.loc main_arg2) (ix4 (bOf t) (kpos (iOf t) 1 j) h d) := by
  show V m c main_v5 (((cfg0.win 5).blk t).view.emb (ix3 (0 : Fin 1) j (col h d))) = _
  rw [emb_v1, v_apply]
  have e1 : (⟨(col h d).val / 128, by omega⟩ : Fin 8) = h := Fin.ext (by simp only [col]; omega)
  have e2 : (⟨(col h d).val % 128, by omega⟩ : Fin 128) = d := Fin.ext (by simp only [col]; omega)
  rw [e1, e2]

theorem emb_v2 (t : Fin cfg0.N) (j : Fin 256) (e : Fin 1024) :
    (((cfg0.win 6).blk t).view.emb (ix3 (0 : Fin 1) j e) : S4x8192x2048.Idx) = ix3 (bOf t) (kpos (iOf t) 2 j) ⟨1024 + e.val, by omega⟩ := by
  have h := index_v2 t
  funext a
  apply Fin.ext
  match a with
  | ⟨0, _⟩ => show win0_6.index t (0 : Fin 3) * 1 + 1 * 0 = t.val / 32; omega
  | ⟨1, _⟩ => show win0_6.index t (1 : Fin 3) * 256 + 1 * j.val = 256 * (t.val % 32 + 2 - 2) + j.val; omega
  | ⟨2, _⟩ => show win0_6.index t (2 : Fin 3) * 1024 + 1 * e.val = 1024 + e.val; omega

theorem blk_v2 (c : Dev nD) (t : Fin cfg0.N) (j : Fin 256) (h : Fin 8) (d : Fin 128) :
    (iblk m c 6 t : Vec Ideal S1x256x1024 .bf16) (ix3 0 j (col h d)) = m (c.tc.loc main_arg2) (ix4 (bOf t) (kpos (iOf t) 2 j) h d) := by
  show V m c main_v5 (((cfg0.win 6).blk t).view.emb (ix3 (0 : Fin 1) j (col h d))) = _
  rw [emb_v2, v_apply]
  have e1 : (⟨(col h d).val / 128, by omega⟩ : Fin 8) = h := Fin.ext (by simp only [col]; omega)
  have e2 : (⟨(col h d).val % 128, by omega⟩ : Fin 128) = d := Fin.ext (by simp only [col]; omega)
  rw [e1, e2]

theorem emb_bias (t : Fin cfg0.N) (h : Fin 8) (n : Fin 768) (r : Fin 256) :
    (((cfg0.win 7).blk t).view.emb (ix4 (0 : Fin 1) h n r) : S3x8x768x256.Idx) = ix4 (variant (iOf t)) h n r := by
  have e := index_bias t
  funext a
  apply Fin.ext
  match a with
  | ⟨0, _⟩ => show win0_7.index t (0 : Fin 4) * 1 + 1 * 0 = min (t.val % 32) 2; omega
  | ⟨1, _⟩ => show win0_7.index t (1 : Fin 4) * 8 + 1 * h.val = h.val; omega
  | ⟨2, _⟩ => show win0_7.index t (2 : Fin 4) * 768 + 1 * n.val = n.val; omega
  | ⟨3, _⟩ => show win0_7.index t (3 : Fin 4) * 256 + 1 * r.val = r.val; omega

theorem blk_bias (c : Dev nD) (t : Fin cfg0.N) (h : Fin 8) (n : Fin 768) (r : Fin 256) :
    (iblk m c 7 t : Vec Ideal S1x8x768x256 .f32) (ix4 0 h n r)
      = if tileOk (variant (iOf t)) n r then tabE (m (c.tc.loc main_arg3)) h (512 + r - n) else ⊥ := by
  show V m c main_v64 (((cfg0.win 7).blk t).view.emb (ix4 (0 : Fin 1) h n r)) = _
  rw [emb_bias, bias_apply]

/-! ## The result array -/

/-- The attention of three projected arrays and a table, laid out as the result array is: heads side by side in the columns. -/
def attendFn (q k v : QKV) (rb : Tab) : S4x8192x1024.Idx → EReal := fun y =>
  attend q k v rb (y 0) ⟨(y 2).val / 128, by have h : (y 2).val < 1024 := (y 2).isLt; omega⟩ (y 1)
    ⟨(y 2).val % 128, by omega⟩

theorem emb_out (t : Fin cfg0.N) (r : Fin 256) (e : Fin 1024) :
    (((cfg0.win 8).blk t).view.emb (ix3 (0 : Fin 1) r e) : S4x8192x1024.Idx) = ix3 (bOf t) (qpos (iOf t) r) e := by
  have h := index_out t
  funext a
  apply Fin.ext
  match a with
  | ⟨0, _⟩ => show win0_8.index t (0 : Fin 3) * 1 + 1 * 0 = t.val / 32; omega
  | ⟨1, _⟩ => show win0_8.index t (1 : Fin 3) * 256 + 1 * r.val = 256 * (t.val % 32) + r.val; omega
  | ⟨2, _⟩ => show win0_8.index t (2 : Fin 3) * 1024 + 1 * e.val = e.val; omega

/-- A body's block is the attention at the entries where the block stands, given what its windows hold. -/
theorem block_fn (q k v : QKV) (rb : Tab) (qr kr : S4x8192x8x128.Idx → ℝ) (rr : S8x257.Idx → ℝ)
    (hq : ∀ i, q i = (qr i : EReal)) (hk : ∀ i, k i = (kr i : EReal)) (hr : ∀ i, rb i = (rr i : EReal))
    (x0 x1 x2 x3 x4 x5 x6 : Vec Ideal S1x256x1024 .bf16) (x7 : Vec Ideal S1x8x768x256 .f32) (b : Fin 4) (i : Fin 32)
    (h0 : ∀ r h d, x0 (ix3 0 r (col h d)) = q (ix4 b (qpos i r) h d))
    (h1 : ∀ j h d, x1 (ix3 0 j (col h d)) = k (ix4 b (kpos i 0 j) h d))
    (h2 : ∀ j h d, x2 (ix3 0 j (col h d)) = k (ix4 b (kpos i 1 j) h d))
    (h3 : ∀ j h d, x3 (ix3 0 j (col h d)) = k (ix4 b (kpos i 2 j) h d))
    (h4 : ∀ j h d, x4 (ix3 0 j (col h d)) = v (ix4 b (kpos i 0 j) h d))
    (h5 : ∀ j h d, x5 (ix3 0 j (col h d)) = v (ix4 b (kpos i 1 j) h d))
    (h6 : ∀ j h d, x6 (ix3 0 j (col h d)) = v (ix4 b (kpos i 2 j) h d))
    (h7 : ∀ h n r, x7 (ix4 0 h n r) = if tileOk (variant i) n r then tabE rb h (512 + r - n) else ⊥)
    (r : Fin 256) (e : Fin 1024) :
    blockFn x0 x1 x2 x3 x4 x5 x6 x7 (ix3 0 r e) = attendFn q k v rb (ix3 b (qpos i r) e) := by
  show blockOut x0 x1 x2 x3 x4 x5 x6 x7 ⟨e.val / 128, by omega⟩ r ⟨e.val % 128, by omega⟩
    = attend q k v rb b ⟨e.val / 128, by omega⟩ (qpos i r) ⟨e.val % 128, by omega⟩
  refine block_attend q k v rb qr kr rr hq hk hr x0 x1 x2 x3 x4 x5 x6 x7 b i h0 ?_ ?_ h7 _ _ _
  · intro p j h d
    fin_cases p
    · exact h1 j h d
    · exact h2 j h d
    · exact h3 j h d
  · intro p j h d
    fin_cases p
    · exact h4 j h d
    · exact h5 j h d
    · exact h6 j h d

/-- What is cut from a block that agrees with `G` where the block stands is the block of `G`. -/
theorem cut_eq (t : Fin cfg0.N) (X : Vec Ideal S1x256x1024 .bf16) (G : Vec Ideal S4x8192x1024 .bf16)
    (h : ∀ r e, X (ix3 0 r e) = G (ix3 (bOf t) (qpos (iOf t) r) e)) :
    (cfg0.win 8).cut (grid0.coords t) X = ((cfg0.win 8).blk t).view.read (Elt Ideal) G := by
  funext j
  obtain ⟨r, e, rfl⟩ : ∃ r e, j = ix3 (0 : Fin 1) r e :=
    ⟨j 1, j 2, by
      funext a; apply Fin.ext
      match a with
      | ⟨0, _⟩ => exact Nat.lt_one_iff.mp (j 0).isLt
      | ⟨1, _⟩ => rfl
      | ⟨2, _⟩ => rfl⟩
  show X (ix3 0 r e) = G (((cfg0.win 8).blk t).view.emb (ix3 (0 : Fin 1) r e))
  rw [emb_out, h]

/-- The result array's attention, of device `c`'s arguments. -/
def G (c : Dev nD) : Vec Ideal S4x8192x1024 .bf16 :=
  attendFn (m (c.tc.loc main_arg0)) (m (c.tc.loc main_arg1)) (m (c.tc.loc main_arg2)) (m (c.tc.loc main_arg3))

theorem flushed_eq (c : Dev nD) (qr kr : S4x8192x8x128.Idx → ℝ) (rr : S8x257.Idx → ℝ)
    (hq : ∀ i, m (c.tc.loc main_arg0) i = (qr i : EReal)) (hk : ∀ i, m (c.tc.loc main_arg1) i = (kr i : EReal))
    (hr : ∀ i, m (c.tc.loc main_arg3) i = (rr i : EReal)) (t : Fin cfg0.N) :
    (dats m 0 c).flushed 8 t = ((cfg0.win 8).blk t).view.read (Elt Ideal) (G m c) := by
  rw [Cert.KernelIdeal.Value.flushed8]
  refine cut_eq t _ _ fun r e => ?_
  rw [out_apply]
  exact block_fn _ _ _ _ qr kr rr hq hk hr _ _ _ _ _ _ _ _ (bOf t) (iOf t) (fun r h d => blk_q m c t r h d)
    (fun j h d => blk_k0 m c t j h d) (fun j h d => blk_k1 m c t j h d) (fun j h d => blk_k2 m c t j h d)
    (fun j h d => blk_v0 m c t j h d) (fun j h d => blk_v1 m c t j h d) (fun j h d => blk_v2 m c t j h d)
    (fun h n r => blk_bias m c t h n r) r e

/-- The blocks cover the array. -/
theorem cover (i : S4x8192x1024.Idx) : ∃ t : Fin cfg0.N, (cfg0.win 8).flush t = true ∧ i ∈ ((cfg0.win 8).blk t).view.set := by
  have h0 : (i 0 : Nat) < 4 := (i 0).isLt
  have h1 : (i 1 : Nat) < 8192 := (i 1).isLt
  have h2 : (i 2 : Nat) < 1024 := (i 2).isLt
  have hN : cfg0.N = 128 := N_0
  refine ⟨⟨(i 0).val * 32 + (i 1).val / 256, by omega⟩, flush0_8 _, ?_⟩
  generalize ht : (⟨(i 0).val * 32 + (i 1).val / 256, by omega⟩ : Fin cfg0.N) = t
  have hv : t.val = (i 0).val * 32 + (i 1).val / 256 := by rw [← ht]
  have hi : i = ((cfg0.win 8).blk t).view.emb (ix3 (0 : Fin 1) (⟨(i 1).val % 256, by omega⟩ : Fin 256) (⟨(i 2).val, h2⟩ : Fin 1024)) := by
    rw [emb_out]
    funext a
    apply Fin.ext
    match a with
    | ⟨0, _⟩ => show (i 0).val = t.val / 32; omega
    | ⟨1, _⟩ => show (i 1).val = 256 * (t.val % 32) + (i 1).val % 256; omega
    | ⟨2, _⟩ => rfl
  rw [hi]
  exact ((cfg0.win 8).blk t).view.emb_mem_set _

/-- So the result array ends holding the attention. -/
theorem final (c : Dev nD) (qr kr : S4x8192x8x128.Idx → ℝ) (rr : S8x257.Idx → ℝ)
    (hq : ∀ i, m (c.tc.loc main_arg0) i = (qr i : EReal)) (hk : ∀ i, m (c.tc.loc main_arg1) i = (kr i : EReal))
    (hr : ∀ i, m (c.tc.loc main_arg3) i = (rr i : EReal)) : (dats m 0 c).arrAt 8 cfg0.N = G m c :=
  (dats m 0 c).arrAt_eq_of_cover 8 (G m c) (fun t _ => flushed_eq m c qr kr rr hq hk hr t) cover

end Cert.BandKernel
-- ==== Proof.BandRef.lean ====
module

public import proofs.«01_k».proof.Proof.Gen.ReferenceIdeal.Run
public import proofs.«01_k».proof.Proof.BandMath
public import Idealize.ShloMosaic.Lib.Pointwise

/-! # The reference's result is band attention -/

@[expose] public section

set_option maxRecDepth 16384

noncomputable section

namespace Cert.BandRef

open Cert.ReferenceIdeal Cert.ReferenceIdeal.Gen Idealize.ShloMosaic Idealize.ShloMosaic.TcCoe Idealize.SL.Sem Cert.Band

/-- The difference of the positions, as the reference prints it. -/
abbrev diffW : IVec S8192x8192 32 :=
  subi
    (broadcastInDim S8192x8192 ![0, 1] bcast_S8192x1_S8192x8192_0_1
      (broadcastInDim S8192x1 ![0] bcast_S8192_S8192x1_0 (iotaInDim S8192 32 0)))
    (broadcastInDim S8192x8192 ![0, 1] bcast_S1x8192_S8192x8192_0_1
      (broadcastInDim S1x8192 ![1] bcast_S8192_S1x8192_1 (iotaInDim S8192 32 0)))

/-- Clipped and shifted, as the reference prints it. -/
abbrev clipW : IVec S8192x8192 32 :=
  addi
    (minsi (broadcastInDim S8192x8192 ![] bcast_S_S8192x8192 (id (constantI S_ 32 128#32)))
      (maxsi (broadcastInDim S8192x8192 ![] bcast_S_S8192x8192 (id (constantI S_ 32 4294967168#32))) diffW))
    (broadcastInDim S8192x8192 ![] bcast_S_S8192x8192 (constantI S_ 32 128#32))

/-- The index words into the table, as the reference prints them. -/
abbrev idxW : IVec S8192x8192x1 32 :=
  broadcastInDim S8192x8192x1 ![0, 1] bcast_S8192x8192_S8192x8192x1_0_1
    (select (cmpi CmpIPredicate.slt clipW (broadcastInDim S8192x8192 ![] bcast_S_S8192x8192 (constantI S_ 32 0#32)))
      (addi clipW (broadcastInDim S8192x8192 ![] bcast_S_S8192x8192 (constantI S_ 32 257#32))) clipW)

theorem idxW_apply (s n : Fin 8192) :
    idxW (ix3 s n 0) = relW (IntOp.subi (BitVec.ofNat 32 s.val) (BitVec.ofNat 32 n.val)) := by
  unfold idxW clipW diffW
  pointwise
  rfl

theorem sub_toInt (s n : Fin 8192) : (IntOp.subi (BitVec.ofNat 32 s.val) (BitVec.ofNat 32 n.val)).toInt = (s : ℤ) - n := by
  show (BitVec.ofNat 32 s.val - BitVec.ofNat 32 n.val : BitVec 32).toInt = _
  rw [WordArith.toInt_sub_of_bounds _ _ (by rw [toInt_pos, toInt_pos]; omega) (by rw [toInt_pos, toInt_pos]; omega), toInt_pos, toInt_pos]

/-- The bias the reference looks up for query `s` and key `n`. -/
theorem bias_apply (rb : Tab) (h : Fin 8) (s n : Fin 8192) :
    Host.gather gather_S8x257_S8192x8192x1_S8x8192x8192_0_1_n_n_1_2_81 rb idxW (ix3 h s n) = rb (ix2 h (relIx ((s : ℤ) - n))) := by
  refine (gather_cols_rect_apply _ rb idxW h s n).trans (congrArg (fun i => rb (ix2 h i)) (clamp_eq_relIx _ _ ?_))
  rw [idxW_apply, relW_toInt, sub_toInt]

theorem negInf : id (constant (F := Ideal) S_ FTy.f32 4286578688#32) ix0 = (⊥ : EReal) := ofBits_neg_inf

/-! ## The mask -/

/-- The chunk of each key, as a row. -/
abbrev chunkRow : IVec S1x8192 32 :=
  select (andi (cmpi .ne (signi (broadcastInDim S1x8192 ![1] bcast_S8192_S1x8192_1 (iotaInDim S8192 32 0))) (broadcastInDim S1x8192 ![] bcast_S_S1x8192 (signi (id (constantI S_ 32 64#32))))) (cmpi .ne (Host.remsi (broadcastInDim S1x8192 ![1] bcast_S8192_S1x8192_1 (iotaInDim S8192 32 0)) (broadcastInDim S1x8192 ![] bcast_S_S1x8192 (id (constantI S_ 32 64#32)))) (broadcastInDim S1x8192 ![] bcast_S_S1x8192 (constantI S_ 32 0#32)))) (subi (Host.divsi (broadcastInDim S1x8192 ![1] bcast_S8192_S1x8192_1 (iotaInDim S8192 32 0)) (broadcastInDim S1x8192 ![] bcast_S_S1x8192 (id (constantI S_ 32 64#32)))) (broadcastInDim S1x8192 ![] bcast_S_S1x8192 (constantI S_ 32 1#32))) (Host.divsi (broadcastInDim S1x8192 ![1] bcast_S8192_S1x8192_1 (iotaInDim S8192 32 0)) (broadcastInDim S1x8192 ![] bcast_S_S1x8192 (id (constantI S_ 32 64#32))))

/-- The chunk of each query, as a column. -/
abbrev chunkCol : IVec S8192x1 32 :=
  select (andi (cmpi .ne (signi (broadcastInDim S8192x1 ![0] bcast_S8192_S8192x1_0 (iotaInDim S8192 32 0))) (broadcastInDim S8192x1 ![] bcast_S_S8192x1 (signi (id (constantI S_ 32 64#32))))) (cmpi .ne (Host.remsi (broadcastInDim S8192x1 ![0] bcast_S8192_S8192x1_0 (iotaInDim S8192 32 0)) (broadcastInDim S8192x1 ![] bcast_S_S8192x1 (id (constantI S_ 32 64#32)))) (broadcastInDim S8192x1 ![] bcast_S_S8192x1 (constantI S_ 32 0#32)))) (subi (Host.divsi (broadcastInDim S8192x1 ![0] bcast_S8192_S8192x1_0 (iotaInDim S8192 32 0)) (broadcastInDim S8192x1 ![] bcast_S_S8192x1 (id (constantI S_ 32 64#32)))) (broadcastInDim S8192x1 ![] bcast_S_S8192x1 (constantI S_ 32 1#32))) (Host.divsi (broadcastInDim S8192x1 ![0] bcast_S8192_S8192x1_0 (iotaInDim S8192 32 0)) (broadcastInDim S8192x1 ![] bcast_S_S8192x1 (id (constantI S_ 32 64#32))))

theorem chunkRow_apply (n : Fin 8192) : chunkRow (ix2 0 n) = fdivW 64#32 (BitVec.ofNat 32 n.val) := by
  unfold chunkRow
  pointwise
  rfl

theorem chunkCol_apply (s : Fin 8192) : chunkCol (ix2 s 0) = fdivW 64#32 (BitVec.ofNat 32 s.val) := by
  unfold chunkCol
  pointwise
  rfl

/-- The mask from the chunks. -/
abbrev maskOf (kc : IVec S1x8192 32) (qc : IVec S8192x1 32) : IVec S8192x8192 1 :=
  andi (andi (broadcastInDim S8192x8192 ![0, 1] bcast_S1x8192_S8192x8192_0_1 (cmpi .sge (broadcastInDim S1x8192 ![1] bcast_S8192_S1x8192_1 (iotaInDim S8192 32 0)) (broadcastInDim S1x8192 ![] bcast_S_S1x8192 (constantI S_ 32 0#32)))) (cmpi .sle (broadcastInDim S8192x8192 ![0, 1] bcast_S1x8192_S8192x8192_0_1 kc) (broadcastInDim S8192x8192 ![0, 1] bcast_S8192x1_S8192x8192_0_1 qc))) (cmpi .sge (broadcastInDim S8192x8192 ![0, 1] bcast_S1x8192_S8192x8192_0_1 kc) (broadcastInDim S8192x8192 ![0, 1] bcast_S8192x1_S8192x8192_0_1 (subi qc (broadcastInDim S8192x1 ![] bcast_S_S8192x1 (constantI S_ 32 8#32)))))

theorem maskOf_apply (kc : IVec S1x8192 32) (qc : IVec S8192x1 32) (s n : Fin 8192) :
    maskOf kc qc (ix2 s n) = IntOp.andi (IntOp.andi (IntOp.cmpi .sge (BitVec.ofNat 32 n.val) 0#32) (IntOp.cmpi .sle (kc (ix2 0 n)) (qc (ix2 s 0))))
      (IntOp.cmpi .sge (kc (ix2 0 n)) (IntOp.subi (qc (ix2 s 0)) 8#32)) := by
  unfold maskOf
  pointwise

theorem mask_apply (s n : Fin 8192) :
    maskOf chunkRow chunkCol (ix2 s n) = bandW 64#32 (BitVec.ofNat 32 s.val) (BitVec.ofNat 32 n.val) := by
  rw [maskOf_apply, chunkRow_apply, chunkCol_apply]

/-! ## The logits -/

/-- The masked logits from the mask and the bias. -/
abbrev logitsOf (q k : FVec Ideal S4x8192x8x128 .f32) (mask : IVec S8192x8192 1) (bias : FVec Ideal S8x8192x8192 .f32) :
    FVec Ideal S4x8x8192x8192 .f32 :=
  select (broadcastInDim S4x8x8192x8192 ![0, 1, 2, 3] bcast_S1x1x8192x8192_S4x8x8192x8192_0_1_2_3 (broadcastInDim S1x1x8192x8192 ![2, 3] bcast_S8192x8192_S1x1x8192x8192_2_3 mask)) (addf (Host.divf (Host.dotGeneral dot_S4x8192x8x128_S4x8192x8x128_S4x8x8192x8192_3_3_1_1_02_02 none q k) (broadcastInDim S4x8x8192x8192 ![] bcast_S_S4x8x8192x8192 (Host.sqrt (constant S_ .f32 0x43000000#32)))) (broadcastInDim S4x8x8192x8192 ![0, 1, 2, 3] bcast_S1x8x8192x8192_S4x8x8192x8192_0_1_2_3 (broadcastInDim S1x8x8192x8192 ![1, 2, 3] bcast_S8x8192x8192_S1x8x8192x8192_1_2_3 bias))) (broadcastInDim S4x8x8192x8192 ![] bcast_S_S4x8x8192x8192 (id (constant S_ .f32 0xFF800000#32)))

theorem logitsOf_apply (q k : QKV) (mask : IVec S8192x8192 1) (bias : FVec Ideal S8x8192x8192 .f32) (b : Fin 4) (h : Fin 8) (s n : Fin 8192) :
    logitsOf q k mask bias (ix4 b h s n) = Scalar.select (mask (ix2 s n))
      (Ideal.div (∑ d : Fin 128, q (ix4 b s h d) * k (ix4 b n h d)) (Ideal.sqrt (Ideal.ofBits FTy.f32 1124073472#32)) + bias (ix3 h s n))
      (id (constant (F := Ideal) S_ FTy.f32 4286578688#32) ix0) := by
  unfold logitsOf
  pointwise

/-- The logits as the reference prints them. -/
abbrev logitsW (q k : QKV) (rb : Tab) : FVec Ideal S4x8x8192x8192 .f32 :=
  logitsOf q k (maskOf chunkRow chunkCol) (Host.gather gather_S8x257_S8192x8192x1_S8x8192x8192_0_1_n_n_1_2_81 rb idxW)

theorem logitsW_apply (q k : QKV) (rb : Tab) (b : Fin 4) (h : Fin 8) (s n : Fin 8192) :
    logitsW q k rb (ix4 b h s n) = logit q k rb b h s n := by
  unfold logitsW
  rw [logitsOf_apply, mask_apply, bias_apply, select_band, negInf]
  rfl

/-! ## The softmax and the average -/

/-- The greatest logit of each query. -/
abbrev rowMax (X : FVec Ideal S4x8x8192x8192 .f32) : FVec Ideal S4x8x8192 .f32 :=
  maximumf (broadcastInDim S4x8x8192 ![] bcast_S_S4x8x8192 (constant S_ .f32 0xFF800000#32)) (Host.reduce FloatOps.maximumf X (constant S_ .f32 0xFF800000#32) reducesTo_S4x8x8192x8192_S4x8x8192_d3 h_S_)

/-- A `stablehlo.reduce` by the greater of two over the last of four axes. -/
theorem reduce_last {n0 n1 n2 n3 : ℕ} (X : FVec Ideal ⟨4, ![n0, n1, n2, n3]⟩ .f32) (init : FVec Ideal S_ .f32)
    (h : (⟨4, ![n0, n1, n2, n3]⟩ : Shape).ReducesTo [3] ⟨3, ![n0, n1, n2]⟩) (hu : 0 < S_.numel) (b : Fin n0) (a : Fin n1) (s : Fin n2) :
    Host.reduce FloatOps.maximumf X init h hu (ix3 b a s)
      = Finset.fold max (init (Shape.Idx.first hu)) (fun n : Fin n3 => X (ix4 b a s n)) Finset.univ := by
  rw [Host.reduce_eq_fold]
  exact Shape.ReducesTo.fold_fiber_r4_a3 h (ix3 b a s) max _ X

theorem maximumf_apply {t : Shape} (x y : FVec Ideal t .f32) (i : t.Idx) : maximumf x y i = max (x i) (y i) := rfl

theorem rowMax_apply (X : FVec Ideal S4x8x8192x8192 .f32) (b : Fin 4) (h : Fin 8) (s : Fin 8192) :
    rowMax X (ix3 b h s) = top (fun n : Fin 8192 => X (ix4 b h s n)) := by
  unfold rowMax
  rw [maximumf_apply]
  have h1 := reduce_last X (constant S_ .f32 0xFF800000#32) reducesTo_S4x8x8192x8192_S4x8x8192_d3 h_S_ b h s
  have h2 : broadcastInDim S4x8x8192 ![] bcast_S_S4x8x8192 (constant (F := Ideal) S_ .f32 0xFF800000#32) (ix3 b h s) = (⊥ : EReal) := ofBits_neg_inf
  have h3 : (constant (F := Ideal) S_ .f32 0xFF800000#32) (Shape.Idx.first h_S_) = (⊥ : EReal) := ofBits_neg_inf
  rw [h1, h2, h3]
  exact max_eq_right bot_le

/-- The exponentials of the logits less a row's number. -/
abbrev expOf (X : FVec Ideal S4x8x8192x8192 .f32) (M : FVec Ideal S4x8x8192 .f32) : FVec Ideal S4x8x8192x8192 .f32 :=
  Host.exp (subf X (broadcastInDim S4x8x8192x8192 ![0, 1, 2, 3] bcast_S4x8x8192x1_S4x8x8192x8192_0_1_2_3 (broadcastInDim S4x8x8192x1 ![0, 1, 2] bcast_S4x8x8192_S4x8x8192x1_0_1_2 M)))

theorem expOf_apply (X : FVec Ideal S4x8x8192x8192 .f32) (M : FVec Ideal S4x8x8192 .f32) (b : Fin 4) (h : Fin 8) (s n : Fin 8192) :
    expOf X M (ix4 b h s n) = Ideal.exp (X (ix4 b h s n) - M (ix3 b h s)) := by
  unfold expOf
  pointwise

/-- The sums of the rows. -/
abbrev rowSum (P : FVec Ideal S4x8x8192x8192 .f32) : FVec Ideal S4x8x8192 .f32 :=
  Host.reduceAdd P (constant S_ .f32 0x00000000#32) reducesTo_S4x8x8192x8192_S4x8x8192_d3 h_S_

theorem rowSum_apply (P : FVec Ideal S4x8x8192x8192 .f32) (b : Fin 4) (h : Fin 8) (s : Fin 8192) :
    rowSum P (ix3 b h s) = ∑ n : Fin 8192, P (ix4 b h s n) := by
  unfold rowSum
  pointwise

/-- Rows divided by a number each. -/
abbrev divOf (P : FVec Ideal S4x8x8192x8192 .f32) (L : FVec Ideal S4x8x8192 .f32) : FVec Ideal S4x8x8192x8192 .f32 :=
  Host.divf P (broadcastInDim S4x8x8192x8192 ![0, 1, 2, 3] bcast_S4x8x8192x1_S4x8x8192x8192_0_1_2_3 (broadcastInDim S4x8x8192x1 ![0, 1, 2] bcast_S4x8x8192_S4x8x8192x1_0_1_2 L))

theorem divOf_apply (P : FVec Ideal S4x8x8192x8192 .f32) (L : FVec Ideal S4x8x8192 .f32) (b : Fin 4) (h : Fin 8) (s n : Fin 8192) :
    divOf P L (ix4 b h s n) = Ideal.div (P (ix4 b h s n)) (L (ix3 b h s)) := by
  unfold divOf
  pointwise

/-- The values averaged with given weights, the heads side by side. -/
abbrev mixOf (W : FVec Ideal S4x8x8192x8192 .f32) (v : FVec Ideal S4x8192x8x128 .f32) : FVec Ideal S4x8192x1024 .bf16 :=
  truncf .bf16 (shapeCast _ (transpose S4x8192x8x128 [0, 3, 1, 2] (Host.dotGeneral dot_S4x8192x8x128_S4x8x8192x8192_S4x8x128x8192_1_3_3_2_02_01 none v W) transposes_S4x8x128x8192_S4x8192x8x128_0_3_1_2) shapeCasts_S4x8192x8x128_S4x8192x1024) bitsLt_bf16_f32

theorem mixOf_apply (W : FVec Ideal S4x8x8192x8192 .f32) (v : QKV) (b : Fin 4) (s : Fin 8192) (e : Fin 1024) :
    mixOf W v (ix3 b s e) = ∑ n : Fin 8192, v (ix4 b n ⟨e / 128, by omega⟩ ⟨e % 128, by omega⟩) * W (ix4 b ⟨e / 128, by omega⟩ s n) := by
  unfold mixOf
  pointwise

/-- The result from the logits. -/
abbrev avgOf (X : FVec Ideal S4x8x8192x8192 .f32) (v : FVec Ideal S4x8192x8x128 .f32) : FVec Ideal S4x8192x1024 .bf16 :=
  mixOf (divOf (expOf X (rowMax X)) (rowSum (expOf X (rowMax X)))) v

theorem avgOf_apply (X : FVec Ideal S4x8x8192x8192 .f32) (v : QKV) (b : Fin 4) (s : Fin 8192) (e : Fin 1024) :
    avgOf X v (ix3 b s e) = softAvg (fun n : Fin 8192 => X (ix4 b ⟨e / 128, by omega⟩ s n))
      (fun n => v (ix4 b n ⟨e / 128, by omega⟩ ⟨e % 128, by omega⟩)) := by
  unfold avgOf softAvg
  rw [mixOf_apply]
  simp only [divOf_apply, expOf_apply, rowSum_apply, rowMax_apply]

/-- The reference's result at a position, a feature of the heads side by side. -/
theorem res_apply (m : (ℓ : Loc nD τ sig) → Buf (Elt Ideal) ℓ) (c : Dev nD) (b : Fin 4) (s : Fin 8192) (e : Fin 1024) :
    Cert.ReferenceIdeal.Value.res_main_v57 (F := Ideal) m c (ix3 b s e)
      = attend (m (c.tc.loc main_arg0)) (m (c.tc.loc main_arg1)) (m (c.tc.loc main_arg2)) (m (c.tc.loc main_arg3))
          b ⟨e / 128, by omega⟩ s ⟨e % 128, by omega⟩ := by
  unfold Cert.ReferenceIdeal.Value.res_main_v57
  refine (avgOf_apply (logitsW (m (c.tc.loc main_arg0)) (m (c.tc.loc main_arg1)) (m (c.tc.loc main_arg3))) (m (c.tc.loc main_arg2)) b s e).trans ?_
  unfold attend
  exact congrArg (fun x => softAvg x _) (funext fun n => logitsW_apply _ _ _ b _ s n)

end Cert.BandRef
end
-- ==== Proof.BandFinite.lean ====
/- The precondition read: the queries, the keys and the bias table are real numbers. -/
module

public import proofs.«01_k».proof.Pre_finite
public import Idealize.ShloMosaic.Lib.ReduceAll
public import Idealize.ShloMosaic.Lib.Pointwise

@[expose] public section

noncomputable section

namespace Cert.BandFinite

open Cert.Pre_finite Cert.Pre_finite.Facts Idealize.ShloMosaic

/-- A comparison `|x| < ∞` that holds says that `x` is a real number. -/
theorem real_of_lt (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

variable [Cert.Pre_finite.Facts]

theorem fn_real (q k v : FVec Ideal S4x8192x8x128 .f32) (rb : FVec Ideal S8x257 .f32) (j : S_.Idx) (h : fn q k v rb j = 1#1) :
    (∀ i, ∃ r : ℝ, q i = (r : EReal)) ∧ (∀ i, ∃ r : ℝ, k i = (r : EReal)) ∧ ∀ i, ∃ r : ℝ, rb i = (r : EReal) := by
  have hs : Subsingleton S_.Idx := ⟨fun a b => funext fun x => x.elim0⟩
  unfold fn at h
  obtain ⟨h1, h3⟩ := IntOp.andi_eq_one.mp h
  obtain ⟨h1, h2⟩ := IntOp.andi_eq_one.mp h1
  exact ⟨fun i => real_of_lt _ (Host.reduce_andi_all _ _ _ _ j h1 i), fun i => real_of_lt _ (Host.reduce_andi_all _ _ _ _ j h2 i),
    fun i => real_of_lt _ (Host.reduce_andi_all _ _ _ _ j h3 i)⟩

end Cert.BandFinite
-- ==== Proof.BandClaims.lean ====
/- The claims of the band attention. Both frames of the kernel are one run read at two kinds of float; the value claim joins
   the kernel's result (BandKernel) with the reference's (BandRef) under the precondition (BandFinite). -/
module

public import proofs.«01_k».proof.Defs
public import proofs.«01_k».proof.Proof.Gen.Kernel.Frame
public import proofs.«01_k».proof.Proof.Gen.Pre_finite
public import proofs.«01_k».proof.Proof.BandKernel
public import proofs.«01_k».proof.Proof.BandRef
public import proofs.«01_k».proof.Proof.BandFinite

@[expose] public section

noncomputable section

namespace Cert.BandClaims

open Idealize.ShloMosaic Idealize.ShloMosaic.TcCoe Idealize.SL.Sem

theorem frame_kernel : Cert.quiescent_Kernel := fun m ρ _ => Cert.Kernel.Gen.frame m ρ

theorem frame_ideal : Cert.quiescent_KernelIdeal := fun m ρ _ => Cert.KernelIdeal.Gen.frame m ρ

theorem frame_ideal_finite : Cert.quiescent_KernelIdeal_pre_finite := fun m ρ _ => Cert.KernelIdeal.Gen.frame m ρ

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_reference_finite : Cert.quiescent_ReferenceIdeal_pre_finite := fun m ρ _ => frame_reference m ρ trivial

/-- The folded scale is the real `1 / (√128 · log 2)`, by the table of names. -/
theorem preserves : Cert.preserves_Kernel_KernelIdeal :=
  IdealRules.named_const.statement Cert.KernelIdeal.κ "scale_log2e" .f32 0x3E0293EE#32 (((Real.sqrt 128)⁻¹ * (Real.log 2)⁻¹ : ℝ) : EReal) rfl

/-- The reference's result array is the attention of its arguments. -/
theorem reference_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v57 (F := Ideal) m c
      = Cert.BandKernel.attendFn (m (c.tc.loc Cert.ReferenceIdeal.main_arg0)) (m (c.tc.loc Cert.ReferenceIdeal.main_arg1))
          (m (c.tc.loc Cert.ReferenceIdeal.main_arg2)) (m (c.tc.loc Cert.ReferenceIdeal.main_arg3)) := by
  funext y
  obtain ⟨b, s, e, rfl⟩ : ∃ (b : Fin 4) (s : Fin 8192) (e : Fin 1024), y = ix3 b s e :=
    ⟨y 0, y 1, y 2, by
      funext a
      match a with
      | ⟨0, _⟩ => rfl
      | ⟨1, _⟩ => rfl
      | ⟨2, _⟩ => rfl⟩
  rw [Cert.BandRef.res_apply]
  rfl

/-- What the precondition gives on a device: real queries, keys and table. -/
theorem reals (m : (ℓ : Loc Cert.KernelIdeal.nD Cert.KernelIdeal.τ Cert.KernelIdeal.sig) → Buf (Elt Ideal) ℓ)
    (h : Cert.Pre_KernelIdeal_finite m) (c : Dev Cert.KernelIdeal.nD) :
    (∀ i, ∃ r : ℝ, m (c.tc.loc Cert.KernelIdeal.main_arg0) i = (r : EReal))
      ∧ (∀ i, ∃ r : ℝ, m (c.tc.loc Cert.KernelIdeal.main_arg1) i = (r : EReal))
      ∧ ∀ i, ∃ r : ℝ, m (c.tc.loc Cert.KernelIdeal.main_arg3) i = (r : EReal) :=
  Cert.BandFinite.fn_real _ _ _ _ (fun a => a.elim0) (congrFun (h c) _)

theorem result_eq (m : (ℓ : Loc Cert.KernelIdeal.nD Cert.KernelIdeal.τ Cert.KernelIdeal.sig) → Buf (Elt Ideal) ℓ)
    (h : Cert.Pre_KernelIdeal_finite m) (c : Dev Cert.KernelIdeal.nD) :
    (Cert.KernelIdeal.Gen.dats m 0 c).arrAt 8 Cert.KernelIdeal.cfg0.N = Cert.BandKernel.G m c := by
  obtain ⟨hq, hk, hr⟩ := reals m h c
  choose qr hq using hq
  choose kr hk using hk
  choose rr hr using hr
  exact Cert.BandKernel.final m c qr kr rr hq hk hr

theorem algebraic : Cert.algebraic_KernelIdeal_ReferenceIdeal_pre_finite := by
  intro m g m' g' hm hagree
  refine ⟨fun c => Cert.BandKernel.G m c, ?_, ?_⟩
  · exact (θ_run Cert.KernelIdeal.defs _ _).mono (fun _ h c => ⟨(h c).1.trans (result_eq m hm c), (h c).2⟩)
      (Cert.KernelIdeal.Value.run_blocks (F := Ideal) m g)
  · refine (θ_run Cert.ReferenceIdeal.defs _ _).mono (fun _ h c => ⟨(h c).1.trans ?_, (h c).2⟩)
      (Cert.ReferenceIdeal.Value.run (F := Ideal) m' g')
    rw [reference_eq, (hagree c).1, (hagree c).2.1, (hagree c).2.2.1, (hagree c).2.2.2]
    rfl

end Cert.BandClaims
-- ==== Proof.MergeValue.lean ====
/- The branches' merge: the body's block at an entry, the staged arrays and the windows' blocks of them, and the result
   array at an entry, with the reference's result read beside it. -/
module

public import proofs.«01_k».proof.Proof.Gen.MergeIdeal.Value
public import proofs.«01_k».proof.Proof.Gen.MergeRefIdeal.Run
public import Idealize.ShloMosaic.Lib.Pointwise
public import Idealize.ShloMosaic.Lib.Claim
public import Idealize.ShloMosaic.Lib.StableHlo.ReadAt

@[expose] public section

set_option maxRecDepth 16384

noncomputable section

namespace Cert.MergeValue

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ)

/-- The logistic function, as the reference computes it. -/
def lgs (x : EReal) : EReal := Ideal.div 1 (1 + Ideal.exp (-x))

/-- The batch row of a token, -/
abbrev tb (x : Fin 32768) : Fin 4 := ⟨x.val / 8192, by omega⟩

/-- and its place in the row. -/
abbrev ts (x : Fin 32768) : Fin 8192 := ⟨x.val % 8192, by omega⟩

/-- A gate at token `x` and column `k`. -/
def gate (h : S4x8192x2048.Idx → EReal) (wg : S2048x4096.Idx → EReal) (bg : S4096.Idx → EReal) (x : Fin 32768) (k : Fin 4096) : EReal :=
  lgs ((∑ d : Fin 2048, h (ix3 (tb x) (ts x) d) * wg (ix2 d k)) + bg (ix1 k))

/-- A branch's projection at token `x` and column `n`. -/
def proj (o : S4x8192x1024.Idx → EReal) (p : S1024x2048.Idx → EReal) (x : Fin 32768) (n : Fin 2048) : EReal :=
  ∑ d : Fin 1024, o (ix3 (tb x) (ts x) d) * p (ix2 d n)

/-- The gated sum of the two branches, as an array over tokens and columns. -/
def mergeFn (h : S4x8192x2048.Idx → EReal) (oa ob : S4x8192x1024.Idx → EReal) (pa pb : S1024x2048.Idx → EReal)
    (wg : S2048x4096.Idx → EReal) (bg : S4096.Idx → EReal) : S32768x2048.Idx → EReal := fun y =>
  gate h wg bg (y 0) ⟨(y 1).val, by have h : (y 1).val < 2048 := (y 1).isLt; omega⟩ * proj oa pa (y 0) (y 1)
    + gate h wg bg (y 0) ⟨2048 + (y 1).val, by have h : (y 1).val < 2048 := (y 1).isLt; omega⟩ * proj ob pb (y 0) (y 1)

/-! ## The body's block -/

theorem hz : (![0, 0] : Fin 2 → Nat) = fun _ => 0 := funext fun a => by fin_cases a <;> rfl

theorem out_apply (x0 : Vec Ideal S1024x2048 .bf16) (x1 x2 : Vec Ideal S1024x1024 .bf16) (x3 x4 : Vec Ideal S1024x512 .bf16)
    (x5 x6 : Vec Ideal S2048x512 .bf16) (x7 x8 : Vec Ideal S1x512 .f32) (r : Fin 1024) (n : Fin 512) :
    out0_9 x0 x1 x2 x3 x4 x5 x6 x7 x8 (ix2 r n)
      = lgs ((∑ d : Fin 2048, x0 (ix2 r d) * x5 (ix2 d n)) + x7 (ix2 0 n)) * (∑ d : Fin 1024, x1 (ix2 r d) * x3 (ix2 d n))
        + lgs ((∑ d : Fin 2048, x0 (ix2 r d) * x6 (ix2 d n)) + x8 (ix2 0 n)) * (∑ d : Fin 1024, x2 (ix2 r d) * x4 (ix2 d n)) := by
  unfold out0_9
  rw [View.canon_unit_zero (S := S1024x512) hz, View.ld_unit_zero (S := S1024x2048) hz, View.ld_unit_zero (S := S2048x512) hz,
    View.ld_unit_zero (S := S2048x512) hz, View.ld_unit_zero (S := S1x512) hz, View.ld_unit_zero (S := S1x512) hz,
    View.ld_unit_zero (S := S1024x1024) hz, View.ld_unit_zero (S := S1024x1024) hz, View.ld_unit_zero (S := S1024x512) hz,
    View.ld_unit_zero (S := S1024x512) hz]
  unfold k0_pay1
  pointwise
  rfl

/-! ## The staged arrays -/

theorem h_apply (c : Dev nD) (x : Fin 32768) (d : Fin 2048) : V m c main_v1 (ix2 x d) = m (c.tc.loc main_arg0) (ix3 (tb x) (ts x) d) := by
  show StableHlo.after hostOps0 (fun b => m (c, b)) (Proc.devRef .tc main_v1) (ix2 x d) = _
  after_reads_simp
  clean_types
  pointwise

theorem oa_apply (c : Dev nD) (x : Fin 32768) (d : Fin 1024) : V m c main_v3 (ix2 x d) = m (c.tc.loc main_arg1) (ix3 (tb x) (ts x) d) := by
  show StableHlo.after hostOps0 (fun b => m (c, b)) (Proc.devRef .tc main_v3) (ix2 x d) = _
  after_reads_simp
  clean_types
  pointwise

theorem ob_apply (c : Dev nD) (x : Fin 32768) (d : Fin 1024) : V m c main_v5 (ix2 x d) = m (c.tc.loc main_arg2) (ix3 (tb x) (ts x) d) := by
  show StableHlo.after hostOps0 (fun b => m (c, b)) (Proc.devRef .tc main_v5) (ix2 x d) = _
  after_reads_simp
  clean_types
  pointwise

theorem pa_apply (c : Dev nD) (d : Fin 1024) (n : Fin 2048) : V m c main_v6 (ix2 d n) = m (c.tc.loc main_arg3) (ix2 d n) := by
  show StableHlo.after hostOps0 (fun b => m (c, b)) (Proc.devRef .tc main_v6) (ix2 d n) = _
  after_reads_simp
  clean_types
  pointwise

theorem pb_apply (c : Dev nD) (d : Fin 1024) (n : Fin 2048) : V m c main_v7 (ix2 d n) = m (c.tc.loc main_arg4) (ix2 d n) := by
  show StableHlo.after hostOps0 (fun b => m (c, b)) (Proc.devRef .tc main_v7) (ix2 d n) = _
  after_reads_simp
  clean_types
  pointwise

theorem wg_apply (c : Dev nD) (d : Fin 2048) (n : Fin 4096) : V m c main_v8 (ix2 d n) = m (c.tc.loc main_arg5) (ix2 d n) := by
  show StableHlo.after hostOps0 (fun b => m (c, b)) (Proc.devRef .tc main_v8) (ix2 d n) = _
  after_reads_simp
  clean_types
  pointwise

theorem bg_apply (c : Dev nD) (n : Fin 4096) : V m c main_v9 (ix2 0 n) = m (c.tc.loc main_arg6) (ix1 n) := by
  show StableHlo.after hostOps0 (fun b => m (c, b)) (Proc.devRef .tc main_v9) (ix2 0 n) = _
  after_reads_simp
  clean_types
  pointwise

/-! ## Where the windows stand -/

theorem t_lt (t : Fin cfg0.N) : t.val < 128 := by have h := t.isLt; have : cfg0.N = 128 := N_0; omega

/-- A row of a grid point's block of tokens, -/
def row (t : Fin cfg0.N) (r : Fin 1024) : Fin 32768 := ⟨1024 * (t.val / 4) + r.val, by have := t_lt t; omega⟩

/-- a column of its block of columns, -/
def colN (t : Fin cfg0.N) (n : Fin 512) : Fin 2048 := ⟨512 * (t.val % 4) + n.val, by omega⟩

/-- and that column among the first gates and among the second. -/
def colA (t : Fin cfg0.N) (n : Fin 512) : Fin 4096 := ⟨512 * (t.val % 4) + n.val, by omega⟩
def colB (t : Fin cfg0.N) (n : Fin 512) : Fin 4096 := ⟨2048 + (512 * (t.val % 4) + n.val), by omega⟩

theorem index_0 : ∀ t : Fin grid0.N, win0_0.index t 0 = t.val / 4 ∧ win0_0.index t 1 = 0 := by decide +kernel
theorem index_1 : ∀ t : Fin grid0.N, win0_1.index t 0 = t.val / 4 ∧ win0_1.index t 1 = 0 := by decide +kernel
theorem index_2 : ∀ t : Fin grid0.N, win0_2.index t 0 = t.val / 4 ∧ win0_2.index t 1 = 0 := by decide +kernel
theorem index_3 : ∀ t : Fin grid0.N, win0_3.index t 0 = 0 ∧ win0_3.index t 1 = t.val % 4 := by decide +kernel
theorem index_4 : ∀ t : Fin grid0.N, win0_4.index t 0 = 0 ∧ win0_4.index t 1 = t.val % 4 := by decide +kernel
theorem index_5 : ∀ t : Fin grid0.N, win0_5.index t 0 = 0 ∧ win0_5.index t 1 = t.val % 4 := by decide +kernel
theorem index_6 : ∀ t : Fin grid0.N, win0_6.index t 0 = 0 ∧ win0_6.index t 1 = t.val % 4 + 4 := by decide +kernel
theorem index_7 : ∀ t : Fin grid0.N, win0_7.index t 0 = 0 ∧ win0_7.index t 1 = t.val % 4 := by decide +kernel
theorem index_8 : ∀ t : Fin grid0.N, win0_8.index t 0 = 0 ∧ win0_8.index t 1 = t.val % 4 + 4 := by decide +kernel
theorem index_9 : ∀ t : Fin grid0.N, win0_9.index t 0 = t.val / 4 ∧ win0_9.index t 1 = t.val % 4 := by decide +kernel

theorem emb_0 (t : Fin cfg0.N) (a : Fin 1024) (b : Fin 2048) :
    (((cfg0.win 0).blk t).view.emb (ix2 a b) : S32768x2048.Idx) = ix2 (row t a) (b) := by
  have h := index_0 t
  funext e
  apply Fin.ext
  match e with
  | ⟨0, _⟩ => show win0_0.index t (0 : Fin 2) * 1024 + 1 * a.val = 1024 * (t.val / 4) + a.val; omega
  | ⟨1, _⟩ => show win0_0.index t (1 : Fin 2) * 2048 + 1 * b.val = b.val; omega

theorem blk_0 (c : Dev nD) (t : Fin cfg0.N) (a : Fin 1024) (b : Fin 2048) :
    (iblk m c 0 t : Vec Ideal S1024x2048 .bf16) (ix2 a b) = m (c.tc.loc main_arg0) (ix3 (tb (row t a)) (ts (row t a)) b) := by
  show V m c main_v1 (((cfg0.win 0).blk t).view.emb (ix2 a b)) = _
  rw [emb_0, h_apply]

theorem emb_1 (t : Fin cfg0.N) (a : Fin 1024) (b : Fin 1024) :
    (((cfg0.win 1).blk t).view.emb (ix2 a b) : S32768x1024.Idx) = ix2 (row t a) (b) := by
  have h := index_1 t
  funext e
  apply Fin.ext
  match e with
  | ⟨0, _⟩ => show win0_1.index t (0 : Fin 2) * 1024 + 1 * a.val = 1024 * (t.val / 4) + a.val; omega
  | ⟨1, _⟩ => show win0_1.index t (1 : Fin 2) * 1024 + 1 * b.val = b.val; omega

theorem blk_1 (c : Dev nD) (t : Fin cfg0.N) (a : Fin 1024) (b : Fin 1024) :
    (iblk m c 1 t : Vec Ideal S1024x1024 .bf16) (ix2 a b) = m (c.tc.loc main_arg1) (ix3 (tb (row t a)) (ts (row t a)) b) := by
  show V m c main_v3 (((cfg0.win 1).blk t).view.emb (ix2 a b)) = _
  rw [emb_1, oa_apply]

theorem emb_2 (t : Fin cfg0.N) (a : Fin 1024) (b : Fin 1024) :
    (((cfg0.win 2).blk t).view.emb (ix2 a b) : S32768x1024.Idx) = ix2 (row t a) (b) := by
  have h := index_2 t
  funext e
  apply Fin.ext
  match e with
  | ⟨0, _⟩ => show win0_2.index t (0 : Fin 2) * 1024 + 1 * a.val = 1024 * (t.val / 4) + a.val; omega
  | ⟨1, _⟩ => show win0_2.index t (1 : Fin 2) * 1024 + 1 * b.val = b.val; omega

theorem blk_2 (c : Dev nD) (t : Fin cfg0.N) (a : Fin 1024) (b : Fin 1024) :
    (iblk m c 2 t : Vec Ideal S1024x1024 .bf16) (ix2 a b) = m (c.tc.loc main_arg2) (ix3 (tb (row t a)) (ts (row t a)) b) := by
  show V m c main_v5 (((cfg0.win 2).blk t).view.emb (ix2 a b)) = _
  rw [emb_2, ob_apply]

theorem emb_3 (t : Fin cfg0.N) (a : Fin 1024) (b : Fin 512) :
    (((cfg0.win 3).blk t).view.emb (ix2 a b) : S1024x2048.Idx) = ix2 (a) (colN t b) := by
  have h := index_3 t
  funext e
  apply Fin.ext
  match e with
  | ⟨0, _⟩ => show win0_3.index t (0 : Fin 2) * 1024 + 1 * a.val = a.val; omega
  | ⟨1, _⟩ => show win0_3.index t (1 : Fin 2) * 512 + 1 * b.val = 512 * (t.val % 4) + b.val; omega

theorem blk_3 (c : Dev nD) (t : Fin cfg0.N) (a : Fin 1024) (b : Fin 512) :
    (iblk m c 3 t : Vec Ideal S1024x512 .bf16) (ix2 a b) = m (c.tc.loc main_arg3) (ix2 a (colN t b)) := by
  show V m c main_v6 (((cfg0.win 3).blk t).view.emb (ix2 a b)) = _
  rw [emb_3, pa_apply]

theorem emb_4 (t : Fin cfg0.N) (a : Fin 1024) (b : Fin 512) :
    (((cfg0.win 4).blk t).view.emb (ix2 a b) : S1024x2048.Idx) = ix2 (a) (colN t b) := by
  have h := index_4 t
  funext e
  apply Fin.ext
  match e with
  | ⟨0, _⟩ => show win0_4.index t (0 : Fin 2) * 1024 + 1 * a.val = a.val; omega
  | ⟨1, _⟩ => show win0_4.index t (1 : Fin 2) * 512 + 1 * b.val = 512 * (t.val % 4) + b.val; omega

theorem blk_4 (c : Dev nD) (t : Fin cfg0.N) (a : Fin 1024) (b : Fin 512) :
    (iblk m c 4 t : Vec Ideal S1024x512 .bf16) (ix2 a b) = m (c.tc.loc main_arg4) (ix2 a (colN t b)) := by
  show V m c main_v7 (((cfg0.win 4).blk t).view.emb (ix2 a b)) = _
  rw [emb_4, pb_apply]

theorem emb_5 (t : Fin cfg0.N) (a : Fin 2048) (b : Fin 512) :
    (((cfg0.win 5).blk t).view.emb (ix2 a b) : S2048x4096.Idx) = ix2 (a) (colA t b) := by
  have h := index_5 t
  funext e
  apply Fin.ext
  match e with
  | ⟨0, _⟩ => show win0_5.index t (0 : Fin 2) * 2048 + 1 * a.val = a.val; omega
  | ⟨1, _⟩ => show win0_5.index t (1 : Fin 2) * 512 + 1 * b.val = 512 * (t.val % 4) + b.val; omega

theorem blk_5 (c : Dev nD) (t : Fin cfg0.N) (a : Fin 2048) (b : Fin 512) :
    (iblk m c 5 t : Vec Ideal S2048x512 .bf16) (ix2 a b) = m (c.tc.loc main_arg5) (ix2 a (colA t b)) := by
  show V m c main_v8 (((cfg0.win 5).blk t).view.emb (ix2 a b)) = _
  rw [emb_5, wg_apply]

theorem emb_6 (t : Fin cfg0.N) (a : Fin 2048) (b : Fin 512) :
    (((cfg0.win 6).blk t).view.emb (ix2 a b) : S2048x4096.Idx) = ix2 (a) (colB t b) := by
  have h := index_6 t
  funext e
  apply Fin.ext
  match e with
  | ⟨0, _⟩ => show win0_6.index t (0 : Fin 2) * 2048 + 1 * a.val = a.val; omega
  | ⟨1, _⟩ => show win0_6.index t (1 : Fin 2) * 512 + 1 * b.val = 2048 + (512 * (t.val % 4) + b.val); omega

theorem blk_6 (c : Dev nD) (t : Fin cfg0.N) (a : Fin 2048) (b : Fin 512) :
    (iblk m c 6 t : Vec Ideal S2048x512 .bf16) (ix2 a b) = m (c.tc.loc main_arg5) (ix2 a (colB t b)) := by
  show V m c main_v8 (((cfg0.win 6).blk t).view.emb (ix2 a b)) = _
  rw [emb_6, wg_apply]

theorem emb_7 (t : Fin cfg0.N) (a : Fin 1) (b : Fin 512) :
    (((cfg0.win 7).blk t).view.emb (ix2 a b) : S1x4096.Idx) = ix2 (a) (colA t b) := by
  have h := index_7 t
  funext e
  apply Fin.ext
  match e with
  | ⟨0, _⟩ => show win0_7.index t (0 : Fin 2) * 1 + 1 * a.val = a.val; omega
  | ⟨1, _⟩ => show win0_7.index t (1 : Fin 2) * 512 + 1 * b.val = 512 * (t.val % 4) + b.val; omega

theorem blk_7 (c : Dev nD) (t : Fin cfg0.N) (b : Fin 512) :
    (iblk m c 7 t : Vec Ideal S1x512 .f32) (ix2 (0 : Fin 1) b) = m (c.tc.loc main_arg6) (ix1 (colA t b)) := by
  show V m c main_v9 (((cfg0.win 7).blk t).view.emb (ix2 (0 : Fin 1) b)) = _
  rw [emb_7, bg_apply]

theorem emb_8 (t : Fin cfg0.N) (a : Fin 1) (b : Fin 512) :
    (((cfg0.win 8).blk t).view.emb (ix2 a b) : S1x4096.Idx) = ix2 (a) (colB t b) := by
  have h := index_8 t
  funext e
  apply Fin.ext
  match e with
  | ⟨0, _⟩ => show win0_8.index t (0 : Fin 2) * 1 + 1 * a.val = a.val; omega
  | ⟨1, _⟩ => show win0_8.index t (1 : Fin 2) * 512 + 1 * b.val = 2048 + (512 * (t.val % 4) + b.val); omega

theorem blk_8 (c : Dev nD) (t : Fin cfg0.N) (b : Fin 512) :
    (iblk m c 8 t : Vec Ideal S1x512 .f32) (ix2 (0 : Fin 1) b) = m (c.tc.loc main_arg6) (ix1 (colB t b)) := by
  show V m c main_v9 (((cfg0.win 8).blk t).view.emb (ix2 (0 : Fin 1) b)) = _
  rw [emb_8, bg_apply]

theorem emb_9 (t : Fin cfg0.N) (a : Fin 1024) (b : Fin 512) :
    (((cfg0.win 9).blk t).view.emb (ix2 a b) : S32768x2048.Idx) = ix2 (row t a) (colN t b) := by
  have h := index_9 t
  funext e
  apply Fin.ext
  match e with
  | ⟨0, _⟩ => show win0_9.index t (0 : Fin 2) * 1024 + 1 * a.val = 1024 * (t.val / 4) + a.val; omega
  | ⟨1, _⟩ => show win0_9.index t (1 : Fin 2) * 512 + 1 * b.val = 512 * (t.val % 4) + b.val; omega

/-! ## The result array -/

/-- A body's block is the gated sum at the entries where the block stands, given what its windows hold. -/
theorem block_fn (h : S4x8192x2048.Idx → EReal) (oa ob : S4x8192x1024.Idx → EReal) (pa pb : S1024x2048.Idx → EReal)
    (wg : S2048x4096.Idx → EReal) (bg : S4096.Idx → EReal)
    (x0 : Vec Ideal S1024x2048 .bf16) (x1 x2 : Vec Ideal S1024x1024 .bf16) (x3 x4 : Vec Ideal S1024x512 .bf16)
    (x5 x6 : Vec Ideal S2048x512 .bf16) (x7 x8 : Vec Ideal S1x512 .f32) (t : Fin cfg0.N)
    (h0 : ∀ a b, x0 (ix2 a b) = h (ix3 (tb (row t a)) (ts (row t a)) b))
    (h1 : ∀ a b, x1 (ix2 a b) = oa (ix3 (tb (row t a)) (ts (row t a)) b))
    (h2 : ∀ a b, x2 (ix2 a b) = ob (ix3 (tb (row t a)) (ts (row t a)) b))
    (h3 : ∀ a b, x3 (ix2 a b) = pa (ix2 a (colN t b))) (h4 : ∀ a b, x4 (ix2 a b) = pb (ix2 a (colN t b)))
    (h5 : ∀ a b, x5 (ix2 a b) = wg (ix2 a (colA t b))) (h6 : ∀ a b, x6 (ix2 a b) = wg (ix2 a (colB t b)))
    (h7 : ∀ b, x7 (ix2 0 b) = bg (ix1 (colA t b))) (h8 : ∀ b, x8 (ix2 0 b) = bg (ix1 (colB t b)))
    (r : Fin 1024) (n : Fin 512) :
    out0_9 x0 x1 x2 x3 x4 x5 x6 x7 x8 (ix2 r n) = mergeFn h oa ob pa pb wg bg (ix2 (row t r) (colN t n)) := by
  rw [out_apply]
  simp only [h0, h1, h2, h3, h4, h5, h6, h7, h8]
  rfl

/-- What is cut from a block that agrees with `G` where the block stands is the block of `G`. -/
theorem cut_eq (t : Fin cfg0.N) (X : Vec Ideal S1024x512 .bf16) (G : Vec Ideal S32768x2048 .bf16)
    (h : ∀ r n, X (ix2 r n) = G (ix2 (row t r) (colN t n))) :
    (cfg0.win 9).cut (grid0.coords t) X = ((cfg0.win 9).blk t).view.read (Elt Ideal) G := by
  funext j
  obtain ⟨r, n, rfl⟩ : ∃ (r : Fin 1024) (n : Fin 512), j = ix2 r n :=
    ⟨j 0, j 1, by
      funext a
      match a with
      | ⟨0, _⟩ => rfl
      | ⟨1, _⟩ => rfl⟩
  show X (ix2 r n) = G (((cfg0.win 9).blk t).view.emb (ix2 r n))
  rw [emb_9, h]

/-- The gated sum of device `c`'s arguments. -/
def G (c : Dev nD) : Vec Ideal S32768x2048 .bf16 :=
  mergeFn (m (c.tc.loc main_arg0)) (m (c.tc.loc main_arg1)) (m (c.tc.loc main_arg2)) (m (c.tc.loc main_arg3))
    (m (c.tc.loc main_arg4)) (m (c.tc.loc main_arg5)) (m (c.tc.loc main_arg6))

theorem flushed_eq (c : Dev nD) (t : Fin cfg0.N) :
    (dats m 0 c).flushed 9 t = ((cfg0.win 9).blk t).view.read (Elt Ideal) (G m c) := by
  rw [Cert.MergeIdeal.Value.flushed9]
  exact cut_eq t _ _ fun r n => block_fn _ _ _ _ _ _ _ _ _ _ _ _ _ _ _ _ t (fun a b => blk_0 m c t a b)
    (fun a b => blk_1 m c t a b) (fun a b => blk_2 m c t a b) (fun a b => blk_3 m c t a b) (fun a b => blk_4 m c t a b)
    (fun a b => blk_5 m c t a b) (fun a b => blk_6 m c t a b) (fun b => blk_7 m c t b) (fun b => blk_8 m c t b) r n

/-- The blocks cover the array. -/
theorem cover (i : S32768x2048.Idx) : ∃ t : Fin cfg0.N, (cfg0.win 9).flush t = true ∧ i ∈ ((cfg0.win 9).blk t).view.set := by
  have h0 : (i 0 : Nat) < 32768 := (i 0).isLt
  have h1 : (i 1 : Nat) < 2048 := (i 1).isLt
  have hN : cfg0.N = 128 := N_0
  refine ⟨⟨(i 0).val / 1024 * 4 + (i 1).val / 512, by omega⟩, flush0_9 _, ?_⟩
  generalize ht : (⟨(i 0).val / 1024 * 4 + (i 1).val / 512, by omega⟩ : Fin cfg0.N) = t
  have hv : t.val = (i 0).val / 1024 * 4 + (i 1).val / 512 := by rw [← ht]
  have hi : i = ((cfg0.win 9).blk t).view.emb (ix2 (⟨(i 0).val % 1024, by omega⟩ : Fin 1024) (⟨(i 1).val % 512, by omega⟩ : Fin 512)) := by
    rw [emb_9]
    funext a
    apply Fin.ext
    match a with
    | ⟨0, _⟩ => show (i 0).val = 1024 * (t.val / 4) + (i 0).val % 1024; omega
    | ⟨1, _⟩ => show (i 1).val = 512 * (t.val % 4) + (i 1).val % 512; omega
  rw [hi]
  exact ((cfg0.win 9).blk t).view.emb_mem_set _

/-- So the result array ends holding the gated sum. -/
theorem final (c : Dev nD) : (dats m 0 c).arrAt 9 cfg0.N = G m c :=
  (dats m 0 c).arrAt_eq_of_cover 9 (G m c) (fun t _ => flushed_eq m c t) cover

/-! ## The reference -/

/-- The reference ends with the gated sum of its arguments. -/
theorem reference (m' : (ℓ : Loc Cert.MergeRefIdeal.nD Cert.MergeRefIdeal.τ Cert.MergeRefIdeal.sig) → Buf (Elt Ideal) ℓ)
    (g : Dev Cert.MergeRefIdeal.nD → PrngReg) :
    θ_run (Cert.MergeRefIdeal.defs (F := Ideal)) (onTc (τ := Cert.MergeRefIdeal.τ) (Cert.MergeRefIdeal.main (F := Ideal))) ⟨m', fun _ => 0, g⟩ fun r =>
      ∀ c : Dev Cert.MergeRefIdeal.nD,
        r.2.mem ((c.tc : Thread Cert.MergeRefIdeal.nD Cert.MergeRefIdeal.τ).loc Cert.MergeRefIdeal.main_v18)
          = mergeFn (m' (c.tc.loc Cert.MergeRefIdeal.main_arg0)) (m' (c.tc.loc Cert.MergeRefIdeal.main_arg1)) (m' (c.tc.loc Cert.MergeRefIdeal.main_arg2))
              (m' (c.tc.loc Cert.MergeRefIdeal.main_arg3)) (m' (c.tc.loc Cert.MergeRefIdeal.main_arg4)) (m' (c.tc.loc Cert.MergeRefIdeal.main_arg5))
              (m' (c.tc.loc Cert.MergeRefIdeal.main_arg6))
        ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
        ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
        ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
        ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
        ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
        ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
        ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6) := by
  refine (θ_run Cert.MergeRefIdeal.defs _ _).mono (fun _ h c => ⟨(h c).1.trans ?_, (h c).2⟩) (Cert.MergeRefIdeal.Value.run (F := Ideal) m' g)
  funext y
  obtain ⟨x, n, rfl⟩ : ∃ (x : Fin 32768) (n : Fin 2048), y = ix2 x n :=
    ⟨y 0, y 1, by
      funext a
      match a with
      | ⟨0, _⟩ => rfl
      | ⟨1, _⟩ => rfl⟩
  pointwise
  rfl

end Cert.MergeValue
-- ==== Proof.MergeClaims.lean ====
/- The claims of the branches' merge. -/
module

public import proofs.«01_k».proof.Defs
public import proofs.«01_k».proof.Proof.Gen.Merge.Frame
public import proofs.«01_k».proof.Proof.MergeValue

@[expose] public section

noncomputable section

namespace Cert.MergeClaims

open Idealize.ShloMosaic Idealize.ShloMosaic.TcCoe Idealize.SL.Sem

theorem frame_kernel : Cert.quiescent_Merge := fun m ρ _ => Cert.Merge.Gen.frame m ρ

theorem frame_ideal : Cert.quiescent_MergeIdeal := fun m ρ _ => Cert.MergeIdeal.Gen.frame m ρ

theorem frame_reference : Cert.quiescent_MergeRefIdeal := fun m ρ _ =>
  (θ_run Cert.MergeRefIdeal.defs _ _).mono (fun r h => ⟨fun c => (h c).2, Idealize.ShloMosaic.sem_eq_zero_of_no_sems (by decide) r.2⟩)
    (Cert.MergeRefIdeal.Value.run (F := Ideal) m ρ)

/-- The kernel's result and the reference's are the gated sum of the same arguments. -/
theorem algebraic : Cert.algebraic_MergeIdeal_MergeRefIdeal := by
  intro m g m' g' _ hagree
  refine ⟨fun c => Cert.MergeValue.G m c, ?_, ?_⟩
  · exact (θ_run Cert.MergeIdeal.defs _ _).mono (fun _ h c => ⟨(h c).1.trans (Cert.MergeValue.final m c), (h c).2⟩)
      (Cert.MergeIdeal.Value.run_blocks (F := Ideal) m g)
  · refine (θ_run Cert.MergeRefIdeal.defs _ _).mono (fun _ h c => ⟨(h c).1.trans ?_, (h c).2⟩)
      (Cert.MergeValue.reference m' g')
    rw [(hagree c).1, (hagree c).2.1, (hagree c).2.2.1, (hagree c).2.2.2.1, (hagree c).2.2.2.2.1, (hagree c).2.2.2.2.2.1, (hagree c).2.2.2.2.2.2]
    rfl

end Cert.MergeClaims
-- ==== Proof.OutprojValue.lean ====
/- The output projection with its residual and second norm: the body's two blocks at an entry, the staged arrays and the
   windows' blocks of them, the two result arrays, and the reference's results read beside them. -/
module

public import proofs.«01_k».proof.Proof.Gen.OutprojIdeal.Value
public import proofs.«01_k».proof.Proof.Gen.OutprojRefIdeal.Run
public import Idealize.ShloMosaic.Lib.Pointwise
public import Idealize.ShloMosaic.Lib.Claim
public import Idealize.ShloMosaic.Lib.StableHlo.ReadAt

@[expose] public section

set_option maxRecDepth 16384

noncomputable section

namespace Cert.OutprojValue

open Cert.OutprojIdeal Cert.OutprojIdeal.Gen Idealize.ShloMosaic Idealize.ShloMosaic.TcCoe Idealize.SL.Sem
open Idealize.ShloMosaic.Pipeline (Dat)

variable (m : (ℓ : Loc nD τ sig) → Buf (Elt Ideal) ℓ)

/-- The residual stream after the attention half: `x` plus the gated projection of the merged branches. -/
def stream (mg x : S4x8192x2048.Idx → EReal) (w : S2048x2048.Idx → EReal) (md : S4x12288.Idx → EReal)
    (b : Fin 4) (s : Fin 8192) (n : Fin 2048) : EReal :=
  x (ix3 b s n) + md (ix2 b ⟨4096 + n.val, by omega⟩) * ∑ d : Fin 2048, mg (ix3 b s d) * w (ix2 d n)

/-- One over the root of a row's mean square. -/
def invRms (row : Fin 2048 → EReal) : EReal :=
  Ideal.rsqrt (Ideal.div (∑ k, row k * row k) (Ideal.ofBits FTy.f32 0x45000000#32) + Ideal.ofBits FTy.f32 0x358637BD#32)

/-- The normed row with its weight, scale and shift, at a column. -/
def modulated (row : Fin 2048 → EReal) (g sc sh : EReal) (n : Fin 2048) : EReal :=
  row n * invRms row * g * (1 + sc) + sh

/-- The residual stream as an array. -/
def streamFn (mg x : S4x8192x2048.Idx → EReal) (w : S2048x2048.Idx → EReal) (md : S4x12288.Idx → EReal) : S4x8192x2048.Idx → EReal :=
  fun y => stream mg x w md (y 0) (y 1) (y 2)

/-- The normed and modulated stream as an array. -/
def normedFn (mg x : S4x8192x2048.Idx → EReal) (w : S2048x2048.Idx → EReal) (md : S4x12288.Idx → EReal)
    (g : S2048.Idx → EReal) : S4x8192x2048.Idx → EReal := fun y =>
  modulated (stream mg x w md (y 0) (y 1)) (g (ix1 (y 2)))
    (md (ix2 (y 0) ⟨8192 + (y 2).val, by have h : (y 2).val < 2048 := (y 2).isLt; omega⟩))
    (md (ix2 (y 0) ⟨6144 + (y 2).val, by have h : (y 2).val < 2048 := (y 2).isLt; omega⟩)) (y 2)

/-! ## The body's blocks -/

theorem hz : (![0, 0] : Fin 2 → Nat) = fun _ => 0 := funext fun a => by fin_cases a <;> rfl
theorem hz3 : (![0, 0, 0] : Fin 3 → Nat) = fun _ => 0 := funext fun a => by fin_cases a <;> rfl

/-- A load of one row of the six modulation rows. -/
theorem ld_gate (x : Vec Ideal S1x6x2048 .f32) (n : Fin 2048) : View.ld x r0_2 (ix3 0 0 n) = x (ix3 0 2 n) := by
  show x _ = _
  congr 1
  funext a
  apply Fin.ext
  match a with
  | ⟨0, _⟩ => rfl
  | ⟨1, _⟩ => rfl
  | ⟨2, _⟩ => show 0 + 1 * n.val = n.val; omega

theorem ld_shift (x : Vec Ideal S1x6x2048 .f32) (n : Fin 2048) : View.ld x r0_4 (ix3 0 0 n) = x (ix3 0 3 n) := by
  show x _ = _
  congr 1
  funext a
  apply Fin.ext
  match a with
  | ⟨0, _⟩ => rfl
  | ⟨1, _⟩ => rfl
  | ⟨2, _⟩ => show 0 + 1 * n.val = n.val; omega

theorem ld_scale (x : Vec Ideal S1x6x2048 .f32) (n : Fin 2048) : View.ld x r0_5 (ix3 0 0 n) = x (ix3 0 4 n) := by
  show x _ = _
  congr 1
  funext a
  apply Fin.ext
  match a with
  | ⟨0, _⟩ => rfl
  | ⟨1, _⟩ => rfl
  | ⟨2, _⟩ => show 0 + 1 * n.val = n.val; omega

/-- The stream's row of a block. -/
def blockRow (x0 : Vec Ideal S1x512x2048 .bf16) (x1 : Vec Ideal S1x512x2048 .f32) (x2 : Vec Ideal S2048x2048 .bf16)
    (x3 : Vec Ideal S1x6x2048 .f32) (r : Fin 512) (n : Fin 2048) : EReal :=
  x1 (ix3 0 r n) + x3 (ix3 0 2 n) * ∑ d : Fin 2048, x0 (ix3 0 r d) * x2 (ix2 d n)

theorem pay2_apply (v0 : Vec Ideal S1x512x2048 .bf16) (v2 : Vec Ideal S2048x2048 .bf16) (v5 : Vec Ideal S1x512x2048 .f32)
    (v7 : Vec Ideal S1x1x2048 .f32) (r : Fin 512) (n : Fin 2048) :
    k0_pay2 v0 v2 v5 v7 (ix2 r n) = v5 (ix3 0 r n) + v7 (ix3 0 0 n) * ∑ d : Fin 2048, v0 (ix3 0 r d) * v2 (ix2 d n) := by
  unfold k0_pay2
  pointwise

theorem pay3_apply (v0 : Vec Ideal S1x512x2048 .bf16) (v2 : Vec Ideal S2048x2048 .bf16) (v5 : Vec Ideal S1x512x2048 .f32)
    (v7 : Vec Ideal S1x1x2048 .f32) (r : Fin 512) (n : Fin 2048) :
    k0_pay3 v0 v2 v5 v7 (ix3 0 r n) = k0_pay2 v0 v2 v5 v7 (ix2 r n) := by
  unfold k0_pay3
  pointwise

theorem pay7_apply (v0 : Vec Ideal S1x512x2048 .bf16) (v2 : Vec Ideal S2048x2048 .bf16) (v5 : Vec Ideal S1x512x2048 .f32)
    (v7 : Vec Ideal S1x1x2048 .f32) (r : Fin 512) (n : Fin 2048) :
    k0_pay7 v0 v2 v5 v7 (ix2 r n)
      = k0_pay2 v0 v2 v5 v7 (ix2 r n) * invRms fun k => k0_pay2 v0 v2 v5 v7 (ix2 r k) := by
  unfold k0_pay7
  generalize k0_pay2 v0 v2 v5 v7 = X
  pointwise
  rfl

theorem pay1_apply (v16 v18 v20 : Vec Ideal S1x2048 .f32) (v30 : FVec Ideal S512x2048 .f32) (r : Fin 512) (n : Fin 2048) :
    k0_pay1 v16 v18 v20 v30 (ix3 0 r n) = v30 (ix2 r n) * v16 (ix2 0 n) * (1 + v20 (ix2 0 n)) + v18 (ix2 0 n) := by
  unfold k0_pay1
  pointwise

theorem pay4_apply (v : Vec Ideal S1x2048 .f32) (n : Fin 2048) : k0_pay4 v (ix2 0 n) = v (ix2 0 n) := by
  unfold k0_pay4
  pointwise

theorem pay5_apply (v : Vec Ideal S1x1x2048 .f32) (n : Fin 2048) : k0_pay5 v (ix2 0 n) = v (ix3 0 0 n) := by
  unfold k0_pay5
  pointwise

theorem pay6_apply (v : Vec Ideal S1x1x2048 .f32) (n : Fin 2048) : k0_pay6 v (ix2 0 n) = v (ix3 0 0 n) := by
  unfold k0_pay6
  pointwise

theorem out5_apply (x0 : Vec Ideal S1x512x2048 .bf16) (x1 : Vec Ideal S1x512x2048 .f32) (x2 : Vec Ideal S2048x2048 .bf16)
    (x3 : Vec Ideal S1x6x2048 .f32) (x4 : Vec Ideal S1x2048 .f32) (r : Fin 512) (n : Fin 2048) :
    out0_5 x0 x1 x2 x3 x4 (ix3 0 r n) = blockRow x0 x1 x2 x3 r n := by
  unfold out0_5
  rw [View.canon_unit_zero (S := S1x512x2048) hz3, View.ld_unit_zero (S := S1x512x2048) hz3, View.ld_unit_zero (S := S1x512x2048) hz3,
    View.ld_unit_zero (S := S2048x2048) hz, pay3_apply, pay2_apply, ld_gate]
  rfl

theorem pay2_row (x0 : Vec Ideal S1x512x2048 .bf16) (x1 : Vec Ideal S1x512x2048 .f32) (x2 : Vec Ideal S2048x2048 .bf16)
    (x3 : Vec Ideal S1x6x2048 .f32) (r : Fin 512) (n : Fin 2048) :
    k0_pay2 x0 x2 x1 (View.ld x3 r0_2) (ix2 r n) = blockRow x0 x1 x2 x3 r n := by
  rw [pay2_apply, ld_gate]
  rfl

theorem out6_apply (x0 : Vec Ideal S1x512x2048 .bf16) (x1 : Vec Ideal S1x512x2048 .f32) (x2 : Vec Ideal S2048x2048 .bf16)
    (x3 : Vec Ideal S1x6x2048 .f32) (x4 : Vec Ideal S1x2048 .f32) (r : Fin 512) (n : Fin 2048) :
    out0_6 x0 x1 x2 x3 x4 (ix3 0 r n)
      = modulated (blockRow x0 x1 x2 x3 r) (x4 (ix2 0 n)) (x3 (ix3 0 4 n)) (x3 (ix3 0 3 n)) n := by
  unfold out0_6
  rw [View.canon_unit_zero (S := S1x512x2048) hz3, View.ld_unit_zero (S := S1x512x2048) hz3, View.ld_unit_zero (S := S1x512x2048) hz3,
    View.ld_unit_zero (S := S2048x2048) hz, View.ld_unit_zero (S := S1x2048) hz, pay1_apply, pay4_apply, pay5_apply, pay6_apply,
    pay7_apply, ld_shift, ld_scale, show (fun k => k0_pay2 x0 x2 x1 (View.ld x3 r0_2) (ix2 r k)) = blockRow x0 x1 x2 x3 r from
      funext fun k => pay2_row x0 x1 x2 x3 r k, pay2_row]
  rfl

/-! ## The staged arrays -/

theorem mg_apply (c : Dev nD) (b : Fin 4) (s : Fin 8192) (d : Fin 2048) :
    V m c main_v0 (ix3 b s d) = m (c.tc.loc main_arg0) (ix3 b s d) := by
  show StableHlo.after hostOps0 (fun b => m (c, b)) (Proc.devRef .tc main_v0) (ix3 b s d) = _
  after_reads_simp
  clean_types
  pointwise

theorem x_apply (c : Dev nD) (b : Fin 4) (s : Fin 8192) (d : Fin 2048) :
    V m c main_arg1 (ix3 b s d) = m (c.tc.loc main_arg1) (ix3 b s d) := by
  rw [V_main_arg1]

theorem w_apply (c : Dev nD) (d n : Fin 2048) :
    V m c main_v1 (ix2 d n) = m (c.tc.loc main_arg2) (ix2 d n) := by
  show StableHlo.after hostOps0 (fun b => m (c, b)) (Proc.devRef .tc main_v1) (ix2 d n) = _
  after_reads_simp
  clean_types
  pointwise

theorem md_apply (c : Dev nD) (b : Fin 4) (k : Fin 6) (n : Fin 2048) :
    V m c main_v2 (ix3 b k n) = m (c.tc.loc main_arg3) (ix2 b ⟨k.val * 2048 + n.val, by omega⟩) := by
  show StableHlo.after hostOps0 (fun b => m (c, b)) (Proc.devRef .tc main_v2) (ix3 b k n) = _
  after_reads_simp
  clean_types
  pointwise

theorem g_apply (c : Dev nD) (n : Fin 2048) : V m c main_v3 (ix2 0 n) = m (c.tc.loc main_arg4) (ix1 n) := by
  show StableHlo.after hostOps0 (fun b => m (c, b)) (Proc.devRef .tc main_v3) (ix2 0 n) = _
  after_reads_simp
  clean_types
  pointwise

/-! ## Where the windows stand -/

/-- The batch row of a grid point, -/
def bOf (t : Fin cfg0.N) : Fin 4 := ⟨t.val / 16, by have h := t.isLt; have : cfg0.N = 64 := N_0; omega⟩

/-- and a row of its block of positions. -/
def pos (t : Fin cfg0.N) (r : Fin 512) : Fin 8192 := ⟨512 * (t.val % 16) + r.val, by omega⟩

theorem index_0 : ∀ t : Fin grid0.N, win0_0.index t 0 = t.val / 16 ∧ win0_0.index t 1 = t.val % 16 ∧ win0_0.index t 2 = 0 := by decide +kernel
theorem index_1 : ∀ t : Fin grid0.N, win0_1.index t 0 = t.val / 16 ∧ win0_1.index t 1 = t.val % 16 ∧ win0_1.index t 2 = 0 := by decide +kernel
theorem index_2 : ∀ t : Fin grid0.N, win0_2.index t 0 = 0 ∧ win0_2.index t 1 = 0 := by decide +kernel
theorem index_3 : ∀ t : Fin grid0.N, win0_3.index t 0 = t.val / 16 ∧ win0_3.index t 1 = 0 ∧ win0_3.index t 2 = 0 := by decide +kernel
theorem index_4 : ∀ t : Fin grid0.N, win0_4.index t 0 = 0 ∧ win0_4.index t 1 = 0 := by decide +kernel
theorem index_5 : ∀ t : Fin grid0.N, win0_5.index t 0 = t.val / 16 ∧ win0_5.index t 1 = t.val % 16 ∧ win0_5.index t 2 = 0 := by decide +kernel
theorem index_6 : ∀ t : Fin grid0.N, win0_6.index t 0 = t.val / 16 ∧ win0_6.index t 1 = t.val % 16 ∧ win0_6.index t 2 = 0 := by decide +kernel

/-- An index of the arrays of tokens from its three coordinates. -/
theorem ix3_of (i : S4x8192x2048.Idx) (t : Fin cfg0.N) (r : Fin 512) (n : Fin 2048) (h0 : (i 0).val = t.val / 16)
    (h1 : (i 1).val = 512 * (t.val % 16) + r.val) (h2 : (i 2).val = n.val) : i = ix3 (bOf t) (pos t r) n := by
  funext a
  apply Fin.ext
  match a with
  | ⟨0, _⟩ => exact h0
  | ⟨1, _⟩ => exact h1
  | ⟨2, _⟩ => exact h2

theorem emb_0 (t : Fin cfg0.N) (r : Fin 512) (n : Fin 2048) :
    (((cfg0.win 0).blk t).view.emb (ix3 (0 : Fin 1) r n) : S4x8192x2048.Idx) = ix3 (bOf t) (pos t r) n := by
  have h := index_0 t
  apply ix3_of
  · show win0_0.index t (0 : Fin 3) * 1 + 1 * 0 = t.val / 16; omega
  · show win0_0.index t (1 : Fin 3) * 512 + 1 * r.val = 512 * (t.val % 16) + r.val; omega
  · show win0_0.index t (2 : Fin 3) * 2048 + 1 * n.val = n.val; omega

theorem emb_1 (t : Fin cfg0.N) (r : Fin 512) (n : Fin 2048) :
    (((cfg0.win 1).blk t).view.emb (ix3 (0 : Fin 1) r n) : S4x8192x2048.Idx) = ix3 (bOf t) (pos t r) n := by
  have h := index_1 t
  apply ix3_of
  · show win0_1.index t (0 : Fin 3) * 1 + 1 * 0 = t.val / 16; omega
  · show win0_1.index t (1 : Fin 3) * 512 + 1 * r.val = 512 * (t.val % 16) + r.val; omega
  · show win0_1.index t (2 : Fin 3) * 2048 + 1 * n.val = n.val; omega

theorem emb_5 (t : Fin cfg0.N) (r : Fin 512) (n : Fin 2048) :
    (((cfg0.win 5).blk t).view.emb (ix3 (0 : Fin 1) r n) : S4x8192x2048.Idx) = ix3 (bOf t) (pos t r) n := by
  have h := index_5 t
  apply ix3_of
  · show win0_5.index t (0 : Fin 3) * 1 + 1 * 0 = t.val / 16; omega
  · show win0_5.index t (1 : Fin 3) * 512 + 1 * r.val = 512 * (t.val % 16) + r.val; omega
  · show win0_5.index t (2 : Fin 3) * 2048 + 1 * n.val = n.val; omega

theorem emb_6 (t : Fin cfg0.N) (r : Fin 512) (n : Fin 2048) :
    (((cfg0.win 6).blk t).view.emb (ix3 (0 : Fin 1) r n) : S4x8192x2048.Idx) = ix3 (bOf t) (pos t r) n := by
  have h := index_6 t
  apply ix3_of
  · show win0_6.index t (0 : Fin 3) * 1 + 1 * 0 = t.val / 16; omega
  · show win0_6.index t (1 : Fin 3) * 512 + 1 * r.val = 512 * (t.val % 16) + r.val; omega
  · show win0_6.index t (2 : Fin 3) * 2048 + 1 * n.val = n.val; omega

theorem emb_2 (t : Fin cfg0.N) (d n : Fin 2048) :
    (((cfg0.win 2).blk t).view.emb (ix2 d n) : S2048x2048.Idx) = ix2 d n := by
  have h := index_2 t
  funext a
  apply Fin.ext
  match a with
  | ⟨0, _⟩ => show win0_2.index t (0 : Fin 2) * 2048 + 1 * d.val = d.val; omega
  | ⟨1, _⟩ => show win0_2.index t (1 : Fin 2) * 2048 + 1 * n.val = n.val; omega

theorem emb_3 (t : Fin cfg0.N) (k : Fin 6) (n : Fin 2048) :
    (((cfg0.win 3).blk t).view.emb (ix3 (0 : Fin 1) k n) : S4x6x2048.Idx) = ix3 (bOf t) k n := by
  have h := index_3 t
  funext a
  apply Fin.ext
  match a with
  | ⟨0, _⟩ => show win0_3.index t (0 : Fin 3) * 1 + 1 * 0 = t.val / 16; omega
  | ⟨1, _⟩ => show win0_3.index t (1 : Fin 3) * 6 + 1 * k.val = k.val; omega
  | ⟨2, _⟩ => show win0_3.index t (2 : Fin 3) * 2048 + 1 * n.val = n.val; omega

theorem emb_4 (t : Fin cfg0.N) (n : Fin 2048) :
    (((cfg0.win 4).blk t).view.emb (ix2 (0 : Fin 1) n) : S1x2048.Idx) = ix2 0 n := by
  have h := index_4 t
  funext a
  apply Fin.ext
  match a with
  | ⟨0, _⟩ => show win0_4.index t (0 : Fin 2) * 1 + 1 * 0 = 0; omega
  | ⟨1, _⟩ => show win0_4.index t (1 : Fin 2) * 2048 + 1 * n.val = n.val; omega

theorem blk_0 (c : Dev nD) (t : Fin cfg0.N) (r : Fin 512) (n : Fin 2048) :
    (iblk m c 0 t : Vec Ideal S1x512x2048 .bf16) (ix3 0 r n) = m (c.tc.loc main_arg0) (ix3 (bOf t) (pos t r) n) := by
  show V m c main_v0 (((cfg0.win 0).blk t).view.emb (ix3 (0 : Fin 1) r n)) = _
  rw [emb_0, mg_apply]

theorem blk_1 (c : Dev nD) (t : Fin cfg0.N) (r : Fin 512) (n : Fin 2048) :
    (iblk m c 1 t : Vec Ideal S1x512x2048 .f32) (ix3 0 r n) = m (c.tc.loc main_arg1) (ix3 (bOf t) (pos t r) n) := by
  show V m c main_arg1 (((cfg0.win 1).blk t).view.emb (ix3 (0 : Fin 1) r n)) = _
  rw [emb_1, x_apply]

theorem blk_2 (c : Dev nD) (t : Fin cfg0.N) (d n : Fin 2048) :
    (iblk m c 2 t : Vec Ideal S2048x2048 .bf16) (ix2 d n) = m (c.tc.loc main_arg2) (ix2 d n) := by
  show V m c main_v1 (((cfg0.win 2).blk t).view.emb (ix2 d n)) = _
  rw [emb_2, w_apply]

theorem blk_3 (c : Dev nD) (t : Fin cfg0.N) (k : Fin 6) (n : Fin 2048) :
    (iblk m c 3 t : Vec Ideal S1x6x2048 .f32) (ix3 0 k n) = m (c.tc.loc main_arg3) (ix2 (bOf t) ⟨k.val * 2048 + n.val, by omega⟩) := by
  show V m c main_v2 (((cfg0.win 3).blk t).view.emb (ix3 (0 : Fin 1) k n)) = _
  rw [emb_3, md_apply]

theorem blk_4 (c : Dev nD) (t : Fin cfg0.N) (n : Fin 2048) :
    (iblk m c 4 t : Vec Ideal S1x2048 .f32) (ix2 0 n) = m (c.tc.loc main_arg4) (ix1 n) := by
  show V m c main_v3 (((cfg0.win 4).blk t).view.emb (ix2 (0 : Fin 1) n)) = _
  rw [emb_4, g_apply]

/-! ## The result arrays -/

section
variable (mg x : S4x8192x2048.Idx → EReal) (w : S2048x2048.Idx → EReal) (md : S4x12288.Idx → EReal) (g : S2048.Idx → EReal)
    (x0 : Vec Ideal S1x512x2048 .bf16) (x1 : Vec Ideal S1x512x2048 .f32) (x2 : Vec Ideal S2048x2048 .bf16)
    (x3 : Vec Ideal S1x6x2048 .f32) (x4 : Vec Ideal S1x2048 .f32) (t : Fin cfg0.N)
    (h0 : ∀ r n, x0 (ix3 0 r n) = mg (ix3 (bOf t) (pos t r) n)) (h1 : ∀ r n, x1 (ix3 0 r n) = x (ix3 (bOf t) (pos t r) n))
    (h2 : ∀ d n, x2 (ix2 d n) = w (ix2 d n)) (h3 : ∀ (k : Fin 6) (n : Fin 2048), x3 (ix3 0 k n) = md (ix2 (bOf t) ⟨k.val * 2048 + n.val, by omega⟩))
    (h4 : ∀ n, x4 (ix2 0 n) = g (ix1 n))

include h0 h1 h2 h3

/-- A block's row is the stream's row where the block stands, given what its windows hold; -/
theorem row_eq (r : Fin 512) : blockRow x0 x1 x2 x3 r = stream mg x w md (bOf t) (pos t r) := by
  funext n
  unfold blockRow
  simp only [h0, h1, h2, h3]
  rfl

theorem block5 (r : Fin 512) (n : Fin 2048) :
    out0_5 x0 x1 x2 x3 x4 (ix3 0 r n) = streamFn mg x w md (ix3 (bOf t) (pos t r) n) := by
  rw [out5_apply, row_eq mg x w md x0 x1 x2 x3 t h0 h1 h2 h3]
  rfl

include h4

/-- and the second block is its norm. -/
theorem block6 (r : Fin 512) (n : Fin 2048) :
    out0_6 x0 x1 x2 x3 x4 (ix3 0 r n) = normedFn mg x w md g (ix3 (bOf t) (pos t r) n) := by
  rw [out6_apply, row_eq mg x w md x0 x1 x2 x3 t h0 h1 h2 h3, h3, h3, h4]
  rfl
end

theorem j_of (j : S1x512x2048.Idx) : ∃ (r : Fin 512) (n : Fin 2048), j = ix3 (0 : Fin 1) r n :=
  ⟨j 1, j 2, by
    funext a; apply Fin.ext
    match a with
    | ⟨0, _⟩ => exact Nat.lt_one_iff.mp (j 0).isLt
    | ⟨1, _⟩ => rfl
    | ⟨2, _⟩ => rfl⟩

/-- What is cut from a block that agrees with `G` where the block stands is the block of `G`. -/
theorem cut5_eq (t : Fin cfg0.N) (X : Vec Ideal S1x512x2048 .f32) (G : Vec Ideal S4x8192x2048 .f32)
    (h : ∀ r n, X (ix3 0 r n) = G (ix3 (bOf t) (pos t r) n)) :
    (cfg0.win 5).cut (grid0.coords t) X = ((cfg0.win 5).blk t).view.read (Elt Ideal) G := by
  funext j
  obtain ⟨r, n, rfl⟩ := j_of j
  show X (ix3 0 r n) = G (((cfg0.win 5).blk t).view.emb (ix3 (0 : Fin 1) r n))
  rw [emb_5, h]

theorem cut6_eq (t : Fin cfg0.N) (X : Vec Ideal S1x512x2048 .bf16) (G : Vec Ideal S4x8192x2048 .bf16)
    (h : ∀ r n, X (ix3 0 r n) = G (ix3 (bOf t) (pos t r) n)) :
    (cfg0.win 6).cut (grid0.coords t) X = ((cfg0.win 6).blk t).view.read (Elt Ideal) G := by
  funext j
  obtain ⟨r, n, rfl⟩ := j_of j
  show X (ix3 0 r n) = G (((cfg0.win 6).blk t).view.emb (ix3 (0 : Fin 1) r n))
  rw [emb_6, h]

/-- The stream and its norm, of device `c`'s arguments. -/
def G5 (c : Dev nD) : Vec Ideal S4x8192x2048 .f32 :=
  streamFn (m (c.tc.loc main_arg0)) (m (c.tc.loc main_arg1)) (m (c.tc.loc main_arg2)) (m (c.tc.loc main_arg3))

def G6 (c : Dev nD) : Vec Ideal S4x8192x2048 .bf16 :=
  normedFn (m (c.tc.loc main_arg0)) (m (c.tc.loc main_arg1)) (m (c.tc.loc main_arg2)) (m (c.tc.loc main_arg3)) (m (c.tc.loc main_arg4))

theorem flushed5_eq (c : Dev nD) (t : Fin cfg0.N) :
    (dats m 0 c).flushed 5 t = ((cfg0.win 5).blk t).view.read (Elt Ideal) (G5 m c) := by
  rw [Cert.OutprojIdeal.Value.flushed5]
  exact cut5_eq t _ _ fun r n => block5 _ _ _ _ _ _ _ _ _ t (fun r n => blk_0 m c t r n) (fun r n => blk_1 m c t r n)
    (fun d n => blk_2 m c t d n) (fun k n => blk_3 m c t k n) r n

theorem flushed6_eq (c : Dev nD) (t : Fin cfg0.N) :
    (dats m 0 c).flushed 6 t = ((cfg0.win 6).blk t).view.read (Elt Ideal) (G6 m c) := by
  rw [Cert.OutprojIdeal.Value.flushed6]
  exact cut6_eq t _ _ fun r n => block6 _ _ _ _ _ _ _ _ _ _ t (fun r n => blk_0 m c t r n) (fun r n => blk_1 m c t r n)
    (fun d n => blk_2 m c t d n) (fun k n => blk_3 m c t k n) (fun n => blk_4 m c t n) r n

/-- Every index of the arrays is in the block of one grid point. -/
theorem point_of (i : S4x8192x2048.Idx) : ∃ (t : Fin cfg0.N) (r : Fin 512) (n : Fin 2048), i = ix3 (bOf t) (pos t r) n := by
  have h0 : (i 0 : Nat) < 4 := (i 0).isLt
  have h1 : (i 1 : Nat) < 8192 := (i 1).isLt
  have h2 : (i 2 : Nat) < 2048 := (i 2).isLt
  have hN : cfg0.N = 64 := N_0
  refine ⟨⟨(i 0).val * 16 + (i 1).val / 512, by omega⟩, ⟨(i 1).val % 512, by omega⟩, ⟨(i 2).val, h2⟩, ?_⟩
  apply ix3_of
  · show (i 0).val = ((i 0).val * 16 + (i 1).val / 512) / 16; omega
  · show (i 1).val = 512 * (((i 0).val * 16 + (i 1).val / 512) % 16) + (i 1).val % 512; omega
  · rfl

theorem cover5 (i : S4x8192x2048.Idx) : ∃ t : Fin cfg0.N, (cfg0.win 5).flush t = true ∧ i ∈ ((cfg0.win 5).blk t).view.set := by
  obtain ⟨t, r, n, hi⟩ := point_of i
  refine ⟨t, flush0_5 _, ?_⟩
  rw [hi, ← emb_5]
  exact ((cfg0.win 5).blk t).view.emb_mem_set _

theorem cover6 (i : S4x8192x2048.Idx) : ∃ t : Fin cfg0.N, (cfg0.win 6).flush t = true ∧ i ∈ ((cfg0.win 6).blk t).view.set := by
  obtain ⟨t, r, n, hi⟩ := point_of i
  refine ⟨t, flush0_6 _, ?_⟩
  rw [hi, ← emb_6]
  exact ((cfg0.win 6).blk t).view.emb_mem_set _

/-- So the result arrays end holding the stream and its norm. -/
theorem final5 (c : Dev nD) : (dats m 0 c).arrAt 5 cfg0.N = G5 m c :=
  (dats m 0 c).arrAt_eq_of_cover 5 (G5 m c) (fun t _ => flushed5_eq m c t) cover5

theorem final6 (c : Dev nD) : (dats m 0 c).arrAt 6 cfg0.N = G6 m c :=
  (dats m 0 c).arrAt_eq_of_cover 6 (G6 m c) (fun t _ => flushed6_eq m c t) cover6

/-! ## The reference -/

/-- The reference ends with the stream and its norm, of its arguments. -/
theorem reference (m' : (ℓ : Loc Cert.OutprojRefIdeal.nD Cert.OutprojRefIdeal.τ Cert.OutprojRefIdeal.sig) → Buf (Elt Ideal) ℓ)
    (g : Dev Cert.OutprojRefIdeal.nD → PrngReg) :
    θ_run (Cert.OutprojRefIdeal.defs (F := Ideal)) (onTc (τ := Cert.OutprojRefIdeal.τ) (Cert.OutprojRefIdeal.main (F := Ideal))) ⟨m', fun _ => 0, g⟩ fun r =>
      ∀ c : Dev Cert.OutprojRefIdeal.nD,
        r.2.mem ((c.tc : Thread Cert.OutprojRefIdeal.nD Cert.OutprojRefIdeal.τ).loc Cert.OutprojRefIdeal.main_v10)
          = streamFn (m' (c.tc.loc Cert.OutprojRefIdeal.main_arg0)) (m' (c.tc.loc Cert.OutprojRefIdeal.main_arg1))
              (m' (c.tc.loc Cert.OutprojRefIdeal.main_arg2)) (m' (c.tc.loc Cert.OutprojRefIdeal.main_arg3))
        ∧ r.2.mem ((c.tc : Thread Cert.OutprojRefIdeal.nD Cert.OutprojRefIdeal.τ).loc Cert.OutprojRefIdeal.main_v32)
          = normedFn (m' (c.tc.loc Cert.OutprojRefIdeal.main_arg0)) (m' (c.tc.loc Cert.OutprojRefIdeal.main_arg1))
              (m' (c.tc.loc Cert.OutprojRefIdeal.main_arg2)) (m' (c.tc.loc Cert.OutprojRefIdeal.main_arg3)) (m' (c.tc.loc Cert.OutprojRefIdeal.main_arg4))
        ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
        ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
        ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
        ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
        ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4) := by
  refine (θ_run Cert.OutprojRefIdeal.defs _ _).mono (fun _ h c => ⟨(h c).1.trans ?_, (h c).2.1.trans ?_, (h c).2.2⟩)
    (Cert.OutprojRefIdeal.Value.run (F := Ideal) m' g)
  · clear h
    funext y
    obtain ⟨b, s, n, rfl⟩ : ∃ (b : Fin 4) (s : Fin 8192) (n : Fin 2048), y = ix3 b s n :=
      ⟨y 0, y 1, y 2, by
        funext a
        match a with
        | ⟨0, _⟩ => rfl
        | ⟨1, _⟩ => rfl
        | ⟨2, _⟩ => rfl⟩
    pointwise
    rfl
  · clear h
    funext y
    obtain ⟨b, s, n, rfl⟩ : ∃ (b : Fin 4) (s : Fin 8192) (n : Fin 2048), y = ix3 b s n :=
      ⟨y 0, y 1, y 2, by
        funext a
        match a with
        | ⟨0, _⟩ => rfl
        | ⟨1, _⟩ => rfl
        | ⟨2, _⟩ => rfl⟩
    pointwise
    rfl

end Cert.OutprojValue
-- ==== Proof.OutprojClaims.lean ====
/- The claims of the output projection and its norm. -/
module

public import proofs.«01_k».proof.Defs
public import proofs.«01_k».proof.Proof.Gen.Outproj.Frame
public import proofs.«01_k».proof.Proof.OutprojValue

@[expose] public section

noncomputable section

namespace Cert.OutprojClaims

open Idealize.ShloMosaic Idealize.ShloMosaic.TcCoe Idealize.SL.Sem

theorem frame_kernel : Cert.quiescent_Outproj := fun m ρ _ => Cert.Outproj.Gen.frame m ρ

theorem frame_ideal : Cert.quiescent_OutprojIdeal := fun m ρ _ => Cert.OutprojIdeal.Gen.frame m ρ

theorem frame_reference : Cert.quiescent_OutprojRefIdeal := fun m ρ _ =>
  (θ_run Cert.OutprojRefIdeal.defs _ _).mono (fun r h => ⟨fun c => (h c).2.2, Idealize.ShloMosaic.sem_eq_zero_of_no_sems (by decide) r.2⟩)
    (Cert.OutprojRefIdeal.Value.run (F := Ideal) m ρ)

/-- The kernel's results and the reference's are the stream and its norm, of the same arguments. -/
theorem algebraic : Cert.algebraic_OutprojIdeal_OutprojRefIdeal := by
  intro m g m' g' _ hagree
  refine ⟨fun c => Cert.OutprojValue.G5 m c, fun c => Cert.OutprojValue.G6 m c, ?_, ?_⟩
  · exact (θ_run Cert.OutprojIdeal.defs _ _).mono
      (fun _ h c => ⟨(h c).1.trans (Cert.OutprojValue.final5 m c), (h c).2.1.trans (Cert.OutprojValue.final6 m c), (h c).2.2⟩)
      (Cert.OutprojIdeal.Value.run_blocks (F := Ideal) m g)
  · refine (θ_run Cert.OutprojRefIdeal.defs _ _).mono (fun _ h c => ⟨(h c).1.trans ?_, (h c).2.1.trans ?_, (h c).2.2⟩)
      (Cert.OutprojValue.reference m' g')
    · rw [(hagree c).1, (hagree c).2.1, (hagree c).2.2.1, (hagree c).2.2.2.1]
      rfl
    · rw [(hagree c).1, (hagree c).2.1, (hagree c).2.2.1, (hagree c).2.2.2.1, (hagree c).2.2.2.2]
      rfl

end Cert.OutprojClaims
-- ==== Proof.KeysValue.lean ====
/- The projection of the normed input onto the keys of the sparse attention: the body's two blocks at an entry, the windows' blocks of the staged
   arrays, the run with its result arrays, and the reference's results read beside them. -/
module

public import proofs.«01_k».proof.Proof.Gen.KeysIdeal.Frame
public import proofs.«01_k».proof.Proof.Gen.KeysRefIdeal.Run
public import Idealize.ShloMosaic.Lib.Pipeline.Value
public import Idealize.ShloMosaic.Lib.Pointwise
public import Idealize.ShloMosaic.Lib.Claim
public import Idealize.ShloMosaic.Lib.StableHlo.ReadAt

@[expose] public section

set_option maxRecDepth 16384

noncomputable section

namespace Cert.KeysValue

open Cert.KeysIdeal Cert.KeysIdeal.Gen Idealize.ShloMosaic Idealize.ShloMosaic.TcCoe Idealize.SL.Sem
open Idealize.ShloMosaic.Pipeline (Dat)

variable (m : (ℓ : Loc nD τ sig) → Buf (Elt Ideal) ℓ)

/-- The batch row of a token, -/
abbrev tb (x : Fin 32768) : Fin 4 := ⟨x.val / 8192, by omega⟩

/-- and its place in the row. -/
abbrev ts (x : Fin 32768) : Fin 8192 := ⟨x.val % 8192, by omega⟩

/-- The projection of token `x` onto column `n` of the 1024 columns of the weight that begin at `o`. -/
def proj (o : Fin 6225) (h : S4x8192x2048.Idx → EReal) (w : S2048x7248.Idx → EReal) (x : Fin 32768) (n : Fin 1024) : EReal :=
  ∑ d : Fin 2048, h (ix3 (tb x) (ts x) d) * w (ix2 d ⟨o.val + n.val, by omega⟩)

/-- Where the keys' columns begin. -/
abbrev atKeys : Fin 6225 := ⟨1024, by omega⟩

/-- The projection by heads, and flat. -/
def headsFn (o : Fin 6225) (h : S4x8192x2048.Idx → EReal) (w : S2048x7248.Idx → EReal) : S32768x8x128.Idx → EReal := fun y =>
  proj o h w (y 0) ⟨(y 1).val * 128 + (y 2).val, by
    have a : (y 1).val < 8 := (y 1).isLt
    have b : (y 2).val < 128 := (y 2).isLt
    omega⟩

def flatFn (o : Fin 6225) (h : S4x8192x2048.Idx → EReal) (w : S2048x7248.Idx → EReal) : S32768x1024.Idx → EReal := fun y => proj o h w (y 0) (y 1)

/-! ## The body's blocks -/

theorem hz : (![0, 0] : Fin 2 → Nat) = fun _ => 0 := funext fun a => by fin_cases a <;> rfl
theorem hz3 : (![0, 0, 0] : Fin 3 → Nat) = fun _ => 0 := funext fun a => by fin_cases a <;> rfl

theorem out2_apply (x0 : Vec Ideal S1024x2048 .bf16) (x1 : Vec Ideal S2048x1024 .bf16) (r : Fin 1024) (h : Fin 8) (d : Fin 128) :
    out0_2 x0 x1 (ix3 r h d) = ∑ k : Fin 2048, x0 (ix2 r k) * x1 (ix2 k ⟨h.val * 128 + d.val, by omega⟩) := by
  unfold out0_2
  rw [View.canon_unit_zero (S := S1024x8x128) hz3, View.ld_unit_zero (S := S1024x2048) hz, View.ld_unit_zero (S := S2048x1024) hz]
  unfold k0_pay2 k0_pay1
  pointwise

theorem out3_apply (x0 : Vec Ideal S1024x2048 .bf16) (x1 : Vec Ideal S2048x1024 .bf16) (r n : Fin 1024) :
    out0_3 x0 x1 (ix2 r n) = ∑ k : Fin 2048, x0 (ix2 r k) * x1 (ix2 k n) := by
  unfold out0_3
  rw [View.canon_unit_zero (S := S1024x1024) hz, View.ld_unit_zero (S := S1024x2048) hz, View.ld_unit_zero (S := S2048x1024) hz]
  unfold k0_pay3 k0_pay1
  pointwise

/-! ## The staged arrays -/

theorem h_apply (c : Dev nD) (x : Fin 32768) (d : Fin 2048) :
    V m c main_v1 (ix2 x d) = m (c.tc.loc main_arg0) (ix3 (tb x) (ts x) d) := by
  show StableHlo.after hostOps0 (fun b => m (c, b)) (Proc.devRef .tc main_v1) (ix2 x d) = _
  after_reads_simp
  clean_types
  pointwise

theorem w_apply (c : Dev nD) (d : Fin 2048) (n : Fin 1024) :
    V m c main_v3 (ix2 d n) = m (c.tc.loc main_arg1) (ix2 d ⟨1024 + n.val, by omega⟩) := by
  show StableHlo.after hostOps0 (fun b => m (c, b)) (Proc.devRef .tc main_v3) (ix2 d n) = _
  after_reads_simp
  clean_types
  pointwise

/-! ## Where the windows stand -/

/-- A row of a grid point's block of tokens. -/
def row (t : Fin cfg0.N) (r : Fin 1024) : Fin 32768 := ⟨1024 * t.val + r.val, by have h := t.isLt; have : cfg0.N = 32 := N_0; omega⟩

theorem index_0 : ∀ t : Fin grid0.N, win0_0.index t 0 = t.val ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = t.val ∧ win0_2.index t 1 = 0 ∧ win0_2.index t 2 = 0 := by decide +kernel
theorem index_3 : ∀ t : Fin grid0.N, win0_3.index t 0 = t.val ∧ win0_3.index t 1 = 0 := by decide +kernel

theorem emb_0 (t : Fin cfg0.N) (r : Fin 1024) (d : Fin 2048) :
    (((cfg0.win 0).blk t).view.emb (ix2 r d) : S32768x2048.Idx) = ix2 (row t r) d := by
  have h := index_0 t
  funext a
  apply Fin.ext
  match a with
  | ⟨0, _⟩ => show win0_0.index t (0 : Fin 2) * 1024 + 1 * r.val = 1024 * t.val + r.val; omega
  | ⟨1, _⟩ => show win0_0.index t (1 : Fin 2) * 2048 + 1 * d.val = d.val; omega

theorem emb_1 (t : Fin cfg0.N) (d : Fin 2048) (n : Fin 1024) :
    (((cfg0.win 1).blk t).view.emb (ix2 d n) : S2048x1024.Idx) = ix2 d n := by
  have h := index_1 t
  funext a
  apply Fin.ext
  match a with
  | ⟨0, _⟩ => show win0_1.index t (0 : Fin 2) * 2048 + 1 * d.val = d.val; omega
  | ⟨1, _⟩ => show win0_1.index t (1 : Fin 2) * 1024 + 1 * n.val = n.val; omega

theorem emb_2 (t : Fin cfg0.N) (r : Fin 1024) (h : Fin 8) (d : Fin 128) :
    (((cfg0.win 2).blk t).view.emb (ix3 r h d) : S32768x8x128.Idx) = ix3 (row t r) h d := by
  have e := index_2 t
  funext a
  apply Fin.ext
  match a with
  | ⟨0, _⟩ => show win0_2.index t (0 : Fin 3) * 1024 + 1 * r.val = 1024 * t.val + r.val; omega
  | ⟨1, _⟩ => show win0_2.index t (1 : Fin 3) * 8 + 1 * h.val = h.val; omega
  | ⟨2, _⟩ => show win0_2.index t (2 : Fin 3) * 128 + 1 * d.val = d.val; omega

theorem emb_3 (t : Fin cfg0.N) (r n : Fin 1024) :
    (((cfg0.win 3).blk t).view.emb (ix2 r n) : S32768x1024.Idx) = ix2 (row t r) n := by
  have h := index_3 t
  funext a
  apply Fin.ext
  match a with
  | ⟨0, _⟩ => show win0_3.index t (0 : Fin 2) * 1024 + 1 * r.val = 1024 * t.val + r.val; omega
  | ⟨1, _⟩ => show win0_3.index t (1 : Fin 2) * 1024 + 1 * n.val = n.val; omega

theorem blk_0 (c : Dev nD) (t : Fin cfg0.N) (r : Fin 1024) (d : Fin 2048) :
    (iblk m c 0 t : Vec Ideal S1024x2048 .bf16) (ix2 r d) = m (c.tc.loc main_arg0) (ix3 (tb (row t r)) (ts (row t r)) d) := by
  show V m c main_v1 (((cfg0.win 0).blk t).view.emb (ix2 r d)) = _
  rw [emb_0, h_apply]

theorem blk_1 (c : Dev nD) (t : Fin cfg0.N) (d : Fin 2048) (n : Fin 1024) :
    (iblk m c 1 t : Vec Ideal S2048x1024 .bf16) (ix2 d n) = m (c.tc.loc main_arg1) (ix2 d ⟨1024 + n.val, by omega⟩) := by
  show V m c main_v3 (((cfg0.win 1).blk t).view.emb (ix2 d n)) = _
  rw [emb_1, w_apply]

/-! ## The result arrays -/

section
variable (o : Fin 6225) (h : S4x8192x2048.Idx → EReal) (w : S2048x7248.Idx → EReal) (x0 : Vec Ideal S1024x2048 .bf16) (x1 : Vec Ideal S2048x1024 .bf16)
    (t : Fin cfg0.N) (h0 : ∀ r d, x0 (ix2 r d) = h (ix3 (tb (row t r)) (ts (row t r)) d))
    (h1 : ∀ (d : Fin 2048) (n : Fin 1024), x1 (ix2 d n) = w (ix2 d ⟨o.val + n.val, by omega⟩))

include h0 h1

/-- A body's blocks are the projection where they stand, given what the windows hold. -/
theorem block2 (r : Fin 1024) (k : Fin 8) (d : Fin 128) : out0_2 x0 x1 (ix3 r k d) = headsFn o h w (ix3 (row t r) k d) := by
  rw [out2_apply]
  simp only [h0, h1]
  rfl

theorem block3 (r n : Fin 1024) : out0_3 x0 x1 (ix2 r n) = flatFn o h w (ix2 (row t r) n) := by
  rw [out3_apply]
  simp only [h0, h1]
  rfl
end

/-- What is cut from a block that agrees with `G` where the block stands is the block of `G`. -/
theorem cut2_eq (t : Fin cfg0.N) (X : Vec Ideal S1024x8x128 .f32) (G : Vec Ideal S32768x8x128 .f32)
    (e : ∀ r k d, X (ix3 r k d) = G (ix3 (row t r) k d)) :
    (cfg0.win 2).cut (grid0.coords t) X = ((cfg0.win 2).blk t).view.read (Elt Ideal) G := by
  funext j
  obtain ⟨r, k, d, rfl⟩ : ∃ (r : Fin 1024) (k : Fin 8) (d : Fin 128), j = ix3 r k d :=
    ⟨j 0, j 1, j 2, by
      funext a
      match a with
      | ⟨0, _⟩ => rfl
      | ⟨1, _⟩ => rfl
      | ⟨2, _⟩ => rfl⟩
  show X (ix3 r k d) = G (((cfg0.win 2).blk t).view.emb (ix3 r k d))
  rw [emb_2, e]

theorem cut3_eq (t : Fin cfg0.N) (X : Vec Ideal S1024x1024 .bf16) (G : Vec Ideal S32768x1024 .bf16)
    (e : ∀ r n, X (ix2 r n) = G (ix2 (row t r) n)) :
    (cfg0.win 3).cut (grid0.coords t) X = ((cfg0.win 3).blk t).view.read (Elt Ideal) G := by
  funext j
  obtain ⟨r, n, rfl⟩ : ∃ (r : Fin 1024) (n : Fin 1024), j = ix2 r n :=
    ⟨j 0, j 1, by
      funext a
      match a with
      | ⟨0, _⟩ => rfl
      | ⟨1, _⟩ => rfl⟩
  show X (ix2 r n) = G (((cfg0.win 3).blk t).view.emb (ix2 r n))
  rw [emb_3, e]

/-- The projections of device `c`'s arguments. -/
def G2 (c : Dev nD) : Vec Ideal S32768x8x128 .f32 := headsFn atKeys (m (c.tc.loc main_arg0)) (m (c.tc.loc main_arg1))
def G3 (c : Dev nD) : Vec Ideal S32768x1024 .bf16 := flatFn atKeys (m (c.tc.loc main_arg0)) (m (c.tc.loc main_arg1))

theorem flushed2_eq (c : Dev nD) (t : Fin cfg0.N) :
    (dats m 0 c).flushed 2 t = ((cfg0.win 2).blk t).view.read (Elt Ideal) (G2 m c) := by
  show (cfg0.win 2).cut (grid0.coords t) ((dats m 0 c).after 2 t) = _
  rw [after0_2]
  exact cut2_eq t _ _ fun r k d => block2 atKeys _ _ _ _ t (fun r d => blk_0 m c t r d) (fun d n => blk_1 m c t d n) r k d

theorem flushed3_eq (c : Dev nD) (t : Fin cfg0.N) :
    (dats m 0 c).flushed 3 t = ((cfg0.win 3).blk t).view.read (Elt Ideal) (G3 m c) := by
  show (cfg0.win 3).cut (grid0.coords t) ((dats m 0 c).after 3 t) = _
  rw [after0_3]
  exact cut3_eq t _ _ fun r n => block3 atKeys _ _ _ _ t (fun r d => blk_0 m c t r d) (fun d n => blk_1 m c t d n) r n

/-- Every token is in one grid point's block. -/
theorem point_of (x : Fin 32768) : ∃ (t : Fin cfg0.N) (r : Fin 1024), x = row t r := by
  have hN : cfg0.N = 32 := N_0
  exact ⟨⟨x.val / 1024, by omega⟩, ⟨x.val % 1024, by omega⟩, Fin.ext (by show x.val = 1024 * (x.val / 1024) + x.val % 1024; omega)⟩

theorem cover2 (i : S32768x8x128.Idx) : ∃ t : Fin cfg0.N, (cfg0.win 2).flush t = true ∧ i ∈ ((cfg0.win 2).blk t).view.set := by
  obtain ⟨t, r, hx⟩ := point_of (i 0)
  refine ⟨t, flush0_2 _, ?_⟩
  have hi : i = ((cfg0.win 2).blk t).view.emb (ix3 r (⟨(i 1).val, (i 1).isLt⟩ : Fin 8) (⟨(i 2).val, (i 2).isLt⟩ : Fin 128)) := by
    rw [emb_2, ← hx]
    funext a
    match a with
    | ⟨0, _⟩ => rfl
    | ⟨1, _⟩ => rfl
    | ⟨2, _⟩ => rfl
  rw [hi]
  exact ((cfg0.win 2).blk t).view.emb_mem_set _

theorem cover3 (i : S32768x1024.Idx) : ∃ t : Fin cfg0.N, (cfg0.win 3).flush t = true ∧ i ∈ ((cfg0.win 3).blk t).view.set := by
  obtain ⟨t, r, hx⟩ := point_of (i 0)
  refine ⟨t, flush0_3 _, ?_⟩
  have hi : i = ((cfg0.win 3).blk t).view.emb (ix2 r (⟨(i 1).val, (i 1).isLt⟩ : Fin 1024)) := by
    rw [emb_3, ← hx]
    funext a
    match a with
    | ⟨0, _⟩ => rfl
    | ⟨1, _⟩ => rfl
  rw [hi]
  exact ((cfg0.win 3).blk t).view.emb_mem_set _

/-- So the result arrays end holding the projections. -/
theorem final2 (c : Dev nD) : (dats m 0 c).arrAt 2 cfg0.N = G2 m c :=
  (dats m 0 c).arrAt_eq_of_cover 2 (G2 m c) (fun t _ => flushed2_eq m c t) cover2

theorem final3 (c : Dev nD) : (dats m 0 c).arrAt 3 cfg0.N = G3 m c :=
  (dats m 0 c).arrAt_eq_of_cover 3 (G3 m c) (fun t _ => flushed3_eq m c t) cover3

/-- The run ends with the projections in the result arrays and the arguments as they were. -/
theorem kernel (ρ : Dev nD → PrngReg) :
    θ_run (defs (F := Ideal)) (onTc (τ := τ) (main (F := Ideal))) ⟨m, fun _ => 0, ρ⟩ fun r => ∀ c : Dev nD,
      r.2.mem ((c.tc : Thread nD τ).loc main_v4_0) = G2 m c
      ∧ r.2.mem ((c.tc : Thread nD τ).loc main_v4_1) = G3 m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1 2).trans (final2 m c), ((h c).1 3).trans (final3 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

/-! ## The reference -/

/-- The reference ends with the projections of its arguments. -/
theorem reference (m' : (ℓ : Loc Cert.KeysRefIdeal.nD Cert.KeysRefIdeal.τ Cert.KeysRefIdeal.sig) → Buf (Elt Ideal) ℓ)
    (g : Dev Cert.KeysRefIdeal.nD → PrngReg) :
    θ_run (Cert.KeysRefIdeal.defs (F := Ideal)) (onTc (τ := Cert.KeysRefIdeal.τ) (Cert.KeysRefIdeal.main (F := Ideal))) ⟨m', fun _ => 0, g⟩ fun r =>
      ∀ c : Dev Cert.KeysRefIdeal.nD,
        r.2.mem ((c.tc : Thread Cert.KeysRefIdeal.nD Cert.KeysRefIdeal.τ).loc Cert.KeysRefIdeal.main_v10)
          = headsFn atKeys (m' (c.tc.loc Cert.KeysRefIdeal.main_arg0)) (m' (c.tc.loc Cert.KeysRefIdeal.main_arg1))
        ∧ r.2.mem ((c.tc : Thread Cert.KeysRefIdeal.nD Cert.KeysRefIdeal.τ).loc Cert.KeysRefIdeal.main_v12)
          = flatFn atKeys (m' (c.tc.loc Cert.KeysRefIdeal.main_arg0)) (m' (c.tc.loc Cert.KeysRefIdeal.main_arg1))
        ∧ r.2.mem ((c.tc : Thread Cert.KeysRefIdeal.nD Cert.KeysRefIdeal.τ).loc Cert.KeysRefIdeal.main_arg0) = m' ((c.tc : Thread Cert.KeysRefIdeal.nD Cert.KeysRefIdeal.τ).loc Cert.KeysRefIdeal.main_arg0)
        ∧ r.2.mem ((c.tc : Thread Cert.KeysRefIdeal.nD Cert.KeysRefIdeal.τ).loc Cert.KeysRefIdeal.main_arg1) = m' ((c.tc : Thread Cert.KeysRefIdeal.nD Cert.KeysRefIdeal.τ).loc Cert.KeysRefIdeal.main_arg1) := by
  refine (θ_run Cert.KeysRefIdeal.defs _ _).mono (fun _ h c => ⟨(h c).1.trans ?_, (h c).2.1.trans ?_, (h c).2.2⟩)
    (Cert.KeysRefIdeal.Value.run (F := Ideal) m' g)
  · clear h
    funext y
    obtain ⟨x, k, d, rfl⟩ : ∃ (x : Fin 32768) (k : Fin 8) (d : Fin 128), y = ix3 x k d :=
      ⟨y 0, y 1, y 2, by
        funext a
        match a with
        | ⟨0, _⟩ => rfl
        | ⟨1, _⟩ => rfl
        | ⟨2, _⟩ => rfl⟩
    pointwise
    rfl
  · clear h
    funext y
    obtain ⟨x, n, rfl⟩ : ∃ (x : Fin 32768) (n : Fin 1024), y = ix2 x n :=
      ⟨y 0, y 1, by
        funext a
        match a with
        | ⟨0, _⟩ => rfl
        | ⟨1, _⟩ => rfl⟩
    pointwise
    rfl

end Cert.KeysValue
-- ==== Proof.KeysClaims.lean ====
/- The claims of the projection onto the keys of the sparse attention. -/
module

public import proofs.«01_k».proof.Defs
public import proofs.«01_k».proof.Proof.Gen.Keys.Frame
public import proofs.«01_k».proof.Proof.KeysValue

@[expose] public section

noncomputable section

namespace Cert.KeysClaims

open Idealize.ShloMosaic Idealize.ShloMosaic.TcCoe Idealize.SL.Sem

theorem frame_kernel : Cert.quiescent_Keys := fun m ρ _ => Cert.Keys.Gen.frame m ρ

theorem frame_ideal : Cert.quiescent_KeysIdeal := fun m ρ _ => Cert.KeysIdeal.Gen.frame m ρ

theorem frame_reference : Cert.quiescent_KeysRefIdeal := fun m ρ _ =>
  (θ_run Cert.KeysRefIdeal.defs _ _).mono (fun r h => ⟨fun c => (h c).2.2, Idealize.ShloMosaic.sem_eq_zero_of_no_sems (by decide) r.2⟩)
    (Cert.KeysRefIdeal.Value.run (F := Ideal) m ρ)

/-- The kernel's results and the reference's are the projection of the same arguments. -/
theorem algebraic : Cert.algebraic_KeysIdeal_KeysRefIdeal := by
  intro m g m' g' _ hagree
  refine ⟨fun c => Cert.KeysValue.G2 m c, fun c => Cert.KeysValue.G3 m c, Cert.KeysValue.kernel m g, ?_⟩
  refine (θ_run Cert.KeysRefIdeal.defs _ _).mono (fun _ h c => ⟨(h c).1.trans ?_, (h c).2.1.trans ?_, (h c).2.2⟩)
    (Cert.KeysValue.reference m' g')
  · rw [(hagree c).1, (hagree c).2]
    rfl
  · rw [(hagree c).1, (hagree c).2]
    rfl

end Cert.KeysClaims
-- ==== Proof.ValuesValue.lean ====
/- The projection of the normed input onto the values of the sparse attention: the same call as that for the keys
   (KeysValue), on other columns of the weight. -/
module

public import proofs.«01_k».proof.Proof.KeysValue
public import proofs.«01_k».proof.Proof.Gen.ValuesIdeal.Frame
public import proofs.«01_k».proof.Proof.Gen.ValuesRefIdeal.Run

@[expose] public section

set_option maxRecDepth 16384

noncomputable section

namespace Cert.ValuesValue

open Cert.ValuesIdeal Cert.ValuesIdeal.Gen Idealize.ShloMosaic Idealize.ShloMosaic.TcCoe Idealize.SL.Sem
open Idealize.ShloMosaic.Pipeline (Dat)
open Cert.KeysValue (tb ts row headsFn flatFn)

variable (m : (ℓ : Loc nD τ sig) → Buf (Elt Ideal) ℓ)

/-- Where the values' columns begin. -/
abbrev atValues : Fin 6225 := ⟨2048, by omega⟩

theorem h_apply (c : Dev nD) (x : Fin 32768) (d : Fin 2048) :
    V m c main_v1 (ix2 x d) = m (c.tc.loc main_arg0) (ix3 (tb x) (ts x) d) := by
  show StableHlo.after hostOps0 (fun b => m (c, b)) (Proc.devRef .tc main_v1) (ix2 x d) = _
  after_reads_simp
  clean_types
  pointwise

theorem w_apply (c : Dev nD) (d : Fin 2048) (n : Fin 1024) :
    V m c main_v3 (ix2 d n) = m (c.tc.loc main_arg1) (ix2 d ⟨2048 + n.val, by omega⟩) := by
  show StableHlo.after hostOps0 (fun b => m (c, b)) (Proc.devRef .tc main_v3) (ix2 d n) = _
  after_reads_simp
  clean_types
  pointwise

theorem blk_0 (c : Dev nD) (t : Fin cfg0.N) (r : Fin 1024) (d : Fin 2048) :
    (iblk m c 0 t : Vec Ideal S1024x2048 .bf16) (ix2 r d) = m (c.tc.loc main_arg0) (ix3 (tb (row t r)) (ts (row t r)) d) :=
  (congrArg (V m c main_v1) (Cert.KeysValue.emb_0 t r d)).trans (h_apply m c _ _)

theorem blk_1 (c : Dev nD) (t : Fin cfg0.N) (d : Fin 2048) (n : Fin 1024) :
    (iblk m c 1 t : Vec Ideal S2048x1024 .bf16) (ix2 d n) = m (c.tc.loc main_arg1) (ix2 d ⟨2048 + n.val, by omega⟩) :=
  (congrArg (V m c main_v3) (Cert.KeysValue.emb_1 t d n)).trans (w_apply m c _ _)

/-- The projections of device `c`'s arguments. -/
def G2 (c : Dev nD) : Vec Ideal S32768x8x128 .f32 := headsFn atValues (m (c.tc.loc main_arg0)) (m (c.tc.loc main_arg1))
def G3 (c : Dev nD) : Vec Ideal S32768x1024 .bf16 := flatFn atValues (m (c.tc.loc main_arg0)) (m (c.tc.loc main_arg1))

theorem flushed2_eq (c : Dev nD) (t : Fin cfg0.N) :
    (dats m 0 c).flushed 2 t = ((cfg0.win 2).blk t).view.read (Elt Ideal) (G2 m c) := by
  show (cfg0.win 2).cut (grid0.coords t) ((dats m 0 c).after 2 t) = _
  rw [after0_2]
  exact Cert.KeysValue.cut2_eq t _ _ fun r k d =>
    Cert.KeysValue.block2 atValues _ _ _ _ t (fun r d => blk_0 m c t r d) (fun d n => blk_1 m c t d n) r k d

theorem flushed3_eq (c : Dev nD) (t : Fin cfg0.N) :
    (dats m 0 c).flushed 3 t = ((cfg0.win 3).blk t).view.read (Elt Ideal) (G3 m c) := by
  show (cfg0.win 3).cut (grid0.coords t) ((dats m 0 c).after 3 t) = _
  rw [after0_3]
  exact Cert.KeysValue.cut3_eq t _ _ fun r n =>
    Cert.KeysValue.block3 atValues _ _ _ _ t (fun r d => blk_0 m c t r d) (fun d n => blk_1 m c t d n) r n

/-- So the result arrays end holding the projections. -/
theorem final2 (c : Dev nD) : (dats m 0 c).arrAt 2 cfg0.N = G2 m c :=
  (dats m 0 c).arrAt_eq_of_cover 2 (G2 m c) (fun t _ => flushed2_eq m c t) Cert.KeysValue.cover2

theorem final3 (c : Dev nD) : (dats m 0 c).arrAt 3 cfg0.N = G3 m c :=
  (dats m 0 c).arrAt_eq_of_cover 3 (G3 m c) (fun t _ => flushed3_eq m c t) Cert.KeysValue.cover3

/-- The run ends with the projections in the result arrays and the arguments as they were. -/
theorem kernel (ρ : Dev nD → PrngReg) :
    θ_run (defs (F := Ideal)) (onTc (τ := τ) (main (F := Ideal))) ⟨m, fun _ => 0, ρ⟩ fun r => ∀ c : Dev nD,
      r.2.mem ((c.tc : Thread nD τ).loc main_v4_0) = G2 m c
      ∧ r.2.mem ((c.tc : Thread nD τ).loc main_v4_1) = G3 m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1 2).trans (final2 m c), ((h c).1 3).trans (final3 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

/-! ## The reference -/

/-- The reference ends with the projections of its arguments. -/
theorem reference (m' : (ℓ : Loc Cert.ValuesRefIdeal.nD Cert.ValuesRefIdeal.τ Cert.ValuesRefIdeal.sig) → Buf (Elt Ideal) ℓ)
    (g : Dev Cert.ValuesRefIdeal.nD → PrngReg) :
    θ_run (Cert.ValuesRefIdeal.defs (F := Ideal)) (onTc (τ := Cert.ValuesRefIdeal.τ) (Cert.ValuesRefIdeal.main (F := Ideal))) ⟨m', fun _ => 0, g⟩ fun r =>
      ∀ c : Dev Cert.ValuesRefIdeal.nD,
        r.2.mem ((c.tc : Thread Cert.ValuesRefIdeal.nD Cert.ValuesRefIdeal.τ).loc Cert.ValuesRefIdeal.main_v10)
          = headsFn atValues (m' (c.tc.loc Cert.ValuesRefIdeal.main_arg0)) (m' (c.tc.loc Cert.ValuesRefIdeal.main_arg1))
        ∧ r.2.mem ((c.tc : Thread Cert.ValuesRefIdeal.nD Cert.ValuesRefIdeal.τ).loc Cert.ValuesRefIdeal.main_v12)
          = flatFn atValues (m' (c.tc.loc Cert.ValuesRefIdeal.main_arg0)) (m' (c.tc.loc Cert.ValuesRefIdeal.main_arg1))
        ∧ r.2.mem ((c.tc : Thread Cert.ValuesRefIdeal.nD Cert.ValuesRefIdeal.τ).loc Cert.ValuesRefIdeal.main_arg0) = m' ((c.tc : Thread Cert.ValuesRefIdeal.nD Cert.ValuesRefIdeal.τ).loc Cert.ValuesRefIdeal.main_arg0)
        ∧ r.2.mem ((c.tc : Thread Cert.ValuesRefIdeal.nD Cert.ValuesRefIdeal.τ).loc Cert.ValuesRefIdeal.main_arg1) = m' ((c.tc : Thread Cert.ValuesRefIdeal.nD Cert.ValuesRefIdeal.τ).loc Cert.ValuesRefIdeal.main_arg1) := by
  refine (θ_run Cert.ValuesRefIdeal.defs _ _).mono (fun _ h c => ⟨(h c).1.trans ?_, (h c).2.1.trans ?_, (h c).2.2⟩)
    (Cert.ValuesRefIdeal.Value.run (F := Ideal) m' g)
  · clear h
    funext y
    obtain ⟨x, k, d, rfl⟩ : ∃ (x : Fin 32768) (k : Fin 8) (d : Fin 128), y = ix3 x k d :=
      ⟨y 0, y 1, y 2, by
        funext a
        match a with
        | ⟨0, _⟩ => rfl
        | ⟨1, _⟩ => rfl
        | ⟨2, _⟩ => rfl⟩
    pointwise
    rfl
  · clear h
    funext y
    obtain ⟨x, n, rfl⟩ : ∃ (x : Fin 32768) (n : Fin 1024), y = ix2 x n :=
      ⟨y 0, y 1, by
        funext a
        match a with
        | ⟨0, _⟩ => rfl
        | ⟨1, _⟩ => rfl⟩
    pointwise
    rfl

end Cert.ValuesValue
-- ==== Proof.ValuesClaims.lean ====
/- The claims of the projection onto the values of the sparse attention. -/
module

public import proofs.«01_k».proof.Defs
public import proofs.«01_k».proof.Proof.Gen.Values.Frame
public import proofs.«01_k».proof.Proof.ValuesValue

@[expose] public section

noncomputable section

namespace Cert.ValuesClaims

open Idealize.ShloMosaic Idealize.ShloMosaic.TcCoe Idealize.SL.Sem

theorem frame_kernel : Cert.quiescent_Values := fun m ρ _ => Cert.Values.Gen.frame m ρ

theorem frame_ideal : Cert.quiescent_ValuesIdeal := fun m ρ _ => Cert.ValuesIdeal.Gen.frame m ρ

theorem frame_reference : Cert.quiescent_ValuesRefIdeal := fun m ρ _ =>
  (θ_run Cert.ValuesRefIdeal.defs _ _).mono (fun r h => ⟨fun c => (h c).2.2, Idealize.ShloMosaic.sem_eq_zero_of_no_sems (by decide) r.2⟩)
    (Cert.ValuesRefIdeal.Value.run (F := Ideal) m ρ)

/-- The kernel's results and the reference's are the projection of the same arguments. -/
theorem algebraic : Cert.algebraic_ValuesIdeal_ValuesRefIdeal := by
  intro m g m' g' _ hagree
  refine ⟨fun c => Cert.ValuesValue.G2 m c, fun c => Cert.ValuesValue.G3 m c, Cert.ValuesValue.kernel m g, ?_⟩
  refine (θ_run Cert.ValuesRefIdeal.defs _ _).mono (fun _ h c => ⟨(h c).1.trans ?_, (h c).2.1.trans ?_, (h c).2.2⟩)
    (Cert.ValuesValue.reference m' g')
  · rw [(hagree c).1, (hagree c).2]
    rfl
  · rw [(hagree c).1, (hagree c).2]
    rfl

end Cert.ValuesClaims
-- ==== Proof.FfnBody.lean ====
/- The feed-forward call's body: what one point computes, and the body's triple. -/
module

public import proofs.«01_k».proof.Defs
public import proofs.«01_k».proof.Proof.Gen.FfnIdeal.Frame
public import proofs.«01_k».proof.Proof.Gen.FfnIdeal.Skeleton
public import Idealize.ShloMosaic.Lib.Pointwise
public import Idealize.ShloMosaic.Lib.VecWindow

@[expose] public section

set_option maxRecDepth 16384

noncomputable section

namespace Cert.FfnRun

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one point computes -/

/-- The left half of the point's columns of `a`, -/
def aL (x0 : Vec F S1x512x2048 .bf16) (x3 : Vec F S2048x512 .bf16) : FVec F S512x256 .f32 :=
  k0_pay6 (View.ld x0 (Rect.unit ![0, 0, 0] S1x512x2048.size inb_S1x512x2048_S1x512x2048_0_0_0)) (View.ld x3 (Rect.unit ![0, 0] S2048x256.size inb_S2048x512_S2048x256_0_0))

/-- the left half of the gate's columns, -/
def gL (x0 : Vec F S1x512x2048 .bf16) (x4 : Vec F S2048x512 .bf16) : FVec F S512x256 .f32 :=
  k0_pay7 (View.ld x0 (Rect.unit ![0, 0, 0] S1x512x2048.size inb_S1x512x2048_S1x512x2048_0_0_0)) (View.ld x4 (Rect.unit ![0, 0] S2048x256.size inb_S2048x512_S2048x256_0_0))

/-- the right half of the columns of `a`, -/
def aR (x0 : Vec F S1x512x2048 .bf16) (x3 : Vec F S2048x512 .bf16) : FVec F S512x256 .f32 :=
  k0_pay8 (View.ld x0 (Rect.unit ![0, 0, 0] S1x512x2048.size inb_S1x512x2048_S1x512x2048_0_0_0)) (View.ld x3 (Rect.unit ![0, 256] S2048x256.size inb_S2048x512_S2048x256_0_256))

/-- and the right half of the gate's. -/
def gR (x0 : Vec F S1x512x2048 .bf16) (x4 : Vec F S2048x512 .bf16) : FVec F S512x256 .f32 :=
  k0_pay9 (View.ld x0 (Rect.unit ![0, 0, 0] S1x512x2048.size inb_S1x512x2048_S1x512x2048_0_0_0)) (View.ld x4 (Rect.unit ![0, 256] S2048x256.size inb_S2048x512_S2048x256_0_256))

/-- The two rows before the block: those of the window at a row of tokens' first block, else the carried ones. -/
def pv (i : grid0.Coords) (x8 : Vec F S1x2x512 .f32) (v9 : Vec F S1x2x512 .f32) : FVec F S2x512 .f32 :=
  k0_pay5 i (View.ld x8 (Rect.unit ![0, 0, 0] S1x2x512.size inb_S1x2x512_S1x2x512_0_0_0)) v9

/-- The left half of those two rows. -/
def pvL (p : FVec F S2x512 .f32) : FVec F S2x256 .f32 :=
  shapeCast S2x256 (extractStridedSlice S2x256 ![0, 0] p slices_S2x512_o0_0_S2x256) shapeCasts_S2x256_S2x256

/-- The block's rows `k` places later in the sequence made of the two rows `p` and the block `a`. -/
def shift (k : ℕ) (p : S2x256.Idx → Elt F .f32) (a : S512x256.Idx → Elt F .f32) : S512x256.Idx → Elt F .f32 :=
  fun j => if h : (j 0).val + k < 2 then p (ix2 ⟨(j 0).val + k, h⟩ (j 1))
    else if h2 : (j 0).val + k - 2 < 512 then a (ix2 ⟨(j 0).val + k - 2, h2⟩ (j 1)) else a j

/-- The running sum after the left half of the point's columns, -/
def mid (x0 : Vec F S1x512x2048 .bf16) (x3 x4 : Vec F S2048x512 .bf16) (x5 : Vec F S512x2048 .bf16) (x6 : Vec F S3x512 .f32) (x7 : Vec F S1x512 .f32)
    (p : FVec F S2x512 .f32) (s : Vec F S1x512x2048 .f32) : Vec F S1x512x2048 .f32 :=
  k0_pay17 (k0_pay15 (aL x0 x3) (gL x0 x4) (View.ld x7 (Rect.unit ![0, 0] S1x256.size inb_S1x512_S1x256_0_0)) (View.ld x6 (Rect.unit ![0, 0] S1x256.size inb_S3x512_S1x256_0_0))
      (shift 0 (pvL p) (k0_pay11 (aL x0 x3))) (View.ld x6 (Rect.unit ![1, 0] S1x256.size inb_S3x512_S1x256_1_0)) (shift 1 (pvL p) (k0_pay11 (aL x0 x3)))
      (View.ld x6 (Rect.unit ![2, 0] S1x256.size inb_S3x512_S1x256_2_0)))
    (k0_pay16 s) (View.ld x5 (Rect.unit ![0, 0] S256x2048.size inb_S512x2048_S256x2048_0_0))

/-- and after both halves. -/
def stepOut (x0 : Vec F S1x512x2048 .bf16) (x3 x4 : Vec F S2048x512 .bf16) (x5 : Vec F S512x2048 .bf16) (x6 : Vec F S3x512 .f32) (x7 : Vec F S1x512 .f32)
    (p : FVec F S2x512 .f32) (s : Vec F S1x512x2048 .f32) : Vec F S1x512x2048 .f32 :=
  k0_pay1 (aR x0 x3) (gR x0 x4)
    (k0_pay23 (View.ld x7 (Rect.unit ![0, 256] S1x256.size inb_S1x512_S1x256_0_256)) (View.ld x6 (Rect.unit ![0, 256] S1x256.size inb_S3x512_S1x256_0_256)) (shift 0 (k0_pay18 p) (k0_pay19 (aR x0 x3))))
    (View.ld x6 (Rect.unit ![1, 256] S1x256.size inb_S3x512_S1x256_1_256)) (shift 1 (k0_pay18 p) (k0_pay19 (aR x0 x3)))
    (View.ld x6 (Rect.unit ![2, 256] S1x256.size inb_S3x512_S1x256_2_256)) (mid x0 x3 x4 x5 x6 x7 p s)
    (View.ld x5 (Rect.unit ![256, 0] S256x2048.size inb_S512x2048_S256x2048_256_0))

/-- The last two rows of the point's block of `a`, as the second result's window takes them, -/
def stOut (x0 : Vec F S1x512x2048 .bf16) (x3 : Vec F S2048x512 .bf16) : Vec F S1x1x2x512 .f32 :=
  View.canon [⟨Rect.unit ![0, 0, 0, 256] S1x1x2x256.size inb_S1x1x2x512_S1x1x2x256_0_0_0_256, k0_pay22 (aR x0 x3)⟩,
    ⟨Rect.unit ![0, 0, 0, 0] S1x1x2x256.size inb_S1x1x2x512_S1x1x2x256_0_0_0_0, k0_pay14 (aL x0 x3)⟩]

/-- and, at a row and a column, as they are carried, -/
def tlAt (x0 : Vec F S1x512x2048 .bf16) (x3 : Vec F S2048x512 .bf16) (r : Fin 2) (n : Fin 512) : Elt F .f32 :=
  if h : n.val < 256 then k0_pay13 (aL x0 x3) (ix3 0 r ⟨n.val, h⟩) else k0_pay21 (aR x0 x3) (ix3 0 r ⟨n.val - 256, by omega⟩)

/-- the whole of them. -/
def tlOut (x0 : Vec F S1x512x2048 .bf16) (x3 : Vec F S2048x512 .bf16) : Vec F S1x2x512 .f32 :=
  fun j => tlAt x0 x3 (j 1) (j 2)

/-- The carried rows with row `f` replaced. -/
def putRow (f : ℕ) (s : Vec F S11x2x512 .f32) (r : Vec F S1x2x512 .f32) : Vec F S11x2x512 .f32 :=
  fun j => if (j 0).val = f then r (ix3 0 (j 1) (j 2)) else s j

/-- The first result's block at a row of tokens' last point. -/
def yOut (x1 : Vec F S1x512x2048 .f32) (x2 : Vec F S1x6x2048 .f32) (x9 : Vec F S1x2048 .f32) (s : Vec F S1x512x2048 .f32) : Vec F S1x512x2048 .f32 :=
  k0_pay2 (View.ld x1 (Rect.unit ![0, 0, 0] S1x512x2048.size inb_S1x512x2048_S1x512x2048_0_0_0)) (View.ld x2 (Rect.unit ![0, 5, 0] S1x1x2048.size inb_S1x6x2048_S1x1x2048_0_5_0)) s
    (View.ld x9 (Rect.unit ![0, 0] S1x2048.size inb_S1x2048_S1x2048_0_0))

/-- The condition of a row of tokens' first point. -/
def cond1 (i : grid0.Coords) : BitVec 1 :=
  Scalar.cmpi .ne (Scalar.extui (Scalar.cmpi .eq (BitVec.ofNat 32 (i 2).val) 0#32) : BitVec 32) 0#32

/-! ## Loads over the stored pieces -/

/-- A block of rows 6 or 7 places down the scratch reads the two rows' pieces and the block's. -/
theorem readCov_shift {κ : Kind} {sp : Space} (v : View sig κ sp S520x512 .f32) (L : List (View.Piece (Elt F) S520x512 .f32)) (k o : ℕ) (hk : k < 2)
    (p : S2x256.Idx → Elt F .f32) (a : S512x256.Idx → Elt F .f32)
    (h8 : ∀ d, (![8, o] : Fin 2 → ℕ) d + S512x256.size d ≤ S520x512.size d) (h6 : ∀ d, (![6, o] : Fin 2 → ℕ) d + S2x256.size d ≤ S520x512.size d)
    (hr : ∀ d, (![6 + k, o] : Fin 2 → ℕ) d + S512x256.size d ≤ S520x512.size d) :
    v.readCov (⟨Rect.unit ![8, o] S512x256.size h8, a⟩ :: ⟨Rect.unit ![6, o] S2x256.size h6, p⟩ :: L) (Rect.unit (s := S520x512) ![6 + k, o] S512x256.size hr).toLoadRect = shift k p a := by
  funext j
  have hj0 : (j 0).val < 512 := (j 0).isLt
  show v.read (Elt F) _ _ = _
  unfold shift
  split
  · rename_i h
    rw [View.read_writes_cons_unit_of_not_mem v _ _ _ _ _ rfl (0 : Fin 2) (Or.inl _)]
    · refine View.read_writes_cons_unit_of_mem v _ _ _ _ _ (ix2 ⟨(j 0).val + k, h⟩ (j 1)) rfl fun d => ?_
      match d with
      | ⟨0, _⟩ => show 6 + k + 1 * (j 0).val = 6 + ((j 0).val + k); omega
      | ⟨1, _⟩ => show o + 1 * (j 1).val = o + (j 1).val; omega
    · show 6 + k + 1 * (j 0).val < 8; omega
  · rename_i h
    rw [dif_pos (by omega : (j 0).val + k - 2 < 512)]
    refine View.read_writes_cons_unit_of_mem v _ _ _ _ _ (ix2 ⟨(j 0).val + k - 2, by omega⟩ (j 1)) rfl fun d => ?_
    match d with
    | ⟨0, _⟩ => show 6 + k + 1 * (j 0).val = 8 + ((j 0).val + k - 2); omega
    | ⟨1, _⟩ => show o + 1 * (j 1).val = o + (j 1).val; omega

/-- The offsets of the carried rows' stores, as numbers. -/
theorem off2_eq (i : grid0.Coords) : k0_off2 i = ![(i 2).val, 0, 0] := by
  revert i; decide +kernel

theorem off3_eq (i : grid0.Coords) : k0_off3 i = ![(i 2).val, 0, 256] := by
  revert i; decide +kernel

theorem off1_eq (i : grid0.Coords) : k0_off1 i = ![(i 2).val, 0, 0] := by
  revert i; decide +kernel

/-- The carried rows after the point's two stores. -/
theorem read_carry {κ : Kind} {sp : Space} (v : View sig κ sp S11x2x512 .f32) (f : v.ty.Contents (Elt F)) (i : grid0.Coords)
    (x0 : Vec F S1x512x2048 .bf16) (x3 : Vec F S2048x512 .bf16) :
    v.read (Elt F) (v.writes (Elt F) f [⟨Rect.unit (k0_off3 i) S1x2x256.size (k0_off3_inb i), k0_pay21 (aR x0 x3)⟩,
        ⟨Rect.unit (k0_off2 i) S1x2x256.size (k0_off2_inb i), k0_pay13 (aL x0 x3)⟩])
      = putRow (i 2).val (v.read (Elt F) f) (tlOut x0 x3) := by
  funext j
  have hj1 : (j 1).val < 2 := (j 1).isLt
  have hj2 : (j 2).val < 512 := (j 2).isLt
  unfold putRow tlOut
  by_cases h0 : (j 0).val = (i 2).val
  · rw [if_pos h0]
    show _ = tlAt x0 x3 (j 1) (j 2)
    unfold tlAt
    by_cases h2 : (j 2).val < 256
    · rw [View.read_writes_cons_unit_of_not_mem v f _ _ _ _ (off3_eq i) (2 : Fin 3) (Or.inl h2), dif_pos h2]
      refine View.read_writes_cons_unit_of_mem v f _ _ _ _ (ix3 0 (j 1) ⟨(j 2).val, h2⟩) (off2_eq i) fun d => ?_
      match d with
      | ⟨0, _⟩ => exact h0
      | ⟨1, _⟩ => show (j 1).val = 0 + (j 1).val; omega
      | ⟨2, _⟩ => show (j 2).val = 0 + (j 2).val; omega
    · rw [dif_neg h2]
      refine View.read_writes_cons_unit_of_mem v f _ _ _ _ (ix3 0 (j 1) ⟨(j 2).val - 256, by omega⟩) (off3_eq i) fun d => ?_
      match d with
      | ⟨0, _⟩ => exact h0
      | ⟨1, _⟩ => show (j 1).val = 0 + (j 1).val; omega
      | ⟨2, _⟩ => show (j 2).val = 256 + ((j 2).val - 256); omega
  · rw [if_neg h0, View.read_writes_cons_unit_of_not_mem v f _ _ _ _ (off3_eq i) (0 : Fin 3) (by show (j 0).val < (i 2).val ∨ (i 2).val + 1 ≤ (j 0).val; omega),
      View.read_writes_cons_unit_of_not_mem v f _ _ _ _ (off2_eq i) (0 : Fin 3) (by show (j 0).val < (i 2).val ∨ (i 2).val + 1 ≤ (j 0).val; omega)]
    rfl

/-- The second result's two stores fill its block. -/
theorem cover14 (a b : S1x1x2x256.Idx → Elt F .f32) (y : S1x1x2x512.Idx) :
    ∃ p ∈ ([⟨Rect.unit ![0, 0, 0, 256] S1x1x2x256.size inb_S1x1x2x512_S1x1x2x256_0_0_0_256, a⟩,
      ⟨Rect.unit ![0, 0, 0, 0] S1x1x2x256.size inb_S1x1x2x512_S1x1x2x256_0_0_0_0, b⟩] : List (View.Piece (Elt F) S1x1x2x512 .f32)), y ∈ p.1.set := by
  have h0 : (y 0).val < 1 := (y 0).isLt
  have h1 : (y 1).val < 1 := (y 1).isLt
  have h2 : (y 2).val < 2 := (y 2).isLt
  have h3 : (y 3).val < 512 := (y 3).isLt
  by_cases h : (y 3).val < 256
  · refine ⟨⟨Rect.unit ![0, 0, 0, 0] S1x1x2x256.size inb_S1x1x2x512_S1x1x2x256_0_0_0_0, b⟩, List.mem_cons_of_mem _ (List.mem_cons_self ..), ?_⟩
    show y ∈ (Rect.unit (s := S1x1x2x512) ![0, 0, 0, 0] S1x1x2x256.size inb_S1x1x2x512_S1x1x2x256_0_0_0_0).set
    rw [Rect.mem_set_unit]; intro d
    match d with
    | ⟨0, _⟩ => show 0 ≤ (y 0).val ∧ (y 0).val < 0 + 1; omega
    | ⟨1, _⟩ => show 0 ≤ (y 1).val ∧ (y 1).val < 0 + 1; omega
    | ⟨2, _⟩ => show 0 ≤ (y 2).val ∧ (y 2).val < 0 + 2; omega
    | ⟨3, _⟩ => show 0 ≤ (y 3).val ∧ (y 3).val < 0 + 256; omega
  · refine ⟨⟨Rect.unit ![0, 0, 0, 256] S1x1x2x256.size inb_S1x1x2x512_S1x1x2x256_0_0_0_256, a⟩, List.mem_cons_self .., ?_⟩
    show y ∈ (Rect.unit (s := S1x1x2x512) ![0, 0, 0, 256] S1x1x2x256.size inb_S1x1x2x512_S1x1x2x256_0_0_0_256).set
    rw [Rect.mem_set_unit]; intro d
    match d with
    | ⟨0, _⟩ => show 0 ≤ (y 0).val ∧ (y 0).val < 0 + 1; omega
    | ⟨1, _⟩ => show 0 ≤ (y 1).val ∧ (y 1).val < 0 + 1; omega
    | ⟨2, _⟩ => show 0 ≤ (y 2).val ∧ (y 2).val < 0 + 2; omega
    | ⟨3, _⟩ => show 256 ≤ (y 3).val ∧ (y 3).val < 256 + 256; omega

/-- The running sum after the left half, its loads read. -/
theorem mid_congr (x0 : Vec F S1x512x2048 .bf16) (x3 x4 : Vec F S2048x512 .bf16) (x5 : Vec F S512x2048 .bf16) (x6 : Vec F S3x512 .f32) (x7 : Vec F S1x512 .f32)
    (p : FVec F S2x512 .f32) {q0 q1 : Vec F S512x256 .f32} {s s' : Vec F S1x512x2048 .f32}
    (h0 : q0 = shift 0 (pvL p) (k0_pay11 (aL x0 x3))) (h1 : q1 = shift 1 (pvL p) (k0_pay11 (aL x0 x3))) (hs : s' = s) :
    k0_pay17 (k0_pay15 (aL x0 x3) (gL x0 x4) (View.ld x7 (Rect.unit ![0, 0] S1x256.size inb_S1x512_S1x256_0_0)) (View.ld x6 (Rect.unit ![0, 0] S1x256.size inb_S3x512_S1x256_0_0))
      q0 (View.ld x6 (Rect.unit ![1, 0] S1x256.size inb_S3x512_S1x256_1_0)) q1
      (View.ld x6 (Rect.unit ![2, 0] S1x256.size inb_S3x512_S1x256_2_0)))
    (k0_pay16 s') (View.ld x5 (Rect.unit ![0, 0] S256x2048.size inb_S512x2048_S256x2048_0_0)) = mid x0 x3 x4 x5 x6 x7 p s := by
  subst h0 h1 hs; rfl

/-- The running sum after both halves, its loads read. -/
theorem step_congr (x0 : Vec F S1x512x2048 .bf16) (x3 x4 : Vec F S2048x512 .bf16) (x5 : Vec F S512x2048 .bf16) (x6 : Vec F S3x512 .f32) (x7 : Vec F S1x512 .f32)
    (p : FVec F S2x512 .f32) (s : Vec F S1x512x2048 .f32) {q0 q1 : Vec F S512x256 .f32} {m : Vec F S1x512x2048 .f32}
    (h0 : q0 = shift 0 (k0_pay18 p) (k0_pay19 (aR x0 x3))) (h1 : q1 = shift 1 (k0_pay18 p) (k0_pay19 (aR x0 x3))) (hm : m = mid x0 x3 x4 x5 x6 x7 p s) :
    k0_pay1 (aR x0 x3) (gR x0 x4)
    (k0_pay23 (View.ld x7 (Rect.unit ![0, 256] S1x256.size inb_S1x512_S1x256_0_256)) (View.ld x6 (Rect.unit ![0, 256] S1x256.size inb_S3x512_S1x256_0_256)) q0)
    (View.ld x6 (Rect.unit ![1, 256] S1x256.size inb_S3x512_S1x256_1_256)) q1
    (View.ld x6 (Rect.unit ![2, 256] S1x256.size inb_S3x512_S1x256_2_256)) m
    (View.ld x5 (Rect.unit ![256, 0] S256x2048.size inb_S512x2048_S256x2048_256_0)) = stepOut x0 x3 x4 x5 x6 x7 p s := by
  subst h0 h1 hm; rfl

theorem hz3 : (![0, 0, 0] : Fin 3 → ℕ) = fun _ => 0 := funext fun a => by fin_cases a <;> rfl

theorem first_eq (i : grid0.Coords) (h : (i 1).val = 0) : Scalar.cmpi .eq (BitVec.ofNat 32 (i 1).val) 0#32 = 1#1 := by
  rw [h]; rfl

theorem later_eq (i : grid0.Coords) (h : (i 1).val ≠ 0) : Scalar.cmpi .eq (BitVec.ofNat 32 (i 1).val) 0#32 = 0#1 := by
  revert i; decide +kernel

/-! ## The body's triple -/

set_option maxHeartbeats 4000000 in
/-- The body at a point: the inputs' buffers stay as they are, and the other buffers are left as the point computes them. -/
theorem sound_kernel (c : Dev nD) (E : Set ℕ) (i : grid0.Coords) (arg3 : Memref sig .tc .vmem S1x512x2048 .bf16) (harg3 : arg3.IsWhole) (arg4 : Memref sig .tc .vmem S1x512x2048 .f32) (harg4 : arg4.IsWhole) (arg5 : Memref sig .tc .vmem S1x6x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S3x512 .f32) (harg9 : arg9.IsWhole) (arg10 : Memref sig .tc .vmem S1x512 .f32) (harg10 : arg10.IsWhole) (arg11 : Memref sig .tc .vmem S1x2x512 .f32) (harg11 : arg11.IsWhole) (arg12 : Memref sig .tc .vmem S1x2048 .f32) (harg12 : arg12.IsWhole) (arg13 : Memref sig .tc .vmem S1x512x2048 .f32) (harg13 : arg13.IsWhole) (arg14 : Memref sig .tc .vmem S1x1x2x512 .f32) (harg14 : arg14.IsWhole) (arg15 : Memref sig .tc .vmem S520x512 .f32) (harg15 : arg15.IsWhole) (arg16 : Memref sig .tc .vmem S11x2x512 .f32) (harg16 : arg16.IsWhole) (arg17 : Memref sig .tc .vmem S1x512x2048 .f32) (harg17 : arg17.IsWhole)
    (x0 : Vec F S1x512x2048 .bf16) (x1 : Vec F S1x512x2048 .f32) (x2 : Vec F S1x6x2048 .f32) (x3 : Vec F S2048x512 .bf16) (x4 : Vec F S2048x512 .bf16) (x5 : Vec F S512x2048 .bf16) (x6 : Vec F S3x512 .f32) (x7 : Vec F S1x512 .f32) (x8 : Vec F S1x2x512 .f32) (x9 : Vec F S1x2048 .f32) (x10 : Vec F S1x512x2048 .f32) (s16 : Vec F S11x2x512 .f32) (s17 : Vec F S1x512x2048 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ d, owns (c : Thread nD τ) arg14 fullShare d)
        ∗ (∃ d, owns (c : Thread nD τ) arg15 fullShare d) ∗ owns (c : Thread nD τ) arg16 fullShare s16 ∗ owns (c : Thread nD τ) arg17 fullShare s17
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9
        ∗ owns (c : Thread nD τ) arg13 fullShare (if k0_cond2 i = 1#1 then yOut x1 x2 x9 (stepOut x0 x3 x4 x5 x6 x7 (pv i x8 (View.ld s16 (Rect.unit (k0_off1 i) S1x2x512.size (k0_off1_inb i)))) (if cond1 i = 1#1 then k0_pay3 else s17)) else x10)
        ∗ owns (c : Thread nD τ) arg14 fullShare (stOut x0 x3)
        ∗ (∃ d, owns (c : Thread nD τ) arg15 fullShare d) ∗ owns (c : Thread nD τ) arg16 fullShare (putRow (i 2).val s16 (tlOut x0 x3))
        ∗ owns (c : Thread nD τ) arg17 fullShare (stepOut x0 x3 x4 x5 x6 x7 (pv i x8 (View.ld s16 (Rect.unit (k0_off1 i) S1x2x512.size (k0_off1_inb i)))) (if cond1 i = 1#1 then k0_pay3 else s17))) -∗ K ⟨⟩))
      ⊢ wp frame (wpE (defs₀ (F := F)) Variants.none c none) E (cc0_ffn i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_ffn_eq_skeleton]; unfold cc0_ffn_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d14, %f14, -, H14⟩, ⟨%d15, %f15, -, H15⟩, ⟨%f16, %hf16, H16⟩, ⟨%f17, %hf17, H17⟩, Hk⟩
  subst hf0 hf1 hf2 hf3 hf4 hf5 hf6 hf7 hf8 hf9 hf10 hf16 hf17
  have hc1 : (Scalar.cmpi .ne (Scalar.extui (Scalar.cmpi .eq (BitVec.ofNat 32 (i 2).val) 0#32) : BitVec 32) 0#32 = 1#1) = (cond1 i = 1#1) := rfl
  by_cases h1 : Scalar.cmpi .ne (Scalar.extui (Scalar.cmpi .eq (BitVec.ofNat 32 (i 2).val) 0#32) : BitVec 32) 0#32 = 1#1 <;> by_cases h2 : k0_cond2 i = 1#1
  all_goals
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists _; isplitr
      swap; · iexact H10
      ipureintro
      first
      | exact (if_neg h2).symm
      | refine (View.read_writes_full ..).trans (Eq.trans ?_ (if_pos h2).symm)
        refine congrArg (k0_pay2 _ _ · _) ((View.readCov_full ..).trans ?_)
        exact step_congr _ _ _ _ _ _ (pv i _ _) (if cond1 i = 1#1 then k0_pay3 else arg17.view.read (Elt F) f17) (readCov_shift arg15.view _ 0 256 (by omega) _ _ _ _ _) (readCov_shift arg15.view _ 1 256 (by omega) _ _ _ _ _)
            ((View.readCov_full ..).trans (mid_congr _ _ _ _ _ _ (pv i _ _) (readCov_shift arg15.view _ 0 0 (by omega) _ _ _ _ _) (readCov_shift arg15.view _ 1 0 (by omega) _ _ _ _ _)
              (by first
                | exact (View.readCov_full ..).trans (if_pos h1).symm
                | exact (View.ld_unit_zero (S := S1x512x2048) hz3 _ _).trans (if_neg h1).symm)))
    isplitl [H14]
    · iexists _; isplitr
      swap; · iexact H14
      ipureintro
      exact View.read_writes_eq_canon _ _ _ (cover14 _ _)
    isplitl [H15]
    · iexists _, _; isplitr
      swap; · iexact H15
      ipureintro; rfl
    isplitl [H16]
    · iexists _; isplitr
      swap; · iexact H16
      ipureintro
      exact read_carry arg16.view f16 i _ _
    iexists _; isplitr
    swap; · iexact H17
    ipureintro
    refine (View.read_writes_full ..).trans ?_
    exact step_congr _ _ _ _ _ _ (pv i _ _) (if cond1 i = 1#1 then k0_pay3 else arg17.view.read (Elt F) f17) (readCov_shift arg15.view _ 0 256 (by omega) _ _ _ _ _) (readCov_shift arg15.view _ 1 256 (by omega) _ _ _ _ _)
            ((View.readCov_full ..).trans (mid_congr _ _ _ _ _ _ (pv i _ _) (readCov_shift arg15.view _ 0 0 (by omega) _ _ _ _ _) (readCov_shift arg15.view _ 1 0 (by omega) _ _ _ _ _)
              (by first
                | exact (View.readCov_full ..).trans (if_pos h1).symm
                | exact (View.ld_unit_zero (S := S1x512x2048) hz3 _ _).trans (if_neg h1).symm)))

end Cert.FfnRun

end
-- ==== Proof.FfnRun.lean ====
/- The feed-forward call's run: what its scratch holds at a point, the proof data and the run. -/
module

public import Idealize.ShloMosaic.Lib.Claim
public import proofs.«01_k».proof.Defs
public import proofs.«01_k».proof.Proof.Gen.FfnIdeal.Frame
public import proofs.«01_k».proof.Proof.Gen.FfnIdeal.Skeleton
public import proofs.«01_k».proof.Proof.FfnBody

@[expose] public section

set_option maxRecDepth 16384

noncomputable section

namespace Cert.FfnRun

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's points -/

/-- The point of a number. -/
def pt (n : ℕ) : Fin cfg0.N := ⟨n % 704, lt_of_lt_of_eq (Nat.mod_lt _ (by omega)) N_0.symm⟩

theorem val_lt (t : Fin cfg0.N) : t.val < 704 := lt_of_lt_of_eq t.isLt N_0

theorem pt_val (t : Fin cfg0.N) : pt t.val = t := Fin.ext (Nat.mod_eq_of_lt (val_lt t))

theorem co2 (t : Fin cfg0.N) : (grid0.coords t 2).val = t.val % 11 := by
  revert t; decide +kernel

theorem co1 (t : Fin cfg0.N) : (grid0.coords t 1).val = t.val / 11 % 16 := by
  revert t; decide +kernel

theorem co0 (t : Fin cfg0.N) : (grid0.coords t 0).val = t.val / 176 := by
  revert t; decide +kernel

theorem cond1_iff (i : grid0.Coords) : cond1 i = 1#1 ↔ (i 2).val = 0 := by
  revert i; decide +kernel

theorem cond2_iff (i : grid0.Coords) : k0_cond2 i = 1#1 ↔ (i 2).val = 10 := by
  revert i; decide +kernel

/-- At a row of tokens' first block the carried rows are not read. -/
theorem pv_first (i : grid0.Coords) (h : (i 1).val = 0) (x8 v v' : Vec F S1x2x512 .f32) : pv i x8 v = pv i x8 v' := by
  show (Scalar.select (Scalar.cmpi .eq (BitVec.ofNat 32 (i 1).val) 0#32) _ _ : FVec F S2x512 .f32) = Scalar.select (Scalar.cmpi .eq (BitVec.ofNat 32 (i 1).val) 0#32) _ _
  rw [first_eq i h]
  rfl

/-! ## What the scratch holds -/

/-- The last two rows of point `n`'s block of `a`, -/
def tl (c : Dev nD) (n : ℕ) : Vec F S1x2x512 .f32 := tlOut (iblk m c 0 (pt n)) (iblk m c 3 (pt n))

/-- the two rows before point `n`'s block, -/
def pvAt (c : Dev nD) (n : ℕ) : FVec F S2x512 .f32 := pv (grid0.coords (pt n)) (iblk m c 8 (pt n)) (tl m c (n - 11))

/-- the running sum after point `n`, from the one before, -/
def stepAt (c : Dev nD) (n : ℕ) (s : Vec F S1x512x2048 .f32) : Vec F S1x512x2048 .f32 :=
  stepOut (iblk m c 0 (pt n)) (iblk m c 3 (pt n)) (iblk m c 4 (pt n)) (iblk m c 5 (pt n)) (iblk m c 6 (pt n)) (iblk m c 7 (pt n)) (pvAt m c n) s

/-- and from the start of the row of tokens. -/
def acc (c : Dev nD) : ℕ → Vec F S1x512x2048 .f32
  | 0 => stepAt m c 0 k0_pay3
  | n + 1 => stepAt m c (n + 1) (if (n + 1) % 11 = 0 then k0_pay3 else acc c n)

theorem acc_eq (c : Dev nD) (n : ℕ) : acc m c n = stepAt m c n (if n % 11 = 0 then k0_pay3 else acc m c (n - 1)) := by
  cases n <;> rfl

/-- Before point `n`: the carried rows are those of the last eleven points, and within a row of tokens the sum is the last point's. -/
def Inv (c : Dev nD) (n : ℕ) (s16 : Vec F S11x2x512 .f32) (s17 : Vec F S1x512x2048 .f32) : Prop :=
  (∀ s, s < n → n ≤ s + 11 → ∀ (f : Fin 11) (r : Fin 2) (k : Fin 512), f.val = s % 11 → s16 (ix3 f r k) = tl m c s (ix3 0 r k))
    ∧ (n % 11 ≠ 0 → s17 = acc m c (n - 1))

/-- The carried rows the point reads: those of the point eleven before. -/
theorem ld_carry (c : Dev nD) (t : Fin cfg0.N) (s16 : Vec F S11x2x512 .f32) (s17 : Vec F S1x512x2048 .f32) (h : Inv m c t.val s16 s17) (h11 : 11 ≤ t.val) :
    View.ld s16 (Rect.unit (k0_off1 (grid0.coords t)) S1x2x512.size (k0_off1_inb (grid0.coords t))) = tl m c (t.val - 11) := by
  funext j
  obtain ⟨j0, j1, j2, rfl⟩ : ∃ (a : Fin 1) (b : Fin 2) (k : Fin 512), j = ix3 a b k := ⟨j 0, j 1, j 2, funext fun d => by fin_cases d <;> rfl⟩
  have hf : t.val % 11 < 11 := Nat.mod_lt _ (by omega)
  have h0 : j0 = 0 := Subsingleton.elim _ _
  subst h0
  refine Eq.trans ?_ (h.1 (t.val - 11) (by omega) (by omega) ⟨t.val % 11, hf⟩ j1 j2 (by show t.val % 11 = (t.val - 11) % 11; omega))
  show s16 _ = s16 _
  congr 1
  funext a
  apply Fin.ext
  have e := off1_eq (grid0.coords t)
  have e2 := co2 t
  match a with
  | ⟨0, _⟩ => show k0_off1 (grid0.coords t) 0 + 1 * 0 = t.val % 11; rw [e]; show (grid0.coords t 2).val + 1 * 0 = _; omega
  | ⟨1, _⟩ => show k0_off1 (grid0.coords t) 1 + 1 * j1.val = j1.val; rw [e]; show 0 + 1 * j1.val = _; omega
  | ⟨2, _⟩ => show k0_off1 (grid0.coords t) 2 + 1 * j2.val = j2.val; rw [e]; show 0 + 1 * j2.val = _; omega

/-- The two rows before the block, as the point forms them. -/
theorem pv_eq (c : Dev nD) (t : Fin cfg0.N) (s16 : Vec F S11x2x512 .f32) (s17 : Vec F S1x512x2048 .f32) (h : Inv m c t.val s16 s17) :
    pv (grid0.coords t) (iblk m c 8 t) (View.ld s16 (Rect.unit (k0_off1 (grid0.coords t)) S1x2x512.size (k0_off1_inb (grid0.coords t)))) = pvAt m c t.val := by
  unfold pvAt
  rw [pt_val]
  by_cases h1 : (grid0.coords t 1).val = 0
  · exact pv_first _ h1 _ _ _
  · have h2 := co1 t
    rw [ld_carry m c t s16 s17 h (by omega)]

/-- The sum the point leaves. -/
theorem step_eq (c : Dev nD) (t : Fin cfg0.N) (s16 : Vec F S11x2x512 .f32) (s17 : Vec F S1x512x2048 .f32) (h : Inv m c t.val s16 s17) :
    stepOut (iblk m c 0 t) (iblk m c 3 t) (iblk m c 4 t) (iblk m c 5 t) (iblk m c 6 t) (iblk m c 7 t)
      (pv (grid0.coords t) (iblk m c 8 t) (View.ld s16 (Rect.unit (k0_off1 (grid0.coords t)) S1x2x512.size (k0_off1_inb (grid0.coords t)))))
      (if cond1 (grid0.coords t) = 1#1 then k0_pay3 else s17) = acc m c t.val := by
  rw [acc_eq, pv_eq m c t s16 s17 h]
  unfold stepAt
  rw [pt_val]
  congr 1
  have h2 := co2 t
  by_cases h1 : t.val % 11 = 0
  · rw [if_pos h1, if_pos ((cond1_iff _).2 (h2.trans h1))]
  · rw [if_neg h1, if_neg (fun e => h1 (h2.symm.trans ((cond1_iff _).1 e)))]
    exact h.2 h1

/-- What is known before a point is known again after it. -/
theorem inv_step (c : Dev nD) (t : Fin cfg0.N) (s16 : Vec F S11x2x512 .f32) (s17 : Vec F S1x512x2048 .f32) (h : Inv m c t.val s16 s17) :
    Inv m c (t.val + 1) (putRow (grid0.coords t 2).val s16 (tlOut (iblk m c 0 t) (iblk m c 3 t))) (acc m c t.val) := by
  have e2 := co2 t
  refine ⟨fun s hs hn f r k hf => ?_, fun _ => rfl⟩
  show (if f.val = (grid0.coords t 2).val then _ else _) = _
  by_cases hst : s = t.val
  · rw [if_pos (by omega)]
    unfold tl
    rw [hst, pt_val]
    rfl
  · rw [if_neg (by omega)]
    exact h.1 s (by omega) (by omega) f r k hf

/-! ## The proof data -/

/-- What the body keeps between points: the scratch, its contents as far as they are known, and the generator's register. -/
def PhiS (c : Dev nD) (n : ℕ) (_ : n ≤ cfg0.N) : sProp 𝕄 :=
  iprop(∃ (s16 : Vec F S11x2x512 .f32) (s17 : Vec F S1x512x2048 .f32), ⌜Inv m c n s16 s17⌝
    ∗ (∃ d, owns (c : Thread nD τ) (Memref.whole cc0_scratch0) fullShare d) ∗ owns (c : Thread nD τ) (Memref.whole cc0_scratch1) fullShare s16
    ∗ owns (c : Thread nD τ) (Memref.whole cc0_scratch2) fullShare s17 ∗ ∃ r, prngReg c r)

/-- The arrays as the region finds them, each window's contents after each point, and `PhiS` between the points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => yOut (iblk m c 1 t) (iblk m c 2 t) (iblk m c 9 t) (acc m c t.val)
    | ⟨11, _⟩ => stOut (iblk m c 0 t) (iblk m c 3 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Φ_castSucc (c : Dev nD) (t : Fin cfg0.N) : (dats m 0 c).Φ t.castSucc = PhiS m c t.val (Nat.le_of_lt t.isLt) := by
  dsimp only [dats]; exact Pipeline.Dat.Φ_castSucc (PhiS m c) t

theorem Φ_succ (c : Dev nD) (t : Fin cfg0.N) : (dats m 0 c).Φ t.succ = PhiS m c (t.val + 1) t.isLt := by
  dsimp only [dats]; rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = yOut (iblk m c 1 t) (iblk m c 2 t) (iblk m c 9 t) (acc m c t.val) := by dsimp only [dats]
theorem after_11 (c : Dev nD) (t : Fin cfg0.N) : (dats m 0 c).after 11 t = stOut (iblk m c 0 t) (iblk m c 3 t) := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d
theorem before_8 (c : Dev nD) (t : Fin cfg0.N) (d) : (dats m 0 c).before 8 t d = iblk m c 8 t := before0_8_of m (dats m 0 c) (A_eq m c 8) (after_8 m c) t d
theorem before_9 (c : Dev nD) (t : Fin cfg0.N) (d) : (dats m 0 c).before 9 t d = iblk m c 9 t := before0_9_of m (dats m 0 c) (A_eq m c 9) (after_9 m c) t d

/-! ## The body at a point -/

/-- What the first result's window is left at: the block at a row of tokens' last point, untouched elsewhere. -/
theorem leaves_10 (c : Dev nD) (t : Fin cfg0.N) (d) (Y : Vec F S1x512x2048 .f32) (hY : Y = (dats m 0 c).after 10 t) :
    (owns (c : Thread nD τ) (st0_10 t) fullShare (if k0_cond2 (grid0.coords t) = 1#1 then Y else (dats m 0 c).before 10 t d) : sProp 𝕄)
      ⊢ (match cfg0.idle 10 (cfg0.grid.coords t) with
        | true => (match (cfg0.win 10).flush t with
          | false => iprop(∃ d, owns (c : Thread nD τ) (st0_10 t) fullShare ((dats m 0 c).before 10 t d))
          | true => owns (c : Thread nD τ) (st0_10 t) fullShare ((dats m 0 c).after 10 t))
        | false => owns (c : Thread nD τ) (st0_10 t) fullShare ((dats m 0 c).after 10 t) : sProp 𝕄) := by
  subst hY
  by_cases h : k0_cond2 (grid0.coords t) = 1#1
  · have hi : cfg0.idle 10 (cfg0.grid.coords t) = false := by
      show (!(k0_cond2 (grid0.coords t) == 1#1)) = false
      rw [h]; rfl
    rw [hi, if_pos h]
  · have hi : cfg0.idle 10 (cfg0.grid.coords t) = true := by
      show (!(k0_cond2 (grid0.coords t) == 1#1)) = true
      simpa using h
    have hf : (cfg0.win 10).flush t = false := by
      rw [← Bool.not_eq_true, flush0_10, ← co2, ← cond2_iff]
      exact h
    rw [hi, hf, if_neg h]
    iintro H; iexists d; iexact H

/-- What the body is handed at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ (match cfg0.idle 10 (cfg0.grid.coords t) with
        | true => (match (cfg0.win 10).flush t with
          | false => iprop(∃ d, owns (c : Thread nD τ) (st0_10 t) fullShare ((dats m 0 c).before 10 t d))
          | true => owns (c : Thread nD τ) (st0_10 t) fullShare ((dats m 0 c).after 10 t))
        | false => owns (c : Thread nD τ) (st0_10 t) fullShare ((dats m 0 c).after 10 t))
    ∗ owns (c : Thread nD τ) (st0_11 t) fullShare ((dats m 0 c).after 11 t))

set_option maxHeartbeats 1600000 in
/-- The body at any point, from what is known before it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [Φ_castSucc, Φ_succ, show (dats m 0 c).owesAt () t.succ = (dats m 0 c).owesAt () t.castSucc from rfl,
    after_0, after_1, after_2, after_3, after_4, after_5, after_6, after_7, after_8, after_9, after_11]
  unfold PhiS
  iintro ⟨⟨%s16, %s17, %hinv, H15, H16, H17, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) s16 s17 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H15]; · iexact H15
  isplitl [H16]; · iexact H16
  isplitl [H17]; · iexact H17
  rw [step_eq m c t s16 s17 hinv]
  iintro ⟨H0, H1, H2, H3, H4, H5, H6, H7, H8, H9, H10, H11, H15, H16, H17⟩
  isplitl [H15 H16 H17 Hr]
  · iexists _, _
    isplitr; · ipureintro; exact inv_step m c t s16 s17 hinv
    isplitl [H15]; · iexact H15
    isplitl [H16]; · iexact H16
    isplitl [H17]; · iexact H17
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iapply (leaves_10 m c t d10 _ (after_10 m c t).symm); iexact H10
  iexact H11

theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem hin (c : Dev nD) : (Pipeline.ΦA spec0 c : sProp 𝕄) ⊢ (dats m 0 c).Φ 0 := by
  show _ ⊢ PhiS m c 0 (Nat.zero_le _)
  unfold Pipeline.ΦA PhiS
  rw [scopedRest0_eq]
  simp only [owns_whole]
  iintro ⟨⟨⟨%f0, H0⟩, ⟨%f1, H1⟩, ⟨%f2, H2⟩⟩, Hr⟩
  iexists f1, f2
  isplitr; · ipureintro; exact ⟨fun s hs => absurd hs (Nat.not_lt_zero s), fun h => absurd rfl h⟩
  isplitl [H0]; · iexists f0; iexact H0
  isplitl [H1]; · iexact H1
  isplitl [H2]; · iexact H2
  iexact Hr

theorem hout (c : Dev nD) : (dats m 0 c).Φ (Fin.last cfg0.N) ⊢ (Pipeline.ΦA spec0 c : sProp 𝕄) := by
  show PhiS m c (Fin.last cfg0.N).val (Nat.le_of_lt_succ (Fin.last cfg0.N).isLt) ⊢ _
  unfold Pipeline.ΦA PhiS
  rw [scopedRest0_eq]
  simp only [owns_whole]
  iintro ⟨%f1, %f2, -, ⟨%f0, H0⟩, H1, H2, Hr⟩
  isplitl [H0 H1 H2]
  · isplitl [H0]; · iexists f0; iexact H0
    isplitl [H1]; · iexists f1; iexact H1
    iexists f2; iexact H2
  iexact Hr

set_option backward.isDefEq.respectTransparency.types false in
set_option maxHeartbeats 800000 in
/-- Every run ends, the windows' arrays at what the points left and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c w => by fin_cases w <;> rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they were and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun _ h => ⟨h.1, h.2.2⟩) (θ_run_and (frame_of m ρ (dats m) (A_eq m) (run_main m ρ)) (run_main_quiescent m ρ))

end Cert.FfnRun

end
-- ==== Proof.FfnMath.lean ====
/- The feed-forward call's block arithmetic: what one point computes, at an entry. -/
module

public import proofs.«01_k».proof.Proof.FfnBody
public import Idealize.ShloMosaic.Lib.Claim

@[expose] public section

set_option maxRecDepth 16384

noncomputable section

namespace Cert.FfnMath

open Cert.FfnIdeal Cert.FfnIdeal.Gen Cert.FfnRun Idealize.ShloMosaic Idealize.ShloMosaic.TcCoe

/-- The logistic function, as the reference computes it. -/
def lgs (x : EReal) : EReal := Ideal.div 1 (1 + Ideal.exp (-x))

/-- A column of the left half, -/
def cl (n : Fin 256) : Fin 512 := ⟨n.val, by omega⟩

/-- and of the right half. -/
def cr (n : Fin 256) : Fin 512 := ⟨256 + n.val, by omega⟩

/-! ## Loads of a part of a block -/

/-- A load of a rectangle reads the block where the rectangle stands. -/
theorem ld_at {s : Shape} {e : EltTy} (x : s.Idx → Elt Ideal e) {off size : Fin s.rank → ℕ} (h : ∀ a, off a + size a ≤ s.size a) (j : (⟨s.rank, size⟩ : Shape).Idx) (i : s.Idx)
    (hi : ∀ a, (i a).val = off a + (j a).val) : View.ld x (Rect.unit (s := s) off size h) j = x i := by
  show x _ = x i
  congr 1
  funext a
  apply Fin.ext
  show off a + 1 * (j a).val = (i a).val
  rw [hi a]; omega

theorem ld_S2048x512_0_0 (x : Vec Ideal S2048x512 .bf16) (a : Fin 2048) (b : Fin 256) :
    View.ld x (Rect.unit ![0, 0] S2048x256.size inb_S2048x512_S2048x256_0_0) (ix2 a b) = x (ix2 a (cl b)) :=
  ld_at x _ _ _ fun d => by
    match d with
    | ⟨0, _⟩ => exact (Nat.zero_add _).symm
    | ⟨1, _⟩ => exact (Nat.zero_add _).symm
theorem ld_S2048x512_0_256 (x : Vec Ideal S2048x512 .bf16) (a : Fin 2048) (b : Fin 256) :
    View.ld x (Rect.unit ![0, 256] S2048x256.size inb_S2048x512_S2048x256_0_256) (ix2 a b) = x (ix2 a (cr b)) :=
  ld_at x _ _ _ fun d => by
    match d with
    | ⟨0, _⟩ => exact (Nat.zero_add _).symm
    | ⟨1, _⟩ => rfl
theorem ld_S512x2048_0_0 (x : Vec Ideal S512x2048 .bf16) (a : Fin 256) (b : Fin 2048) :
    View.ld x (Rect.unit ![0, 0] S256x2048.size inb_S512x2048_S256x2048_0_0) (ix2 a b) = x (ix2 (cl a) b) :=
  ld_at x _ _ _ fun d => by
    match d with
    | ⟨0, _⟩ => exact (Nat.zero_add _).symm
    | ⟨1, _⟩ => exact (Nat.zero_add _).symm
theorem ld_S512x2048_256_0 (x : Vec Ideal S512x2048 .bf16) (a : Fin 256) (b : Fin 2048) :
    View.ld x (Rect.unit ![256, 0] S256x2048.size inb_S512x2048_S256x2048_256_0) (ix2 a b) = x (ix2 (cr a) b) :=
  ld_at x _ _ _ fun d => by
    match d with
    | ⟨0, _⟩ => rfl
    | ⟨1, _⟩ => exact (Nat.zero_add _).symm
theorem ld_S1x512_0_0 (x : Vec Ideal S1x512 .f32) (b : Fin 256) :
    View.ld x (Rect.unit ![0, 0] S1x256.size inb_S1x512_S1x256_0_0) (ix2 0 b) = x (ix2 0 (cl b)) :=
  ld_at x _ _ _ fun d => by
    match d with
    | ⟨0, _⟩ => exact (Nat.zero_add _).symm
    | ⟨1, _⟩ => exact (Nat.zero_add _).symm
theorem ld_S1x512_0_256 (x : Vec Ideal S1x512 .f32) (b : Fin 256) :
    View.ld x (Rect.unit ![0, 256] S1x256.size inb_S1x512_S1x256_0_256) (ix2 0 b) = x (ix2 0 (cr b)) :=
  ld_at x _ _ _ fun d => by
    match d with
    | ⟨0, _⟩ => exact (Nat.zero_add _).symm
    | ⟨1, _⟩ => rfl
theorem ld_S3x512_0_0 (x : Vec Ideal S3x512 .f32) (b : Fin 256) :
    View.ld x (Rect.unit ![0, 0] S1x256.size inb_S3x512_S1x256_0_0) (ix2 0 b) = x (ix2 0 (cl b)) :=
  ld_at x _ _ _ fun d => by
    match d with
    | ⟨0, _⟩ => exact (Nat.zero_add _).symm
    | ⟨1, _⟩ => exact (Nat.zero_add _).symm
theorem ld_S3x512_0_256 (x : Vec Ideal S3x512 .f32) (b : Fin 256) :
    View.ld x (Rect.unit ![0, 256] S1x256.size inb_S3x512_S1x256_0_256) (ix2 0 b) = x (ix2 0 (cr b)) :=
  ld_at x _ _ _ fun d => by
    match d with
    | ⟨0, _⟩ => exact (Nat.zero_add _).symm
    | ⟨1, _⟩ => rfl
theorem ld_S3x512_1_0 (x : Vec Ideal S3x512 .f32) (b : Fin 256) :
    View.ld x (Rect.unit ![1, 0] S1x256.size inb_S3x512_S1x256_1_0) (ix2 0 b) = x (ix2 1 (cl b)) :=
  ld_at x _ _ _ fun d => by
    match d with
    | ⟨0, _⟩ => rfl
    | ⟨1, _⟩ => exact (Nat.zero_add _).symm
theorem ld_S3x512_1_256 (x : Vec Ideal S3x512 .f32) (b : Fin 256) :
    View.ld x (Rect.unit ![1, 256] S1x256.size inb_S3x512_S1x256_1_256) (ix2 0 b) = x (ix2 1 (cr b)) :=
  ld_at x _ _ _ fun d => by
    match d with
    | ⟨0, _⟩ => rfl
    | ⟨1, _⟩ => rfl
theorem ld_S3x512_2_0 (x : Vec Ideal S3x512 .f32) (b : Fin 256) :
    View.ld x (Rect.unit ![2, 0] S1x256.size inb_S3x512_S1x256_2_0) (ix2 0 b) = x (ix2 2 (cl b)) :=
  ld_at x _ _ _ fun d => by
    match d with
    | ⟨0, _⟩ => rfl
    | ⟨1, _⟩ => exact (Nat.zero_add _).symm
theorem ld_S3x512_2_256 (x : Vec Ideal S3x512 .f32) (b : Fin 256) :
    View.ld x (Rect.unit ![2, 256] S1x256.size inb_S3x512_S1x256_2_256) (ix2 0 b) = x (ix2 2 (cr b)) :=
  ld_at x _ _ _ fun d => by
    match d with
    | ⟨0, _⟩ => rfl
    | ⟨1, _⟩ => rfl

/-! ## The products -/

/-- A row of a block of tokens against a column of a block of weights. -/
def A (x0 : Vec Ideal S1x512x2048 .bf16) (x3 : Vec Ideal S2048x512 .bf16) (r n : Fin 512) : EReal := ∑ d : Fin 2048, x0 (ix3 0 r d) * x3 (ix2 d n)

theorem pay6_apply (v : Vec Ideal S1x512x2048 .bf16) (w : Vec Ideal S2048x256 .bf16) (r : Fin 512) (n : Fin 256) :
    k0_pay6 v w (ix2 r n) = ∑ d : Fin 2048, v (ix3 0 r d) * w (ix2 d n) := by
  unfold k0_pay6 k0_pay4
  pointwise

theorem aL_apply (x0 : Vec Ideal S1x512x2048 .bf16) (x3 : Vec Ideal S2048x512 .bf16) (r : Fin 512) (n : Fin 256) : aL x0 x3 (ix2 r n) = A x0 x3 r (cl n) := by
  unfold aL
  rw [View.ld_unit_zero (S := S1x512x2048) hz3]
  exact (pay6_apply _ _ r n).trans (Finset.sum_congr rfl fun d _ => congrArg (x0 (ix3 0 r d) * ·) (ld_S2048x512_0_0 x3 d n))

theorem aR_apply (x0 : Vec Ideal S1x512x2048 .bf16) (x3 : Vec Ideal S2048x512 .bf16) (r : Fin 512) (n : Fin 256) : aR x0 x3 (ix2 r n) = A x0 x3 r (cr n) := by
  unfold aR
  rw [View.ld_unit_zero (S := S1x512x2048) hz3]
  exact (pay6_apply _ _ r n).trans (Finset.sum_congr rfl fun d _ => congrArg (x0 (ix3 0 r d) * ·) (ld_S2048x512_0_256 x3 d n))

/-- The gate's products are the same ones, of the gate's weights. -/
theorem gL_eq (x0 : Vec Ideal S1x512x2048 .bf16) (x4 : Vec Ideal S2048x512 .bf16) : gL x0 x4 = aL x0 x4 := rfl
theorem gR_eq (x0 : Vec Ideal S1x512x2048 .bf16) (x4 : Vec Ideal S2048x512 .bf16) : gR x0 x4 = aR x0 x4 := rfl

/-! ## The last two rows -/

theorem pay13_apply (a : FVec Ideal S512x256 .f32) (r : Fin 2) (n : Fin 256) : k0_pay13 a (ix3 0 r n) = a (ix2 ⟨510 + r.val, by omega⟩ n) := by
  unfold k0_pay13 k0_pay12
  pointwise

theorem pay14_apply (a : FVec Ideal S512x256 .f32) (r : Fin 2) (n : Fin 256) : k0_pay14 a (ix4 0 0 r n) = a (ix2 ⟨510 + r.val, by omega⟩ n) := by
  unfold k0_pay14 k0_pay12
  pointwise

theorem tlAt_apply (x0 : Vec Ideal S1x512x2048 .bf16) (x3 : Vec Ideal S2048x512 .bf16) (r : Fin 2) (n : Fin 512) :
    tlAt x0 x3 r n = A x0 x3 ⟨510 + r.val, by omega⟩ n := by
  unfold tlAt
  split
  · rw [pay13_apply, aL_apply]; rfl
  · refine (pay13_apply _ r _).trans ((aR_apply _ _ _ _).trans ?_)
    congr 1
    apply Fin.ext
    show 256 + (n.val - 256) = n.val
    omega

theorem stOut_apply (x0 : Vec Ideal S1x512x2048 .bf16) (x3 : Vec Ideal S2048x512 .bf16) (r : Fin 2) (n : Fin 512) :
    stOut x0 x3 (ix4 0 0 r n) = A x0 x3 ⟨510 + r.val, by omega⟩ n := by
  unfold stOut
  by_cases h : n.val < 256
  · have he : (ix4 0 0 r n : S1x1x2x512.Idx) = (Rect.unit (s := S1x1x2x512) ![0, 0, 0, 0] S1x1x2x256.size inb_S1x1x2x512_S1x1x2x256_0_0_0_0).emb (ix4 0 0 r ⟨n.val, by omega⟩) := by
      funext d
      apply Fin.ext
      match d with
      | ⟨0, _⟩ => rfl
      | ⟨1, _⟩ => rfl
      | ⟨2, _⟩ => show r.val = 0 + 1 * r.val; omega
      | ⟨3, _⟩ => show n.val = 0 + 1 * (n.val); omega
    rw [View.canon_cons_of_not_mem]
    · rw [he]
      refine (View.canon_cons_emb _ _ _ _).trans ((pay14_apply _ r _).trans ((aL_apply _ _ _ _).trans ?_))
      rfl
    · show (ix4 0 0 r n : S1x1x2x512.Idx) ∉ (Rect.unit (s := S1x1x2x512) ![0, 0, 0, 256] S1x1x2x256.size inb_S1x1x2x512_S1x1x2x256_0_0_0_256).set
      rw [Rect.mem_set_unit]
      intro hd
      have h3 : 256 ≤ n.val := (hd (3 : Fin 4)).1
      omega
  · have he : (ix4 0 0 r n : S1x1x2x512.Idx) = (Rect.unit (s := S1x1x2x512) ![0, 0, 0, 256] S1x1x2x256.size inb_S1x1x2x512_S1x1x2x256_0_0_0_256).emb (ix4 0 0 r ⟨n.val - 256, by omega⟩) := by
      funext d
      apply Fin.ext
      match d with
      | ⟨0, _⟩ => rfl
      | ⟨1, _⟩ => rfl
      | ⟨2, _⟩ => show r.val = 0 + 1 * r.val; omega
      | ⟨3, _⟩ => show n.val = 256 + 1 * (n.val - 256); omega
    rw [he]
    refine (View.canon_cons_emb _ _ _ _).trans ((pay14_apply _ r _).trans ((aR_apply _ _ _ _).trans ?_))
    congr 1
    apply Fin.ext
    show 256 + (n.val - 256) = n.val
    omega

/-! ## The two rows before the block, and the block's rows shifted -/

theorem pv_first_apply (i : grid0.Coords) (h : (i 1).val = 0) (x8 v : Vec Ideal S1x2x512 .f32) (r : Fin 2) (n : Fin 512) : pv i x8 v (ix2 r n) = x8 (ix3 0 r n) := by
  unfold pv
  rw [View.ld_unit_zero (S := S1x2x512) hz3]
  show (Scalar.select (Scalar.cmpi .eq (BitVec.ofNat 32 (i 1).val) 0#32) (shapeCast S2x512 x8 shapeCasts_S1x2x512_S2x512) _ : FVec Ideal S2x512 .f32) (ix2 r n) = _
  rw [first_eq i h]
  show shapeCast S2x512 x8 shapeCasts_S1x2x512_S2x512 (ix2 r n) = _
  pointwise

theorem pv_later_apply (i : grid0.Coords) (h : (i 1).val ≠ 0) (x8 v : Vec Ideal S1x2x512 .f32) (r : Fin 2) (n : Fin 512) : pv i x8 v (ix2 r n) = v (ix3 0 r n) := by
  unfold pv
  show (Scalar.select (Scalar.cmpi .eq (BitVec.ofNat 32 (i 1).val) 0#32) _ (shapeCast S2x512 v shapeCasts_S1x2x512_S2x512) : FVec Ideal S2x512 .f32) (ix2 r n) = _
  rw [later_eq i h]
  show shapeCast S2x512 v shapeCasts_S1x2x512_S2x512 (ix2 r n) = _
  pointwise

/-- Row `q` of the two rows `p` followed by the block's. -/
def S (x0 : Vec Ideal S1x512x2048 .bf16) (x3 : Vec Ideal S2048x512 .bf16) (p : FVec Ideal S2x512 .f32) (q : Fin 514) (n : Fin 512) : EReal :=
  if h : q.val < 2 then p (ix2 ⟨q.val, h⟩ n) else A x0 x3 ⟨q.val - 2, by omega⟩ n

theorem pvL_apply (p : FVec Ideal S2x512 .f32) (r : Fin 2) (n : Fin 256) : pvL p (ix2 r n) = p (ix2 r (cl n)) := by
  unfold pvL
  pointwise
  rfl

theorem pay18_apply (p : FVec Ideal S2x512 .f32) (r : Fin 2) (n : Fin 256) : k0_pay18 p (ix2 r n) = p (ix2 r (cr n)) := by
  unfold k0_pay18
  pointwise
  rfl

theorem pay11_apply (a : FVec Ideal S512x256 .f32) (r : Fin 512) (n : Fin 256) : k0_pay11 a (ix2 r n) = a (ix2 r n) := by
  unfold k0_pay11
  pointwise

theorem pay19_apply (a : FVec Ideal S512x256 .f32) (r : Fin 512) (n : Fin 256) : k0_pay19 a (ix2 r n) = a (ix2 r n) := pay11_apply a r n

/-- A shift of a half's rows is the sequence's row that many places on. -/
theorem shift_apply (x0 : Vec Ideal S1x512x2048 .bf16) (x3 : Vec Ideal S2048x512 .bf16) (p : FVec Ideal S2x512 .f32) (k : ℕ) (hk : k < 2) (cc : Fin 256 → Fin 512)
    (p' : S2x256.Idx → EReal) (a' : S512x256.Idx → EReal) (hp : ∀ r n, p' (ix2 r n) = p (ix2 r (cc n))) (ha : ∀ r n, a' (ix2 r n) = A x0 x3 r (cc n)) (r : Fin 512) (n : Fin 256) :
    shift (F := Ideal) k p' a' (ix2 r n) = S x0 x3 p ⟨r.val + k, by omega⟩ (cc n) := by
  show (if h : r.val + k < 2 then p' (ix2 ⟨r.val + k, h⟩ n) else if h2 : r.val + k - 2 < 512 then a' (ix2 ⟨r.val + k - 2, h2⟩ n) else a' (ix2 r n))
    = if h : r.val + k < 2 then p (ix2 ⟨r.val + k, h⟩ (cc n)) else A x0 x3 ⟨r.val + k - 2, by omega⟩ (cc n)
  by_cases h : r.val + k < 2
  · rw [dif_pos h, dif_pos h, hp]
  · rw [dif_neg h, dif_pos (by omega), dif_neg h, ha]

/-! ## The running sum -/

/-- The convolution at a row and a column, -/
def C (x0 : Vec Ideal S1x512x2048 .bf16) (x3 : Vec Ideal S2048x512 .bf16) (x6 : Vec Ideal S3x512 .f32) (x7 : Vec Ideal S1x512 .f32) (p : FVec Ideal S2x512 .f32) (r n : Fin 512) : EReal :=
  x7 (ix2 0 n) + x6 (ix2 0 n) * S x0 x3 p ⟨r.val + 0, by omega⟩ n + x6 (ix2 1 n) * S x0 x3 p ⟨r.val + 1, by omega⟩ n + x6 (ix2 2 n) * A x0 x3 r n

/-- and the hidden entry. -/
def H (x0 : Vec Ideal S1x512x2048 .bf16) (x3 x4 : Vec Ideal S2048x512 .bf16) (x6 : Vec Ideal S3x512 .f32) (x7 : Vec Ideal S1x512 .f32) (p : FVec Ideal S2x512 .f32) (r n : Fin 512) : EReal :=
  C x0 x3 x6 x7 p r n * lgs (C x0 x3 x6 x7 p r n) * A x0 x4 r n

theorem pay15_apply (a g : FVec Ideal S512x256 .f32) (b w0 : Vec Ideal S1x256 .f32) (q0 : Vec Ideal S512x256 .f32) (w1 : Vec Ideal S1x256 .f32) (q1 : Vec Ideal S512x256 .f32) (w2 : Vec Ideal S1x256 .f32)
    (r : Fin 512) (n : Fin 256) :
    k0_pay15 a g b w0 q0 w1 q1 w2 (ix2 r n)
      = (b (ix2 0 n) + w0 (ix2 0 n) * q0 (ix2 r n) + w1 (ix2 0 n) * q1 (ix2 r n) + w2 (ix2 0 n) * a (ix2 r n))
        * lgs (b (ix2 0 n) + w0 (ix2 0 n) * q0 (ix2 r n) + w1 (ix2 0 n) * q1 (ix2 r n) + w2 (ix2 0 n) * a (ix2 r n)) * g (ix2 r n) := by
  unfold k0_pay15
  pointwise
  rfl

theorem pay17_apply (h : FVec Ideal S512x256 .bf16) (s : Vec Ideal S1x512x2048 .f32) (w : Vec Ideal S256x2048 .bf16) (r : Fin 512) (k : Fin 2048) :
    k0_pay17 h (k0_pay16 s) w (ix3 0 r k) = s (ix3 0 r k) + ∑ j : Fin 256, h (ix2 r j) * w (ix2 j k) := by
  unfold k0_pay17 k0_pay16
  pointwise

/-- The right half's payloads are the left's. -/
theorem pay1_eq (a g : FVec Ideal S512x256 .f32) (b w0 : Vec Ideal S1x256 .f32) (q0 : Vec Ideal S512x256 .f32) (w1 : Vec Ideal S1x256 .f32) (q1 : Vec Ideal S512x256 .f32) (w2 : Vec Ideal S1x256 .f32)
    (s : Vec Ideal S1x512x2048 .f32) (w : Vec Ideal S256x2048 .bf16) :
    k0_pay1 a g (k0_pay23 b w0 q0) w1 q1 w2 s w = k0_pay17 (k0_pay15 a g b w0 q0 w1 q1 w2) (k0_pay16 s) w := rfl

theorem mid_apply (x0 : Vec Ideal S1x512x2048 .bf16) (x3 x4 : Vec Ideal S2048x512 .bf16) (x5 : Vec Ideal S512x2048 .bf16) (x6 : Vec Ideal S3x512 .f32) (x7 : Vec Ideal S1x512 .f32)
    (p : FVec Ideal S2x512 .f32) (s : Vec Ideal S1x512x2048 .f32) (r : Fin 512) (k : Fin 2048) :
    mid x0 x3 x4 x5 x6 x7 p s (ix3 0 r k) = s (ix3 0 r k) + ∑ j : Fin 256, H x0 x3 x4 x6 x7 p r (cl j) * x5 (ix2 (cl j) k) := by
  unfold mid
  rw [pay17_apply]
  congr 1
  refine Finset.sum_congr rfl fun j _ => ?_
  rw [pay15_apply, ld_S1x512_0_0, ld_S3x512_0_0, ld_S3x512_1_0, ld_S3x512_2_0, ld_S512x2048_0_0, gL_eq, aL_apply, aL_apply,
    shift_apply x0 x3 p 0 (by omega) cl _ _ (pvL_apply p) (fun r n => (pay11_apply _ r n).trans (aL_apply _ _ _ _)),
    shift_apply x0 x3 p 1 (by omega) cl _ _ (pvL_apply p) (fun r n => (pay11_apply _ r n).trans (aL_apply _ _ _ _))]
  rfl

theorem step_apply (x0 : Vec Ideal S1x512x2048 .bf16) (x3 x4 : Vec Ideal S2048x512 .bf16) (x5 : Vec Ideal S512x2048 .bf16) (x6 : Vec Ideal S3x512 .f32) (x7 : Vec Ideal S1x512 .f32)
    (p : FVec Ideal S2x512 .f32) (s : Vec Ideal S1x512x2048 .f32) (r : Fin 512) (k : Fin 2048) :
    stepOut x0 x3 x4 x5 x6 x7 p s (ix3 0 r k) = s (ix3 0 r k) + ∑ n : Fin 512, H x0 x3 x4 x6 x7 p r n * x5 (ix2 n k) := by
  unfold stepOut
  rw [pay1_eq, pay17_apply, mid_apply, add_assoc]
  congr 1
  refine Eq.trans ?_ (Fin.sum_univ_add (a := 256) (b := 256) fun n : Fin 512 => H x0 x3 x4 x6 x7 p r n * x5 (ix2 n k)).symm
  congr 1
  refine Finset.sum_congr rfl fun j _ => ?_
  rw [pay15_apply, ld_S1x512_0_256, ld_S3x512_0_256, ld_S3x512_1_256, ld_S3x512_2_256, ld_S512x2048_256_0, gR_eq, aR_apply, aR_apply,
    shift_apply x0 x3 p 0 (by omega) cr _ _ (pay18_apply p) (fun r n => (pay19_apply _ r n).trans (aR_apply _ _ _ _)),
    shift_apply x0 x3 p 1 (by omega) cr _ _ (pay18_apply p) (fun r n => (pay19_apply _ r n).trans (aR_apply _ _ _ _))]
  rfl

theorem pay3_apply (r : Fin 512) (k : Fin 2048) : (k0_pay3 : FVec Ideal S1x512x2048 .f32) (ix3 0 r k) = 0 := by
  unfold k0_pay3
  pointwise

/-! ## The first result's block -/

/-- The normalized row, from the row `u` and the final weights. -/
def nrm (u : Fin 2048 → EReal) (g : EReal) (k : Fin 2048) : EReal :=
  u k * Ideal.rsqrt (Ideal.div (∑ d : Fin 2048, u d * u d) ((Scalar.ofBits .f32 0x45000000#32 : Ideal .f32) : EReal) + ((Scalar.ofBits .f32 0x358637BD#32 : Ideal .f32) : EReal)) * g

theorem yOut_apply (x1 : Vec Ideal S1x512x2048 .f32) (x2 : Vec Ideal S1x6x2048 .f32) (x9 : Vec Ideal S1x2048 .f32) (s : Vec Ideal S1x512x2048 .f32) (r : Fin 512) (k : Fin 2048) :
    yOut x1 x2 x9 s (ix3 0 r k) = nrm (fun d => x1 (ix3 0 r d) + x2 (ix3 0 5 d) * s (ix3 0 r d)) (x9 (ix2 0 k)) k := by
  unfold yOut
  rw [View.ld_unit_zero (S := S1x512x2048) hz3, View.ld_unit_zero (S := S1x2048) (funext fun a => by fin_cases a <;> rfl)]
  have hx : ∀ d : Fin 2048, View.ld x2 (Rect.unit ![0, 5, 0] S1x1x2048.size inb_S1x6x2048_S1x1x2048_0_5_0) (ix3 0 0 d) = x2 (ix3 0 5 d) := fun d => ld_at x2 _ _ _ fun a => by
    match a with
    | ⟨0, _⟩ => rfl
    | ⟨1, _⟩ => rfl
    | ⟨2, _⟩ => exact (Nat.zero_add _).symm
  generalize View.ld x2 (Rect.unit ![0, 5, 0] S1x1x2048.size inb_S1x6x2048_S1x1x2048_0_5_0) = w at hx ⊢
  simp only [← hx]
  unfold k0_pay2
  pointwise
  rfl

end Cert.FfnMath

end
-- ==== Proof.FfnValue.lean ====
/- The feed-forward call: the staged arrays and the windows' blocks of them, the running sum and the two result arrays at
   an entry, with the reference's results read beside them. -/
module

public import proofs.«01_k».proof.Proof.FfnRun
public import proofs.«01_k».proof.Proof.FfnMath
public import proofs.«01_k».proof.Proof.Gen.FfnRefIdeal.Run
public import Idealize.ShloMosaic.Lib.StableHlo.ReadAt

@[expose] public section

set_option maxRecDepth 16384

noncomputable section

namespace Cert.FfnValue

open Cert.FfnIdeal Cert.FfnIdeal.Gen Cert.FfnRun Cert.FfnMath Idealize.ShloMosaic Idealize.ShloMosaic.TcCoe Idealize.SL.Sem
open Idealize.ShloMosaic.Pipeline (Dat)

variable (m : (ℓ : Loc nD τ sig) → Buf (Elt Ideal) ℓ)

/-! ## The layer's mathematics -/

/-- A hidden column among both projections' columns, -/
def ka (k : Fin 5632) : Fin 11264 := ⟨k.val, by omega⟩

/-- and its gate's column. -/
def kb (k : Fin 5632) : Fin 11264 := ⟨5632 + k.val, by omega⟩

/-- The up projection, -/
def up (h : S4x8192x2048.Idx → EReal) (wu : S2048x11264.Idx → EReal) (b : Fin 4) (t : Fin 8192) (k : Fin 11264) : EReal :=
  ∑ d : Fin 2048, h (ix3 b t d) * wu (ix2 d k)

/-- the sequence the convolution runs over: the two rows handed in, then the projection's, -/
def sq (h : S4x8192x2048.Idx → EReal) (wu : S2048x11264.Idx → EReal) (pr : S4x2x5632.Idx → EReal) (b : Fin 4) (q : Fin 8194) (k : Fin 5632) : EReal :=
  if hq : q.val < 2 then pr (ix3 b ⟨q.val, hq⟩ k) else up h wu b ⟨q.val - 2, by omega⟩ (ka k)

/-- the convolution, -/
def cv (h : S4x8192x2048.Idx → EReal) (wu : S2048x11264.Idx → EReal) (wc : S3x5632.Idx → EReal) (bc : S5632.Idx → EReal) (pr : S4x2x5632.Idx → EReal)
    (b : Fin 4) (t : Fin 8192) (k : Fin 5632) : EReal :=
  bc (ix1 k) + wc (ix2 0 k) * sq h wu pr b ⟨t.val + 0, by omega⟩ k + wc (ix2 1 k) * sq h wu pr b ⟨t.val + 1, by omega⟩ k + wc (ix2 2 k) * up h wu b t (ka k)

/-- the hidden entry, -/
def hid (h : S4x8192x2048.Idx → EReal) (wu : S2048x11264.Idx → EReal) (wc : S3x5632.Idx → EReal) (bc : S5632.Idx → EReal) (pr : S4x2x5632.Idx → EReal)
    (b : Fin 4) (t : Fin 8192) (k : Fin 5632) : EReal :=
  cv h wu wc bc pr b t k * lgs (cv h wu wc bc pr b t k) * up h wu b t (kb k)

/-- the down projection, -/
def down (h : S4x8192x2048.Idx → EReal) (wu : S2048x11264.Idx → EReal) (wc : S3x5632.Idx → EReal) (bc : S5632.Idx → EReal) (wd : S5632x2048.Idx → EReal) (pr : S4x2x5632.Idx → EReal)
    (b : Fin 4) (t : Fin 8192) (n : Fin 2048) : EReal :=
  ∑ k : Fin 5632, hid h wu wc bc pr b t k * wd (ix2 k n)

/-- the layer's result at a token and a column, -/
def out (h x1 : S4x8192x2048.Idx → EReal) (md : S4x12288.Idx → EReal) (wu : S2048x11264.Idx → EReal) (wc : S3x5632.Idx → EReal) (bc : S5632.Idx → EReal) (wd : S5632x2048.Idx → EReal)
    (pr : S4x2x5632.Idx → EReal) (fg : S2048.Idx → EReal) (b : Fin 4) (t : Fin 8192) (n : Fin 2048) : EReal :=
  nrm (fun d => x1 (ix3 b t d) + md (ix2 b ⟨10240 + d.val, by omega⟩) * down h wu wc bc wd pr b t d) (fg (ix1 n)) n

/-- the result's array, -/
def yFn (h x1 : S4x8192x2048.Idx → EReal) (md : S4x12288.Idx → EReal) (wu : S2048x11264.Idx → EReal) (wc : S3x5632.Idx → EReal) (bc : S5632.Idx → EReal) (wd : S5632x2048.Idx → EReal)
    (pr : S4x2x5632.Idx → EReal) (fg : S2048.Idx → EReal) : S4x8192x2048.Idx → EReal := fun y => out h x1 md wu wc bc wd pr fg (y 0) (y 1) (y 2)

/-- and the array of each block of 512 tokens' last two rows. -/
def tFn (h : S4x8192x2048.Idx → EReal) (wu : S2048x11264.Idx → EReal) : S4x16x2x5632.Idx → EReal := fun y =>
  up h wu (y 0) ⟨512 * (y 1).val + (510 + (y 2).val), by have h1 : (y 1).val < 16 := (y 1).isLt; have h2 : (y 2).val < 2 := (y 2).isLt; omega⟩ (ka (y 3))

/-! ## The staged arrays -/

theorem h_apply (c : Dev nD) (b : Fin 4) (t : Fin 8192) (d : Fin 2048) : V m c main_v0 (ix3 b t d) = m (c.tc.loc main_arg0) (ix3 b t d) := by
  show StableHlo.after hostOps0 (fun b => m (c, b)) (Proc.devRef .tc main_v0) (ix3 b t d) = _
  after_reads_simp
  clean_types
  pointwise

theorem md_apply (c : Dev nD) (b : Fin 4) (n : Fin 2048) : V m c main_v1 (ix3 b 5 n) = m (c.tc.loc main_arg2) (ix2 b ⟨10240 + n.val, by omega⟩) := by
  show StableHlo.after hostOps0 (fun b => m (c, b)) (Proc.devRef .tc main_v1) (ix3 b 5 n) = _
  after_reads_simp
  clean_types
  pointwise

theorem wa_apply (c : Dev nD) (d : Fin 2048) (k : Fin 5632) : V m c main_v3 (ix2 d k) = m (c.tc.loc main_arg3) (ix2 d (ka k)) := by
  show StableHlo.after hostOps0 (fun b => m (c, b)) (Proc.devRef .tc main_v3) (ix2 d k) = _
  after_reads_simp
  clean_types
  pointwise
  rfl

theorem wb_apply (c : Dev nD) (d : Fin 2048) (k : Fin 5632) : V m c main_v5 (ix2 d k) = m (c.tc.loc main_arg3) (ix2 d (kb k)) := by
  show StableHlo.after hostOps0 (fun b => m (c, b)) (Proc.devRef .tc main_v5) (ix2 d k) = _
  after_reads_simp
  clean_types
  pointwise
  rfl

theorem wd_apply (c : Dev nD) (k : Fin 5632) (n : Fin 2048) : V m c main_v6 (ix2 k n) = m (c.tc.loc main_arg6) (ix2 k n) := by
  show StableHlo.after hostOps0 (fun b => m (c, b)) (Proc.devRef .tc main_v6) (ix2 k n) = _
  after_reads_simp
  clean_types
  pointwise

theorem bc_apply (c : Dev nD) (k : Fin 5632) : V m c main_v7 (ix2 0 k) = m (c.tc.loc main_arg5) (ix1 k) := by
  show StableHlo.after hostOps0 (fun b => m (c, b)) (Proc.devRef .tc main_v7) (ix2 0 k) = _
  after_reads_simp
  clean_types
  pointwise

theorem fg_apply (c : Dev nD) (n : Fin 2048) : V m c main_v8 (ix2 0 n) = m (c.tc.loc main_arg8) (ix1 n) := by
  show StableHlo.after hostOps0 (fun b => m (c, b)) (Proc.devRef .tc main_v8) (ix2 0 n) = _
  after_reads_simp
  clean_types
  pointwise

/-! ## Where the windows stand -/

/-- A point's batch row, -/
def bb (t : Fin cfg0.N) : Fin 4 := ⟨t.val / 176, by have := val_lt t; omega⟩

/-- its block of tokens, -/
def mm (t : Fin cfg0.N) : Fin 16 := ⟨t.val / 11 % 16, by omega⟩

/-- a token of that block, -/
def tok (t : Fin cfg0.N) (r : Fin 512) : Fin 8192 := ⟨512 * (t.val / 11 % 16) + r.val, by omega⟩

/-- and a hidden column of its block of columns. -/
def col (t : Fin cfg0.N) (n : Fin 512) : Fin 5632 := ⟨512 * (t.val % 11) + n.val, by omega⟩

theorem index_0 : ∀ t : Fin grid0.N, win0_0.index t 0 = t.val / 176 ∧ win0_0.index t 1 = t.val / 11 % 16 ∧ win0_0.index t 2 = 0 := by decide +kernel
theorem index_1 : ∀ t : Fin grid0.N, win0_1.index t 0 = t.val / 176 ∧ win0_1.index t 1 = t.val / 11 % 16 ∧ win0_1.index t 2 = 0 := by decide +kernel
theorem index_2 : ∀ t : Fin grid0.N, win0_2.index t 0 = t.val / 176 ∧ win0_2.index t 1 = 0 ∧ win0_2.index t 2 = 0 := by decide +kernel
theorem index_3 : ∀ t : Fin grid0.N, win0_3.index t 0 = 0 ∧ win0_3.index t 1 = t.val % 11 := by decide +kernel
theorem index_4 : ∀ t : Fin grid0.N, win0_4.index t 0 = 0 ∧ win0_4.index t 1 = t.val % 11 := by decide +kernel
theorem index_5 : ∀ t : Fin grid0.N, win0_5.index t 0 = t.val % 11 ∧ win0_5.index t 1 = 0 := by decide +kernel
theorem index_6 : ∀ t : Fin grid0.N, win0_6.index t 0 = 0 ∧ win0_6.index t 1 = t.val % 11 := by decide +kernel
theorem index_7 : ∀ t : Fin grid0.N, win0_7.index t 0 = 0 ∧ win0_7.index t 1 = t.val % 11 := by decide +kernel
theorem index_8 : ∀ t : Fin grid0.N, win0_8.index t 0 = t.val / 176 ∧ win0_8.index t 1 = 0 ∧ win0_8.index t 2 = t.val % 11 := by decide +kernel
theorem index_9 : ∀ t : Fin grid0.N, win0_9.index t 0 = 0 ∧ win0_9.index t 1 = 0 := by decide +kernel
theorem index_10 : ∀ t : Fin grid0.N, win0_10.index t 0 = t.val / 176 ∧ win0_10.index t 1 = t.val / 11 % 16 ∧ win0_10.index t 2 = 0 := by decide +kernel
theorem index_11 : ∀ t : Fin grid0.N, win0_11.index t 0 = t.val / 176 ∧ win0_11.index t 1 = t.val / 11 % 16 ∧ win0_11.index t 2 = 0 ∧ win0_11.index t 3 = t.val % 11 := by decide +kernel

theorem emb_0 (t : Fin cfg0.N) (b : Fin 512) (d : Fin 2048) :
    (((cfg0.win 0).blk t).view.emb (ix3 0 b d) : S4x8192x2048.Idx) = ix3 (bb t) (tok t b) d := by
  have h := index_0 t
  funext i
  apply Fin.ext
  match i with
  | ⟨0, _⟩ => show win0_0.index t (0 : Fin 3) * 1 + 1 * 0 = t.val / 176; omega
  | ⟨1, _⟩ => show win0_0.index t (1 : Fin 3) * 512 + 1 * b.val = 512 * (t.val / 11 % 16) + b.val; omega
  | ⟨2, _⟩ => show win0_0.index t (2 : Fin 3) * 2048 + 1 * d.val = d.val; omega

theorem blk_0 (c : Dev nD) (t : Fin cfg0.N) (b : Fin 512) (d : Fin 2048) :
    (iblk m c 0 t : Vec Ideal S1x512x2048 .bf16) (ix3 0 b d) = m (c.tc.loc main_arg0) (ix3 (bb t) (tok t b) d) := by
  show V m c main_v0 (((cfg0.win 0).blk t).view.emb (ix3 0 b d)) = _
  rw [emb_0, h_apply]

theorem emb_1 (t : Fin cfg0.N) (b : Fin 512) (d : Fin 2048) :
    (((cfg0.win 1).blk t).view.emb (ix3 0 b d) : S4x8192x2048.Idx) = ix3 (bb t) (tok t b) d := by
  have h := index_1 t
  funext i
  apply Fin.ext
  match i with
  | ⟨0, _⟩ => show win0_1.index t (0 : Fin 3) * 1 + 1 * 0 = t.val / 176; omega
  | ⟨1, _⟩ => show win0_1.index t (1 : Fin 3) * 512 + 1 * b.val = 512 * (t.val / 11 % 16) + b.val; omega
  | ⟨2, _⟩ => show win0_1.index t (2 : Fin 3) * 2048 + 1 * d.val = d.val; omega

theorem blk_1 (c : Dev nD) (t : Fin cfg0.N) (b : Fin 512) (d : Fin 2048) :
    (iblk m c 1 t : Vec Ideal S1x512x2048 .f32) (ix3 0 b d) = m (c.tc.loc main_arg1) (ix3 (bb t) (tok t b) d) := by
  show V m c main_arg1 (((cfg0.win 1).blk t).view.emb (ix3 0 b d)) = _
  rw [emb_1, V_main_arg1]

theorem emb_2 (t : Fin cfg0.N) (b : Fin 6) (d : Fin 2048) :
    (((cfg0.win 2).blk t).view.emb (ix3 0 b d) : S4x6x2048.Idx) = ix3 (bb t) b d := by
  have h := index_2 t
  funext i
  apply Fin.ext
  match i with
  | ⟨0, _⟩ => show win0_2.index t (0 : Fin 3) * 1 + 1 * 0 = t.val / 176; omega
  | ⟨1, _⟩ => show win0_2.index t (1 : Fin 3) * 6 + 1 * b.val = b.val; omega
  | ⟨2, _⟩ => show win0_2.index t (2 : Fin 3) * 2048 + 1 * d.val = d.val; omega

theorem blk_2 (c : Dev nD) (t : Fin cfg0.N) (d : Fin 2048) :
    (iblk m c 2 t : Vec Ideal S1x6x2048 .f32) (ix3 0 5 d) = m (c.tc.loc main_arg2) (ix2 (bb t) ⟨10240 + d.val, by omega⟩) := by
  show V m c main_v1 (((cfg0.win 2).blk t).view.emb (ix3 0 5 d)) = _
  rw [emb_2, md_apply]

theorem emb_3 (t : Fin cfg0.N) (a : Fin 2048) (b : Fin 512) :
    (((cfg0.win 3).blk t).view.emb (ix2 a b) : S2048x5632.Idx) = ix2 a (col t b) := by
  have h := index_3 t
  funext i
  apply Fin.ext
  match i with
  | ⟨0, _⟩ => show win0_3.index t (0 : Fin 2) * 2048 + 1 * a.val = a.val; omega
  | ⟨1, _⟩ => show win0_3.index t (1 : Fin 2) * 512 + 1 * b.val = 512 * (t.val % 11) + b.val; omega

theorem blk_3 (c : Dev nD) (t : Fin cfg0.N) (a : Fin 2048) (b : Fin 512) :
    (iblk m c 3 t : Vec Ideal S2048x512 .bf16) (ix2 a b) = m (c.tc.loc main_arg3) (ix2 a (ka (col t b))) := by
  show V m c main_v3 (((cfg0.win 3).blk t).view.emb (ix2 a b)) = _
  rw [emb_3, wa_apply]

theorem emb_4 (t : Fin cfg0.N) (a : Fin 2048) (b : Fin 512) :
    (((cfg0.win 4).blk t).view.emb (ix2 a b) : S2048x5632.Idx) = ix2 a (col t b) := by
  have h := index_4 t
  funext i
  apply Fin.ext
  match i with
  | ⟨0, _⟩ => show win0_4.index t (0 : Fin 2) * 2048 + 1 * a.val = a.val; omega
  | ⟨1, _⟩ => show win0_4.index t (1 : Fin 2) * 512 + 1 * b.val = 512 * (t.val % 11) + b.val; omega

theorem blk_4 (c : Dev nD) (t : Fin cfg0.N) (a : Fin 2048) (b : Fin 512) :
    (iblk m c 4 t : Vec Ideal S2048x512 .bf16) (ix2 a b) = m (c.tc.loc main_arg3) (ix2 a (kb (col t b))) := by
  show V m c main_v5 (((cfg0.win 4).blk t).view.emb (ix2 a b)) = _
  rw [emb_4, wb_apply]

theorem emb_5 (t : Fin cfg0.N) (a : Fin 512) (b : Fin 2048) :
    (((cfg0.win 5).blk t).view.emb (ix2 a b) : S5632x2048.Idx) = ix2 (col t a) b := by
  have h := index_5 t
  funext i
  apply Fin.ext
  match i with
  | ⟨0, _⟩ => show win0_5.index t (0 : Fin 2) * 512 + 1 * a.val = 512 * (t.val % 11) + a.val; omega
  | ⟨1, _⟩ => show win0_5.index t (1 : Fin 2) * 2048 + 1 * b.val = b.val; omega

theorem blk_5 (c : Dev nD) (t : Fin cfg0.N) (a : Fin 512) (b : Fin 2048) :
    (iblk m c 5 t : Vec Ideal S512x2048 .bf16) (ix2 a b) = m (c.tc.loc main_arg6) (ix2 (col t a) b) := by
  show V m c main_v6 (((cfg0.win 5).blk t).view.emb (ix2 a b)) = _
  rw [emb_5, wd_apply]

theorem emb_6 (t : Fin cfg0.N) (a : Fin 3) (b : Fin 512) :
    (((cfg0.win 6).blk t).view.emb (ix2 a b) : S3x5632.Idx) = ix2 a (col t b) := by
  have h := index_6 t
  funext i
  apply Fin.ext
  match i with
  | ⟨0, _⟩ => show win0_6.index t (0 : Fin 2) * 3 + 1 * a.val = a.val; omega
  | ⟨1, _⟩ => show win0_6.index t (1 : Fin 2) * 512 + 1 * b.val = 512 * (t.val % 11) + b.val; omega

theorem blk_6 (c : Dev nD) (t : Fin cfg0.N) (a : Fin 3) (b : Fin 512) :
    (iblk m c 6 t : Vec Ideal S3x512 .f32) (ix2 a b) = m (c.tc.loc main_arg4) (ix2 a (col t b)) := by
  show V m c main_arg4 (((cfg0.win 6).blk t).view.emb (ix2 a b)) = _
  rw [emb_6, V_main_arg4]

theorem emb_7 (t : Fin cfg0.N) (b : Fin 512) :
    (((cfg0.win 7).blk t).view.emb (ix2 0 b) : S1x5632.Idx) = ix2 0 (col t b) := by
  have h := index_7 t
  funext i
  apply Fin.ext
  match i with
  | ⟨0, _⟩ => show win0_7.index t (0 : Fin 2) * 1 + 1 * 0 = 0; omega
  | ⟨1, _⟩ => show win0_7.index t (1 : Fin 2) * 512 + 1 * b.val = 512 * (t.val % 11) + b.val; omega

theorem blk_7 (c : Dev nD) (t : Fin cfg0.N) (b : Fin 512) :
    (iblk m c 7 t : Vec Ideal S1x512 .f32) (ix2 0 b) = m (c.tc.loc main_arg5) (ix1 (col t b)) := by
  show V m c main_v7 (((cfg0.win 7).blk t).view.emb (ix2 0 b)) = _
  rw [emb_7, bc_apply]

theorem emb_8 (t : Fin cfg0.N) (b : Fin 2) (d : Fin 512) :
    (((cfg0.win 8).blk t).view.emb (ix3 0 b d) : S4x2x5632.Idx) = ix3 (bb t) b (col t d) := by
  have h := index_8 t
  funext i
  apply Fin.ext
  match i with
  | ⟨0, _⟩ => show win0_8.index t (0 : Fin 3) * 1 + 1 * 0 = t.val / 176; omega
  | ⟨1, _⟩ => show win0_8.index t (1 : Fin 3) * 2 + 1 * b.val = b.val; omega
  | ⟨2, _⟩ => show win0_8.index t (2 : Fin 3) * 512 + 1 * d.val = 512 * (t.val % 11) + d.val; omega

theorem blk_8 (c : Dev nD) (t : Fin cfg0.N) (b : Fin 2) (d : Fin 512) :
    (iblk m c 8 t : Vec Ideal S1x2x512 .f32) (ix3 0 b d) = m (c.tc.loc main_arg7) (ix3 (bb t) b (col t d)) := by
  show V m c main_arg7 (((cfg0.win 8).blk t).view.emb (ix3 0 b d)) = _
  rw [emb_8, V_main_arg7]

theorem emb_9 (t : Fin cfg0.N) (b : Fin 2048) :
    (((cfg0.win 9).blk t).view.emb (ix2 0 b) : S1x2048.Idx) = ix2 0 b := by
  have h := index_9 t
  funext i
  apply Fin.ext
  match i with
  | ⟨0, _⟩ => show win0_9.index t (0 : Fin 2) * 1 + 1 * 0 = 0; omega
  | ⟨1, _⟩ => show win0_9.index t (1 : Fin 2) * 2048 + 1 * b.val = b.val; omega

theorem blk_9 (c : Dev nD) (t : Fin cfg0.N) (b : Fin 2048) :
    (iblk m c 9 t : Vec Ideal S1x2048 .f32) (ix2 0 b) = m (c.tc.loc main_arg8) (ix1 b) := by
  show V m c main_v8 (((cfg0.win 9).blk t).view.emb (ix2 0 b)) = _
  rw [emb_9, fg_apply]

theorem emb_10 (t : Fin cfg0.N) (b : Fin 512) (d : Fin 2048) :
    (((cfg0.win 10).blk t).view.emb (ix3 0 b d) : S4x8192x2048.Idx) = ix3 (bb t) (tok t b) d := by
  have h := index_10 t
  funext i
  apply Fin.ext
  match i with
  | ⟨0, _⟩ => show win0_10.index t (0 : Fin 3) * 1 + 1 * 0 = t.val / 176; omega
  | ⟨1, _⟩ => show win0_10.index t (1 : Fin 3) * 512 + 1 * b.val = 512 * (t.val / 11 % 16) + b.val; omega
  | ⟨2, _⟩ => show win0_10.index t (2 : Fin 3) * 2048 + 1 * d.val = d.val; omega

theorem emb_11 (t : Fin cfg0.N) (d : Fin 2) (e : Fin 512) :
    (((cfg0.win 11).blk t).view.emb (ix4 0 0 d e) : S4x16x2x5632.Idx) = ix4 (bb t) (mm t) d (col t e) := by
  have h := index_11 t
  funext i
  apply Fin.ext
  match i with
  | ⟨0, _⟩ => show win0_11.index t (0 : Fin 4) * 1 + 1 * 0 = t.val / 176; omega
  | ⟨1, _⟩ => show win0_11.index t (1 : Fin 4) * 1 + 1 * 0 = t.val / 11 % 16; omega
  | ⟨2, _⟩ => show win0_11.index t (2 : Fin 4) * 2 + 1 * d.val = d.val; omega
  | ⟨3, _⟩ => show win0_11.index t (3 : Fin 4) * 512 + 1 * e.val = 512 * (t.val % 11) + e.val; omega

/-! ## The point's entries -/

theorem A_a (c : Dev nD) (t : Fin cfg0.N) (r n : Fin 512) : A (iblk m c 0 t) (iblk m c 3 t) r n = up (m (c.tc.loc main_arg0)) (m (c.tc.loc main_arg3)) (bb t) (tok t r) (ka (col t n)) :=
  Finset.sum_congr rfl fun d _ => congrArg₂ (fun x y : EReal => x * y) (blk_0 m c t r d) (blk_3 m c t d n)

theorem A_b (c : Dev nD) (t : Fin cfg0.N) (r n : Fin 512) : A (iblk m c 0 t) (iblk m c 4 t) r n = up (m (c.tc.loc main_arg0)) (m (c.tc.loc main_arg3)) (bb t) (tok t r) (kb (col t n)) :=
  Finset.sum_congr rfl fun d _ => congrArg₂ (fun x y : EReal => x * y) (blk_0 m c t r d) (blk_4 m c t d n)

/-- The two rows before a point's block are the sequence's. -/
theorem pv_apply (c : Dev nD) (t : Fin cfg0.N) (r : Fin 2) (n : Fin 512) :
    pvAt m c t.val (ix2 r n) = sq (m (c.tc.loc main_arg0)) (m (c.tc.loc main_arg3)) (m (c.tc.loc main_arg7)) (bb t) ⟨512 * (t.val / 11 % 16) + r.val, by omega⟩ (col t n) := by
  have h1 := co1 t
  unfold pvAt sq
  rw [pt_val]
  by_cases h : (grid0.coords t 1).val = 0
  · rw [pv_first_apply _ h, dif_pos (by show 512 * (t.val / 11 % 16) + r.val < 2; omega)]
    refine (blk_8 m c t r n).trans ?_
    congr 2
    apply Fin.ext
    show r.val = 512 * (t.val / 11 % 16) + r.val
    omega
  · rw [pv_later_apply _ h, dif_neg (by show ¬ 512 * (t.val / 11 % 16) + r.val < 2; omega)]
    have hs : (pt (t.val - 11)).val = t.val - 11 := Nat.mod_eq_of_lt (by have := val_lt t; omega)
    show tlAt (iblk m c 0 (pt (t.val - 11))) (iblk m c 3 (pt (t.val - 11))) r n = _
    rw [tlAt_apply, A_a]
    have e1 : bb (pt (t.val - 11)) = bb t := Fin.ext (by show (pt (t.val - 11)).val / 176 = t.val / 176; omega)
    have e2 : tok (pt (t.val - 11)) ⟨510 + r.val, by omega⟩ = ⟨512 * (t.val / 11 % 16) + r.val - 2, by omega⟩ :=
      Fin.ext (by show 512 * ((pt (t.val - 11)).val / 11 % 16) + (510 + r.val) = 512 * (t.val / 11 % 16) + r.val - 2; omega)
    have e3 : col (pt (t.val - 11)) n = col t n := Fin.ext (by show 512 * ((pt (t.val - 11)).val % 11) + n.val = 512 * (t.val % 11) + n.val; omega)
    rw [e1, e2, e3]

theorem S_apply (c : Dev nD) (t : Fin cfg0.N) (q : Fin 514) (n : Fin 512) :
    S (iblk m c 0 t) (iblk m c 3 t) (pvAt m c t.val) q n
      = sq (m (c.tc.loc main_arg0)) (m (c.tc.loc main_arg3)) (m (c.tc.loc main_arg7)) (bb t) ⟨512 * (t.val / 11 % 16) + q.val, by omega⟩ (col t n) := by
  unfold S
  split
  · rename_i h
    exact pv_apply m c t ⟨q.val, h⟩ n
  · rename_i h
    rw [A_a]
    unfold sq
    rw [dif_neg (by show ¬ 512 * (t.val / 11 % 16) + q.val < 2; omega)]
    congr 1
    apply Fin.ext
    show 512 * (t.val / 11 % 16) + (q.val - 2) = 512 * (t.val / 11 % 16) + q.val - 2
    omega

theorem C_apply (c : Dev nD) (t : Fin cfg0.N) (r n : Fin 512) :
    C (iblk m c 0 t) (iblk m c 3 t) (iblk m c 6 t) (iblk m c 7 t) (pvAt m c t.val) r n = (cv (m (c.tc.loc main_arg0)) (m (c.tc.loc main_arg3)) (m (c.tc.loc main_arg4)) (m (c.tc.loc main_arg5)) (m (c.tc.loc main_arg7))) (bb t) (tok t r) (col t n) := by
  unfold C
  rw [S_apply, S_apply, A_a, blk_7, blk_6, blk_6, blk_6]
  rfl

theorem H_apply (c : Dev nD) (t : Fin cfg0.N) (r n : Fin 512) :
    H (iblk m c 0 t) (iblk m c 3 t) (iblk m c 4 t) (iblk m c 6 t) (iblk m c 7 t) (pvAt m c t.val) r n = (hid (m (c.tc.loc main_arg0)) (m (c.tc.loc main_arg3)) (m (c.tc.loc main_arg4)) (m (c.tc.loc main_arg5)) (m (c.tc.loc main_arg7))) (bb t) (tok t r) (col t n) := by
  unfold H
  rw [C_apply, A_b]
  rfl

/-! ## The running sum -/

/-- The down projection's term at a hidden column, nothing past the last one. -/
def term (c : Dev nD) (b : Fin 4) (t : Fin 8192) (n : Fin 2048) (q : ℕ) : EReal :=
  if h : q < 5632 then (hid (m (c.tc.loc main_arg0)) (m (c.tc.loc main_arg3)) (m (c.tc.loc main_arg4)) (m (c.tc.loc main_arg5)) (m (c.tc.loc main_arg7))) b t ⟨q, h⟩ * m (c.tc.loc main_arg6) (ix2 ⟨q, h⟩ n) else 0

theorem stepAt_apply (c : Dev nD) (t : Fin cfg0.N) (s : Vec Ideal S1x512x2048 .f32) (r : Fin 512) (k : Fin 2048) :
    stepAt m c t.val s (ix3 0 r k) = s (ix3 0 r k) + ∑ n ∈ Finset.range 512, term m c (bb t) (tok t r) k (512 * (t.val % 11) + n) := by
  unfold stepAt
  rw [pt_val, step_apply, Finset.sum_range]
  congr 1
  refine Finset.sum_congr rfl fun n _ => ?_
  rw [H_apply, blk_5]
  unfold term
  rw [dif_pos (show 512 * (t.val % 11) + n.val < 5632 by omega)]
  rfl

/-- After a point the running sum is the sum over the hidden columns so far. -/
theorem acc_apply (c : Dev nD) (r : Fin 512) (k : Fin 2048) : ∀ (n : ℕ) (hn : n < cfg0.N),
    acc m c n (ix3 0 r k) = ∑ q ∈ Finset.range (512 * (n % 11 + 1)), term m c (bb ⟨n, hn⟩) (tok ⟨n, hn⟩ r) k q := by
  intro n
  induction n with
  | zero =>
    intro hn
    rw [acc_eq, if_pos rfl]
    refine (stepAt_apply m c ⟨0, hn⟩ _ r k).trans ?_
    rw [pay3_apply, zero_add]
    refine Finset.sum_congr rfl fun q _ => ?_
    congr 1
    show 512 * 0 + q = q
    omega
  | succ n ih =>
    intro hn
    rw [acc_eq]
    refine (stepAt_apply m c ⟨n + 1, hn⟩ _ r k).trans ?_
    by_cases h : (n + 1) % 11 = 0
    · rw [if_pos h, pay3_apply, zero_add]
      show ∑ q ∈ Finset.range 512, term m c _ _ k (512 * ((n + 1) % 11) + q) = _
      rw [h]
      refine Finset.sum_congr rfl fun q _ => ?_
      congr 1
      omega
    · rw [if_neg h]
      show acc m c n (ix3 0 r k) + ∑ q ∈ Finset.range 512, term m c _ _ k (512 * ((n + 1) % 11) + q) = _
      rw [ih (by omega)]
      have e1 : bb ⟨n, by omega⟩ = bb ⟨n + 1, hn⟩ := Fin.ext (by show n / 176 = (n + 1) / 176; omega)
      have e2 : tok ⟨n, by omega⟩ r = tok ⟨n + 1, hn⟩ r := Fin.ext (by show 512 * (n / 11 % 16) + r.val = 512 * ((n + 1) / 11 % 16) + r.val; omega)
      have e3 : n % 11 + 1 = (n + 1) % 11 := by omega
      rw [e1, e2, e3, Nat.mul_add, Nat.mul_one, Finset.sum_range_add]

/-- At a row of tokens' last point it is the down projection. -/
theorem acc_last (c : Dev nD) (t : Fin cfg0.N) (ht : t.val % 11 = 10) (r : Fin 512) (k : Fin 2048) :
    acc m c t.val (ix3 0 r k) = (down (m (c.tc.loc main_arg0)) (m (c.tc.loc main_arg3)) (m (c.tc.loc main_arg4)) (m (c.tc.loc main_arg5)) (m (c.tc.loc main_arg6)) (m (c.tc.loc main_arg7))) (bb t) (tok t r) k := by
  rw [acc_apply m c r k t.val t.isLt, ht, Finset.sum_range]
  exact Finset.sum_congr rfl fun q _ => dif_pos q.isLt

/-! ## The result arrays -/

/-- The layer's result of device `c`'s arguments, -/
def G0 (c : Dev nD) : Vec Ideal S4x8192x2048 .f32 := (yFn (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)))

/-- and the blocks' last two rows. -/
def G1 (c : Dev nD) : Vec Ideal S4x16x2x5632 .f32 := (tFn (m (c.tc.loc main_arg0)) (m (c.tc.loc main_arg3)))

theorem y_apply (c : Dev nD) (t : Fin cfg0.N) (ht : t.val % 11 = 10) (r : Fin 512) (k : Fin 2048) :
    yOut (iblk m c 1 t) (iblk m c 2 t) (iblk m c 9 t) (acc m c t.val) (ix3 0 r k) = G0 m c (ix3 (bb t) (tok t r) k) := by
  rw [yOut_apply]
  simp only [acc_last m c t ht]
  rw [blk_9]
  show _ = out (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (bb t) (tok t r) k
  unfold out
  refine congrArg (fun u => nrm u (m (c.tc.loc main_arg8) (ix1 k)) k) (funext fun d => ?_)
  rw [blk_1, blk_2]

theorem t_apply (c : Dev nD) (t : Fin cfg0.N) (r : Fin 2) (n : Fin 512) :
    stOut (iblk m c 0 t) (iblk m c 3 t) (ix4 0 0 r n) = G1 m c (ix4 (bb t) (mm t) r (col t n)) := by
  rw [stOut_apply, A_a]
  rfl

/-- What is cut from a block that agrees with `G` where the block stands is the block of `G`. -/
theorem cut10_eq (t : Fin cfg0.N) (X : Vec Ideal S1x512x2048 .f32) (G : Vec Ideal S4x8192x2048 .f32) (h : ∀ r k, X (ix3 0 r k) = G (ix3 (bb t) (tok t r) k)) :
    (cfg0.win 10).cut (grid0.coords t) X = ((cfg0.win 10).blk t).view.read (Elt Ideal) G := by
  funext j
  obtain ⟨r, k, rfl⟩ : ∃ (r : Fin 512) (k : Fin 2048), j = ix3 0 r k :=
    ⟨j 1, j 2, by
      funext a
      match a with
      | ⟨0, _⟩ => exact Subsingleton.elim (α := Fin 1) _ _
      | ⟨1, _⟩ => rfl
      | ⟨2, _⟩ => rfl⟩
  show X (ix3 0 r k) = G (((cfg0.win 10).blk t).view.emb (ix3 0 r k))
  rw [emb_10, h]

theorem cut11_eq (t : Fin cfg0.N) (X : Vec Ideal S1x1x2x512 .f32) (G : Vec Ideal S4x16x2x5632 .f32) (h : ∀ r n, X (ix4 0 0 r n) = G (ix4 (bb t) (mm t) r (col t n))) :
    (cfg0.win 11).cut (grid0.coords t) X = ((cfg0.win 11).blk t).view.read (Elt Ideal) G := by
  funext j
  obtain ⟨r, n, rfl⟩ : ∃ (r : Fin 2) (n : Fin 512), j = ix4 0 0 r n :=
    ⟨j 2, j 3, by
      funext a
      match a with
      | ⟨0, _⟩ => exact Subsingleton.elim (α := Fin 1) _ _
      | ⟨1, _⟩ => exact Subsingleton.elim (α := Fin 1) _ _
      | ⟨2, _⟩ => rfl
      | ⟨3, _⟩ => rfl⟩
  show X (ix4 0 0 r n) = G (((cfg0.win 11).blk t).view.emb (ix4 0 0 r n))
  rw [emb_11, h]

theorem flushed10_eq (c : Dev nD) (t : Fin cfg0.N) (ht : (cfg0.win 10).flush t = true) :
    (dats m 0 c).flushed 10 t = ((cfg0.win 10).blk t).view.read (Elt Ideal) (G0 m c) := by
  show (cfg0.win 10).cut (grid0.coords t) ((dats m 0 c).after 10 t) = _
  rw [after_10]
  exact cut10_eq t _ _ (y_apply m c t ((flush0_10 t).1 ht))

theorem flushed11_eq (c : Dev nD) (t : Fin cfg0.N) :
    (dats m 0 c).flushed 11 t = ((cfg0.win 11).blk t).view.read (Elt Ideal) (G1 m c) := by
  show (cfg0.win 11).cut (grid0.coords t) ((dats m 0 c).after 11 t) = _
  rw [after_11]
  exact cut11_eq t _ _ (t_apply m c t)

/-- The blocks cover the arrays. -/
theorem cover10 (i : S4x8192x2048.Idx) : ∃ t : Fin cfg0.N, (cfg0.win 10).flush t = true ∧ i ∈ ((cfg0.win 10).blk t).view.set := by
  have h0 : (i 0).val < 4 := (i 0).isLt
  have h1 : (i 1).val < 8192 := (i 1).isLt
  have hN : cfg0.N = 704 := N_0
  obtain ⟨t, hv⟩ : ∃ t : Fin cfg0.N, t.val = (i 0).val * 176 + (i 1).val / 512 * 11 + 10 := ⟨⟨(i 0).val * 176 + (i 1).val / 512 * 11 + 10, by omega⟩, rfl⟩
  refine ⟨t, (flush0_10 t).2 (by omega), ?_⟩
  have hi : i = ((cfg0.win 10).blk t).view.emb (ix3 0 (⟨(i 1).val % 512, by omega⟩ : Fin 512) (⟨(i 2).val, (i 2).isLt⟩ : Fin 2048)) := by
    rw [emb_10]
    funext a
    apply Fin.ext
    match a with
    | ⟨0, _⟩ => show (i 0).val = t.val / 176; omega
    | ⟨1, _⟩ => show (i 1).val = 512 * (t.val / 11 % 16) + (i 1).val % 512; omega
    | ⟨2, _⟩ => rfl
  rw [hi]
  exact ((cfg0.win 10).blk t).view.emb_mem_set _

theorem cover11 (i : S4x16x2x5632.Idx) : ∃ t : Fin cfg0.N, (cfg0.win 11).flush t = true ∧ i ∈ ((cfg0.win 11).blk t).view.set := by
  have h0 : (i 0).val < 4 := (i 0).isLt
  have h1 : (i 1).val < 16 := (i 1).isLt
  have h3 : (i 3).val < 5632 := (i 3).isLt
  have hN : cfg0.N = 704 := N_0
  obtain ⟨t, hv⟩ : ∃ t : Fin cfg0.N, t.val = (i 0).val * 176 + (i 1).val * 11 + (i 3).val / 512 := ⟨⟨(i 0).val * 176 + (i 1).val * 11 + (i 3).val / 512, by omega⟩, rfl⟩
  refine ⟨t, flush0_11 t, ?_⟩
  have hi : i = ((cfg0.win 11).blk t).view.emb (ix4 0 0 (⟨(i 2).val, (i 2).isLt⟩ : Fin 2) (⟨(i 3).val % 512, by omega⟩ : Fin 512)) := by
    rw [emb_11]
    funext a
    apply Fin.ext
    match a with
    | ⟨0, _⟩ => show (i 0).val = t.val / 176; omega
    | ⟨1, _⟩ => show (i 1).val = t.val / 11 % 16; omega
    | ⟨2, _⟩ => rfl
    | ⟨3, _⟩ => show (i 3).val = 512 * (t.val % 11) + (i 3).val % 512; omega
  rw [hi]
  exact ((cfg0.win 11).blk t).view.emb_mem_set _

/-- So the result arrays end holding the layer's results. -/
theorem final10 (c : Dev nD) : (dats m 0 c).arrAt 10 cfg0.N = G0 m c :=
  (dats m 0 c).arrAt_eq_of_cover 10 (G0 m c) (fun t ht => flushed10_eq m c t ht) cover10

theorem final11 (c : Dev nD) : (dats m 0 c).arrAt 11 cfg0.N = G1 m c :=
  (dats m 0 c).arrAt_eq_of_cover 11 (G1 m c) (fun t _ => flushed11_eq m c t) cover11

/-- The run ends with the layer's results in the result arrays and the arguments as they were. -/
theorem kernel (ρ : Dev nD → PrngReg) :
    θ_run (defs (F := Ideal)) (onTc (τ := τ) (main (F := Ideal))) ⟨m, fun _ => 0, ρ⟩ fun r => ∀ c : Dev nD,
      r.2.mem ((c.tc : Thread nD τ).loc main_v9_0) = G0 m c
      ∧ r.2.mem ((c.tc : Thread nD τ).loc main_v9_1) = G1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨((h.2 c).1 10).trans (final10 m c), ((h.2 c).1 11).trans (final11 m c), h.1 c⟩)
    (θ_run_and (frame_of m ρ (dats m) (A_eq m) (run_main m ρ)) (run_main m ρ))

/-! ## The reference -/

/-- The convolution with its terms summed before the bias joins them. -/
def cvSum (h : S4x8192x2048.Idx → EReal) (wu : S2048x11264.Idx → EReal) (wc : S3x5632.Idx → EReal) (bc : S5632.Idx → EReal) (pr : S4x2x5632.Idx → EReal)
    (b : Fin 4) (t : Fin 8192) (k : Fin 5632) : EReal :=
  bc (ix1 k) + ((if hq : t.val < 2 then pr (ix3 b ⟨t.val, hq⟩ k) else up h wu b ⟨t.val - 2, by omega⟩ (ka k)) * wc (ix2 0 k)
    + (if hq : 1 + t.val < 2 then pr (ix3 b ⟨1 + t.val, hq⟩ k) else up h wu b ⟨1 + t.val - 2, by omega⟩ (ka k)) * wc (ix2 1 k)
    + up h wu b t (ka k) * wc (ix2 2 k))

theorem cvSum_eq (h : S4x8192x2048.Idx → EReal) (wu : S2048x11264.Idx → EReal) (wc : S3x5632.Idx → EReal) (bc : S5632.Idx → EReal) (pr : S4x2x5632.Idx → EReal)
    (b : Fin 4) (t : Fin 8192) (k : Fin 5632) : cvSum h wu wc bc pr b t k = cv h wu wc bc pr b t k := by
  have e0 : (if hq : t.val < 2 then pr (ix3 b ⟨t.val, hq⟩ k) else up h wu b ⟨t.val - 2, by omega⟩ (ka k)) = sq h wu pr b ⟨t.val + 0, by omega⟩ k := rfl
  have e1 : (if hq : 1 + t.val < 2 then pr (ix3 b ⟨1 + t.val, hq⟩ k) else up h wu b ⟨1 + t.val - 2, by omega⟩ (ka k)) = sq h wu pr b ⟨t.val + 1, by omega⟩ k := by
    have e : (⟨t.val + 1, by omega⟩ : Fin 8194) = ⟨1 + t.val, by omega⟩ := Fin.ext (Nat.add_comm _ _)
    rw [e]
    rfl
  unfold cvSum cv
  rw [e0, e1, mul_comm _ (wc (ix2 0 k)), mul_comm _ (wc (ix2 1 k)), mul_comm _ (wc (ix2 2 k)), ← add_assoc, ← add_assoc]

/-- The layer's result over that convolution. -/
def outSum (h x1 : S4x8192x2048.Idx → EReal) (md : S4x12288.Idx → EReal) (wu : S2048x11264.Idx → EReal) (wc : S3x5632.Idx → EReal) (bc : S5632.Idx → EReal) (wd : S5632x2048.Idx → EReal)
    (pr : S4x2x5632.Idx → EReal) (fg : S2048.Idx → EReal) (b : Fin 4) (t : Fin 8192) (n : Fin 2048) : EReal :=
  nrm (fun d => x1 (ix3 b t d) + md (ix2 b ⟨10240 + d.val, by omega⟩)
    * ∑ k : Fin 5632, cvSum h wu wc bc pr b t k * lgs (cvSum h wu wc bc pr b t k) * up h wu b t (kb k) * wd (ix2 k d)) (fg (ix1 n)) n

theorem outSum_eq (h x1 : S4x8192x2048.Idx → EReal) (md : S4x12288.Idx → EReal) (wu : S2048x11264.Idx → EReal) (wc : S3x5632.Idx → EReal) (bc : S5632.Idx → EReal) (wd : S5632x2048.Idx → EReal)
    (pr : S4x2x5632.Idx → EReal) (fg : S2048.Idx → EReal) (b : Fin 4) (t : Fin 8192) (n : Fin 2048) :
    outSum h x1 md wu wc bc wd pr fg b t n = out h x1 md wu wc bc wd pr fg b t n := by
  unfold outSum
  simp only [cvSum_eq]
  rfl

/-- The reference's value is the layer's result, -/
theorem ref_out (m' : (ℓ : Loc Cert.FfnRefIdeal.nD Cert.FfnRefIdeal.τ Cert.FfnRefIdeal.sig) → Buf (Elt Ideal) ℓ) (c : Dev Cert.FfnRefIdeal.nD) (b : Fin 4) (t : Fin 8192) (n : Fin 2048) :
    Cert.FfnRefIdeal.Value.res_main_v56 (F := Ideal) m' c (ix3 b t n)
      = out (m' (c.tc.loc Cert.FfnRefIdeal.main_arg0)) (m' (c.tc.loc Cert.FfnRefIdeal.main_arg1)) (m' (c.tc.loc Cert.FfnRefIdeal.main_arg2)) (m' (c.tc.loc Cert.FfnRefIdeal.main_arg3)) (m' (c.tc.loc Cert.FfnRefIdeal.main_arg4)) (m' (c.tc.loc Cert.FfnRefIdeal.main_arg5)) (m' (c.tc.loc Cert.FfnRefIdeal.main_arg6)) (m' (c.tc.loc Cert.FfnRefIdeal.main_arg7)) (m' (c.tc.loc Cert.FfnRefIdeal.main_arg8)) b t n := by
  unfold Cert.FfnRefIdeal.Value.res_main_v56
  pointwise
  exact outSum_eq _ _ _ _ _ _ _ _ _ b t n

/-- The reference ends with the layer's results of its arguments. -/
theorem reference (m' : (ℓ : Loc Cert.FfnRefIdeal.nD Cert.FfnRefIdeal.τ Cert.FfnRefIdeal.sig) → Buf (Elt Ideal) ℓ) (g : Dev Cert.FfnRefIdeal.nD → PrngReg) :
    θ_run (Cert.FfnRefIdeal.defs (F := Ideal)) (onTc (τ := Cert.FfnRefIdeal.τ) (Cert.FfnRefIdeal.main (F := Ideal))) ⟨m', fun _ => 0, g⟩ fun r => ∀ c : Dev Cert.FfnRefIdeal.nD,
      r.2.mem ((c.tc : Thread Cert.FfnRefIdeal.nD Cert.FfnRefIdeal.τ).loc Cert.FfnRefIdeal.main_v56) = yFn (m' (c.tc.loc Cert.FfnRefIdeal.main_arg0)) (m' (c.tc.loc Cert.FfnRefIdeal.main_arg1)) (m' (c.tc.loc Cert.FfnRefIdeal.main_arg2)) (m' (c.tc.loc Cert.FfnRefIdeal.main_arg3)) (m' (c.tc.loc Cert.FfnRefIdeal.main_arg4)) (m' (c.tc.loc Cert.FfnRefIdeal.main_arg5)) (m' (c.tc.loc Cert.FfnRefIdeal.main_arg6)) (m' (c.tc.loc Cert.FfnRefIdeal.main_arg7)) (m' (c.tc.loc Cert.FfnRefIdeal.main_arg8))
      ∧ r.2.mem ((c.tc : Thread Cert.FfnRefIdeal.nD Cert.FfnRefIdeal.τ).loc Cert.FfnRefIdeal.main_v10) = tFn (m' (c.tc.loc Cert.FfnRefIdeal.main_arg0)) (m' (c.tc.loc Cert.FfnRefIdeal.main_arg3))
      ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8) := by
  refine (θ_run Cert.FfnRefIdeal.defs _ _).mono (fun _ h c => ⟨(h c).1.trans ?_, (h c).2.1.trans ?_, (h c).2.2⟩) (Cert.FfnRefIdeal.Value.run (F := Ideal) m' g)
  · clear h
    funext y
    obtain ⟨b, t, n, rfl⟩ : ∃ (b : Fin 4) (t : Fin 8192) (n : Fin 2048), y = ix3 b t n :=
      ⟨y 0, y 1, y 2, by
        funext a
        match a with
        | ⟨0, _⟩ => rfl
        | ⟨1, _⟩ => rfl
        | ⟨2, _⟩ => rfl⟩
    exact ref_out m' c b t n
  · clear h
    funext y
    obtain ⟨b, q, r, n, rfl⟩ : ∃ (b : Fin 4) (q : Fin 16) (r : Fin 2) (n : Fin 5632), y = ix4 b q r n :=
      ⟨y 0, y 1, y 2, y 3, by
        funext a
        match a with
        | ⟨0, _⟩ => rfl
        | ⟨1, _⟩ => rfl
        | ⟨2, _⟩ => rfl
        | ⟨3, _⟩ => rfl⟩
    pointwise
    have e : (⟨q.val * 512 + (510 + r.val), by omega⟩ : Fin 8192) = ⟨512 * q.val + (510 + r.val), by omega⟩ := Fin.ext (by show q.val * 512 + (510 + r.val) = 512 * q.val + (510 + r.val); omega)
    rw [e]
    rfl

end Cert.FfnValue

end
-- ==== Proof.FfnClaims.lean ====
/- The claims of the feed-forward call. -/
module

public import proofs.«01_k».proof.Defs
public import proofs.«01_k».proof.Proof.Gen.Ffn
public import proofs.«01_k».proof.Proof.FfnValue
public import Idealize.ShloMosaic.Lib.Tactic

@[expose] public section

noncomputable section

namespace Cert.FfnClaims

open Idealize.ShloMosaic Idealize.ShloMosaic.TcCoe Idealize.SL.Sem

theorem frame_ideal : Cert.quiescent_FfnIdeal := fun m ρ _ => Cert.FfnRun.frame (F := Ideal) m ρ

/-- The kernel and its idealization are one program, -/
theorem defs_eq : Cert.Ffn.defs (F := Bits) = Cert.FfnIdeal.defs (F := Bits) := by sl_kernel_rfl

/-- so the kernel's frame is the same run over the bits. -/
theorem frame_kernel : Cert.quiescent_Ffn := by
  intro m ρ _
  rw [defs_eq]
  exact Cert.FfnRun.frame (F := Bits) m ρ

theorem frame_reference : Cert.quiescent_FfnRefIdeal := fun m ρ _ =>
  (θ_run Cert.FfnRefIdeal.defs _ _).mono (fun r h => ⟨fun c => (h c).2.2, Idealize.ShloMosaic.sem_eq_zero_of_no_sems (by decide) r.2⟩)
    (Cert.FfnRefIdeal.Value.run (F := Ideal) m ρ)

/-- The kernel's results and the reference's are the layer's results of the same arguments. -/
theorem algebraic : Cert.algebraic_FfnIdeal_FfnRefIdeal := by
  intro m g m' g' _ hagree
  refine ⟨fun c => Cert.FfnValue.G0 m c, fun c => Cert.FfnValue.G1 m c, Cert.FfnValue.kernel m g, ?_⟩
  refine (θ_run Cert.FfnRefIdeal.defs _ _).mono (fun _ h c => ⟨(h c).1.trans ?_, (h c).2.1.trans ?_, (h c).2.2⟩)
    (Cert.FfnValue.reference m' g')
  · obtain ⟨e0, e1, e2, e3, e4, e5, e6, e7, e8⟩ := hagree c
    rw [e0, e1, e2, e3, e4, e5, e6, e7, e8]
    rfl
  · obtain ⟨e0, e1, e2, e3, e4, e5, e6, e7, e8⟩ := hagree c
    rw [e0, e3]
    rfl

end Cert.FfnClaims

end
-- ==== Proof.ProjMath.lean ====
/- Two neighbouring cuts of the columns of a weight, set side by side, are one cut of twice the width. -/
module

public import Idealize.ShloMosaic.Lib.Pointwise

@[expose] public section

noncomputable section

namespace Cert.ProjMath

/-- What reads column `n` of the cut at 5200, or of the cut at 6224 once `n` is past its half, reads column `5200 + n`. -/
theorem halves (f : Fin 7248 → EReal) (n : Fin 2048) :
    (if h : n.val < 1024 then f ⟨5200 + n.val, by omega⟩ else f ⟨6224 + (n.val - 1024), by omega⟩) = f ⟨5200 + n.val, by omega⟩ := by
  split
  · rfl
  · exact congrArg f (Fin.ext (by show 6224 + (n.val - 1024) = 5200 + n.val; omega))

end Cert.ProjMath
-- ==== Proof.TailValue.lean ====
/- The projection of the last rows of each stream onto the band's keys and values: the body's block at an entry, the windows' blocks of the
   staged arrays, the result array, and the reference's result read beside it. -/
module

public import proofs.«01_k».proof.Proof.Gen.TailIdeal.Value
public import proofs.«01_k».proof.Proof.Gen.TailRefIdeal.Run
public import proofs.«01_k».proof.Proof.ProjMath
public import Idealize.ShloMosaic.Lib.Pointwise
public import Idealize.ShloMosaic.Lib.Claim
public import Idealize.ShloMosaic.Lib.StableHlo.ReadAt

@[expose] public section

set_option maxRecDepth 16384

noncomputable section

namespace Cert.TailValue

open Cert.TailIdeal Cert.TailIdeal.Gen Idealize.ShloMosaic Idealize.ShloMosaic.TcCoe Idealize.SL.Sem
open Idealize.ShloMosaic.Pipeline (Dat)

variable (m : (ℓ : Loc nD τ sig) → Buf (Elt Ideal) ℓ)

/-- The batch row of a row of the result, -/
abbrev tb (x : Fin 2048) : Fin 4 := ⟨x.val / 512, by omega⟩

/-- and its place in the batch row. -/
abbrev ts (x : Fin 2048) : Fin 8192 := ⟨7680 + x.val % 512, by omega⟩

/-- Row `x` of the last 512 rows of each stream, projected onto column `j` of the weight. -/
def tailAt (h : S4x8192x2048.Idx → EReal) (w : S2048x7248.Idx → EReal) (x : Fin 2048) (j : Fin 7248) : EReal :=
  ∑ d : Fin 2048, h (ix3 (tb x) (ts x) d) * w (ix2 d j)

/-- Those rows projected onto the 2048 columns that begin at 5200. -/
def tailFn (h : S4x8192x2048.Idx → EReal) (w : S2048x7248.Idx → EReal) : S2048x2048.Idx → EReal := fun y =>
  tailAt h w (y 0) ⟨5200 + (y 1).val, by have h : (y 1).val < 2048 := (y 1).isLt; omega⟩

theorem hz : (![0, 0] : Fin 2 → Nat) = fun _ => 0 := funext fun a => by fin_cases a <;> rfl

theorem out_apply (x0 : Vec Ideal S1024x2048 .bf16) (x1 : Vec Ideal S2048x1024 .bf16) (r n : Fin 1024) :
    out0_2 x0 x1 (ix2 r n) = ∑ k : Fin 2048, x0 (ix2 r k) * x1 (ix2 k n) := by
  unfold out0_2
  rw [View.canon_unit_zero (S := S1024x1024) hz, View.ld_unit_zero (S := S1024x2048) hz, View.ld_unit_zero (S := S2048x1024) hz]
  unfold k0_pay1
  pointwise

/-! ## The staged arrays -/

theorem h_apply (c : Dev nD) (x d : Fin 2048) : V m c main_v2 (ix2 x d) = m (c.tc.loc main_arg0) (ix3 (tb x) (ts x) d) := by
  show StableHlo.after hostOps0 (fun b => m (c, b)) (Proc.devRef .tc main_v2) (ix2 x d) = _
  after_reads_simp
  clean_types
  pointwise

theorem w_apply (c : Dev nD) (d n : Fin 2048) : V m c main_v4 (ix2 d n) = m (c.tc.loc main_arg1) (ix2 d ⟨5200 + n.val, by omega⟩) := by
  show StableHlo.after hostOps0 (fun b => m (c, b)) (Proc.devRef .tc main_v4) (ix2 d n) = _
  after_reads_simp
  clean_types
  pointwise

/-! ## Where the windows stand -/

theorem t_lt (t : Fin cfg0.N) : t.val < 4 := by have h := t.isLt; have : cfg0.N = 4 := N_0; omega

/-- A row of a grid point's block, and a column. -/
def row (t : Fin cfg0.N) (r : Fin 1024) : Fin 2048 := ⟨1024 * (t.val / 2) + r.val, by have := t_lt t; omega⟩
def col (t : Fin cfg0.N) (n : Fin 1024) : Fin 2048 := ⟨1024 * (t.val % 2) + n.val, by omega⟩

theorem index_0 : ∀ t : Fin grid0.N, win0_0.index t 0 = t.val / 2 ∧ win0_0.index t 1 = 0 := by decide +kernel
theorem index_1 : ∀ t : Fin grid0.N, win0_1.index t 0 = 0 ∧ win0_1.index t 1 = t.val % 2 := by decide +kernel
theorem index_2 : ∀ t : Fin grid0.N, win0_2.index t 0 = t.val / 2 ∧ win0_2.index t 1 = t.val % 2 := by decide +kernel

theorem emb_0 (t : Fin cfg0.N) (r : Fin 1024) (d : Fin 2048) :
    (((cfg0.win 0).blk t).view.emb (ix2 r d) : S2048x2048.Idx) = ix2 (row t r) d := by
  have h := index_0 t
  funext a
  apply Fin.ext
  match a with
  | ⟨0, _⟩ => show win0_0.index t (0 : Fin 2) * 1024 + 1 * r.val = 1024 * (t.val / 2) + r.val; omega
  | ⟨1, _⟩ => show win0_0.index t (1 : Fin 2) * 2048 + 1 * d.val = d.val; omega

theorem emb_1 (t : Fin cfg0.N) (d : Fin 2048) (n : Fin 1024) :
    (((cfg0.win 1).blk t).view.emb (ix2 d n) : S2048x2048.Idx) = ix2 d (col t n) := by
  have h := index_1 t
  funext a
  apply Fin.ext
  match a with
  | ⟨0, _⟩ => show win0_1.index t (0 : Fin 2) * 2048 + 1 * d.val = d.val; omega
  | ⟨1, _⟩ => show win0_1.index t (1 : Fin 2) * 1024 + 1 * n.val = 1024 * (t.val % 2) + n.val; omega

theorem emb_2 (t : Fin cfg0.N) (r n : Fin 1024) :
    (((cfg0.win 2).blk t).view.emb (ix2 r n) : S2048x2048.Idx) = ix2 (row t r) (col t n) := by
  have h := index_2 t
  funext a
  apply Fin.ext
  match a with
  | ⟨0, _⟩ => show win0_2.index t (0 : Fin 2) * 1024 + 1 * r.val = 1024 * (t.val / 2) + r.val; omega
  | ⟨1, _⟩ => show win0_2.index t (1 : Fin 2) * 1024 + 1 * n.val = 1024 * (t.val % 2) + n.val; omega

theorem blk_0 (c : Dev nD) (t : Fin cfg0.N) (r : Fin 1024) (d : Fin 2048) :
    (iblk m c 0 t : Vec Ideal S1024x2048 .bf16) (ix2 r d) = m (c.tc.loc main_arg0) (ix3 (tb (row t r)) (ts (row t r)) d) := by
  show V m c main_v2 (((cfg0.win 0).blk t).view.emb (ix2 r d)) = _
  rw [emb_0, h_apply]

theorem blk_1 (c : Dev nD) (t : Fin cfg0.N) (d : Fin 2048) (n : Fin 1024) :
    (iblk m c 1 t : Vec Ideal S2048x1024 .bf16) (ix2 d n) = m (c.tc.loc main_arg1) (ix2 d ⟨5200 + (col t n).val, by omega⟩) := by
  show V m c main_v4 (((cfg0.win 1).blk t).view.emb (ix2 d n)) = _
  rw [emb_1, w_apply]

/-! ## The result array -/

/-- A body's block is the projection where it stands, given what the windows hold. -/
theorem block_fn (h : S4x8192x2048.Idx → EReal) (w : S2048x7248.Idx → EReal) (x0 : Vec Ideal S1024x2048 .bf16) (x1 : Vec Ideal S2048x1024 .bf16)
    (t : Fin cfg0.N) (h0 : ∀ r d, x0 (ix2 r d) = h (ix3 (tb (row t r)) (ts (row t r)) d))
    (h1 : ∀ (d : Fin 2048) (n : Fin 1024), x1 (ix2 d n) = w (ix2 d ⟨5200 + (col t n).val, by omega⟩)) (r n : Fin 1024) :
    out0_2 x0 x1 (ix2 r n) = tailFn h w (ix2 (row t r) (col t n)) := by
  rw [out_apply]
  simp only [h0, h1]
  rfl

/-- What is cut from a block that agrees with `G` where the block stands is the block of `G`. -/
theorem cut_eq (t : Fin cfg0.N) (X : Vec Ideal S1024x1024 .f32) (G : Vec Ideal S2048x2048 .f32)
    (e : ∀ r n, X (ix2 r n) = G (ix2 (row t r) (col t n))) :
    (cfg0.win 2).cut (grid0.coords t) X = ((cfg0.win 2).blk t).view.read (Elt Ideal) G := by
  funext j
  obtain ⟨r, n, rfl⟩ : ∃ (r : Fin 1024) (n : Fin 1024), j = ix2 r n :=
    ⟨j 0, j 1, by
      funext a
      match a with
      | ⟨0, _⟩ => rfl
      | ⟨1, _⟩ => rfl⟩
  show X (ix2 r n) = G (((cfg0.win 2).blk t).view.emb (ix2 r n))
  rw [emb_2, e]

/-- The projection of device `c`'s arguments. -/
def G (c : Dev nD) : Vec Ideal S2048x2048 .f32 := tailFn (m (c.tc.loc main_arg0)) (m (c.tc.loc main_arg1))

theorem flushed_eq (c : Dev nD) (t : Fin cfg0.N) :
    (dats m 0 c).flushed 2 t = ((cfg0.win 2).blk t).view.read (Elt Ideal) (G m c) := by
  rw [Cert.TailIdeal.Value.flushed2]
  exact cut_eq t _ _ fun r n => block_fn _ _ _ _ t (fun r d => blk_0 m c t r d) (fun d n => blk_1 m c t d n) r n

/-- The blocks cover the array. -/
theorem cover (i : S2048x2048.Idx) : ∃ t : Fin cfg0.N, (cfg0.win 2).flush t = true ∧ i ∈ ((cfg0.win 2).blk t).view.set := by
  have h0 : (i 0 : Nat) < 2048 := (i 0).isLt
  have h1 : (i 1 : Nat) < 2048 := (i 1).isLt
  have hN : cfg0.N = 4 := N_0
  refine ⟨⟨(i 0).val / 1024 * 2 + (i 1).val / 1024, by omega⟩, flush0_2 _, ?_⟩
  generalize ht : (⟨(i 0).val / 1024 * 2 + (i 1).val / 1024, by omega⟩ : Fin cfg0.N) = t
  have hv : t.val = (i 0).val / 1024 * 2 + (i 1).val / 1024 := by rw [← ht]
  have hi : i = ((cfg0.win 2).blk t).view.emb (ix2 (⟨(i 0).val % 1024, by omega⟩ : Fin 1024) (⟨(i 1).val % 1024, by omega⟩ : Fin 1024)) := by
    rw [emb_2]
    funext a
    apply Fin.ext
    match a with
    | ⟨0, _⟩ => show (i 0).val = 1024 * (t.val / 2) + (i 0).val % 1024; omega
    | ⟨1, _⟩ => show (i 1).val = 1024 * (t.val % 2) + (i 1).val % 1024; omega
  rw [hi]
  exact ((cfg0.win 2).blk t).view.emb_mem_set _

/-- So the result array ends holding the projection. -/
theorem final (c : Dev nD) : (dats m 0 c).arrAt 2 cfg0.N = G m c :=
  (dats m 0 c).arrAt_eq_of_cover 2 (G m c) (fun t _ => flushed_eq m c t) cover

/-! ## The reference -/

/-- The reference ends with the projection of its arguments. -/
theorem reference (m' : (ℓ : Loc Cert.TailRefIdeal.nD Cert.TailRefIdeal.τ Cert.TailRefIdeal.sig) → Buf (Elt Ideal) ℓ)
    (g : Dev Cert.TailRefIdeal.nD → PrngReg) :
    θ_run (Cert.TailRefIdeal.defs (F := Ideal)) (onTc (τ := Cert.TailRefIdeal.τ) (Cert.TailRefIdeal.main (F := Ideal))) ⟨m', fun _ => 0, g⟩ fun r =>
      ∀ c : Dev Cert.TailRefIdeal.nD,
        r.2.mem ((c.tc : Thread Cert.TailRefIdeal.nD Cert.TailRefIdeal.τ).loc Cert.TailRefIdeal.main_v13)
          = tailFn (m' (c.tc.loc Cert.TailRefIdeal.main_arg0)) (m' (c.tc.loc Cert.TailRefIdeal.main_arg1))
        ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
        ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1) := by
  refine (θ_run Cert.TailRefIdeal.defs _ _).mono (fun _ h c => ⟨(h c).1.trans ?_, (h c).2⟩) (Cert.TailRefIdeal.Value.run (F := Ideal) m' g)
  clear h
  funext y
  obtain ⟨x, n, rfl⟩ : ∃ (x : Fin 2048) (n : Fin 2048), y = ix2 x n :=
    ⟨y 0, y 1, by
      funext a
      match a with
      | ⟨0, _⟩ => rfl
      | ⟨1, _⟩ => rfl⟩
  pointwise
  exact Cert.ProjMath.halves (tailAt _ _ x) n

end Cert.TailValue
-- ==== Proof.TailClaims.lean ====
/- The claims of the projection of the last rows onto the keys and values of the band. -/
module

public import proofs.«01_k».proof.Defs
public import proofs.«01_k».proof.Proof.Gen.Tail.Frame
public import proofs.«01_k».proof.Proof.TailValue

@[expose] public section

noncomputable section

namespace Cert.TailClaims

open Idealize.ShloMosaic Idealize.ShloMosaic.TcCoe Idealize.SL.Sem

theorem frame_kernel : Cert.quiescent_Tail := fun m ρ _ => Cert.Tail.Gen.frame m ρ

theorem frame_ideal : Cert.quiescent_TailIdeal := fun m ρ _ => Cert.TailIdeal.Gen.frame m ρ

theorem frame_reference : Cert.quiescent_TailRefIdeal := fun m ρ _ =>
  (θ_run Cert.TailRefIdeal.defs _ _).mono (fun r h => ⟨fun c => (h c).2, Idealize.ShloMosaic.sem_eq_zero_of_no_sems (by decide) r.2⟩)
    (Cert.TailRefIdeal.Value.run (F := Ideal) m ρ)

/-- The kernel's result and the reference's are the projection of the same arguments. -/
theorem algebraic : Cert.algebraic_TailIdeal_TailRefIdeal := by
  intro m g m' g' _ hagree
  refine ⟨fun c => Cert.TailValue.G m c, ?_, ?_⟩
  · exact (θ_run Cert.TailIdeal.defs _ _).mono (fun _ h c => ⟨(h c).1.trans (Cert.TailValue.final m c), (h c).2⟩)
      (Cert.TailIdeal.Value.run_blocks (F := Ideal) m g)
  · refine (θ_run Cert.TailRefIdeal.defs _ _).mono (fun _ h c => ⟨(h c).1.trans ?_, (h c).2⟩)
      (Cert.TailValue.reference m' g')
    rw [(hagree c).1, (hagree c).2]
    rfl

end Cert.TailClaims
-- ==== Proof.KvbValue.lean ====
/- The projection of the normed input onto the band's keys and values: the body's block at an entry, the windows' blocks of the
   staged arrays, the result array, and the reference's result read beside it. -/
module

public import proofs.«01_k».proof.Proof.Gen.KvbIdeal.Value
public import proofs.«01_k».proof.Proof.Gen.KvbRefIdeal.Run
public import proofs.«01_k».proof.Proof.ProjMath
public import Idealize.ShloMosaic.Lib.Pointwise
public import Idealize.ShloMosaic.Lib.Claim
public import Idealize.ShloMosaic.Lib.StableHlo.ReadAt

@[expose] public section

set_option maxRecDepth 16384

noncomputable section

namespace Cert.KvbValue

open Cert.KvbIdeal Cert.KvbIdeal.Gen Idealize.ShloMosaic Idealize.ShloMosaic.TcCoe Idealize.SL.Sem
open Idealize.ShloMosaic.Pipeline (Dat)

variable (m : (ℓ : Loc nD τ sig) → Buf (Elt Ideal) ℓ)

/-- The batch row of a token, -/
abbrev tb (x : Fin 32768) : Fin 4 := ⟨x.val / 8192, by omega⟩

/-- and its place in the batch row. -/
abbrev ts (x : Fin 32768) : Fin 8192 := ⟨x.val % 8192, by omega⟩

/-- Token `x`, projected onto column `j` of the weight. -/
def bandAt (h : S4x8192x2048.Idx → EReal) (w : S2048x7248.Idx → EReal) (x : Fin 32768) (j : Fin 7248) : EReal :=
  ∑ d : Fin 2048, h (ix3 (tb x) (ts x) d) * w (ix2 d j)

/-- Every token projected onto the 2048 columns that begin at 5200. -/
def bandFn (h : S4x8192x2048.Idx → EReal) (w : S2048x7248.Idx → EReal) : S32768x2048.Idx → EReal := fun y =>
  bandAt h w (y 0) ⟨5200 + (y 1).val, by have h : (y 1).val < 2048 := (y 1).isLt; omega⟩

theorem hz : (![0, 0] : Fin 2 → Nat) = fun _ => 0 := funext fun a => by fin_cases a <;> rfl

theorem out_apply (x0 : Vec Ideal S1024x2048 .bf16) (x1 : Vec Ideal S2048x1024 .bf16) (r n : Fin 1024) :
    out0_2 x0 x1 (ix2 r n) = ∑ k : Fin 2048, x0 (ix2 r k) * x1 (ix2 k n) := by
  unfold out0_2
  rw [View.canon_unit_zero (S := S1024x1024) hz, View.ld_unit_zero (S := S1024x2048) hz, View.ld_unit_zero (S := S2048x1024) hz]
  unfold k0_pay1
  pointwise

/-! ## The staged arrays -/

theorem h_apply (c : Dev nD) (x : Fin 32768) (d : Fin 2048) : V m c main_v1 (ix2 x d) = m (c.tc.loc main_arg0) (ix3 (tb x) (ts x) d) := by
  show StableHlo.after hostOps0 (fun b => m (c, b)) (Proc.devRef .tc main_v1) (ix2 x d) = _
  after_reads_simp
  clean_types
  pointwise

theorem w_apply (c : Dev nD) (d n : Fin 2048) : V m c main_v3 (ix2 d n) = m (c.tc.loc main_arg1) (ix2 d ⟨5200 + n.val, by omega⟩) := by
  show StableHlo.after hostOps0 (fun b => m (c, b)) (Proc.devRef .tc main_v3) (ix2 d n) = _
  after_reads_simp
  clean_types
  pointwise

/-! ## Where the windows stand -/

theorem t_lt (t : Fin cfg0.N) : t.val < 64 := by have h := t.isLt; have : cfg0.N = 64 := N_0; omega

/-- A row of a grid point's block, and a column. -/
def row (t : Fin cfg0.N) (r : Fin 1024) : Fin 32768 := ⟨1024 * (t.val / 2) + r.val, by have := t_lt t; omega⟩
def col (t : Fin cfg0.N) (n : Fin 1024) : Fin 2048 := ⟨1024 * (t.val % 2) + n.val, by omega⟩

theorem index_0 : ∀ t : Fin grid0.N, win0_0.index t 0 = t.val / 2 ∧ win0_0.index t 1 = 0 := by decide +kernel
theorem index_1 : ∀ t : Fin grid0.N, win0_1.index t 0 = 0 ∧ win0_1.index t 1 = t.val % 2 := by decide +kernel
theorem index_2 : ∀ t : Fin grid0.N, win0_2.index t 0 = t.val / 2 ∧ win0_2.index t 1 = t.val % 2 := by decide +kernel

theorem emb_0 (t : Fin cfg0.N) (r : Fin 1024) (d : Fin 2048) :
    (((cfg0.win 0).blk t).view.emb (ix2 r d) : S32768x2048.Idx) = ix2 (row t r) d := by
  have h := index_0 t
  funext a
  apply Fin.ext
  match a with
  | ⟨0, _⟩ => show win0_0.index t (0 : Fin 2) * 1024 + 1 * r.val = 1024 * (t.val / 2) + r.val; omega
  | ⟨1, _⟩ => show win0_0.index t (1 : Fin 2) * 2048 + 1 * d.val = d.val; omega

theorem emb_1 (t : Fin cfg0.N) (d : Fin 2048) (n : Fin 1024) :
    (((cfg0.win 1).blk t).view.emb (ix2 d n) : S2048x2048.Idx) = ix2 d (col t n) := by
  have h := index_1 t
  funext a
  apply Fin.ext
  match a with
  | ⟨0, _⟩ => show win0_1.index t (0 : Fin 2) * 2048 + 1 * d.val = d.val; omega
  | ⟨1, _⟩ => show win0_1.index t (1 : Fin 2) * 1024 + 1 * n.val = 1024 * (t.val % 2) + n.val; omega

theorem emb_2 (t : Fin cfg0.N) (r n : Fin 1024) :
    (((cfg0.win 2).blk t).view.emb (ix2 r n) : S32768x2048.Idx) = ix2 (row t r) (col t n) := by
  have h := index_2 t
  funext a
  apply Fin.ext
  match a with
  | ⟨0, _⟩ => show win0_2.index t (0 : Fin 2) * 1024 + 1 * r.val = 1024 * (t.val / 2) + r.val; omega
  | ⟨1, _⟩ => show win0_2.index t (1 : Fin 2) * 1024 + 1 * n.val = 1024 * (t.val % 2) + n.val; omega

theorem blk_0 (c : Dev nD) (t : Fin cfg0.N) (r : Fin 1024) (d : Fin 2048) :
    (iblk m c 0 t : Vec Ideal S1024x2048 .bf16) (ix2 r d) = m (c.tc.loc main_arg0) (ix3 (tb (row t r)) (ts (row t r)) d) := by
  show V m c main_v1 (((cfg0.win 0).blk t).view.emb (ix2 r d)) = _
  rw [emb_0, h_apply]

theorem blk_1 (c : Dev nD) (t : Fin cfg0.N) (d : Fin 2048) (n : Fin 1024) :
    (iblk m c 1 t : Vec Ideal S2048x1024 .bf16) (ix2 d n) = m (c.tc.loc main_arg1) (ix2 d ⟨5200 + (col t n).val, by omega⟩) := by
  show V m c main_v3 (((cfg0.win 1).blk t).view.emb (ix2 d n)) = _
  rw [emb_1, w_apply]

/-! ## The result array -/

/-- A body's block is the projection where it stands, given what the windows hold. -/
theorem block_fn (h : S4x8192x2048.Idx → EReal) (w : S2048x7248.Idx → EReal) (x0 : Vec Ideal S1024x2048 .bf16) (x1 : Vec Ideal S2048x1024 .bf16)
    (t : Fin cfg0.N) (h0 : ∀ r d, x0 (ix2 r d) = h (ix3 (tb (row t r)) (ts (row t r)) d))
    (h1 : ∀ (d : Fin 2048) (n : Fin 1024), x1 (ix2 d n) = w (ix2 d ⟨5200 + (col t n).val, by omega⟩)) (r n : Fin 1024) :
    out0_2 x0 x1 (ix2 r n) = bandFn h w (ix2 (row t r) (col t n)) := by
  rw [out_apply]
  simp only [h0, h1]
  rfl

/-- What is cut from a block that agrees with `G` where the block stands is the block of `G`. -/
theorem cut_eq (t : Fin cfg0.N) (X : Vec Ideal S1024x1024 .bf16) (G : Vec Ideal S32768x2048 .bf16)
    (e : ∀ r n, X (ix2 r n) = G (ix2 (row t r) (col t n))) :
    (cfg0.win 2).cut (grid0.coords t) X = ((cfg0.win 2).blk t).view.read (Elt Ideal) G := by
  funext j
  obtain ⟨r, n, rfl⟩ : ∃ (r : Fin 1024) (n : Fin 1024), j = ix2 r n :=
    ⟨j 0, j 1, by
      funext a
      match a with
      | ⟨0, _⟩ => rfl
      | ⟨1, _⟩ => rfl⟩
  show X (ix2 r n) = G (((cfg0.win 2).blk t).view.emb (ix2 r n))
  rw [emb_2, e]

/-- The projection of device `c`'s arguments. -/
def G (c : Dev nD) : Vec Ideal S32768x2048 .bf16 := bandFn (m (c.tc.loc main_arg0)) (m (c.tc.loc main_arg1))

theorem flushed_eq (c : Dev nD) (t : Fin cfg0.N) :
    (dats m 0 c).flushed 2 t = ((cfg0.win 2).blk t).view.read (Elt Ideal) (G m c) := by
  rw [Cert.KvbIdeal.Value.flushed2]
  exact cut_eq t _ _ fun r n => block_fn _ _ _ _ t (fun r d => blk_0 m c t r d) (fun d n => blk_1 m c t d n) r n

/-- The blocks cover the array. -/
theorem cover (i : S32768x2048.Idx) : ∃ t : Fin cfg0.N, (cfg0.win 2).flush t = true ∧ i ∈ ((cfg0.win 2).blk t).view.set := by
  have h0 : (i 0 : Nat) < 32768 := (i 0).isLt
  have h1 : (i 1 : Nat) < 2048 := (i 1).isLt
  have hN : cfg0.N = 64 := N_0
  refine ⟨⟨(i 0).val / 1024 * 2 + (i 1).val / 1024, by omega⟩, flush0_2 _, ?_⟩
  generalize ht : (⟨(i 0).val / 1024 * 2 + (i 1).val / 1024, by omega⟩ : Fin cfg0.N) = t
  have hv : t.val = (i 0).val / 1024 * 2 + (i 1).val / 1024 := by rw [← ht]
  have hi : i = ((cfg0.win 2).blk t).view.emb (ix2 (⟨(i 0).val % 1024, by omega⟩ : Fin 1024) (⟨(i 1).val % 1024, by omega⟩ : Fin 1024)) := by
    rw [emb_2]
    funext a
    apply Fin.ext
    match a with
    | ⟨0, _⟩ => show (i 0).val = 1024 * (t.val / 2) + (i 0).val % 1024; omega
    | ⟨1, _⟩ => show (i 1).val = 1024 * (t.val % 2) + (i 1).val % 1024; omega
  rw [hi]
  exact ((cfg0.win 2).blk t).view.emb_mem_set _

/-- So the result array ends holding the projection. -/
theorem final (c : Dev nD) : (dats m 0 c).arrAt 2 cfg0.N = G m c :=
  (dats m 0 c).arrAt_eq_of_cover 2 (G m c) (fun t _ => flushed_eq m c t) cover

/-! ## The reference -/

/-- The reference ends with the projection of its arguments. -/
theorem reference (m' : (ℓ : Loc Cert.KvbRefIdeal.nD Cert.KvbRefIdeal.τ Cert.KvbRefIdeal.sig) → Buf (Elt Ideal) ℓ)
    (g : Dev Cert.KvbRefIdeal.nD → PrngReg) :
    θ_run (Cert.KvbRefIdeal.defs (F := Ideal)) (onTc (τ := Cert.KvbRefIdeal.τ) (Cert.KvbRefIdeal.main (F := Ideal))) ⟨m', fun _ => 0, g⟩ fun r =>
      ∀ c : Dev Cert.KvbRefIdeal.nD,
        r.2.mem ((c.tc : Thread Cert.KvbRefIdeal.nD Cert.KvbRefIdeal.τ).loc Cert.KvbRefIdeal.main_v12)
          = bandFn (m' (c.tc.loc Cert.KvbRefIdeal.main_arg0)) (m' (c.tc.loc Cert.KvbRefIdeal.main_arg1))
        ∧ r.2.mem ((c.tc : Thread Cert.KvbRefIdeal.nD Cert.KvbRefIdeal.τ).loc Cert.KvbRefIdeal.main_arg0) = m' ((c.tc : Thread Cert.KvbRefIdeal.nD Cert.KvbRefIdeal.τ).loc Cert.KvbRefIdeal.main_arg0)
        ∧ r.2.mem ((c.tc : Thread Cert.KvbRefIdeal.nD Cert.KvbRefIdeal.τ).loc Cert.KvbRefIdeal.main_arg1) = m' ((c.tc : Thread Cert.KvbRefIdeal.nD Cert.KvbRefIdeal.τ).loc Cert.KvbRefIdeal.main_arg1) := by
  refine (θ_run Cert.KvbRefIdeal.defs _ _).mono (fun _ h c => ⟨(h c).1.trans ?_, (h c).2⟩) (Cert.KvbRefIdeal.Value.run (F := Ideal) m' g)
  clear h
  funext y
  obtain ⟨x, n, rfl⟩ : ∃ (x : Fin 32768) (n : Fin 2048), y = ix2 x n :=
    ⟨y 0, y 1, by
      funext a
      match a with
      | ⟨0, _⟩ => rfl
      | ⟨1, _⟩ => rfl⟩
  pointwise
  exact Cert.ProjMath.halves (bandAt _ _ x) n

end Cert.KvbValue
-- ==== Proof.KvbClaims.lean ====
/- The claims of the projection onto the keys and values of the band. -/
module

public import proofs.«01_k».proof.Defs
public import proofs.«01_k».proof.Proof.Gen.Kvb.Frame
public import proofs.«01_k».proof.Proof.KvbValue

@[expose] public section

noncomputable section

namespace Cert.KvbClaims

open Idealize.ShloMosaic Idealize.ShloMosaic.TcCoe Idealize.SL.Sem

theorem frame_kernel : Cert.quiescent_Kvb := fun m ρ _ => Cert.Kvb.Gen.frame m ρ

theorem frame_ideal : Cert.quiescent_KvbIdeal := fun m ρ _ => Cert.KvbIdeal.Gen.frame m ρ

theorem frame_reference : Cert.quiescent_KvbRefIdeal := fun m ρ _ =>
  (θ_run Cert.KvbRefIdeal.defs _ _).mono (fun r h => ⟨fun c => (h c).2, Idealize.ShloMosaic.sem_eq_zero_of_no_sems (by decide) r.2⟩)
    (Cert.KvbRefIdeal.Value.run (F := Ideal) m ρ)

/-- The kernel's result and the reference's are the projection of the same arguments. -/
theorem algebraic : Cert.algebraic_KvbIdeal_KvbRefIdeal := by
  intro m g m' g' _ hagree
  refine ⟨fun c => Cert.KvbValue.G m c, ?_, ?_⟩
  · exact (θ_run Cert.KvbIdeal.defs _ _).mono (fun _ h c => ⟨(h c).1.trans (Cert.KvbValue.final m c), (h c).2⟩)
      (Cert.KvbIdeal.Value.run_blocks (F := Ideal) m g)
  · refine (θ_run Cert.KvbRefIdeal.defs _ _).mono (fun _ h c => ⟨(h c).1.trans ?_, (h c).2⟩)
      (Cert.KvbValue.reference m' g')
    rw [(hagree c).1, (hagree c).2]
    rfl

end Cert.KvbClaims
-- ==== Proof.KeysStepValue.lean ====
/- The projection of the sample batch's normed input onto the keys of the sparse attention: the body's two blocks at an entry, the windows' blocks of the staged
   arrays, the run with its result arrays, and the reference's results read beside them. -/
module

public import proofs.«01_k».proof.Proof.Gen.KeysStepIdeal.Frame
public import proofs.«01_k».proof.Proof.Gen.KeysStepRefIdeal.Run
public import Idealize.ShloMosaic.Lib.Pipeline.Value
public import Idealize.ShloMosaic.Lib.Pointwise
public import Idealize.ShloMosaic.Lib.Claim
public import Idealize.ShloMosaic.Lib.StableHlo.ReadAt

@[expose] public section

set_option maxRecDepth 16384

noncomputable section

namespace Cert.KeysStepValue

open Cert.KeysStepIdeal Cert.KeysStepIdeal.Gen Idealize.ShloMosaic Idealize.ShloMosaic.TcCoe Idealize.SL.Sem
open Idealize.ShloMosaic.Pipeline (Dat)

variable (m : (ℓ : Loc nD τ sig) → Buf (Elt Ideal) ℓ)

/-- The batch row of a token, -/
abbrev tb (x : Fin 256) : Fin 16 := ⟨x.val / 16, by omega⟩

/-- and its place in the row. -/
abbrev ts (x : Fin 256) : Fin 16 := ⟨x.val % 16, by omega⟩

/-- The projection of token `x` onto column `n` of the 1024 columns of the weight that begin at `o`. -/
def proj (o : Fin 6225) (h : S16x16x2048.Idx → EReal) (w : S2048x7248.Idx → EReal) (x : Fin 256) (n : Fin 1024) : EReal :=
  ∑ d : Fin 2048, h (ix3 (tb x) (ts x) d) * w (ix2 d ⟨o.val + n.val, by omega⟩)

/-- Where the keys' columns begin. -/
abbrev atKeys : Fin 6225 := ⟨1024, by omega⟩

/-- The projection by heads, and flat. -/
def headsFn (o : Fin 6225) (h : S16x16x2048.Idx → EReal) (w : S2048x7248.Idx → EReal) : S256x8x128.Idx → EReal := fun y =>
  proj o h w (y 0) ⟨(y 1).val * 128 + (y 2).val, by
    have a : (y 1).val < 8 := (y 1).isLt
    have b : (y 2).val < 128 := (y 2).isLt
    omega⟩

def flatFn (o : Fin 6225) (h : S16x16x2048.Idx → EReal) (w : S2048x7248.Idx → EReal) : S256x1024.Idx → EReal := fun y => proj o h w (y 0) (y 1)

/-! ## The body's blocks -/

theorem hz : (![0, 0] : Fin 2 → Nat) = fun _ => 0 := funext fun a => by fin_cases a <;> rfl
theorem hz3 : (![0, 0, 0] : Fin 3 → Nat) = fun _ => 0 := funext fun a => by fin_cases a <;> rfl

theorem out2_apply (x0 : Vec Ideal S256x2048 .bf16) (x1 : Vec Ideal S2048x1024 .bf16) (r : Fin 256) (h : Fin 8) (d : Fin 128) :
    out0_2 x0 x1 (ix3 r h d) = ∑ k : Fin 2048, x0 (ix2 r k) * x1 (ix2 k ⟨h.val * 128 + d.val, by omega⟩) := by
  unfold out0_2
  rw [View.canon_unit_zero (S := S256x8x128) hz3, View.ld_unit_zero (S := S256x2048) hz, View.ld_unit_zero (S := S2048x1024) hz]
  unfold k0_pay2 k0_pay1
  pointwise

theorem out3_apply (x0 : Vec Ideal S256x2048 .bf16) (x1 : Vec Ideal S2048x1024 .bf16) (r : Fin 256) (n : Fin 1024) :
    out0_3 x0 x1 (ix2 r n) = ∑ k : Fin 2048, x0 (ix2 r k) * x1 (ix2 k n) := by
  unfold out0_3
  rw [View.canon_unit_zero (S := S256x1024) hz, View.ld_unit_zero (S := S256x2048) hz, View.ld_unit_zero (S := S2048x1024) hz]
  unfold k0_pay3 k0_pay1
  pointwise

/-! ## The staged arrays -/

theorem h_apply (c : Dev nD) (x : Fin 256) (d : Fin 2048) :
    V m c main_v1 (ix2 x d) = m (c.tc.loc main_arg0) (ix3 (tb x) (ts x) d) := by
  show StableHlo.after hostOps0 (fun b => m (c, b)) (Proc.devRef .tc main_v1) (ix2 x d) = _
  after_reads_simp
  clean_types
  pointwise

theorem w_apply (c : Dev nD) (d : Fin 2048) (n : Fin 1024) :
    V m c main_v3 (ix2 d n) = m (c.tc.loc main_arg1) (ix2 d ⟨1024 + n.val, by omega⟩) := by
  show StableHlo.after hostOps0 (fun b => m (c, b)) (Proc.devRef .tc main_v3) (ix2 d n) = _
  after_reads_simp
  clean_types
  pointwise

/-! ## Where the windows stand -/

/-- A row of the grid point's block of tokens. -/
def row (t : Fin cfg0.N) (r : Fin 256) : Fin 256 := ⟨256 * t.val + r.val, by have h := t.isLt; have : cfg0.N = 1 := N_0; omega⟩

theorem index_0 : ∀ t : Fin grid0.N, win0_0.index t 0 = t.val ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = t.val ∧ win0_2.index t 1 = 0 ∧ win0_2.index t 2 = 0 := by decide +kernel
theorem index_3 : ∀ t : Fin grid0.N, win0_3.index t 0 = t.val ∧ win0_3.index t 1 = 0 := by decide +kernel

theorem emb_0 (t : Fin cfg0.N) (r : Fin 256) (d : Fin 2048) :
    (((cfg0.win 0).blk t).view.emb (ix2 r d) : S256x2048.Idx) = ix2 (row t r) d := by
  have h := index_0 t
  funext a
  apply Fin.ext
  match a with
  | ⟨0, _⟩ => show win0_0.index t (0 : Fin 2) * 256 + 1 * r.val = 256 * t.val + r.val; omega
  | ⟨1, _⟩ => show win0_0.index t (1 : Fin 2) * 2048 + 1 * d.val = d.val; omega

theorem emb_1 (t : Fin cfg0.N) (d : Fin 2048) (n : Fin 1024) :
    (((cfg0.win 1).blk t).view.emb (ix2 d n) : S2048x1024.Idx) = ix2 d n := by
  have h := index_1 t
  funext a
  apply Fin.ext
  match a with
  | ⟨0, _⟩ => show win0_1.index t (0 : Fin 2) * 2048 + 1 * d.val = d.val; omega
  | ⟨1, _⟩ => show win0_1.index t (1 : Fin 2) * 1024 + 1 * n.val = n.val; omega

theorem emb_2 (t : Fin cfg0.N) (r : Fin 256) (h : Fin 8) (d : Fin 128) :
    (((cfg0.win 2).blk t).view.emb (ix3 r h d) : S256x8x128.Idx) = ix3 (row t r) h d := by
  have e := index_2 t
  funext a
  apply Fin.ext
  match a with
  | ⟨0, _⟩ => show win0_2.index t (0 : Fin 3) * 256 + 1 * r.val = 256 * t.val + r.val; omega
  | ⟨1, _⟩ => show win0_2.index t (1 : Fin 3) * 8 + 1 * h.val = h.val; omega
  | ⟨2, _⟩ => show win0_2.index t (2 : Fin 3) * 128 + 1 * d.val = d.val; omega

theorem emb_3 (t : Fin cfg0.N) (r : Fin 256) (n : Fin 1024) :
    (((cfg0.win 3).blk t).view.emb (ix2 r n) : S256x1024.Idx) = ix2 (row t r) n := by
  have h := index_3 t
  funext a
  apply Fin.ext
  match a with
  | ⟨0, _⟩ => show win0_3.index t (0 : Fin 2) * 256 + 1 * r.val = 256 * t.val + r.val; omega
  | ⟨1, _⟩ => show win0_3.index t (1 : Fin 2) * 1024 + 1 * n.val = n.val; omega

theorem blk_0 (c : Dev nD) (t : Fin cfg0.N) (r : Fin 256) (d : Fin 2048) :
    (iblk m c 0 t : Vec Ideal S256x2048 .bf16) (ix2 r d) = m (c.tc.loc main_arg0) (ix3 (tb (row t r)) (ts (row t r)) d) := by
  show V m c main_v1 (((cfg0.win 0).blk t).view.emb (ix2 r d)) = _
  rw [emb_0, h_apply]

theorem blk_1 (c : Dev nD) (t : Fin cfg0.N) (d : Fin 2048) (n : Fin 1024) :
    (iblk m c 1 t : Vec Ideal S2048x1024 .bf16) (ix2 d n) = m (c.tc.loc main_arg1) (ix2 d ⟨1024 + n.val, by omega⟩) := by
  show V m c main_v3 (((cfg0.win 1).blk t).view.emb (ix2 d n)) = _
  rw [emb_1, w_apply]

/-! ## The result arrays -/

section
variable (o : Fin 6225) (h : S16x16x2048.Idx → EReal) (w : S2048x7248.Idx → EReal) (x0 : Vec Ideal S256x2048 .bf16) (x1 : Vec Ideal S2048x1024 .bf16)
    (t : Fin cfg0.N) (h0 : ∀ r d, x0 (ix2 r d) = h (ix3 (tb (row t r)) (ts (row t r)) d))
    (h1 : ∀ (d : Fin 2048) (n : Fin 1024), x1 (ix2 d n) = w (ix2 d ⟨o.val + n.val, by omega⟩))

include h0 h1

/-- A body's blocks are the projection where they stand, given what the windows hold. -/
theorem block2 (r : Fin 256) (k : Fin 8) (d : Fin 128) : out0_2 x0 x1 (ix3 r k d) = headsFn o h w (ix3 (row t r) k d) := by
  rw [out2_apply]
  simp only [h0, h1]
  rfl

theorem block3 (r : Fin 256) (n : Fin 1024) : out0_3 x0 x1 (ix2 r n) = flatFn o h w (ix2 (row t r) n) := by
  rw [out3_apply]
  simp only [h0, h1]
  rfl
end

/-- What is cut from a block that agrees with `G` where the block stands is the block of `G`. -/
theorem cut2_eq (t : Fin cfg0.N) (X : Vec Ideal S256x8x128 .f32) (G : Vec Ideal S256x8x128 .f32)
    (e : ∀ r k d, X (ix3 r k d) = G (ix3 (row t r) k d)) :
    (cfg0.win 2).cut (grid0.coords t) X = ((cfg0.win 2).blk t).view.read (Elt Ideal) G := by
  funext j
  obtain ⟨r, k, d, rfl⟩ : ∃ (r : Fin 256) (k : Fin 8) (d : Fin 128), j = ix3 r k d :=
    ⟨j 0, j 1, j 2, by
      funext a
      match a with
      | ⟨0, _⟩ => rfl
      | ⟨1, _⟩ => rfl
      | ⟨2, _⟩ => rfl⟩
  show X (ix3 r k d) = G (((cfg0.win 2).blk t).view.emb (ix3 r k d))
  rw [emb_2, e]

theorem cut3_eq (t : Fin cfg0.N) (X : Vec Ideal S256x1024 .bf16) (G : Vec Ideal S256x1024 .bf16)
    (e : ∀ r n, X (ix2 r n) = G (ix2 (row t r) n)) :
    (cfg0.win 3).cut (grid0.coords t) X = ((cfg0.win 3).blk t).view.read (Elt Ideal) G := by
  funext j
  obtain ⟨r, n, rfl⟩ : ∃ (r : Fin 256) (n : Fin 1024), j = ix2 r n :=
    ⟨j 0, j 1, by
      funext a
      match a with
      | ⟨0, _⟩ => rfl
      | ⟨1, _⟩ => rfl⟩
  show X (ix2 r n) = G (((cfg0.win 3).blk t).view.emb (ix2 r n))
  rw [emb_3, e]

/-- The projections of device `c`'s arguments. -/
def G2 (c : Dev nD) : Vec Ideal S256x8x128 .f32 := headsFn atKeys (m (c.tc.loc main_arg0)) (m (c.tc.loc main_arg1))
def G3 (c : Dev nD) : Vec Ideal S256x1024 .bf16 := flatFn atKeys (m (c.tc.loc main_arg0)) (m (c.tc.loc main_arg1))

theorem flushed2_eq (c : Dev nD) (t : Fin cfg0.N) :
    (dats m 0 c).flushed 2 t = ((cfg0.win 2).blk t).view.read (Elt Ideal) (G2 m c) := by
  show (cfg0.win 2).cut (grid0.coords t) ((dats m 0 c).after 2 t) = _
  rw [after0_2]
  exact cut2_eq t _ _ fun r k d => block2 atKeys _ _ _ _ t (fun r d => blk_0 m c t r d) (fun d n => blk_1 m c t d n) r k d

theorem flushed3_eq (c : Dev nD) (t : Fin cfg0.N) :
    (dats m 0 c).flushed 3 t = ((cfg0.win 3).blk t).view.read (Elt Ideal) (G3 m c) := by
  show (cfg0.win 3).cut (grid0.coords t) ((dats m 0 c).after 3 t) = _
  rw [after0_3]
  exact cut3_eq t _ _ fun r n => block3 atKeys _ _ _ _ t (fun r d => blk_0 m c t r d) (fun d n => blk_1 m c t d n) r n

/-- Every token is in one grid point's block. -/
theorem point_of (x : Fin 256) : ∃ (t : Fin cfg0.N) (r : Fin 256), x = row t r := by
  have hN : cfg0.N = 1 := N_0
  exact ⟨⟨x.val / 256, by omega⟩, ⟨x.val % 256, by omega⟩, Fin.ext (by show x.val = 256 * (x.val / 256) + x.val % 256; omega)⟩

theorem cover2 (i : S256x8x128.Idx) : ∃ t : Fin cfg0.N, (cfg0.win 2).flush t = true ∧ i ∈ ((cfg0.win 2).blk t).view.set := by
  obtain ⟨t, r, hx⟩ := point_of (i 0)
  refine ⟨t, flush0_2 _, ?_⟩
  have hi : i = ((cfg0.win 2).blk t).view.emb (ix3 r (⟨(i 1).val, (i 1).isLt⟩ : Fin 8) (⟨(i 2).val, (i 2).isLt⟩ : Fin 128)) := by
    rw [emb_2, ← hx]
    funext a
    match a with
    | ⟨0, _⟩ => rfl
    | ⟨1, _⟩ => rfl
    | ⟨2, _⟩ => rfl
  rw [hi]
  exact ((cfg0.win 2).blk t).view.emb_mem_set _

theorem cover3 (i : S256x1024.Idx) : ∃ t : Fin cfg0.N, (cfg0.win 3).flush t = true ∧ i ∈ ((cfg0.win 3).blk t).view.set := by
  obtain ⟨t, r, hx⟩ := point_of (i 0)
  refine ⟨t, flush0_3 _, ?_⟩
  have hi : i = ((cfg0.win 3).blk t).view.emb (ix2 r (⟨(i 1).val, (i 1).isLt⟩ : Fin 1024)) := by
    rw [emb_3, ← hx]
    funext a
    match a with
    | ⟨0, _⟩ => rfl
    | ⟨1, _⟩ => rfl
  rw [hi]
  exact ((cfg0.win 3).blk t).view.emb_mem_set _

/-- So the result arrays end holding the projections. -/
theorem final2 (c : Dev nD) : (dats m 0 c).arrAt 2 cfg0.N = G2 m c :=
  (dats m 0 c).arrAt_eq_of_cover 2 (G2 m c) (fun t _ => flushed2_eq m c t) cover2

theorem final3 (c : Dev nD) : (dats m 0 c).arrAt 3 cfg0.N = G3 m c :=
  (dats m 0 c).arrAt_eq_of_cover 3 (G3 m c) (fun t _ => flushed3_eq m c t) cover3

/-- The run ends with the projections in the result arrays and the arguments as they were. -/
theorem kernel (ρ : Dev nD → PrngReg) :
    θ_run (defs (F := Ideal)) (onTc (τ := τ) (main (F := Ideal))) ⟨m, fun _ => 0, ρ⟩ fun r => ∀ c : Dev nD,
      r.2.mem ((c.tc : Thread nD τ).loc main_v4_0) = G2 m c
      ∧ r.2.mem ((c.tc : Thread nD τ).loc main_v4_1) = G3 m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1 2).trans (final2 m c), ((h c).1 3).trans (final3 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

/-! ## The reference -/

/-- The reference ends with the projections of its arguments. -/
theorem reference (m' : (ℓ : Loc Cert.KeysStepRefIdeal.nD Cert.KeysStepRefIdeal.τ Cert.KeysStepRefIdeal.sig) → Buf (Elt Ideal) ℓ)
    (g : Dev Cert.KeysStepRefIdeal.nD → PrngReg) :
    θ_run (Cert.KeysStepRefIdeal.defs (F := Ideal)) (onTc (τ := Cert.KeysStepRefIdeal.τ) (Cert.KeysStepRefIdeal.main (F := Ideal))) ⟨m', fun _ => 0, g⟩ fun r =>
      ∀ c : Dev Cert.KeysStepRefIdeal.nD,
        r.2.mem ((c.tc : Thread Cert.KeysStepRefIdeal.nD Cert.KeysStepRefIdeal.τ).loc Cert.KeysStepRefIdeal.main_v10)
          = headsFn atKeys (m' (c.tc.loc Cert.KeysStepRefIdeal.main_arg0)) (m' (c.tc.loc Cert.KeysStepRefIdeal.main_arg1))
        ∧ r.2.mem ((c.tc : Thread Cert.KeysStepRefIdeal.nD Cert.KeysStepRefIdeal.τ).loc Cert.KeysStepRefIdeal.main_v12)
          = flatFn atKeys (m' (c.tc.loc Cert.KeysStepRefIdeal.main_arg0)) (m' (c.tc.loc Cert.KeysStepRefIdeal.main_arg1))
        ∧ r.2.mem ((c.tc : Thread Cert.KeysStepRefIdeal.nD Cert.KeysStepRefIdeal.τ).loc Cert.KeysStepRefIdeal.main_arg0) = m' ((c.tc : Thread Cert.KeysStepRefIdeal.nD Cert.KeysStepRefIdeal.τ).loc Cert.KeysStepRefIdeal.main_arg0)
        ∧ r.2.mem ((c.tc : Thread Cert.KeysStepRefIdeal.nD Cert.KeysStepRefIdeal.τ).loc Cert.KeysStepRefIdeal.main_arg1) = m' ((c.tc : Thread Cert.KeysStepRefIdeal.nD Cert.KeysStepRefIdeal.τ).loc Cert.KeysStepRefIdeal.main_arg1) := by
  refine (θ_run Cert.KeysStepRefIdeal.defs _ _).mono (fun _ h c => ⟨(h c).1.trans ?_, (h c).2.1.trans ?_, (h c).2.2⟩)
    (Cert.KeysStepRefIdeal.Value.run (F := Ideal) m' g)
  · clear h
    funext y
    obtain ⟨x, k, d, rfl⟩ : ∃ (x : Fin 256) (k : Fin 8) (d : Fin 128), y = ix3 x k d :=
      ⟨y 0, y 1, y 2, by
        funext a
        match a with
        | ⟨0, _⟩ => rfl
        | ⟨1, _⟩ => rfl
        | ⟨2, _⟩ => rfl⟩
    pointwise
    rfl
  · clear h
    funext y
    obtain ⟨x, n, rfl⟩ : ∃ (x : Fin 256) (n : Fin 1024), y = ix2 x n :=
      ⟨y 0, y 1, by
        funext a
        match a with
        | ⟨0, _⟩ => rfl
        | ⟨1, _⟩ => rfl⟩
    pointwise
    rfl

end Cert.KeysStepValue
-- ==== Proof.KeysStepClaims.lean ====
/- The claims of the projection of the sample batch onto the keys of the sparse attention. -/
module

public import proofs.«01_k».proof.Defs
public import proofs.«01_k».proof.Proof.Gen.KeysStep.Frame
public import proofs.«01_k».proof.Proof.KeysStepValue

@[expose] public section

noncomputable section

namespace Cert.KeysStepClaims

open Idealize.ShloMosaic Idealize.ShloMosaic.TcCoe Idealize.SL.Sem

theorem frame_kernel : Cert.quiescent_KeysStep := fun m ρ _ => Cert.KeysStep.Gen.frame m ρ

theorem frame_ideal : Cert.quiescent_KeysStepIdeal := fun m ρ _ => Cert.KeysStepIdeal.Gen.frame m ρ

theorem frame_reference : Cert.quiescent_KeysStepRefIdeal := fun m ρ _ =>
  (θ_run Cert.KeysStepRefIdeal.defs _ _).mono (fun r h => ⟨fun c => (h c).2.2, Idealize.ShloMosaic.sem_eq_zero_of_no_sems (by decide) r.2⟩)
    (Cert.KeysStepRefIdeal.Value.run (F := Ideal) m ρ)

/-- The kernel's results and the reference's are the projection of the same arguments. -/
theorem algebraic : Cert.algebraic_KeysStepIdeal_KeysStepRefIdeal := by
  intro m g m' g' _ hagree
  refine ⟨fun c => Cert.KeysStepValue.G2 m c, fun c => Cert.KeysStepValue.G3 m c, Cert.KeysStepValue.kernel m g, ?_⟩
  refine (θ_run Cert.KeysStepRefIdeal.defs _ _).mono (fun _ h c => ⟨(h c).1.trans ?_, (h c).2.1.trans ?_, (h c).2.2⟩)
    (Cert.KeysStepValue.reference m' g')
  · rw [(hagree c).1, (hagree c).2]
    rfl
  · rw [(hagree c).1, (hagree c).2]
    rfl

end Cert.KeysStepClaims
-- ==== Proof.ValuesStepValue.lean ====
/- The projection of the sample batch's normed input onto the values of the sparse attention: the same call as that for the keys
   (KeysValue), on other columns of the weight. -/
module

public import proofs.«01_k».proof.Proof.KeysStepValue
public import proofs.«01_k».proof.Proof.Gen.ValuesStepIdeal.Frame
public import proofs.«01_k».proof.Proof.Gen.ValuesStepRefIdeal.Run

@[expose] public section

set_option maxRecDepth 16384

noncomputable section

namespace Cert.ValuesStepValue

open Cert.ValuesStepIdeal Cert.ValuesStepIdeal.Gen Idealize.ShloMosaic Idealize.ShloMosaic.TcCoe Idealize.SL.Sem
open Idealize.ShloMosaic.Pipeline (Dat)
open Cert.KeysStepValue (tb ts row headsFn flatFn)

variable (m : (ℓ : Loc nD τ sig) → Buf (Elt Ideal) ℓ)

/-- Where the values' columns begin. -/
abbrev atValues : Fin 6225 := ⟨2048, by omega⟩

theorem h_apply (c : Dev nD) (x : Fin 256) (d : Fin 2048) :
    V m c main_v1 (ix2 x d) = m (c.tc.loc main_arg0) (ix3 (tb x) (ts x) d) := by
  show StableHlo.after hostOps0 (fun b => m (c, b)) (Proc.devRef .tc main_v1) (ix2 x d) = _
  after_reads_simp
  clean_types
  pointwise

theorem w_apply (c : Dev nD) (d : Fin 2048) (n : Fin 1024) :
    V m c main_v3 (ix2 d n) = m (c.tc.loc main_arg1) (ix2 d ⟨2048 + n.val, by omega⟩) := by
  show StableHlo.after hostOps0 (fun b => m (c, b)) (Proc.devRef .tc main_v3) (ix2 d n) = _
  after_reads_simp
  clean_types
  pointwise

theorem blk_0 (c : Dev nD) (t : Fin cfg0.N) (r : Fin 256) (d : Fin 2048) :
    (iblk m c 0 t : Vec Ideal S256x2048 .bf16) (ix2 r d) = m (c.tc.loc main_arg0) (ix3 (tb (row t r)) (ts (row t r)) d) :=
  (congrArg (V m c main_v1) (Cert.KeysStepValue.emb_0 t r d)).trans (h_apply m c _ _)

theorem blk_1 (c : Dev nD) (t : Fin cfg0.N) (d : Fin 2048) (n : Fin 1024) :
    (iblk m c 1 t : Vec Ideal S2048x1024 .bf16) (ix2 d n) = m (c.tc.loc main_arg1) (ix2 d ⟨2048 + n.val, by omega⟩) :=
  (congrArg (V m c main_v3) (Cert.KeysStepValue.emb_1 t d n)).trans (w_apply m c _ _)

/-- The projections of device `c`'s arguments. -/
def G2 (c : Dev nD) : Vec Ideal S256x8x128 .f32 := headsFn atValues (m (c.tc.loc main_arg0)) (m (c.tc.loc main_arg1))
def G3 (c : Dev nD) : Vec Ideal S256x1024 .bf16 := flatFn atValues (m (c.tc.loc main_arg0)) (m (c.tc.loc main_arg1))

theorem flushed2_eq (c : Dev nD) (t : Fin cfg0.N) :
    (dats m 0 c).flushed 2 t = ((cfg0.win 2).blk t).view.read (Elt Ideal) (G2 m c) := by
  show (cfg0.win 2).cut (grid0.coords t) ((dats m 0 c).after 2 t) = _
  rw [after0_2]
  exact Cert.KeysStepValue.cut2_eq t _ _ fun r k d =>
    Cert.KeysStepValue.block2 atValues _ _ _ _ t (fun r d => blk_0 m c t r d) (fun d n => blk_1 m c t d n) r k d

theorem flushed3_eq (c : Dev nD) (t : Fin cfg0.N) :
    (dats m 0 c).flushed 3 t = ((cfg0.win 3).blk t).view.read (Elt Ideal) (G3 m c) := by
  show (cfg0.win 3).cut (grid0.coords t) ((dats m 0 c).after 3 t) = _
  rw [after0_3]
  exact Cert.KeysStepValue.cut3_eq t _ _ fun r n =>
    Cert.KeysStepValue.block3 atValues _ _ _ _ t (fun r d => blk_0 m c t r d) (fun d n => blk_1 m c t d n) r n

/-- So the result arrays end holding the projections. -/
theorem final2 (c : Dev nD) : (dats m 0 c).arrAt 2 cfg0.N = G2 m c :=
  (dats m 0 c).arrAt_eq_of_cover 2 (G2 m c) (fun t _ => flushed2_eq m c t) Cert.KeysStepValue.cover2

theorem final3 (c : Dev nD) : (dats m 0 c).arrAt 3 cfg0.N = G3 m c :=
  (dats m 0 c).arrAt_eq_of_cover 3 (G3 m c) (fun t _ => flushed3_eq m c t) Cert.KeysStepValue.cover3

/-- The run ends with the projections in the result arrays and the arguments as they were. -/
theorem kernel (ρ : Dev nD → PrngReg) :
    θ_run (defs (F := Ideal)) (onTc (τ := τ) (main (F := Ideal))) ⟨m, fun _ => 0, ρ⟩ fun r => ∀ c : Dev nD,
      r.2.mem ((c.tc : Thread nD τ).loc main_v4_0) = G2 m c
      ∧ r.2.mem ((c.tc : Thread nD τ).loc main_v4_1) = G3 m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1 2).trans (final2 m c), ((h c).1 3).trans (final3 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

/-! ## The reference -/

/-- The reference ends with the projections of its arguments. -/
theorem reference (m' : (ℓ : Loc Cert.ValuesStepRefIdeal.nD Cert.ValuesStepRefIdeal.τ Cert.ValuesStepRefIdeal.sig) → Buf (Elt Ideal) ℓ)
    (g : Dev Cert.ValuesStepRefIdeal.nD → PrngReg) :
    θ_run (Cert.ValuesStepRefIdeal.defs (F := Ideal)) (onTc (τ := Cert.ValuesStepRefIdeal.τ) (Cert.ValuesStepRefIdeal.main (F := Ideal))) ⟨m', fun _ => 0, g⟩ fun r =>
      ∀ c : Dev Cert.ValuesStepRefIdeal.nD,
        r.2.mem ((c.tc : Thread Cert.ValuesStepRefIdeal.nD Cert.ValuesStepRefIdeal.τ).loc Cert.ValuesStepRefIdeal.main_v10)
          = headsFn atValues (m' (c.tc.loc Cert.ValuesStepRefIdeal.main_arg0)) (m' (c.tc.loc Cert.ValuesStepRefIdeal.main_arg1))
        ∧ r.2.mem ((c.tc : Thread Cert.ValuesStepRefIdeal.nD Cert.ValuesStepRefIdeal.τ).loc Cert.ValuesStepRefIdeal.main_v12)
          = flatFn atValues (m' (c.tc.loc Cert.ValuesStepRefIdeal.main_arg0)) (m' (c.tc.loc Cert.ValuesStepRefIdeal.main_arg1))
        ∧ r.2.mem ((c.tc : Thread Cert.ValuesStepRefIdeal.nD Cert.ValuesStepRefIdeal.τ).loc Cert.ValuesStepRefIdeal.main_arg0) = m' ((c.tc : Thread Cert.ValuesStepRefIdeal.nD Cert.ValuesStepRefIdeal.τ).loc Cert.ValuesStepRefIdeal.main_arg0)
        ∧ r.2.mem ((c.tc : Thread Cert.ValuesStepRefIdeal.nD Cert.ValuesStepRefIdeal.τ).loc Cert.ValuesStepRefIdeal.main_arg1) = m' ((c.tc : Thread Cert.ValuesStepRefIdeal.nD Cert.ValuesStepRefIdeal.τ).loc Cert.ValuesStepRefIdeal.main_arg1) := by
  refine (θ_run Cert.ValuesStepRefIdeal.defs _ _).mono (fun _ h c => ⟨(h c).1.trans ?_, (h c).2.1.trans ?_, (h c).2.2⟩)
    (Cert.ValuesStepRefIdeal.Value.run (F := Ideal) m' g)
  · clear h
    funext y
    obtain ⟨x, k, d, rfl⟩ : ∃ (x : Fin 256) (k : Fin 8) (d : Fin 128), y = ix3 x k d :=
      ⟨y 0, y 1, y 2, by
        funext a
        match a with
        | ⟨0, _⟩ => rfl
        | ⟨1, _⟩ => rfl
        | ⟨2, _⟩ => rfl⟩
    pointwise
    rfl
  · clear h
    funext y
    obtain ⟨x, n, rfl⟩ : ∃ (x : Fin 256) (n : Fin 1024), y = ix2 x n :=
      ⟨y 0, y 1, by
        funext a
        match a with
        | ⟨0, _⟩ => rfl
        | ⟨1, _⟩ => rfl⟩
    pointwise
    rfl

end Cert.ValuesStepValue
-- ==== Proof.ValuesStepClaims.lean ====
/- The claims of the projection of the sample batch onto the values of the sparse attention. -/
module

public import proofs.«01_k».proof.Defs
public import proofs.«01_k».proof.Proof.Gen.ValuesStep.Frame
public import proofs.«01_k».proof.Proof.ValuesStepValue

@[expose] public section

noncomputable section

namespace Cert.ValuesStepClaims

open Idealize.ShloMosaic Idealize.ShloMosaic.TcCoe Idealize.SL.Sem

theorem frame_kernel : Cert.quiescent_ValuesStep := fun m ρ _ => Cert.ValuesStep.Gen.frame m ρ

theorem frame_ideal : Cert.quiescent_ValuesStepIdeal := fun m ρ _ => Cert.ValuesStepIdeal.Gen.frame m ρ

theorem frame_reference : Cert.quiescent_ValuesStepRefIdeal := fun m ρ _ =>
  (θ_run Cert.ValuesStepRefIdeal.defs _ _).mono (fun r h => ⟨fun c => (h c).2.2, Idealize.ShloMosaic.sem_eq_zero_of_no_sems (by decide) r.2⟩)
    (Cert.ValuesStepRefIdeal.Value.run (F := Ideal) m ρ)

/-- The kernel's results and the reference's are the projection of the same arguments. -/
theorem algebraic : Cert.algebraic_ValuesStepIdeal_ValuesStepRefIdeal := by
  intro m g m' g' _ hagree
  refine ⟨fun c => Cert.ValuesStepValue.G2 m c, fun c => Cert.ValuesStepValue.G3 m c, Cert.ValuesStepValue.kernel m g, ?_⟩
  refine (θ_run Cert.ValuesStepRefIdeal.defs _ _).mono (fun _ h c => ⟨(h c).1.trans ?_, (h c).2.1.trans ?_, (h c).2.2⟩)
    (Cert.ValuesStepValue.reference m' g')
  · rw [(hagree c).1, (hagree c).2]
    rfl
  · rw [(hagree c).1, (hagree c).2]
    rfl

end Cert.ValuesStepClaims
-- ==== Proof.TailStepValue.lean ====
/- The projection of the sample batch's rows onto the band's keys and values: the body's block at an entry, the windows' blocks of the
   staged arrays, the result array, and the reference's result read beside it. -/
module

public import proofs.«01_k».proof.Proof.Gen.TailStepIdeal.Value
public import proofs.«01_k».proof.Proof.Gen.TailStepRefIdeal.Run
public import proofs.«01_k».proof.Proof.ProjMath
public import Idealize.ShloMosaic.Lib.Pointwise
public import Idealize.ShloMosaic.Lib.Claim
public import Idealize.ShloMosaic.Lib.StableHlo.ReadAt

@[expose] public section

set_option maxRecDepth 16384

noncomputable section

namespace Cert.TailStepValue

open Cert.TailStepIdeal Cert.TailStepIdeal.Gen Idealize.ShloMosaic Idealize.ShloMosaic.TcCoe Idealize.SL.Sem
open Idealize.ShloMosaic.Pipeline (Dat)

variable (m : (ℓ : Loc nD τ sig) → Buf (Elt Ideal) ℓ)

/-- The batch row of a row of the result, -/
abbrev tb (x : Fin 256) : Fin 16 := ⟨x.val / 16, by omega⟩

/-- and its place in the batch row. -/
abbrev ts (x : Fin 256) : Fin 16 := ⟨x.val % 16, by omega⟩

/-- Row `x`, projected onto column `j` of the weight. -/
def stepAt (h : S16x16x2048.Idx → EReal) (w : S2048x7248.Idx → EReal) (x : Fin 256) (j : Fin 7248) : EReal :=
  ∑ d : Fin 2048, h (ix3 (tb x) (ts x) d) * w (ix2 d j)

/-- Every row projected onto the 2048 columns that begin at 5200. -/
def stepFn (h : S16x16x2048.Idx → EReal) (w : S2048x7248.Idx → EReal) : S256x2048.Idx → EReal := fun y =>
  stepAt h w (y 0) ⟨5200 + (y 1).val, by have h : (y 1).val < 2048 := (y 1).isLt; omega⟩

theorem hz : (![0, 0] : Fin 2 → Nat) = fun _ => 0 := funext fun a => by fin_cases a <;> rfl

theorem out_apply (x0 : Vec Ideal S256x2048 .bf16) (x1 : Vec Ideal S2048x1024 .bf16) (r : Fin 256) (n : Fin 1024) :
    out0_2 x0 x1 (ix2 r n) = ∑ k : Fin 2048, x0 (ix2 r k) * x1 (ix2 k n) := by
  unfold out0_2
  rw [View.canon_unit_zero (S := S256x1024) hz, View.ld_unit_zero (S := S256x2048) hz, View.ld_unit_zero (S := S2048x1024) hz]
  unfold k0_pay1
  pointwise

/-! ## The staged arrays -/

theorem h_apply (c : Dev nD) (x : Fin 256) (d : Fin 2048) : V m c main_v1 (ix2 x d) = m (c.tc.loc main_arg0) (ix3 (tb x) (ts x) d) := by
  show StableHlo.after hostOps0 (fun b => m (c, b)) (Proc.devRef .tc main_v1) (ix2 x d) = _
  after_reads_simp
  clean_types
  pointwise

theorem w_apply (c : Dev nD) (d n : Fin 2048) : V m c main_v3 (ix2 d n) = m (c.tc.loc main_arg1) (ix2 d ⟨5200 + n.val, by omega⟩) := by
  show StableHlo.after hostOps0 (fun b => m (c, b)) (Proc.devRef .tc main_v3) (ix2 d n) = _
  after_reads_simp
  clean_types
  pointwise

/-! ## Where the windows stand -/

theorem t_lt (t : Fin cfg0.N) : t.val < 2 := by have h := t.isLt; have : cfg0.N = 2 := N_0; omega

/-- A row of a grid point's block, and a column. -/
def row (t : Fin cfg0.N) (r : Fin 256) : Fin 256 := ⟨256 * (t.val / 2) + r.val, by have := t_lt t; omega⟩
def col (t : Fin cfg0.N) (n : Fin 1024) : Fin 2048 := ⟨1024 * (t.val % 2) + n.val, by omega⟩

theorem index_0 : ∀ t : Fin grid0.N, win0_0.index t 0 = t.val / 2 ∧ win0_0.index t 1 = 0 := by decide +kernel
theorem index_1 : ∀ t : Fin grid0.N, win0_1.index t 0 = 0 ∧ win0_1.index t 1 = t.val % 2 := by decide +kernel
theorem index_2 : ∀ t : Fin grid0.N, win0_2.index t 0 = t.val / 2 ∧ win0_2.index t 1 = t.val % 2 := by decide +kernel

theorem emb_0 (t : Fin cfg0.N) (r : Fin 256) (d : Fin 2048) :
    (((cfg0.win 0).blk t).view.emb (ix2 r d) : S256x2048.Idx) = ix2 (row t r) d := by
  have h := index_0 t
  funext a
  apply Fin.ext
  match a with
  | ⟨0, _⟩ => show win0_0.index t (0 : Fin 2) * 256 + 1 * r.val = 256 * (t.val / 2) + r.val; omega
  | ⟨1, _⟩ => show win0_0.index t (1 : Fin 2) * 2048 + 1 * d.val = d.val; omega

theorem emb_1 (t : Fin cfg0.N) (d : Fin 2048) (n : Fin 1024) :
    (((cfg0.win 1).blk t).view.emb (ix2 d n) : S2048x2048.Idx) = ix2 d (col t n) := by
  have h := index_1 t
  funext a
  apply Fin.ext
  match a with
  | ⟨0, _⟩ => show win0_1.index t (0 : Fin 2) * 2048 + 1 * d.val = d.val; omega
  | ⟨1, _⟩ => show win0_1.index t (1 : Fin 2) * 1024 + 1 * n.val = 1024 * (t.val % 2) + n.val; omega

theorem emb_2 (t : Fin cfg0.N) (r : Fin 256) (n : Fin 1024) :
    (((cfg0.win 2).blk t).view.emb (ix2 r n) : S256x2048.Idx) = ix2 (row t r) (col t n) := by
  have h := index_2 t
  funext a
  apply Fin.ext
  match a with
  | ⟨0, _⟩ => show win0_2.index t (0 : Fin 2) * 256 + 1 * r.val = 256 * (t.val / 2) + r.val; omega
  | ⟨1, _⟩ => show win0_2.index t (1 : Fin 2) * 1024 + 1 * n.val = 1024 * (t.val % 2) + n.val; omega

theorem blk_0 (c : Dev nD) (t : Fin cfg0.N) (r : Fin 256) (d : Fin 2048) :
    (iblk m c 0 t : Vec Ideal S256x2048 .bf16) (ix2 r d) = m (c.tc.loc main_arg0) (ix3 (tb (row t r)) (ts (row t r)) d) := by
  show V m c main_v1 (((cfg0.win 0).blk t).view.emb (ix2 r d)) = _
  rw [emb_0, h_apply]

theorem blk_1 (c : Dev nD) (t : Fin cfg0.N) (d : Fin 2048) (n : Fin 1024) :
    (iblk m c 1 t : Vec Ideal S2048x1024 .bf16) (ix2 d n) = m (c.tc.loc main_arg1) (ix2 d ⟨5200 + (col t n).val, by omega⟩) := by
  show V m c main_v3 (((cfg0.win 1).blk t).view.emb (ix2 d n)) = _
  rw [emb_1, w_apply]

/-! ## The result array -/

/-- A body's block is the projection where it stands, given what the windows hold. -/
theorem block_fn (h : S16x16x2048.Idx → EReal) (w : S2048x7248.Idx → EReal) (x0 : Vec Ideal S256x2048 .bf16) (x1 : Vec Ideal S2048x1024 .bf16)
    (t : Fin cfg0.N) (h0 : ∀ r d, x0 (ix2 r d) = h (ix3 (tb (row t r)) (ts (row t r)) d))
    (h1 : ∀ (d : Fin 2048) (n : Fin 1024), x1 (ix2 d n) = w (ix2 d ⟨5200 + (col t n).val, by omega⟩)) (r : Fin 256) (n : Fin 1024) :
    out0_2 x0 x1 (ix2 r n) = stepFn h w (ix2 (row t r) (col t n)) := by
  rw [out_apply]
  simp only [h0, h1]
  rfl

/-- What is cut from a block that agrees with `G` where the block stands is the block of `G`. -/
theorem cut_eq (t : Fin cfg0.N) (X : Vec Ideal S256x1024 .f32) (G : Vec Ideal S256x2048 .f32)
    (e : ∀ r n, X (ix2 r n) = G (ix2 (row t r) (col t n))) :
    (cfg0.win 2).cut (grid0.coords t) X = ((cfg0.win 2).blk t).view.read (Elt Ideal) G := by
  funext j
  obtain ⟨r, n, rfl⟩ : ∃ (r : Fin 256) (n : Fin 1024), j = ix2 r n :=
    ⟨j 0, j 1, by
      funext a
      match a with
      | ⟨0, _⟩ => rfl
      | ⟨1, _⟩ => rfl⟩
  show X (ix2 r n) = G (((cfg0.win 2).blk t).view.emb (ix2 r n))
  rw [emb_2, e]

/-- The projection of device `c`'s arguments. -/
def G (c : Dev nD) : Vec Ideal S256x2048 .f32 := stepFn (m (c.tc.loc main_arg0)) (m (c.tc.loc main_arg1))

theorem flushed_eq (c : Dev nD) (t : Fin cfg0.N) :
    (dats m 0 c).flushed 2 t = ((cfg0.win 2).blk t).view.read (Elt Ideal) (G m c) := by
  rw [Cert.TailStepIdeal.Value.flushed2]
  exact cut_eq t _ _ fun r n => block_fn _ _ _ _ t (fun r d => blk_0 m c t r d) (fun d n => blk_1 m c t d n) r n

/-- The blocks cover the array. -/
theorem cover (i : S256x2048.Idx) : ∃ t : Fin cfg0.N, (cfg0.win 2).flush t = true ∧ i ∈ ((cfg0.win 2).blk t).view.set := by
  have h0 : (i 0 : Nat) < 256 := (i 0).isLt
  have h1 : (i 1 : Nat) < 2048 := (i 1).isLt
  have hN : cfg0.N = 2 := N_0
  refine ⟨⟨(i 0).val / 256 * 2 + (i 1).val / 1024, by omega⟩, flush0_2 _, ?_⟩
  generalize ht : (⟨(i 0).val / 256 * 2 + (i 1).val / 1024, by omega⟩ : Fin cfg0.N) = t
  have hv : t.val = (i 0).val / 256 * 2 + (i 1).val / 1024 := by rw [← ht]
  have hi : i = ((cfg0.win 2).blk t).view.emb (ix2 (⟨(i 0).val % 256, by omega⟩ : Fin 256) (⟨(i 1).val % 1024, by omega⟩ : Fin 1024)) := by
    rw [emb_2]
    funext a
    apply Fin.ext
    match a with
    | ⟨0, _⟩ => show (i 0).val = 256 * (t.val / 2) + (i 0).val % 256; omega
    | ⟨1, _⟩ => show (i 1).val = 1024 * (t.val % 2) + (i 1).val % 1024; omega
  rw [hi]
  exact ((cfg0.win 2).blk t).view.emb_mem_set _

/-- So the result array ends holding the projection. -/
theorem final (c : Dev nD) : (dats m 0 c).arrAt 2 cfg0.N = G m c :=
  (dats m 0 c).arrAt_eq_of_cover 2 (G m c) (fun t _ => flushed_eq m c t) cover

/-! ## The reference -/

/-- The reference ends with the projection of its arguments. -/
theorem reference (m' : (ℓ : Loc Cert.TailStepRefIdeal.nD Cert.TailStepRefIdeal.τ Cert.TailStepRefIdeal.sig) → Buf (Elt Ideal) ℓ)
    (g : Dev Cert.TailStepRefIdeal.nD → PrngReg) :
    θ_run (Cert.TailStepRefIdeal.defs (F := Ideal)) (onTc (τ := Cert.TailStepRefIdeal.τ) (Cert.TailStepRefIdeal.main (F := Ideal))) ⟨m', fun _ => 0, g⟩ fun r =>
      ∀ c : Dev Cert.TailStepRefIdeal.nD,
        r.2.mem ((c.tc : Thread Cert.TailStepRefIdeal.nD Cert.TailStepRefIdeal.τ).loc Cert.TailStepRefIdeal.main_v11)
          = stepFn (m' (c.tc.loc Cert.TailStepRefIdeal.main_arg0)) (m' (c.tc.loc Cert.TailStepRefIdeal.main_arg1))
        ∧ r.2.mem ((c.tc : Thread Cert.TailStepRefIdeal.nD Cert.TailStepRefIdeal.τ).loc Cert.TailStepRefIdeal.main_arg0) = m' ((c.tc : Thread Cert.TailStepRefIdeal.nD Cert.TailStepRefIdeal.τ).loc Cert.TailStepRefIdeal.main_arg0)
        ∧ r.2.mem ((c.tc : Thread Cert.TailStepRefIdeal.nD Cert.TailStepRefIdeal.τ).loc Cert.TailStepRefIdeal.main_arg1) = m' ((c.tc : Thread Cert.TailStepRefIdeal.nD Cert.TailStepRefIdeal.τ).loc Cert.TailStepRefIdeal.main_arg1) := by
  refine (θ_run Cert.TailStepRefIdeal.defs _ _).mono (fun _ h c => ⟨(h c).1.trans ?_, (h c).2⟩) (Cert.TailStepRefIdeal.Value.run (F := Ideal) m' g)
  clear h
  funext y
  obtain ⟨x, n, rfl⟩ : ∃ (x : Fin 256) (n : Fin 2048), y = ix2 x n :=
    ⟨y 0, y 1, by
      funext a
      match a with
      | ⟨0, _⟩ => rfl
      | ⟨1, _⟩ => rfl⟩
  pointwise
  exact Cert.ProjMath.halves (stepAt _ _ x) n

end Cert.TailStepValue
-- ==== Proof.TailStepClaims.lean ====
/- The claims of the projection of the sample batch onto the keys and values of the band. -/
module

public import proofs.«01_k».proof.Defs
public import proofs.«01_k».proof.Proof.Gen.TailStep.Frame
public import proofs.«01_k».proof.Proof.TailStepValue

@[expose] public section

noncomputable section

namespace Cert.TailStepClaims

open Idealize.ShloMosaic Idealize.ShloMosaic.TcCoe Idealize.SL.Sem

theorem frame_kernel : Cert.quiescent_TailStep := fun m ρ _ => Cert.TailStep.Gen.frame m ρ

theorem frame_ideal : Cert.quiescent_TailStepIdeal := fun m ρ _ => Cert.TailStepIdeal.Gen.frame m ρ

theorem frame_reference : Cert.quiescent_TailStepRefIdeal := fun m ρ _ =>
  (θ_run Cert.TailStepRefIdeal.defs _ _).mono (fun r h => ⟨fun c => (h c).2, Idealize.ShloMosaic.sem_eq_zero_of_no_sems (by decide) r.2⟩)
    (Cert.TailStepRefIdeal.Value.run (F := Ideal) m ρ)

/-- The kernel's result and the reference's are the projection of the same arguments. -/
theorem algebraic : Cert.algebraic_TailStepIdeal_TailStepRefIdeal := by
  intro m g m' g' _ hagree
  refine ⟨fun c => Cert.TailStepValue.G m c, ?_, ?_⟩
  · exact (θ_run Cert.TailStepIdeal.defs _ _).mono (fun _ h c => ⟨(h c).1.trans (Cert.TailStepValue.final m c), (h c).2⟩)
      (Cert.TailStepIdeal.Value.run_blocks (F := Ideal) m g)
  · refine (θ_run Cert.TailStepRefIdeal.defs _ _).mono (fun _ h c => ⟨(h c).1.trans ?_, (h c).2⟩)
      (Cert.TailStepValue.reference m' g')
    rw [(hagree c).1, (hagree c).2]
    rfl

end Cert.TailStepClaims
-- ==== Proof.QueryValue.lean ====
/- The projection of the normed input onto the band's queries: the body's block at an entry, the windows' blocks of the
   staged arrays, the result array, and the reference's result read beside it. -/
module

public import proofs.«01_k».proof.Proof.Gen.QueryIdeal.Value
public import proofs.«01_k».proof.Proof.Gen.QueryRefIdeal.Run
public import Idealize.ShloMosaic.Lib.Pointwise
public import Idealize.ShloMosaic.Lib.Claim
public import Idealize.ShloMosaic.Lib.StableHlo.ReadAt

@[expose] public section

set_option maxRecDepth 16384

noncomputable section

namespace Cert.QueryValue

open Cert.QueryIdeal Cert.QueryIdeal.Gen Idealize.ShloMosaic Idealize.ShloMosaic.TcCoe Idealize.SL.Sem
open Idealize.ShloMosaic.Pipeline (Dat)

variable (m : (ℓ : Loc nD τ sig) → Buf (Elt Ideal) ℓ)

/-- The batch row of a token, -/
abbrev tb (x : Fin 32768) : Fin 4 := ⟨x.val / 8192, by omega⟩

/-- and its place in the batch row. -/
abbrev ts (x : Fin 32768) : Fin 8192 := ⟨x.val % 8192, by omega⟩

/-- Token `x`, projected onto column `j` of the weight. -/
def queryAt (h : S4x8192x2048.Idx → EReal) (w : S2048x7248.Idx → EReal) (x : Fin 32768) (j : Fin 7248) : EReal :=
  ∑ d : Fin 2048, h (ix3 (tb x) (ts x) d) * w (ix2 d j)

/-- Every token projected onto the 1024 columns that begin at 4176. -/
def queryFn (h : S4x8192x2048.Idx → EReal) (w : S2048x7248.Idx → EReal) : S32768x1024.Idx → EReal := fun y =>
  queryAt h w (y 0) ⟨4176 + (y 1).val, by have h : (y 1).val < 1024 := (y 1).isLt; omega⟩

theorem hz : (![0, 0] : Fin 2 → Nat) = fun _ => 0 := funext fun a => by fin_cases a <;> rfl

theorem out_apply (x0 : Vec Ideal S1024x2048 .bf16) (x1 : Vec Ideal S2048x1024 .bf16) (r n : Fin 1024) :
    out0_2 x0 x1 (ix2 r n) = ∑ k : Fin 2048, x0 (ix2 r k) * x1 (ix2 k n) := by
  unfold out0_2
  rw [View.canon_unit_zero (S := S1024x1024) hz, View.ld_unit_zero (S := S1024x2048) hz, View.ld_unit_zero (S := S2048x1024) hz]
  unfold k0_pay1
  pointwise

/-! ## The staged arrays -/

theorem h_apply (c : Dev nD) (x : Fin 32768) (d : Fin 2048) : V m c main_v1 (ix2 x d) = m (c.tc.loc main_arg0) (ix3 (tb x) (ts x) d) := by
  show StableHlo.after hostOps0 (fun b => m (c, b)) (Proc.devRef .tc main_v1) (ix2 x d) = _
  after_reads_simp
  clean_types
  pointwise

theorem w_apply (c : Dev nD) (d : Fin 2048) (n : Fin 1024) : V m c main_v3 (ix2 d n) = m (c.tc.loc main_arg1) (ix2 d ⟨4176 + n.val, by omega⟩) := by
  show StableHlo.after hostOps0 (fun b => m (c, b)) (Proc.devRef .tc main_v3) (ix2 d n) = _
  after_reads_simp
  clean_types
  pointwise

/-! ## Where the windows stand -/

theorem t_lt (t : Fin cfg0.N) : t.val < 32 := by have h := t.isLt; have : cfg0.N = 32 := N_0; omega

/-- A row of a grid point's block. -/
def row (t : Fin cfg0.N) (r : Fin 1024) : Fin 32768 := ⟨1024 * t.val + r.val, by have := t_lt t; omega⟩

theorem index_0 : ∀ t : Fin grid0.N, win0_0.index t 0 = t.val ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = t.val ∧ win0_2.index t 1 = 0 := by decide +kernel

theorem emb_0 (t : Fin cfg0.N) (r : Fin 1024) (d : Fin 2048) :
    (((cfg0.win 0).blk t).view.emb (ix2 r d) : S32768x2048.Idx) = ix2 (row t r) d := by
  have h := index_0 t
  funext a
  apply Fin.ext
  match a with
  | ⟨0, _⟩ => show win0_0.index t (0 : Fin 2) * 1024 + 1 * r.val = 1024 * t.val + r.val; omega
  | ⟨1, _⟩ => show win0_0.index t (1 : Fin 2) * 2048 + 1 * d.val = d.val; omega

theorem emb_1 (t : Fin cfg0.N) (d : Fin 2048) (n : Fin 1024) :
    (((cfg0.win 1).blk t).view.emb (ix2 d n) : S2048x1024.Idx) = ix2 d n := by
  have h := index_1 t
  funext a
  apply Fin.ext
  match a with
  | ⟨0, _⟩ => show win0_1.index t (0 : Fin 2) * 2048 + 1 * d.val = d.val; omega
  | ⟨1, _⟩ => show win0_1.index t (1 : Fin 2) * 1024 + 1 * n.val = n.val; omega

theorem emb_2 (t : Fin cfg0.N) (r n : Fin 1024) :
    (((cfg0.win 2).blk t).view.emb (ix2 r n) : S32768x1024.Idx) = ix2 (row t r) n := by
  have h := index_2 t
  funext a
  apply Fin.ext
  match a with
  | ⟨0, _⟩ => show win0_2.index t (0 : Fin 2) * 1024 + 1 * r.val = 1024 * t.val + r.val; omega
  | ⟨1, _⟩ => show win0_2.index t (1 : Fin 2) * 1024 + 1 * n.val = n.val; omega

theorem blk_0 (c : Dev nD) (t : Fin cfg0.N) (r : Fin 1024) (d : Fin 2048) :
    (iblk m c 0 t : Vec Ideal S1024x2048 .bf16) (ix2 r d) = m (c.tc.loc main_arg0) (ix3 (tb (row t r)) (ts (row t r)) d) := by
  show V m c main_v1 (((cfg0.win 0).blk t).view.emb (ix2 r d)) = _
  rw [emb_0, h_apply]

theorem blk_1 (c : Dev nD) (t : Fin cfg0.N) (d : Fin 2048) (n : Fin 1024) :
    (iblk m c 1 t : Vec Ideal S2048x1024 .bf16) (ix2 d n) = m (c.tc.loc main_arg1) (ix2 d ⟨4176 + n.val, by omega⟩) := by
  show V m c main_v3 (((cfg0.win 1).blk t).view.emb (ix2 d n)) = _
  rw [emb_1, w_apply]

/-! ## The result array -/

/-- A body's block is the projection where it stands, given what the windows hold. -/
theorem block_fn (h : S4x8192x2048.Idx → EReal) (w : S2048x7248.Idx → EReal) (x0 : Vec Ideal S1024x2048 .bf16) (x1 : Vec Ideal S2048x1024 .bf16)
    (t : Fin cfg0.N) (h0 : ∀ r d, x0 (ix2 r d) = h (ix3 (tb (row t r)) (ts (row t r)) d))
    (h1 : ∀ (d : Fin 2048) (n : Fin 1024), x1 (ix2 d n) = w (ix2 d ⟨4176 + n.val, by omega⟩)) (r n : Fin 1024) :
    out0_2 x0 x1 (ix2 r n) = queryFn h w (ix2 (row t r) n) := by
  rw [out_apply]
  simp only [h0, h1]
  rfl

/-- What is cut from a block that agrees with `G` where the block stands is the block of `G`. -/
theorem cut_eq (t : Fin cfg0.N) (X : Vec Ideal S1024x1024 .bf16) (G : Vec Ideal S32768x1024 .bf16)
    (e : ∀ r n, X (ix2 r n) = G (ix2 (row t r) n)) :
    (cfg0.win 2).cut (grid0.coords t) X = ((cfg0.win 2).blk t).view.read (Elt Ideal) G := by
  funext j
  obtain ⟨r, n, rfl⟩ : ∃ (r : Fin 1024) (n : Fin 1024), j = ix2 r n :=
    ⟨j 0, j 1, by
      funext a
      match a with
      | ⟨0, _⟩ => rfl
      | ⟨1, _⟩ => rfl⟩
  show X (ix2 r n) = G (((cfg0.win 2).blk t).view.emb (ix2 r n))
  rw [emb_2, e]

/-- The projection of device `c`'s arguments. -/
def G (c : Dev nD) : Vec Ideal S32768x1024 .bf16 := queryFn (m (c.tc.loc main_arg0)) (m (c.tc.loc main_arg1))

theorem flushed_eq (c : Dev nD) (t : Fin cfg0.N) :
    (dats m 0 c).flushed 2 t = ((cfg0.win 2).blk t).view.read (Elt Ideal) (G m c) := by
  rw [Cert.QueryIdeal.Value.flushed2]
  exact cut_eq t _ _ fun r n => block_fn _ _ _ _ t (fun r d => blk_0 m c t r d) (fun d n => blk_1 m c t d n) r n

/-- The blocks cover the array. -/
theorem cover (i : S32768x1024.Idx) : ∃ t : Fin cfg0.N, (cfg0.win 2).flush t = true ∧ i ∈ ((cfg0.win 2).blk t).view.set := by
  have h0 : (i 0 : Nat) < 32768 := (i 0).isLt
  have h1 : (i 1 : Nat) < 1024 := (i 1).isLt
  have hN : cfg0.N = 32 := N_0
  refine ⟨⟨(i 0).val / 1024, by omega⟩, flush0_2 _, ?_⟩
  generalize ht : (⟨(i 0).val / 1024, by omega⟩ : Fin cfg0.N) = t
  have hv : t.val = (i 0).val / 1024 := by rw [← ht]
  have hi : i = ((cfg0.win 2).blk t).view.emb (ix2 (⟨(i 0).val % 1024, by omega⟩ : Fin 1024) (⟨(i 1).val % 1024, by omega⟩ : Fin 1024)) := by
    rw [emb_2]
    funext a
    apply Fin.ext
    match a with
    | ⟨0, _⟩ => show (i 0).val = 1024 * t.val + (i 0).val % 1024; omega
    | ⟨1, _⟩ => show (i 1).val = (i 1).val % 1024; omega
  rw [hi]
  exact ((cfg0.win 2).blk t).view.emb_mem_set _

/-- So the result array ends holding the projection. -/
theorem final (c : Dev nD) : (dats m 0 c).arrAt 2 cfg0.N = G m c :=
  (dats m 0 c).arrAt_eq_of_cover 2 (G m c) (fun t _ => flushed_eq m c t) cover

/-! ## The reference -/

/-- The reference ends with the projection of its arguments. -/
theorem reference (m' : (ℓ : Loc Cert.QueryRefIdeal.nD Cert.QueryRefIdeal.τ Cert.QueryRefIdeal.sig) → Buf (Elt Ideal) ℓ)
    (g : Dev Cert.QueryRefIdeal.nD → PrngReg) :
    θ_run (Cert.QueryRefIdeal.defs (F := Ideal)) (onTc (τ := Cert.QueryRefIdeal.τ) (Cert.QueryRefIdeal.main (F := Ideal))) ⟨m', fun _ => 0, g⟩ fun r =>
      ∀ c : Dev Cert.QueryRefIdeal.nD,
        r.2.mem ((c.tc : Thread Cert.QueryRefIdeal.nD Cert.QueryRefIdeal.τ).loc Cert.QueryRefIdeal.main_v11)
          = queryFn (m' (c.tc.loc Cert.QueryRefIdeal.main_arg0)) (m' (c.tc.loc Cert.QueryRefIdeal.main_arg1))
        ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
        ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1) := by
  refine (θ_run Cert.QueryRefIdeal.defs _ _).mono (fun _ h c => ⟨(h c).1.trans ?_, (h c).2⟩) (Cert.QueryRefIdeal.Value.run (F := Ideal) m' g)
  clear h
  funext y
  obtain ⟨x, n, rfl⟩ : ∃ (x : Fin 32768) (n : Fin 1024), y = ix2 x n :=
    ⟨y 0, y 1, by
      funext a
      match a with
      | ⟨0, _⟩ => rfl
      | ⟨1, _⟩ => rfl⟩
  pointwise
  rfl

end Cert.QueryValue
-- ==== Proof.QueryClaims.lean ====
/- The claims of the projection onto the queries of the band. -/
module

public import proofs.«01_k».proof.Defs
public import proofs.«01_k».proof.Proof.Gen.Query.Frame
public import proofs.«01_k».proof.Proof.QueryValue

@[expose] public section

noncomputable section

namespace Cert.QueryClaims

open Idealize.ShloMosaic Idealize.ShloMosaic.TcCoe Idealize.SL.Sem

theorem frame_kernel : Cert.quiescent_Query := fun m ρ _ => Cert.Query.Gen.frame m ρ

theorem frame_ideal : Cert.quiescent_QueryIdeal := fun m ρ _ => Cert.QueryIdeal.Gen.frame m ρ

theorem frame_reference : Cert.quiescent_QueryRefIdeal := fun m ρ _ =>
  (θ_run Cert.QueryRefIdeal.defs _ _).mono (fun r h => ⟨fun c => (h c).2, Idealize.ShloMosaic.sem_eq_zero_of_no_sems (by decide) r.2⟩)
    (Cert.QueryRefIdeal.Value.run (F := Ideal) m ρ)

/-- The kernel's result and the reference's are the projection of the same arguments. -/
theorem algebraic : Cert.algebraic_QueryIdeal_QueryRefIdeal := by
  intro m g m' g' _ hagree
  refine ⟨fun c => Cert.QueryValue.G m c, ?_, ?_⟩
  · exact (θ_run Cert.QueryIdeal.defs _ _).mono (fun _ h c => ⟨(h c).1.trans (Cert.QueryValue.final m c), (h c).2⟩)
      (Cert.QueryIdeal.Value.run_blocks (F := Ideal) m g)
  · refine (θ_run Cert.QueryRefIdeal.defs _ _).mono (fun _ h c => ⟨(h c).1.trans ?_, (h c).2⟩)
      (Cert.QueryValue.reference m' g')
    rw [(hagree c).1, (hagree c).2]
    rfl

end Cert.QueryClaims
-- ==== Proof.IndexFinite.lean ====
/- The precondition of the two projections that run at twice the precision: the normed input and the weight are real
   numbers. Then what rounding leaves behind is zero, and the three products add up to the one product. -/
module

public import proofs.«01_k».proof.Pre_finite_prompt
public import proofs.«01_k».proof.Pre_finite_step
public import proofs.«01_k».proof.Proof.BandFinite

@[expose] public section

noncomputable section

namespace Cert.IndexFinite

open Idealize.ShloMosaic

/-- A real number less itself is zero. -/
theorem sub_zero_of (x : EReal) (h : ∃ r : ℝ, x = (r : EReal)) : x - x = 0 := by
  obtain ⟨r, rfl⟩ := h
  exact EReal.sub_self (EReal.coe_ne_top r) (EReal.coe_ne_bot r)

/-- The product of the rounded factors and the two products with a remainder, when the remainders are those of real numbers. -/
theorem split_sum {n : Nat} (f g : Fin n → EReal) (hf : ∀ d, ∃ r : ℝ, f d = (r : EReal)) (hg : ∀ d, ∃ r : ℝ, g d = (r : EReal)) :
    (∑ d, f d * g d) + (∑ d, (f d - f d) * g d) + (∑ d, f d * (g d - g d)) = ∑ d, f d * g d := by
  simp only [fun d => sub_zero_of _ (hf d), fun d => sub_zero_of _ (hg d), zero_mul, mul_zero, Finset.sum_const_zero, add_zero]

section

open Cert.Pre_finite_prompt Cert.Pre_finite_prompt.Facts

variable [Cert.Pre_finite_prompt.Facts]

theorem fn_real (h : FVec Ideal S4x8192x2048 .f32) (w : FVec Ideal S2048x7248 .f32) (j : S_.Idx) (e : fn h w j = 1#1) :
    (∀ i, ∃ r : ℝ, h i = (r : EReal)) ∧ ∀ i, ∃ r : ℝ, w i = (r : EReal) := by
  have hs : Subsingleton S_.Idx := ⟨fun a b => funext fun x => x.elim0⟩
  unfold fn at e
  obtain ⟨h1, h2⟩ := IntOp.andi_eq_one.mp e
  exact ⟨fun i => Cert.BandFinite.real_of_lt _ (Host.reduce_andi_all _ _ _ _ j h1 i),
    fun i => Cert.BandFinite.real_of_lt _ (Host.reduce_andi_all _ _ _ _ j h2 i)⟩

end

section

open Cert.Pre_finite_step Cert.Pre_finite_step.Facts

variable [Cert.Pre_finite_step.Facts]

theorem step_real (h : FVec Ideal S16x16x2048 .f32) (w : FVec Ideal S2048x7248 .f32) (j : S_.Idx) (e : fn h w j = 1#1) :
    (∀ i, ∃ r : ℝ, h i = (r : EReal)) ∧ ∀ i, ∃ r : ℝ, w i = (r : EReal) := by
  have hs : Subsingleton S_.Idx := ⟨fun a b => funext fun x => x.elim0⟩
  unfold fn at e
  obtain ⟨h1, h2⟩ := IntOp.andi_eq_one.mp e
  exact ⟨fun i => Cert.BandFinite.real_of_lt _ (Host.reduce_andi_all _ _ _ _ j h1 i),
    fun i => Cert.BandFinite.real_of_lt _ (Host.reduce_andi_all _ _ _ _ j h2 i)⟩

end

end Cert.IndexFinite
-- ==== Proof.IndexQueryValue.lean ====
/- The projection of the normed input onto the indexer's queries, at twice the precision: the body's block at an entry, the windows' blocks of the
   staged arrays, the result array, and the reference's result read beside it. -/
module

public import proofs.«01_k».proof.Proof.Gen.IndexQueryIdeal.Value
public import proofs.«01_k».proof.Proof.Gen.IndexQueryRefIdeal.Run
public import proofs.«01_k».proof.Proof.IndexFinite
public import Idealize.ShloMosaic.Lib.Pointwise
public import Idealize.ShloMosaic.Lib.Claim
public import Idealize.ShloMosaic.Lib.StableHlo.ReadAt

@[expose] public section

set_option maxRecDepth 16384

noncomputable section

namespace Cert.IndexQueryValue

open Cert.IndexQueryIdeal Cert.IndexQueryIdeal.Gen Idealize.ShloMosaic Idealize.ShloMosaic.TcCoe Idealize.SL.Sem
open Idealize.ShloMosaic.Pipeline (Dat)

variable (m : (ℓ : Loc nD τ sig) → Buf (Elt Ideal) ℓ)

/-- The batch row of a token, -/
abbrev tb (x : Fin 32768) : Fin 4 := ⟨x.val / 8192, by omega⟩

/-- and its place in the batch row. -/
abbrev ts (x : Fin 32768) : Fin 8192 := ⟨x.val % 8192, by omega⟩

/-- Token `x`, projected onto column `j` of the weight. -/
def queryAt (h : S4x8192x2048.Idx → EReal) (w : S2048x7248.Idx → EReal) (x : Fin 32768) (j : Fin 7248) : EReal :=
  ∑ d : Fin 2048, h (ix3 (tb x) (ts x) d) * w (ix2 d j)

/-- Every token projected onto the 1024 columns that begin at 3072. -/
def queryFn (h : S4x8192x2048.Idx → EReal) (w : S2048x7248.Idx → EReal) : S32768x1024.Idx → EReal := fun y =>
  queryAt h w (y 0) ⟨3072 + (y 1).val, by have h : (y 1).val < 1024 := (y 1).isLt; omega⟩

theorem hz : (![0, 0] : Fin 2 → Nat) = fun _ => 0 := funext fun a => by fin_cases a <;> rfl

theorem out_apply (x0 x1 : Vec Ideal S1024x2048 .bf16) (x2 x3 : Vec Ideal S2048x1024 .bf16) (r n : Fin 1024) :
    out0_4 x0 x1 x2 x3 (ix2 r n) = (∑ k : Fin 2048, x0 (ix2 r k) * x2 (ix2 k n)) + (∑ k : Fin 2048, x1 (ix2 r k) * x2 (ix2 k n))
      + (∑ k : Fin 2048, x0 (ix2 r k) * x3 (ix2 k n)) := by
  unfold out0_4
  rw [View.canon_unit_zero (S := S1024x1024) hz]
  simp only [View.ld_unit_zero (S := S1024x2048) hz, View.ld_unit_zero (S := S2048x1024) hz]
  unfold k0_pay1
  pointwise

/-! ## The staged arrays -/

variable (h : S4x8192x2048.Idx → EReal) (w : S2048x7248.Idx → EReal)

theorem hi_apply (c : Dev nD) (eh : m (c.tc.loc main_arg0) = h) (x : Fin 32768) (d : Fin 2048) :
    V m c main_v9 (ix2 x d) = h (ix3 (tb x) (ts x) d) := by
  subst eh
  show StableHlo.after hostOps0 (fun b => m (c, b)) (Proc.devRef .tc main_v9) (ix2 x d) = _
  after_reads_simp
  clean_types
  pointwise

theorem lo_apply (c : Dev nD) (eh : m (c.tc.loc main_arg0) = h) (x : Fin 32768) (d : Fin 2048) :
    V m c main_v10 (ix2 x d) = h (ix3 (tb x) (ts x) d) - h (ix3 (tb x) (ts x) d) := by
  subst eh
  show StableHlo.after hostOps0 (fun b => m (c, b)) (Proc.devRef .tc main_v10) (ix2 x d) = _
  after_reads_simp
  clean_types
  pointwise

theorem whi_apply (c : Dev nD) (ew : m (c.tc.loc main_arg1) = w) (d : Fin 2048) (n : Fin 1024) :
    V m c main_v5 (ix2 d n) = w (ix2 d ⟨3072 + n.val, by omega⟩) := by
  subst ew
  show StableHlo.after hostOps0 (fun b => m (c, b)) (Proc.devRef .tc main_v5) (ix2 d n) = _
  after_reads_simp
  clean_types
  pointwise

theorem wlo_apply (c : Dev nD) (ew : m (c.tc.loc main_arg1) = w) (d : Fin 2048) (n : Fin 1024) :
    V m c main_v8 (ix2 d n) = w (ix2 d ⟨3072 + n.val, by omega⟩) - w (ix2 d ⟨3072 + n.val, by omega⟩) := by
  subst ew
  show StableHlo.after hostOps0 (fun b => m (c, b)) (Proc.devRef .tc main_v8) (ix2 d n) = _
  after_reads_simp
  clean_types
  pointwise

/-! ## Where the windows stand -/

theorem t_lt (t : Fin cfg0.N) : t.val < 32 := by have h := t.isLt; have : cfg0.N = 32 := N_0; omega

/-- A row of a grid point's block. -/
def row (t : Fin cfg0.N) (r : Fin 1024) : Fin 32768 := ⟨1024 * t.val + r.val, by have := t_lt t; omega⟩

theorem index_0 : ∀ t : Fin grid0.N, win0_0.index t 0 = t.val ∧ win0_0.index t 1 = 0 := by decide +kernel
theorem index_1 : ∀ t : Fin grid0.N, win0_1.index t 0 = t.val ∧ win0_1.index t 1 = 0 := by decide +kernel
theorem index_2 : ∀ t : Fin grid0.N, win0_2.index t 0 = 0 ∧ win0_2.index t 1 = 0 := by decide +kernel
theorem index_3 : ∀ t : Fin grid0.N, win0_3.index t 0 = 0 ∧ win0_3.index t 1 = 0 := by decide +kernel
theorem index_4 : ∀ t : Fin grid0.N, win0_4.index t 0 = t.val ∧ win0_4.index t 1 = 0 := by decide +kernel

theorem emb_0 (t : Fin cfg0.N) (r : Fin 1024) (d : Fin 2048) :
    (((cfg0.win 0).blk t).view.emb (ix2 r d) : S32768x2048.Idx) = ix2 (row t r) d := by
  have h := index_0 t
  funext a
  apply Fin.ext
  match a with
  | ⟨0, _⟩ => show win0_0.index t (0 : Fin 2) * 1024 + 1 * r.val = 1024 * t.val + r.val; omega
  | ⟨1, _⟩ => show win0_0.index t (1 : Fin 2) * 2048 + 1 * d.val = d.val; omega

theorem emb_1 (t : Fin cfg0.N) (r : Fin 1024) (d : Fin 2048) :
    (((cfg0.win 1).blk t).view.emb (ix2 r d) : S32768x2048.Idx) = ix2 (row t r) d := by
  have h := index_1 t
  funext a
  apply Fin.ext
  match a with
  | ⟨0, _⟩ => show win0_1.index t (0 : Fin 2) * 1024 + 1 * r.val = 1024 * t.val + r.val; omega
  | ⟨1, _⟩ => show win0_1.index t (1 : Fin 2) * 2048 + 1 * d.val = d.val; omega

theorem emb_2 (t : Fin cfg0.N) (d : Fin 2048) (n : Fin 1024) :
    (((cfg0.win 2).blk t).view.emb (ix2 d n) : S2048x1024.Idx) = ix2 d n := by
  have h := index_2 t
  funext a
  apply Fin.ext
  match a with
  | ⟨0, _⟩ => show win0_2.index t (0 : Fin 2) * 2048 + 1 * d.val = d.val; omega
  | ⟨1, _⟩ => show win0_2.index t (1 : Fin 2) * 1024 + 1 * n.val = n.val; omega

theorem emb_3 (t : Fin cfg0.N) (d : Fin 2048) (n : Fin 1024) :
    (((cfg0.win 3).blk t).view.emb (ix2 d n) : S2048x1024.Idx) = ix2 d n := by
  have h := index_3 t
  funext a
  apply Fin.ext
  match a with
  | ⟨0, _⟩ => show win0_3.index t (0 : Fin 2) * 2048 + 1 * d.val = d.val; omega
  | ⟨1, _⟩ => show win0_3.index t (1 : Fin 2) * 1024 + 1 * n.val = n.val; omega

theorem emb_4 (t : Fin cfg0.N) (r n : Fin 1024) :
    (((cfg0.win 4).blk t).view.emb (ix2 r n) : S32768x1024.Idx) = ix2 (row t r) n := by
  have h := index_4 t
  funext a
  apply Fin.ext
  match a with
  | ⟨0, _⟩ => show win0_4.index t (0 : Fin 2) * 1024 + 1 * r.val = 1024 * t.val + r.val; omega
  | ⟨1, _⟩ => show win0_4.index t (1 : Fin 2) * 1024 + 1 * n.val = n.val; omega

theorem blk_0 (c : Dev nD) (eh : m (c.tc.loc main_arg0) = h) (t : Fin cfg0.N) (r : Fin 1024) (d : Fin 2048) :
    (iblk m c 0 t : Vec Ideal S1024x2048 .bf16) (ix2 r d) = h (ix3 (tb (row t r)) (ts (row t r)) d) := by
  show V m c main_v9 (((cfg0.win 0).blk t).view.emb (ix2 r d)) = _
  rw [emb_0, hi_apply m h c eh]

theorem blk_1 (c : Dev nD) (eh : m (c.tc.loc main_arg0) = h) (t : Fin cfg0.N) (r : Fin 1024) (d : Fin 2048) :
    (iblk m c 1 t : Vec Ideal S1024x2048 .bf16) (ix2 r d) = h (ix3 (tb (row t r)) (ts (row t r)) d) - h (ix3 (tb (row t r)) (ts (row t r)) d) := by
  show V m c main_v10 (((cfg0.win 1).blk t).view.emb (ix2 r d)) = _
  rw [emb_1, lo_apply m h c eh]

theorem blk_2 (c : Dev nD) (ew : m (c.tc.loc main_arg1) = w) (t : Fin cfg0.N) (d : Fin 2048) (n : Fin 1024) :
    (iblk m c 2 t : Vec Ideal S2048x1024 .bf16) (ix2 d n) = w (ix2 d ⟨3072 + n.val, by omega⟩) := by
  show V m c main_v5 (((cfg0.win 2).blk t).view.emb (ix2 d n)) = _
  rw [emb_2, whi_apply m w c ew]

theorem blk_3 (c : Dev nD) (ew : m (c.tc.loc main_arg1) = w) (t : Fin cfg0.N) (d : Fin 2048) (n : Fin 1024) :
    (iblk m c 3 t : Vec Ideal S2048x1024 .bf16) (ix2 d n) = w (ix2 d ⟨3072 + n.val, by omega⟩) - w (ix2 d ⟨3072 + n.val, by omega⟩) := by
  show V m c main_v8 (((cfg0.win 3).blk t).view.emb (ix2 d n)) = _
  rw [emb_3, wlo_apply m w c ew]

/-! ## The result array -/

/-- A body's block is the projection where it stands, given what the windows hold. -/
theorem block_fn (fh : ∀ i, ∃ r : ℝ, h i = (r : EReal)) (fw : ∀ i, ∃ r : ℝ, w i = (r : EReal))
    (x0 x1 : Vec Ideal S1024x2048 .bf16) (x2 x3 : Vec Ideal S2048x1024 .bf16) (t : Fin cfg0.N)
    (h0 : ∀ r d, x0 (ix2 r d) = h (ix3 (tb (row t r)) (ts (row t r)) d)) (h1 : ∀ r d, x1 (ix2 r d) = h (ix3 (tb (row t r)) (ts (row t r)) d) - h (ix3 (tb (row t r)) (ts (row t r)) d))
    (h2 : ∀ (d : Fin 2048) (n : Fin 1024), x2 (ix2 d n) = w (ix2 d ⟨3072 + n.val, by omega⟩))
    (h3 : ∀ (d : Fin 2048) (n : Fin 1024), x3 (ix2 d n) = w (ix2 d ⟨3072 + n.val, by omega⟩) - w (ix2 d ⟨3072 + n.val, by omega⟩)) (r n : Fin 1024) :
    out0_4 x0 x1 x2 x3 (ix2 r n) = queryFn h w (ix2 (row t r) n) := by
  rw [out_apply]
  simp only [h0, h1, h2, h3]
  exact Cert.IndexFinite.split_sum _ _ (fun d => fh _) (fun d => fw _)

/-- What is cut from a block that agrees with `G` where the block stands is the block of `G`. -/
theorem cut_eq (t : Fin cfg0.N) (X : Vec Ideal S1024x1024 .f32) (G : Vec Ideal S32768x1024 .f32)
    (e : ∀ r n, X (ix2 r n) = G (ix2 (row t r) n)) :
    (cfg0.win 4).cut (grid0.coords t) X = ((cfg0.win 4).blk t).view.read (Elt Ideal) G := by
  funext j
  obtain ⟨r, n, rfl⟩ : ∃ (r : Fin 1024) (n : Fin 1024), j = ix2 r n :=
    ⟨j 0, j 1, by
      funext a
      match a with
      | ⟨0, _⟩ => rfl
      | ⟨1, _⟩ => rfl⟩
  show X (ix2 r n) = G (((cfg0.win 4).blk t).view.emb (ix2 r n))
  rw [emb_4, e]

/-- The projection of device `c`'s arguments. -/
def G (c : Dev nD) : Vec Ideal S32768x1024 .f32 := queryFn (m (c.tc.loc main_arg0)) (m (c.tc.loc main_arg1))

theorem flushed_eq (c : Dev nD) (fh : ∀ i, ∃ r : ℝ, m (c.tc.loc main_arg0) i = (r : EReal))
    (fw : ∀ i, ∃ r : ℝ, m (c.tc.loc main_arg1) i = (r : EReal)) (t : Fin cfg0.N) :
    (dats m 0 c).flushed 4 t = ((cfg0.win 4).blk t).view.read (Elt Ideal) (G m c) := by
  rw [Cert.IndexQueryIdeal.Value.flushed4]
  exact cut_eq t _ _ fun r n => block_fn _ _ fh fw _ _ _ _ t (fun r d => blk_0 m _ c rfl t r d)
    (fun r d => blk_1 m _ c rfl t r d) (fun d n => blk_2 m _ c rfl t d n) (fun d n => blk_3 m _ c rfl t d n) r n

/-- The blocks cover the array. -/
theorem cover (i : S32768x1024.Idx) : ∃ t : Fin cfg0.N, (cfg0.win 4).flush t = true ∧ i ∈ ((cfg0.win 4).blk t).view.set := by
  have h0 : (i 0 : Nat) < 32768 := (i 0).isLt
  have h1 : (i 1 : Nat) < 1024 := (i 1).isLt
  have hN : cfg0.N = 32 := N_0
  refine ⟨⟨(i 0).val / 1024, by omega⟩, flush0_4 _, ?_⟩
  generalize ht : (⟨(i 0).val / 1024, by omega⟩ : Fin cfg0.N) = t
  have hv : t.val = (i 0).val / 1024 := by rw [← ht]
  have hi : i = ((cfg0.win 4).blk t).view.emb (ix2 (⟨(i 0).val % 1024, by omega⟩ : Fin 1024) (⟨(i 1).val % 1024, by omega⟩ : Fin 1024)) := by
    rw [emb_4]
    funext a
    apply Fin.ext
    match a with
    | ⟨0, _⟩ => show (i 0).val = 1024 * t.val + (i 0).val % 1024; omega
    | ⟨1, _⟩ => show (i 1).val = (i 1).val % 1024; omega
  rw [hi]
  exact ((cfg0.win 4).blk t).view.emb_mem_set _

/-- So the result array ends holding the projection. -/
theorem final (c : Dev nD) (fh : ∀ i, ∃ r : ℝ, m (c.tc.loc main_arg0) i = (r : EReal))
    (fw : ∀ i, ∃ r : ℝ, m (c.tc.loc main_arg1) i = (r : EReal)) : (dats m 0 c).arrAt 4 cfg0.N = G m c :=
  (dats m 0 c).arrAt_eq_of_cover 4 (G m c) (fun t _ => flushed_eq m c fh fw t) cover

/-! ## The reference -/

/-- The reference ends with the projection of its arguments. -/
theorem reference (m' : (ℓ : Loc Cert.IndexQueryRefIdeal.nD Cert.IndexQueryRefIdeal.τ Cert.IndexQueryRefIdeal.sig) → Buf (Elt Ideal) ℓ)
    (g : Dev Cert.IndexQueryRefIdeal.nD → PrngReg) :
    θ_run (Cert.IndexQueryRefIdeal.defs (F := Ideal)) (onTc (τ := Cert.IndexQueryRefIdeal.τ) (Cert.IndexQueryRefIdeal.main (F := Ideal))) ⟨m', fun _ => 0, g⟩ fun r =>
      ∀ c : Dev Cert.IndexQueryRefIdeal.nD,
        r.2.mem ((c.tc : Thread Cert.IndexQueryRefIdeal.nD Cert.IndexQueryRefIdeal.τ).loc Cert.IndexQueryRefIdeal.main_v10)
          = queryFn (m' (c.tc.loc Cert.IndexQueryRefIdeal.main_arg0)) (m' (c.tc.loc Cert.IndexQueryRefIdeal.main_arg1))
        ∧ r.2.mem ((c.tc : Thread Cert.IndexQueryRefIdeal.nD Cert.IndexQueryRefIdeal.τ).loc Cert.IndexQueryRefIdeal.main_arg0) = m' ((c.tc : Thread Cert.IndexQueryRefIdeal.nD Cert.IndexQueryRefIdeal.τ).loc Cert.IndexQueryRefIdeal.main_arg0)
        ∧ r.2.mem ((c.tc : Thread Cert.IndexQueryRefIdeal.nD Cert.IndexQueryRefIdeal.τ).loc Cert.IndexQueryRefIdeal.main_arg1) = m' ((c.tc : Thread Cert.IndexQueryRefIdeal.nD Cert.IndexQueryRefIdeal.τ).loc Cert.IndexQueryRefIdeal.main_arg1) := by
  refine (θ_run Cert.IndexQueryRefIdeal.defs _ _).mono (fun _ h c => ⟨(h c).1.trans ?_, (h c).2⟩) (Cert.IndexQueryRefIdeal.Value.run (F := Ideal) m' g)
  clear h
  funext y
  obtain ⟨x, n, rfl⟩ : ∃ (x : Fin 32768) (n : Fin 1024), y = ix2 x n :=
    ⟨y 0, y 1, by
      funext a
      match a with
      | ⟨0, _⟩ => rfl
      | ⟨1, _⟩ => rfl⟩
  pointwise
  rfl

end Cert.IndexQueryValue
-- ==== Proof.IndexQueryClaims.lean ====
/- The claims of the projection onto the indexer's queries. -/
module

public import proofs.«01_k».proof.Defs
public import proofs.«01_k».proof.Proof.Gen.IndexQuery.Frame
public import proofs.«01_k».proof.Proof.Gen.Pre_finite_prompt
public import proofs.«01_k».proof.Proof.IndexQueryValue

@[expose] public section

noncomputable section

namespace Cert.IndexQueryClaims

open Idealize.ShloMosaic Idealize.ShloMosaic.TcCoe Idealize.SL.Sem

theorem frame_kernel : Cert.quiescent_IndexQuery := fun m ρ _ => Cert.IndexQuery.Gen.frame m ρ

theorem frame_ideal : Cert.quiescent_IndexQueryIdeal := fun m ρ _ => Cert.IndexQueryIdeal.Gen.frame m ρ

theorem frame_ideal_finite : Cert.quiescent_IndexQueryIdeal_pre_finite_prompt := fun m ρ _ => Cert.IndexQueryIdeal.Gen.frame m ρ

theorem frame_reference : Cert.quiescent_IndexQueryRefIdeal := fun m ρ _ =>
  (θ_run Cert.IndexQueryRefIdeal.defs _ _).mono (fun r h => ⟨fun c => (h c).2, Idealize.ShloMosaic.sem_eq_zero_of_no_sems (by decide) r.2⟩)
    (Cert.IndexQueryRefIdeal.Value.run (F := Ideal) m ρ)

theorem frame_reference_finite : Cert.quiescent_IndexQueryRefIdeal_pre_finite_prompt := fun m ρ _ => frame_reference m ρ trivial

/-- What the precondition gives on a device: a real input and a real weight. -/
theorem reals (m : (ℓ : Loc Cert.IndexQueryIdeal.nD Cert.IndexQueryIdeal.τ Cert.IndexQueryIdeal.sig) → Buf (Elt Ideal) ℓ)
    (h : Cert.Pre_IndexQueryIdeal_finite_prompt m) (c : Dev Cert.IndexQueryIdeal.nD) :
    (∀ i, ∃ r : ℝ, m (c.tc.loc Cert.IndexQueryIdeal.main_arg0) i = (r : EReal))
      ∧ ∀ i, ∃ r : ℝ, m (c.tc.loc Cert.IndexQueryIdeal.main_arg1) i = (r : EReal) :=
  Cert.IndexFinite.fn_real _ _ (fun a => a.elim0) (congrFun (h c) _)

/-- The kernel's result and the reference's are the projection of the same arguments. -/
theorem algebraic : Cert.algebraic_IndexQueryIdeal_IndexQueryRefIdeal_pre_finite_prompt := by
  intro m g m' g' hm hagree
  refine ⟨fun c => Cert.IndexQueryValue.G m c, ?_, ?_⟩
  · exact (θ_run Cert.IndexQueryIdeal.defs _ _).mono (fun _ h c => ⟨(h c).1.trans (Cert.IndexQueryValue.final m c (reals m hm c).1 (reals m hm c).2), (h c).2⟩)
      (Cert.IndexQueryIdeal.Value.run_blocks (F := Ideal) m g)
  · refine (θ_run Cert.IndexQueryRefIdeal.defs _ _).mono (fun _ h c => ⟨(h c).1.trans ?_, (h c).2⟩)
      (Cert.IndexQueryValue.reference m' g')
    rw [(hagree c).1, (hagree c).2]
    rfl

end Cert.IndexQueryClaims
-- ==== Proof.IndexKeyValue.lean ====
/- The projection of the normed input onto the indexer's keys and head weights, at twice the precision: the body's block at an entry, the windows' blocks of the
   staged arrays, the result array, and the reference's result read beside it. -/
module

public import proofs.«01_k».proof.Proof.Gen.IndexKeyIdeal.Frame
public import proofs.«01_k».proof.Proof.Gen.IndexKeyRefIdeal.Run
public import proofs.«01_k».proof.Proof.IndexFinite
public import Idealize.ShloMosaic.Lib.Pointwise
public import Idealize.ShloMosaic.Lib.Claim
public import Idealize.ShloMosaic.Lib.StableHlo.ReadAt

@[expose] public section

set_option maxRecDepth 16384

noncomputable section

namespace Cert.IndexKeyValue

open Cert.IndexKeyIdeal Cert.IndexKeyIdeal.Gen Idealize.ShloMosaic Idealize.ShloMosaic.TcCoe Idealize.SL.Sem
open Idealize.ShloMosaic.Pipeline (Dat)

variable (m : (ℓ : Loc nD τ sig) → Buf (Elt Ideal) ℓ)

/-- The batch row of a token, -/
abbrev tb (x : Fin 32768) : Fin 4 := ⟨x.val / 8192, by omega⟩

/-- and its place in the batch row. -/
abbrev ts (x : Fin 32768) : Fin 8192 := ⟨x.val % 8192, by omega⟩

/-- The token at place `s` of batch row `b`. -/
abbrev tok (b : Fin 4) (s : Fin 8192) : Fin 32768 := ⟨b.val * 8192 + s.val, by omega⟩

theorem tb_tok (b : Fin 4) (s : Fin 8192) : tb (tok b s) = b := Fin.ext (by show (b.val * 8192 + s.val) / 8192 = b.val; omega)

theorem ts_tok (b : Fin 4) (s : Fin 8192) : ts (tok b s) = s := Fin.ext (by show (b.val * 8192 + s.val) % 8192 = s.val; omega)

/-- The indexer's keys: every token projected onto the 64 columns that begin at 4096. -/
def keyFn (h : S4x8192x2048.Idx → EReal) (w : S2048x7248.Idx → EReal) : S4x8192x64.Idx → EReal := fun y =>
  ∑ d : Fin 2048, h (ix3 (y 0) (y 1) d) * w (ix2 d ⟨4096 + (y 2).val, by have h : (y 2).val < 64 := (y 2).isLt; omega⟩)

/-- The indexer's head weights: every token projected onto the 16 columns that begin at 4160. -/
def weightFn (h : S4x8192x2048.Idx → EReal) (w : S2048x7248.Idx → EReal) : S4x8192x16.Idx → EReal := fun y =>
  ∑ d : Fin 2048, h (ix3 (y 0) (y 1) d) * w (ix2 d ⟨4160 + (y 2).val, by have h : (y 2).val < 16 := (y 2).isLt; omega⟩)

/-- What the call leaves at token `x` and column `n` of the weight `v` it is given: the three products added. -/
def splitFn (h : S4x8192x2048.Idx → EReal) (v : S2048x256.Idx → EReal) : S32768x256.Idx → EReal := fun y =>
  (∑ d : Fin 2048, h (ix3 (tb (y 0)) (ts (y 0)) d) * v (ix2 d (y 1)))
    + (∑ d : Fin 2048, (h (ix3 (tb (y 0)) (ts (y 0)) d) - h (ix3 (tb (y 0)) (ts (y 0)) d)) * v (ix2 d (y 1)))
    + (∑ d : Fin 2048, h (ix3 (tb (y 0)) (ts (y 0)) d) * (v (ix2 d (y 1)) - v (ix2 d (y 1))))

theorem hz : (![0, 0] : Fin 2 → Nat) = fun _ => 0 := funext fun a => by fin_cases a <;> rfl

theorem out_apply (x0 x1 : Vec Ideal S1024x2048 .bf16) (x2 x3 : Vec Ideal S2048x256 .bf16) (r : Fin 1024) (n : Fin 256) :
    out0_4 x0 x1 x2 x3 (ix2 r n) = (∑ k : Fin 2048, x0 (ix2 r k) * x2 (ix2 k n)) + (∑ k : Fin 2048, x1 (ix2 r k) * x2 (ix2 k n))
      + (∑ k : Fin 2048, x0 (ix2 r k) * x3 (ix2 k n)) := by
  unfold out0_4
  rw [View.canon_unit_zero (S := S1024x256) hz]
  simp only [View.ld_unit_zero (S := S1024x2048) hz, View.ld_unit_zero (S := S2048x256) hz]
  unfold k0_pay1
  pointwise

/-! ## The staged arrays -/

variable (h : S4x8192x2048.Idx → EReal)

theorem hi_apply (c : Dev nD) (eh : m (c.tc.loc main_arg0) = h) (x : Fin 32768) (d : Fin 2048) :
    V m c main_v13 (ix2 x d) = h (ix3 (tb x) (ts x) d) := by
  subst eh
  show StableHlo.after hostOps0 (fun b => m (c, b)) (Proc.devRef .tc main_v13) (ix2 x d) = _
  after_reads_simp
  clean_types
  pointwise

theorem lo_apply (c : Dev nD) (eh : m (c.tc.loc main_arg0) = h) (x : Fin 32768) (d : Fin 2048) :
    V m c main_v14 (ix2 x d) = h (ix3 (tb x) (ts x) d) - h (ix3 (tb x) (ts x) d) := by
  subst eh
  show StableHlo.after hostOps0 (fun b => m (c, b)) (Proc.devRef .tc main_v14) (ix2 x d) = _
  after_reads_simp
  clean_types
  pointwise

/-- The weight the call is given, before it is split: the keys' columns twice, the head weights' columns, and zeros. -/
def wcat (c : Dev nD) : S2048x256.Idx → EReal := fun y => V m c main_v8 y

theorem wcat_key (c : Dev nD) (d : Fin 2048) (n : Fin 64) :
    wcat m c (ix2 d ⟨n.val, by omega⟩) = m (c.tc.loc main_arg1) (ix2 d ⟨4096 + n.val, by omega⟩) := by
  show StableHlo.after hostOps0 (fun b => m (c, b)) (Proc.devRef .tc main_v8) (ix2 d ⟨n.val, by omega⟩) = _
  after_reads_simp
  clean_types
  pointwise
  after_reads_simp
  clean_types
  pointwise

theorem wcat_weight (c : Dev nD) (d : Fin 2048) (n : Fin 16) :
    wcat m c (ix2 d ⟨128 + n.val, by omega⟩) = m (c.tc.loc main_arg1) (ix2 d ⟨4160 + n.val, by omega⟩) := by
  show StableHlo.after hostOps0 (fun b => m (c, b)) (Proc.devRef .tc main_v8) (ix2 d ⟨128 + n.val, by omega⟩) = _
  after_reads_simp
  clean_types
  pointwise
  rw [dif_neg (by omega), dif_neg (by omega), dif_pos (by omega)]
  after_reads_simp
  clean_types
  pointwise
  congr 3
  omega

theorem whi_apply (c : Dev nD) (d : Fin 2048) (n : Fin 256) : V m c main_v9 (ix2 d n) = wcat m c (ix2 d n) := by
  unfold wcat
  show StableHlo.after hostOps0 (fun b => m (c, b)) (Proc.devRef .tc main_v9) (ix2 d n)
    = StableHlo.after hostOps0 (fun b => m (c, b)) (Proc.devRef .tc main_v8) (ix2 d n)
  after_reads_simp
  clean_types
  rfl

theorem wlo_state (c : Dev nD) (v : S2048x256.Idx → EReal) (e : V m c main_v8 = v) (d : Fin 2048) (n : Fin 256) :
    V m c main_v12 (ix2 d n) = v (ix2 d n) - v (ix2 d n) := by
  subst e
  show StableHlo.after hostOps0 (fun b => m (c, b)) (Proc.devRef .tc main_v12) (ix2 d n)
    = subf (F := Ideal) (φ := .f32) (StableHlo.after hostOps0 (fun b => m (c, b)) (Proc.devRef .tc main_v8) : FVec Ideal S2048x256 .f32)
      (StableHlo.after hostOps0 (fun b => m (c, b)) (Proc.devRef .tc main_v8) : FVec Ideal S2048x256 .f32) (ix2 d n)
  after_reads_simp
  clean_types
  rfl

theorem wlo_apply (c : Dev nD) (d : Fin 2048) (n : Fin 256) : V m c main_v12 (ix2 d n) = wcat m c (ix2 d n) - wcat m c (ix2 d n) :=
  wlo_state m c _ rfl d n

/-! ## Where the windows stand -/

theorem t_lt (t : Fin cfg0.N) : t.val < 32 := by have h := t.isLt; have : cfg0.N = 32 := N_0; omega

/-- A row of a grid point's block. -/
def row (t : Fin cfg0.N) (r : Fin 1024) : Fin 32768 := ⟨1024 * t.val + r.val, by have := t_lt t; omega⟩

theorem index_0 : ∀ t : Fin grid0.N, win0_0.index t 0 = t.val ∧ win0_0.index t 1 = 0 := by decide +kernel
theorem index_1 : ∀ t : Fin grid0.N, win0_1.index t 0 = t.val ∧ win0_1.index t 1 = 0 := by decide +kernel
theorem index_2 : ∀ t : Fin grid0.N, win0_2.index t 0 = 0 ∧ win0_2.index t 1 = 0 := by decide +kernel
theorem index_3 : ∀ t : Fin grid0.N, win0_3.index t 0 = 0 ∧ win0_3.index t 1 = 0 := by decide +kernel
theorem index_4 : ∀ t : Fin grid0.N, win0_4.index t 0 = t.val ∧ win0_4.index t 1 = 0 := by decide +kernel

theorem emb_0 (t : Fin cfg0.N) (r : Fin 1024) (d : Fin 2048) :
    (((cfg0.win 0).blk t).view.emb (ix2 r d) : S32768x2048.Idx) = ix2 (row t r) d := by
  have h := index_0 t
  funext a
  apply Fin.ext
  match a with
  | ⟨0, _⟩ => show win0_0.index t (0 : Fin 2) * 1024 + 1 * r.val = 1024 * t.val + r.val; omega
  | ⟨1, _⟩ => show win0_0.index t (1 : Fin 2) * 2048 + 1 * d.val = d.val; omega

theorem emb_1 (t : Fin cfg0.N) (r : Fin 1024) (d : Fin 2048) :
    (((cfg0.win 1).blk t).view.emb (ix2 r d) : S32768x2048.Idx) = ix2 (row t r) d := by
  have h := index_1 t
  funext a
  apply Fin.ext
  match a with
  | ⟨0, _⟩ => show win0_1.index t (0 : Fin 2) * 1024 + 1 * r.val = 1024 * t.val + r.val; omega
  | ⟨1, _⟩ => show win0_1.index t (1 : Fin 2) * 2048 + 1 * d.val = d.val; omega

theorem emb_2 (t : Fin cfg0.N) (d : Fin 2048) (n : Fin 256) :
    (((cfg0.win 2).blk t).view.emb (ix2 d n) : S2048x256.Idx) = ix2 d n := by
  have h := index_2 t
  funext a
  apply Fin.ext
  match a with
  | ⟨0, _⟩ => show win0_2.index t (0 : Fin 2) * 2048 + 1 * d.val = d.val; omega
  | ⟨1, _⟩ => show win0_2.index t (1 : Fin 2) * 256 + 1 * n.val = n.val; omega

theorem emb_3 (t : Fin cfg0.N) (d : Fin 2048) (n : Fin 256) :
    (((cfg0.win 3).blk t).view.emb (ix2 d n) : S2048x256.Idx) = ix2 d n := by
  have h := index_3 t
  funext a
  apply Fin.ext
  match a with
  | ⟨0, _⟩ => show win0_3.index t (0 : Fin 2) * 2048 + 1 * d.val = d.val; omega
  | ⟨1, _⟩ => show win0_3.index t (1 : Fin 2) * 256 + 1 * n.val = n.val; omega

theorem emb_4 (t : Fin cfg0.N) (r : Fin 1024) (n : Fin 256) :
    (((cfg0.win 4).blk t).view.emb (ix2 r n) : S32768x256.Idx) = ix2 (row t r) n := by
  have h := index_4 t
  funext a
  apply Fin.ext
  match a with
  | ⟨0, _⟩ => show win0_4.index t (0 : Fin 2) * 1024 + 1 * r.val = 1024 * t.val + r.val; omega
  | ⟨1, _⟩ => show win0_4.index t (1 : Fin 2) * 256 + 1 * n.val = n.val; omega

theorem blk_0 (c : Dev nD) (eh : m (c.tc.loc main_arg0) = h) (t : Fin cfg0.N) (r : Fin 1024) (d : Fin 2048) :
    (iblk m c 0 t : Vec Ideal S1024x2048 .bf16) (ix2 r d) = h (ix3 (tb (row t r)) (ts (row t r)) d) := by
  show V m c main_v13 (((cfg0.win 0).blk t).view.emb (ix2 r d)) = _
  rw [emb_0, hi_apply m h c eh]

theorem blk_1 (c : Dev nD) (eh : m (c.tc.loc main_arg0) = h) (t : Fin cfg0.N) (r : Fin 1024) (d : Fin 2048) :
    (iblk m c 1 t : Vec Ideal S1024x2048 .bf16) (ix2 r d) = h (ix3 (tb (row t r)) (ts (row t r)) d) - h (ix3 (tb (row t r)) (ts (row t r)) d) := by
  show V m c main_v14 (((cfg0.win 1).blk t).view.emb (ix2 r d)) = _
  rw [emb_1, lo_apply m h c eh]

theorem blk_2 (c : Dev nD) (t : Fin cfg0.N) (d : Fin 2048) (n : Fin 256) :
    (iblk m c 2 t : Vec Ideal S2048x256 .bf16) (ix2 d n) = wcat m c (ix2 d n) := by
  show V m c main_v9 (((cfg0.win 2).blk t).view.emb (ix2 d n)) = _
  rw [emb_2, whi_apply]

theorem blk_3 (c : Dev nD) (t : Fin cfg0.N) (d : Fin 2048) (n : Fin 256) :
    (iblk m c 3 t : Vec Ideal S2048x256 .bf16) (ix2 d n) = wcat m c (ix2 d n) - wcat m c (ix2 d n) := by
  show V m c main_v12 (((cfg0.win 3).blk t).view.emb (ix2 d n)) = _
  rw [emb_3, wlo_apply]

/-! ## The result array -/

/-- A body's block is the projection where it stands, given what the windows hold. -/
theorem block_fn (v : S2048x256.Idx → EReal)
    (x0 x1 : Vec Ideal S1024x2048 .bf16) (x2 x3 : Vec Ideal S2048x256 .bf16) (t : Fin cfg0.N)
    (h0 : ∀ r d, x0 (ix2 r d) = h (ix3 (tb (row t r)) (ts (row t r)) d)) (h1 : ∀ r d, x1 (ix2 r d) = h (ix3 (tb (row t r)) (ts (row t r)) d) - h (ix3 (tb (row t r)) (ts (row t r)) d))
    (h2 : ∀ (d : Fin 2048) (n : Fin 256), x2 (ix2 d n) = v (ix2 d n))
    (h3 : ∀ (d : Fin 2048) (n : Fin 256), x3 (ix2 d n) = v (ix2 d n) - v (ix2 d n)) (r : Fin 1024) (n : Fin 256) :
    out0_4 x0 x1 x2 x3 (ix2 r n) = splitFn h v (ix2 (row t r) n) := by
  rw [out_apply]
  simp only [h0, h1, h2, h3]
  rfl

/-- What is cut from a block that agrees with `G` where the block stands is the block of `G`. -/
theorem cut_eq (t : Fin cfg0.N) (X : Vec Ideal S1024x256 .f32) (G : Vec Ideal S32768x256 .f32)
    (e : ∀ r n, X (ix2 r n) = G (ix2 (row t r) n)) :
    (cfg0.win 4).cut (grid0.coords t) X = ((cfg0.win 4).blk t).view.read (Elt Ideal) G := by
  funext j
  obtain ⟨r, n, rfl⟩ : ∃ (r : Fin 1024) (n : Fin 256), j = ix2 r n :=
    ⟨j 0, j 1, by
      funext a
      match a with
      | ⟨0, _⟩ => rfl
      | ⟨1, _⟩ => rfl⟩
  show X (ix2 r n) = G (((cfg0.win 4).blk t).view.emb (ix2 r n))
  rw [emb_4, e]

/-- What the call leaves of device `c`'s arguments. -/
def G (c : Dev nD) : Vec Ideal S32768x256 .f32 := splitFn (m (c.tc.loc main_arg0)) (wcat m c)

theorem flushed_eq (c : Dev nD) (t : Fin cfg0.N) : (dats m 0 c).flushed 4 t = ((cfg0.win 4).blk t).view.read (Elt Ideal) (G m c) := by
  show (cfg0.win 4).cut (grid0.coords t) ((dats m 0 c).after 4 t) = _
  rw [after0_4]
  exact cut_eq t _ _ fun r n => block_fn _ _ _ _ _ _ t (fun r d => blk_0 m _ c rfl t r d)
    (fun r d => blk_1 m _ c rfl t r d) (fun d n => blk_2 m c t d n) (fun d n => blk_3 m c t d n) r n

/-- The blocks cover the array. -/
theorem cover (i : S32768x256.Idx) : ∃ t : Fin cfg0.N, (cfg0.win 4).flush t = true ∧ i ∈ ((cfg0.win 4).blk t).view.set := by
  have h0 : (i 0 : Nat) < 32768 := (i 0).isLt
  have h1 : (i 1 : Nat) < 256 := (i 1).isLt
  have hN : cfg0.N = 32 := N_0
  refine ⟨⟨(i 0).val / 1024, by omega⟩, flush0_4 _, ?_⟩
  generalize ht : (⟨(i 0).val / 1024, by omega⟩ : Fin cfg0.N) = t
  have hv : t.val = (i 0).val / 1024 := by rw [← ht]
  have hi : i = ((cfg0.win 4).blk t).view.emb (ix2 (⟨(i 0).val % 1024, by omega⟩ : Fin 1024) (⟨(i 1).val % 256, by omega⟩ : Fin 256)) := by
    rw [emb_4]
    funext a
    apply Fin.ext
    match a with
    | ⟨0, _⟩ => show (i 0).val = 1024 * t.val + (i 0).val % 1024; omega
    | ⟨1, _⟩ => show (i 1).val = (i 1).val % 256; omega
  rw [hi]
  exact ((cfg0.win 4).blk t).view.emb_mem_set _

/-- So the call's array ends holding the three products added. -/
theorem final (c : Dev nD) : (dats m 0 c).arrAt 4 cfg0.N = G m c :=
  (dats m 0 c).arrAt_eq_of_cover 4 (G m c) (fun t _ => flushed_eq m c t) cover

/-! ## The two cuts of the call's array -/

theorem cut_key_at (X : S32768x256.Idx → EReal) (b : Fin 4) (s : Fin 8192) (n : Fin 64) :
    extractStridedSlice S4x8192x64 ![0, 0, 0] (shapeCast S4x8192x256 X shapeCasts_S32768x256_S4x8192x256)
      slices_S4x8192x256_S4x8192x64_0_0_0 (ix3 b s n) = X (ix2 (tok b s) ⟨n.val, by omega⟩) := by
  pointwise

theorem cut_key (W : Valuation τ sig (Elt Ideal)) (b : Fin 4) (s : Fin 8192) (n : Fin 64) :
    StableHlo.after hostOps1 W (Proc.devRef .tc main_v17) (ix3 b s n) = W (Proc.devRef .tc main_v15) (ix2 (tok b s) ⟨n.val, by omega⟩) := by
  after_reads_simp
  exact cut_key_at _ b s n

theorem cut_weight_at (X : S32768x256.Idx → EReal) (b : Fin 4) (s : Fin 8192) (n : Fin 16) :
    extractStridedSlice S4x8192x16 ![0, 0, 128] (shapeCast S4x8192x256 X shapeCasts_S32768x256_S4x8192x256)
      slices_S4x8192x256_S4x8192x16_0_0_128 (ix3 b s n) = X (ix2 (tok b s) ⟨128 + n.val, by omega⟩) := by
  pointwise

theorem cut_weight (W : Valuation τ sig (Elt Ideal)) (b : Fin 4) (s : Fin 8192) (n : Fin 16) :
    StableHlo.after hostOps1 W (Proc.devRef .tc main_v18) (ix3 b s n) = W (Proc.devRef .tc main_v15) (ix2 (tok b s) ⟨128 + n.val, by omega⟩) := by
  after_reads_simp
  exact cut_weight_at _ b s n

/-- The call's array as the lines after it find it. -/
theorem array_eq (c : Dev nD) :
    Pipeline.withArrays (cfgs 0).spec c (V0 m c) (fun w => (dats m 0 c).arrAt w (cfgs 0).N) (Proc.devRef .tc main_v15) = G m c :=
  (Pipeline.withArrays_arr spec0 launch0.win.arr_inj c (V0 m c) _ 4).trans (final m c)

theorem split_key_at (h : S4x8192x2048.Idx → EReal) (w : S2048x7248.Idx → EReal) (v : S2048x256.Idx → EReal)
    (fh : ∀ i, ∃ r : ℝ, h i = (r : EReal)) (fw : ∀ i, ∃ r : ℝ, w i = (r : EReal)) (b : Fin 4) (s : Fin 8192) (n : Fin 64)
    (e : ∀ d : Fin 2048, v (ix2 d ⟨n.val, by omega⟩) = w (ix2 d ⟨4096 + n.val, by omega⟩)) :
    splitFn h v (ix2 (tok b s) ⟨n.val, by omega⟩) = keyFn h w (ix3 b s n) := by
  refine (Cert.IndexFinite.split_sum (fun d => h (ix3 (tb (tok b s)) (ts (tok b s)) d)) (fun d => v (ix2 d ⟨n.val, by omega⟩))
    (fun d => fh _) (fun d => by rw [e]; exact fw _)).trans (Finset.sum_congr rfl fun d _ => ?_)
  rw [e, tb_tok, ts_tok]
  rfl

variable {m} in
theorem split_key {c : Dev nD} (fh : ∀ i, ∃ r : ℝ, m (c.tc.loc main_arg0) i = (r : EReal))
    (fw : ∀ i, ∃ r : ℝ, m (c.tc.loc main_arg1) i = (r : EReal)) :
    Pipeline.afterTail₀ cfgs (dats m) 0 (V0 m) [hostOps1] c main_v17 = keyFn (m (c.tc.loc main_arg0)) (m (c.tc.loc main_arg1)) := by
  funext y
  obtain ⟨b, s, n, rfl⟩ : ∃ (b : Fin 4) (s : Fin 8192) (n : Fin 64), y = ix3 b s n :=
    ⟨y 0, y 1, y 2, by
      funext a
      match a with
      | ⟨0, _⟩ => rfl
      | ⟨1, _⟩ => rfl
      | ⟨2, _⟩ => rfl⟩
  unfold Pipeline.afterTail₀
  refine (cut_key _ b s n).trans ?_
  rw [array_eq]
  exact split_key_at _ _ _ fh fw b s n fun d => wcat_key m c d n

theorem split_weight_at (h : S4x8192x2048.Idx → EReal) (w : S2048x7248.Idx → EReal) (v : S2048x256.Idx → EReal)
    (fh : ∀ i, ∃ r : ℝ, h i = (r : EReal)) (fw : ∀ i, ∃ r : ℝ, w i = (r : EReal)) (b : Fin 4) (s : Fin 8192) (n : Fin 16)
    (e : ∀ d : Fin 2048, v (ix2 d ⟨128 + n.val, by omega⟩) = w (ix2 d ⟨4160 + n.val, by omega⟩)) :
    splitFn h v (ix2 (tok b s) ⟨128 + n.val, by omega⟩) = weightFn h w (ix3 b s n) := by
  refine (Cert.IndexFinite.split_sum (fun d => h (ix3 (tb (tok b s)) (ts (tok b s)) d)) (fun d => v (ix2 d ⟨128 + n.val, by omega⟩))
    (fun d => fh _) (fun d => by rw [e]; exact fw _)).trans (Finset.sum_congr rfl fun d _ => ?_)
  rw [e, tb_tok, ts_tok]
  rfl

variable {m} in
theorem split_weight {c : Dev nD} (fh : ∀ i, ∃ r : ℝ, m (c.tc.loc main_arg0) i = (r : EReal))
    (fw : ∀ i, ∃ r : ℝ, m (c.tc.loc main_arg1) i = (r : EReal)) :
    Pipeline.afterTail₀ cfgs (dats m) 0 (V0 m) [hostOps1] c main_v18 = weightFn (m (c.tc.loc main_arg0)) (m (c.tc.loc main_arg1)) := by
  funext y
  obtain ⟨b, s, n, rfl⟩ : ∃ (b : Fin 4) (s : Fin 8192) (n : Fin 16), y = ix3 b s n :=
    ⟨y 0, y 1, y 2, by
      funext a
      match a with
      | ⟨0, _⟩ => rfl
      | ⟨1, _⟩ => rfl
      | ⟨2, _⟩ => rfl⟩
  unfold Pipeline.afterTail₀
  refine (cut_weight _ b s n).trans ?_
  rw [array_eq]
  exact split_weight_at _ _ _ fh fw b s n fun d => wcat_weight m c d n

/-- The run ends with the keys and the head weights in the result arrays and the arguments as they were. -/
theorem kernel (fh : ∀ c : Dev nD, ∀ i, ∃ r : ℝ, m (c.tc.loc main_arg0) i = (r : EReal))
    (fw : ∀ c : Dev nD, ∀ i, ∃ r : ℝ, m (c.tc.loc main_arg1) i = (r : EReal)) (ρ : Dev nD → PrngReg) :
    θ_run (defs (F := Ideal)) (onTc (τ := τ) (main (F := Ideal))) ⟨m, fun _ => 0, ρ⟩ fun r => ∀ c : Dev nD,
      r.2.mem ((c.tc : Thread nD τ).loc main_v17) = keyFn (m (c.tc.loc main_arg0)) (m (c.tc.loc main_arg1))
      ∧ r.2.mem ((c.tc : Thread nD τ).loc main_v18) = weightFn (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v17 (Pipeline.mem_restRefs_of main_v17 (by decide) (by decide))).trans (split_key (fh c) (fw c)),
      ((h c).2 main_v18 (Pipeline.mem_restRefs_of main_v18 (by decide) (by decide))).trans (split_weight (fh c) (fw c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩) (run_main m ρ)

/-! ## The reference -/

theorem ref_key (h : S4x8192x2048.Idx → EReal) (w : S2048x7248.Idx → EReal) :
    extractStridedSlice Cert.IndexKeyRefIdeal.S4x8192x64 ![0, 0, 4096] (Host.dotGeneral (F := Ideal) (φ₁ := .f32) (φ₂ := .f32) Cert.IndexKeyRefIdeal.dot_S4x8192x2048_S2048x7248_S4x8192x7248_2_0_01_1_n_n none h w)
      Cert.IndexKeyRefIdeal.Gen.slices_S4x8192x7248_S4x8192x64_0_0_4096 = keyFn h w := by
  funext y
  obtain ⟨b, s, n, rfl⟩ : ∃ (b : Fin 4) (s : Fin 8192) (n : Fin 64), y = ix3 b s n :=
    ⟨y 0, y 1, y 2, by
      funext a
      match a with
      | ⟨0, _⟩ => rfl
      | ⟨1, _⟩ => rfl
      | ⟨2, _⟩ => rfl⟩
  pointwise
  rfl

theorem ref_weight (h : S4x8192x2048.Idx → EReal) (w : S2048x7248.Idx → EReal) :
    extractStridedSlice Cert.IndexKeyRefIdeal.S4x8192x16 ![0, 0, 4160] (Host.dotGeneral (F := Ideal) (φ₁ := .f32) (φ₂ := .f32) Cert.IndexKeyRefIdeal.dot_S4x8192x2048_S2048x7248_S4x8192x7248_2_0_01_1_n_n none h w)
      Cert.IndexKeyRefIdeal.Gen.slices_S4x8192x7248_S4x8192x16_0_0_4160 = weightFn h w := by
  funext y
  obtain ⟨b, s, n, rfl⟩ : ∃ (b : Fin 4) (s : Fin 8192) (n : Fin 16), y = ix3 b s n :=
    ⟨y 0, y 1, y 2, by
      funext a
      match a with
      | ⟨0, _⟩ => rfl
      | ⟨1, _⟩ => rfl
      | ⟨2, _⟩ => rfl⟩
  pointwise
  rfl

/-- The reference ends with the same keys and head weights of its arguments. -/
theorem reference (m' : (ℓ : Loc Cert.IndexKeyRefIdeal.nD Cert.IndexKeyRefIdeal.τ Cert.IndexKeyRefIdeal.sig) → Buf (Elt Ideal) ℓ) (g : Dev Cert.IndexKeyRefIdeal.nD → PrngReg) :
    θ_run (Cert.IndexKeyRefIdeal.defs (F := Ideal)) (onTc (τ := Cert.IndexKeyRefIdeal.τ) (Cert.IndexKeyRefIdeal.main (F := Ideal))) ⟨m', fun _ => 0, g⟩ fun r => ∀ c : Dev Cert.IndexKeyRefIdeal.nD,
      r.2.mem ((c.tc : Thread Cert.IndexKeyRefIdeal.nD Cert.IndexKeyRefIdeal.τ).loc Cert.IndexKeyRefIdeal.main_v5) = keyFn (m' (c.tc.loc Cert.IndexKeyRefIdeal.main_arg0)) (m' (c.tc.loc Cert.IndexKeyRefIdeal.main_arg1))
      ∧ r.2.mem ((c.tc : Thread Cert.IndexKeyRefIdeal.nD Cert.IndexKeyRefIdeal.τ).loc Cert.IndexKeyRefIdeal.main_v6) = weightFn (m' (c.tc.loc Cert.IndexKeyRefIdeal.main_arg0)) (m' (c.tc.loc Cert.IndexKeyRefIdeal.main_arg1))
      ∧ r.2.mem ((c.tc : Thread Cert.IndexKeyRefIdeal.nD Cert.IndexKeyRefIdeal.τ).loc Cert.IndexKeyRefIdeal.main_arg0) = m' ((c.tc : Thread Cert.IndexKeyRefIdeal.nD Cert.IndexKeyRefIdeal.τ).loc Cert.IndexKeyRefIdeal.main_arg0)
      ∧ r.2.mem ((c.tc : Thread Cert.IndexKeyRefIdeal.nD Cert.IndexKeyRefIdeal.τ).loc Cert.IndexKeyRefIdeal.main_arg1) = m' ((c.tc : Thread Cert.IndexKeyRefIdeal.nD Cert.IndexKeyRefIdeal.τ).loc Cert.IndexKeyRefIdeal.main_arg1) :=
  (θ_run Cert.IndexKeyRefIdeal.defs _ _).mono (fun _ h c => ⟨(h c).1.trans (ref_key _ _), (h c).2.1.trans (ref_weight _ _), (h c).2.2⟩)
    (Cert.IndexKeyRefIdeal.Value.run (F := Ideal) m' g)

end Cert.IndexKeyValue
-- ==== Proof.IndexKeyClaims.lean ====
/- The claims of the projection onto the indexer's keys and head weights. -/
module

public import proofs.«01_k».proof.Defs
public import proofs.«01_k».proof.Proof.Gen.IndexKey.Frame
public import proofs.«01_k».proof.Proof.Gen.Pre_finite_prompt
public import proofs.«01_k».proof.Proof.IndexKeyValue

@[expose] public section

noncomputable section

namespace Cert.IndexKeyClaims

open Idealize.ShloMosaic Idealize.ShloMosaic.TcCoe Idealize.SL.Sem

theorem frame_kernel : Cert.quiescent_IndexKey := fun m ρ _ => Cert.IndexKey.Gen.frame m ρ

theorem frame_ideal : Cert.quiescent_IndexKeyIdeal := fun m ρ _ => Cert.IndexKeyIdeal.Gen.frame m ρ

theorem frame_ideal_finite : Cert.quiescent_IndexKeyIdeal_pre_finite_prompt := fun m ρ _ => Cert.IndexKeyIdeal.Gen.frame m ρ

theorem frame_reference : Cert.quiescent_IndexKeyRefIdeal := fun m ρ _ =>
  (θ_run Cert.IndexKeyRefIdeal.defs _ _).mono (fun r h => ⟨fun c => (h c).2.2, Idealize.ShloMosaic.sem_eq_zero_of_no_sems (by decide) r.2⟩)
    (Cert.IndexKeyRefIdeal.Value.run (F := Ideal) m ρ)

theorem frame_reference_finite : Cert.quiescent_IndexKeyRefIdeal_pre_finite_prompt := fun m ρ _ => frame_reference m ρ trivial

/-- What the precondition gives on a device: a real input and a real weight. -/
theorem reals (m : (ℓ : Loc Cert.IndexKeyIdeal.nD Cert.IndexKeyIdeal.τ Cert.IndexKeyIdeal.sig) → Buf (Elt Ideal) ℓ)
    (h : Cert.Pre_IndexKeyIdeal_finite_prompt m) (c : Dev Cert.IndexKeyIdeal.nD) :
    (∀ i, ∃ r : ℝ, m (c.tc.loc Cert.IndexKeyIdeal.main_arg0) i = (r : EReal))
      ∧ ∀ i, ∃ r : ℝ, m (c.tc.loc Cert.IndexKeyIdeal.main_arg1) i = (r : EReal) :=
  Cert.IndexFinite.fn_real _ _ (fun a => a.elim0) (congrFun (h c) _)

/-- The kernel's results and the reference's are the keys and the head weights of the same arguments. -/
theorem algebraic : Cert.algebraic_IndexKeyIdeal_IndexKeyRefIdeal_pre_finite_prompt := by
  intro m g m' g' hm hagree
  refine ⟨fun c => Cert.IndexKeyValue.keyFn (m (c.tc.loc Cert.IndexKeyIdeal.main_arg0)) (m (c.tc.loc Cert.IndexKeyIdeal.main_arg1)),
    fun c => Cert.IndexKeyValue.weightFn (m (c.tc.loc Cert.IndexKeyIdeal.main_arg0)) (m (c.tc.loc Cert.IndexKeyIdeal.main_arg1)),
    Cert.IndexKeyValue.kernel m (fun c => (reals m hm c).1) (fun c => (reals m hm c).2) g, ?_⟩
  refine (θ_run Cert.IndexKeyRefIdeal.defs _ _).mono (fun _ h c => ⟨(h c).1.trans ?_, (h c).2.1.trans ?_, (h c).2.2⟩)
    (Cert.IndexKeyValue.reference m' g')
  · rw [(hagree c).1, (hagree c).2]
  · rw [(hagree c).1, (hagree c).2]

end Cert.IndexKeyClaims
-- ==== Proof.IndexKeyStepValue.lean ====
/- The projection of the normed sample batch onto the indexer's keys and head weights, at twice the precision: the body's block at an entry, the windows' blocks of the
   staged arrays, the result array, and the reference's result read beside it. -/
module

public import proofs.«01_k».proof.Proof.Gen.IndexKeyStepIdeal.Frame
public import proofs.«01_k».proof.Proof.Gen.IndexKeyStepRefIdeal.Run
public import proofs.«01_k».proof.Proof.IndexFinite
public import Idealize.ShloMosaic.Lib.Pointwise
public import Idealize.ShloMosaic.Lib.Claim
public import Idealize.ShloMosaic.Lib.StableHlo.ReadAt

@[expose] public section

set_option maxRecDepth 16384

noncomputable section

namespace Cert.IndexKeyStepValue

open Cert.IndexKeyStepIdeal Cert.IndexKeyStepIdeal.Gen Idealize.ShloMosaic Idealize.ShloMosaic.TcCoe Idealize.SL.Sem
open Idealize.ShloMosaic.Pipeline (Dat)

variable (m : (ℓ : Loc nD τ sig) → Buf (Elt Ideal) ℓ)

/-- The batch row of a token, -/
abbrev tb (x : Fin 256) : Fin 16 := ⟨x.val / 16, by omega⟩

/-- and its place in the batch row. -/
abbrev ts (x : Fin 256) : Fin 16 := ⟨x.val % 16, by omega⟩

/-- The token at place `s` of batch row `b`. -/
abbrev tok (b : Fin 16) (s : Fin 16) : Fin 256 := ⟨b.val * 16 + s.val, by omega⟩

theorem tb_tok (b : Fin 16) (s : Fin 16) : tb (tok b s) = b := Fin.ext (by show (b.val * 16 + s.val) / 16 = b.val; omega)

theorem ts_tok (b : Fin 16) (s : Fin 16) : ts (tok b s) = s := Fin.ext (by show (b.val * 16 + s.val) % 16 = s.val; omega)

/-- The indexer's keys: every token projected onto the 64 columns that begin at 4096. -/
def keyFn (h : S16x16x2048.Idx → EReal) (w : S2048x7248.Idx → EReal) : S16x16x64.Idx → EReal := fun y =>
  ∑ d : Fin 2048, h (ix3 (y 0) (y 1) d) * w (ix2 d ⟨4096 + (y 2).val, by have h : (y 2).val < 64 := (y 2).isLt; omega⟩)

/-- The indexer's head weights: every token projected onto the 16 columns that begin at 4160. -/
def weightFn (h : S16x16x2048.Idx → EReal) (w : S2048x7248.Idx → EReal) : S16x16x16.Idx → EReal := fun y =>
  ∑ d : Fin 2048, h (ix3 (y 0) (y 1) d) * w (ix2 d ⟨4160 + (y 2).val, by have h : (y 2).val < 16 := (y 2).isLt; omega⟩)

/-- What the call leaves at token `x` and column `n` of the weight `v` it is given: the three products added. -/
def splitFn (h : S16x16x2048.Idx → EReal) (v : S2048x256.Idx → EReal) : S256x256.Idx → EReal := fun y =>
  (∑ d : Fin 2048, h (ix3 (tb (y 0)) (ts (y 0)) d) * v (ix2 d (y 1)))
    + (∑ d : Fin 2048, (h (ix3 (tb (y 0)) (ts (y 0)) d) - h (ix3 (tb (y 0)) (ts (y 0)) d)) * v (ix2 d (y 1)))
    + (∑ d : Fin 2048, h (ix3 (tb (y 0)) (ts (y 0)) d) * (v (ix2 d (y 1)) - v (ix2 d (y 1))))

theorem hz : (![0, 0] : Fin 2 → Nat) = fun _ => 0 := funext fun a => by fin_cases a <;> rfl

theorem out_apply (x0 x1 : Vec Ideal S256x2048 .bf16) (x2 x3 : Vec Ideal S2048x256 .bf16) (r : Fin 256) (n : Fin 256) :
    out0_4 x0 x1 x2 x3 (ix2 r n) = (∑ k : Fin 2048, x0 (ix2 r k) * x2 (ix2 k n)) + (∑ k : Fin 2048, x1 (ix2 r k) * x2 (ix2 k n))
      + (∑ k : Fin 2048, x0 (ix2 r k) * x3 (ix2 k n)) := by
  unfold out0_4
  rw [View.canon_unit_zero (S := S256x256) hz]
  simp only [View.ld_unit_zero (S := S256x2048) hz, View.ld_unit_zero (S := S2048x256) hz]
  unfold k0_pay1
  pointwise

/-! ## The staged arrays -/

variable (h : S16x16x2048.Idx → EReal)

theorem hi_apply (c : Dev nD) (eh : m (c.tc.loc main_arg0) = h) (x : Fin 256) (d : Fin 2048) :
    V m c main_v13 (ix2 x d) = h (ix3 (tb x) (ts x) d) := by
  subst eh
  show StableHlo.after hostOps0 (fun b => m (c, b)) (Proc.devRef .tc main_v13) (ix2 x d) = _
  after_reads_simp
  clean_types
  pointwise

theorem lo_apply (c : Dev nD) (eh : m (c.tc.loc main_arg0) = h) (x : Fin 256) (d : Fin 2048) :
    V m c main_v14 (ix2 x d) = h (ix3 (tb x) (ts x) d) - h (ix3 (tb x) (ts x) d) := by
  subst eh
  show StableHlo.after hostOps0 (fun b => m (c, b)) (Proc.devRef .tc main_v14) (ix2 x d) = _
  after_reads_simp
  clean_types
  pointwise

/-- The weight the call is given, before it is split: the keys' columns twice, the head weights' columns, and zeros. -/
def wcat (c : Dev nD) : S2048x256.Idx → EReal := fun y => V m c main_v8 y

theorem wcat_key (c : Dev nD) (d : Fin 2048) (n : Fin 64) :
    wcat m c (ix2 d ⟨n.val, by omega⟩) = m (c.tc.loc main_arg1) (ix2 d ⟨4096 + n.val, by omega⟩) := by
  show StableHlo.after hostOps0 (fun b => m (c, b)) (Proc.devRef .tc main_v8) (ix2 d ⟨n.val, by omega⟩) = _
  after_reads_simp
  clean_types
  pointwise
  after_reads_simp
  clean_types
  pointwise

theorem wcat_weight (c : Dev nD) (d : Fin 2048) (n : Fin 16) :
    wcat m c (ix2 d ⟨128 + n.val, by omega⟩) = m (c.tc.loc main_arg1) (ix2 d ⟨4160 + n.val, by omega⟩) := by
  show StableHlo.after hostOps0 (fun b => m (c, b)) (Proc.devRef .tc main_v8) (ix2 d ⟨128 + n.val, by omega⟩) = _
  after_reads_simp
  clean_types
  pointwise
  rw [dif_neg (by omega), dif_neg (by omega), dif_pos (by omega)]
  after_reads_simp
  clean_types
  pointwise
  congr 3
  omega

theorem whi_apply (c : Dev nD) (d : Fin 2048) (n : Fin 256) : V m c main_v9 (ix2 d n) = wcat m c (ix2 d n) := by
  unfold wcat
  show StableHlo.after hostOps0 (fun b => m (c, b)) (Proc.devRef .tc main_v9) (ix2 d n)
    = StableHlo.after hostOps0 (fun b => m (c, b)) (Proc.devRef .tc main_v8) (ix2 d n)
  after_reads_simp
  clean_types
  rfl

theorem wlo_state (c : Dev nD) (v : S2048x256.Idx → EReal) (e : V m c main_v8 = v) (d : Fin 2048) (n : Fin 256) :
    V m c main_v12 (ix2 d n) = v (ix2 d n) - v (ix2 d n) := by
  subst e
  show StableHlo.after hostOps0 (fun b => m (c, b)) (Proc.devRef .tc main_v12) (ix2 d n)
    = subf (F := Ideal) (φ := .f32) (StableHlo.after hostOps0 (fun b => m (c, b)) (Proc.devRef .tc main_v8) : FVec Ideal S2048x256 .f32)
      (StableHlo.after hostOps0 (fun b => m (c, b)) (Proc.devRef .tc main_v8) : FVec Ideal S2048x256 .f32) (ix2 d n)
  after_reads_simp
  clean_types
  rfl

theorem wlo_apply (c : Dev nD) (d : Fin 2048) (n : Fin 256) : V m c main_v12 (ix2 d n) = wcat m c (ix2 d n) - wcat m c (ix2 d n) :=
  wlo_state m c _ rfl d n

/-! ## Where the windows stand -/

theorem t_lt (t : Fin cfg0.N) : t.val < 1 := by have h := t.isLt; have : cfg0.N = 1 := N_0; omega

/-- A row of a grid point's block. -/
def row (t : Fin cfg0.N) (r : Fin 256) : Fin 256 := ⟨256 * t.val + r.val, by have := t_lt t; omega⟩

theorem index_0 : ∀ t : Fin grid0.N, win0_0.index t 0 = t.val ∧ win0_0.index t 1 = 0 := by decide +kernel
theorem index_1 : ∀ t : Fin grid0.N, win0_1.index t 0 = t.val ∧ win0_1.index t 1 = 0 := by decide +kernel
theorem index_2 : ∀ t : Fin grid0.N, win0_2.index t 0 = 0 ∧ win0_2.index t 1 = 0 := by decide +kernel
theorem index_3 : ∀ t : Fin grid0.N, win0_3.index t 0 = 0 ∧ win0_3.index t 1 = 0 := by decide +kernel
theorem index_4 : ∀ t : Fin grid0.N, win0_4.index t 0 = t.val ∧ win0_4.index t 1 = 0 := by decide +kernel

theorem emb_0 (t : Fin cfg0.N) (r : Fin 256) (d : Fin 2048) :
    (((cfg0.win 0).blk t).view.emb (ix2 r d) : S256x2048.Idx) = ix2 (row t r) d := by
  have h := index_0 t
  funext a
  apply Fin.ext
  match a with
  | ⟨0, _⟩ => show win0_0.index t (0 : Fin 2) * 256 + 1 * r.val = 256 * t.val + r.val; omega
  | ⟨1, _⟩ => show win0_0.index t (1 : Fin 2) * 2048 + 1 * d.val = d.val; omega

theorem emb_1 (t : Fin cfg0.N) (r : Fin 256) (d : Fin 2048) :
    (((cfg0.win 1).blk t).view.emb (ix2 r d) : S256x2048.Idx) = ix2 (row t r) d := by
  have h := index_1 t
  funext a
  apply Fin.ext
  match a with
  | ⟨0, _⟩ => show win0_1.index t (0 : Fin 2) * 256 + 1 * r.val = 256 * t.val + r.val; omega
  | ⟨1, _⟩ => show win0_1.index t (1 : Fin 2) * 2048 + 1 * d.val = d.val; omega

theorem emb_2 (t : Fin cfg0.N) (d : Fin 2048) (n : Fin 256) :
    (((cfg0.win 2).blk t).view.emb (ix2 d n) : S2048x256.Idx) = ix2 d n := by
  have h := index_2 t
  funext a
  apply Fin.ext
  match a with
  | ⟨0, _⟩ => show win0_2.index t (0 : Fin 2) * 2048 + 1 * d.val = d.val; omega
  | ⟨1, _⟩ => show win0_2.index t (1 : Fin 2) * 256 + 1 * n.val = n.val; omega

theorem emb_3 (t : Fin cfg0.N) (d : Fin 2048) (n : Fin 256) :
    (((cfg0.win 3).blk t).view.emb (ix2 d n) : S2048x256.Idx) = ix2 d n := by
  have h := index_3 t
  funext a
  apply Fin.ext
  match a with
  | ⟨0, _⟩ => show win0_3.index t (0 : Fin 2) * 2048 + 1 * d.val = d.val; omega
  | ⟨1, _⟩ => show win0_3.index t (1 : Fin 2) * 256 + 1 * n.val = n.val; omega

theorem emb_4 (t : Fin cfg0.N) (r : Fin 256) (n : Fin 256) :
    (((cfg0.win 4).blk t).view.emb (ix2 r n) : S256x256.Idx) = ix2 (row t r) n := by
  have h := index_4 t
  funext a
  apply Fin.ext
  match a with
  | ⟨0, _⟩ => show win0_4.index t (0 : Fin 2) * 256 + 1 * r.val = 256 * t.val + r.val; omega
  | ⟨1, _⟩ => show win0_4.index t (1 : Fin 2) * 256 + 1 * n.val = n.val; omega

theorem blk_0 (c : Dev nD) (eh : m (c.tc.loc main_arg0) = h) (t : Fin cfg0.N) (r : Fin 256) (d : Fin 2048) :
    (iblk m c 0 t : Vec Ideal S256x2048 .bf16) (ix2 r d) = h (ix3 (tb (row t r)) (ts (row t r)) d) := by
  show V m c main_v13 (((cfg0.win 0).blk t).view.emb (ix2 r d)) = _
  rw [emb_0, hi_apply m h c eh]

theorem blk_1 (c : Dev nD) (eh : m (c.tc.loc main_arg0) = h) (t : Fin cfg0.N) (r : Fin 256) (d : Fin 2048) :
    (iblk m c 1 t : Vec Ideal S256x2048 .bf16) (ix2 r d) = h (ix3 (tb (row t r)) (ts (row t r)) d) - h (ix3 (tb (row t r)) (ts (row t r)) d) := by
  show V m c main_v14 (((cfg0.win 1).blk t).view.emb (ix2 r d)) = _
  rw [emb_1, lo_apply m h c eh]

theorem blk_2 (c : Dev nD) (t : Fin cfg0.N) (d : Fin 2048) (n : Fin 256) :
    (iblk m c 2 t : Vec Ideal S2048x256 .bf16) (ix2 d n) = wcat m c (ix2 d n) := by
  show V m c main_v9 (((cfg0.win 2).blk t).view.emb (ix2 d n)) = _
  rw [emb_2, whi_apply]

theorem blk_3 (c : Dev nD) (t : Fin cfg0.N) (d : Fin 2048) (n : Fin 256) :
    (iblk m c 3 t : Vec Ideal S2048x256 .bf16) (ix2 d n) = wcat m c (ix2 d n) - wcat m c (ix2 d n) := by
  show V m c main_v12 (((cfg0.win 3).blk t).view.emb (ix2 d n)) = _
  rw [emb_3, wlo_apply]

/-! ## The result array -/

/-- A body's block is the projection where it stands, given what the windows hold. -/
theorem block_fn (v : S2048x256.Idx → EReal)
    (x0 x1 : Vec Ideal S256x2048 .bf16) (x2 x3 : Vec Ideal S2048x256 .bf16) (t : Fin cfg0.N)
    (h0 : ∀ r d, x0 (ix2 r d) = h (ix3 (tb (row t r)) (ts (row t r)) d)) (h1 : ∀ r d, x1 (ix2 r d) = h (ix3 (tb (row t r)) (ts (row t r)) d) - h (ix3 (tb (row t r)) (ts (row t r)) d))
    (h2 : ∀ (d : Fin 2048) (n : Fin 256), x2 (ix2 d n) = v (ix2 d n))
    (h3 : ∀ (d : Fin 2048) (n : Fin 256), x3 (ix2 d n) = v (ix2 d n) - v (ix2 d n)) (r : Fin 256) (n : Fin 256) :
    out0_4 x0 x1 x2 x3 (ix2 r n) = splitFn h v (ix2 (row t r) n) := by
  rw [out_apply]
  simp only [h0, h1, h2, h3]
  rfl

/-- What is cut from a block that agrees with `G` where the block stands is the block of `G`. -/
theorem cut_eq (t : Fin cfg0.N) (X : Vec Ideal S256x256 .f32) (G : Vec Ideal S256x256 .f32)
    (e : ∀ r n, X (ix2 r n) = G (ix2 (row t r) n)) :
    (cfg0.win 4).cut (grid0.coords t) X = ((cfg0.win 4).blk t).view.read (Elt Ideal) G := by
  funext j
  obtain ⟨r, n, rfl⟩ : ∃ (r : Fin 256) (n : Fin 256), j = ix2 r n :=
    ⟨j 0, j 1, by
      funext a
      match a with
      | ⟨0, _⟩ => rfl
      | ⟨1, _⟩ => rfl⟩
  show X (ix2 r n) = G (((cfg0.win 4).blk t).view.emb (ix2 r n))
  rw [emb_4, e]

/-- What the call leaves of device `c`'s arguments. -/
def G (c : Dev nD) : Vec Ideal S256x256 .f32 := splitFn (m (c.tc.loc main_arg0)) (wcat m c)

theorem flushed_eq (c : Dev nD) (t : Fin cfg0.N) : (dats m 0 c).flushed 4 t = ((cfg0.win 4).blk t).view.read (Elt Ideal) (G m c) := by
  show (cfg0.win 4).cut (grid0.coords t) ((dats m 0 c).after 4 t) = _
  rw [after0_4]
  exact cut_eq t _ _ fun r n => block_fn _ _ _ _ _ _ t (fun r d => blk_0 m _ c rfl t r d)
    (fun r d => blk_1 m _ c rfl t r d) (fun d n => blk_2 m c t d n) (fun d n => blk_3 m c t d n) r n

/-- The blocks cover the array. -/
theorem cover (i : S256x256.Idx) : ∃ t : Fin cfg0.N, (cfg0.win 4).flush t = true ∧ i ∈ ((cfg0.win 4).blk t).view.set := by
  have h0 : (i 0 : Nat) < 256 := (i 0).isLt
  have h1 : (i 1 : Nat) < 256 := (i 1).isLt
  have hN : cfg0.N = 1 := N_0
  refine ⟨⟨(i 0).val / 256, by omega⟩, flush0_4 _, ?_⟩
  generalize ht : (⟨(i 0).val / 256, by omega⟩ : Fin cfg0.N) = t
  have hv : t.val = (i 0).val / 256 := by rw [← ht]
  have hi : i = ((cfg0.win 4).blk t).view.emb (ix2 (⟨(i 0).val % 256, by omega⟩ : Fin 256) (⟨(i 1).val % 256, by omega⟩ : Fin 256)) := by
    rw [emb_4]
    funext a
    apply Fin.ext
    match a with
    | ⟨0, _⟩ => show (i 0).val = 256 * t.val + (i 0).val % 256; omega
    | ⟨1, _⟩ => show (i 1).val = (i 1).val % 256; omega
  rw [hi]
  exact ((cfg0.win 4).blk t).view.emb_mem_set _

/-- So the call's array ends holding the three products added. -/
theorem final (c : Dev nD) : (dats m 0 c).arrAt 4 cfg0.N = G m c :=
  (dats m 0 c).arrAt_eq_of_cover 4 (G m c) (fun t _ => flushed_eq m c t) cover

/-! ## The two cuts of the call's array -/

theorem cut_key_at (X : S256x256.Idx → EReal) (b : Fin 16) (s : Fin 16) (n : Fin 64) :
    extractStridedSlice S16x16x64 ![0, 0, 0] (shapeCast S16x16x256 X shapeCasts_S256x256_S16x16x256)
      slices_S16x16x256_S16x16x64_0_0_0 (ix3 b s n) = X (ix2 (tok b s) ⟨n.val, by omega⟩) := by
  pointwise

theorem cut_key (W : Valuation τ sig (Elt Ideal)) (b : Fin 16) (s : Fin 16) (n : Fin 64) :
    StableHlo.after hostOps1 W (Proc.devRef .tc main_v17) (ix3 b s n) = W (Proc.devRef .tc main_v15) (ix2 (tok b s) ⟨n.val, by omega⟩) := by
  after_reads_simp
  exact cut_key_at _ b s n

theorem cut_weight_at (X : S256x256.Idx → EReal) (b : Fin 16) (s : Fin 16) (n : Fin 16) :
    extractStridedSlice S16x16x16 ![0, 0, 128] (shapeCast S16x16x256 X shapeCasts_S256x256_S16x16x256)
      slices_S16x16x256_S16x16x16_0_0_128 (ix3 b s n) = X (ix2 (tok b s) ⟨128 + n.val, by omega⟩) := by
  pointwise

theorem cut_weight (W : Valuation τ sig (Elt Ideal)) (b : Fin 16) (s : Fin 16) (n : Fin 16) :
    StableHlo.after hostOps1 W (Proc.devRef .tc main_v18) (ix3 b s n) = W (Proc.devRef .tc main_v15) (ix2 (tok b s) ⟨128 + n.val, by omega⟩) := by
  after_reads_simp
  exact cut_weight_at _ b s n

/-- The call's array as the lines after it find it. -/
theorem array_eq (c : Dev nD) :
    Pipeline.withArrays (cfgs 0).spec c (V0 m c) (fun w => (dats m 0 c).arrAt w (cfgs 0).N) (Proc.devRef .tc main_v15) = G m c :=
  (Pipeline.withArrays_arr spec0 launch0.win.arr_inj c (V0 m c) _ 4).trans (final m c)

theorem split_key_at (h : S16x16x2048.Idx → EReal) (w : S2048x7248.Idx → EReal) (v : S2048x256.Idx → EReal)
    (fh : ∀ i, ∃ r : ℝ, h i = (r : EReal)) (fw : ∀ i, ∃ r : ℝ, w i = (r : EReal)) (b : Fin 16) (s : Fin 16) (n : Fin 64)
    (e : ∀ d : Fin 2048, v (ix2 d ⟨n.val, by omega⟩) = w (ix2 d ⟨4096 + n.val, by omega⟩)) :
    splitFn h v (ix2 (tok b s) ⟨n.val, by omega⟩) = keyFn h w (ix3 b s n) := by
  refine (Cert.IndexFinite.split_sum (fun d => h (ix3 (tb (tok b s)) (ts (tok b s)) d)) (fun d => v (ix2 d ⟨n.val, by omega⟩))
    (fun d => fh _) (fun d => by rw [e]; exact fw _)).trans (Finset.sum_congr rfl fun d _ => ?_)
  rw [e, tb_tok, ts_tok]
  rfl

variable {m} in
theorem split_key {c : Dev nD} (fh : ∀ i, ∃ r : ℝ, m (c.tc.loc main_arg0) i = (r : EReal))
    (fw : ∀ i, ∃ r : ℝ, m (c.tc.loc main_arg1) i = (r : EReal)) :
    Pipeline.afterTail₀ cfgs (dats m) 0 (V0 m) [hostOps1] c main_v17 = keyFn (m (c.tc.loc main_arg0)) (m (c.tc.loc main_arg1)) := by
  funext y
  obtain ⟨b, s, n, rfl⟩ : ∃ (b : Fin 16) (s : Fin 16) (n : Fin 64), y = ix3 b s n :=
    ⟨y 0, y 1, y 2, by
      funext a
      match a with
      | ⟨0, _⟩ => rfl
      | ⟨1, _⟩ => rfl
      | ⟨2, _⟩ => rfl⟩
  unfold Pipeline.afterTail₀
  refine (cut_key _ b s n).trans ?_
  rw [array_eq]
  exact split_key_at _ _ _ fh fw b s n fun d => wcat_key m c d n

theorem split_weight_at (h : S16x16x2048.Idx → EReal) (w : S2048x7248.Idx → EReal) (v : S2048x256.Idx → EReal)
    (fh : ∀ i, ∃ r : ℝ, h i = (r : EReal)) (fw : ∀ i, ∃ r : ℝ, w i = (r : EReal)) (b : Fin 16) (s : Fin 16) (n : Fin 16)
    (e : ∀ d : Fin 2048, v (ix2 d ⟨128 + n.val, by omega⟩) = w (ix2 d ⟨4160 + n.val, by omega⟩)) :
    splitFn h v (ix2 (tok b s) ⟨128 + n.val, by omega⟩) = weightFn h w (ix3 b s n) := by
  refine (Cert.IndexFinite.split_sum (fun d => h (ix3 (tb (tok b s)) (ts (tok b s)) d)) (fun d => v (ix2 d ⟨128 + n.val, by omega⟩))
    (fun d => fh _) (fun d => by rw [e]; exact fw _)).trans (Finset.sum_congr rfl fun d _ => ?_)
  rw [e, tb_tok, ts_tok]
  rfl

variable {m} in
theorem split_weight {c : Dev nD} (fh : ∀ i, ∃ r : ℝ, m (c.tc.loc main_arg0) i = (r : EReal))
    (fw : ∀ i, ∃ r : ℝ, m (c.tc.loc main_arg1) i = (r : EReal)) :
    Pipeline.afterTail₀ cfgs (dats m) 0 (V0 m) [hostOps1] c main_v18 = weightFn (m (c.tc.loc main_arg0)) (m (c.tc.loc main_arg1)) := by
  funext y
  obtain ⟨b, s, n, rfl⟩ : ∃ (b : Fin 16) (s : Fin 16) (n : Fin 16), y = ix3 b s n :=
    ⟨y 0, y 1, y 2, by
      funext a
      match a with
      | ⟨0, _⟩ => rfl
      | ⟨1, _⟩ => rfl
      | ⟨2, _⟩ => rfl⟩
  unfold Pipeline.afterTail₀
  refine (cut_weight _ b s n).trans ?_
  rw [array_eq]
  exact split_weight_at _ _ _ fh fw b s n fun d => wcat_weight m c d n

/-- The run ends with the keys and the head weights in the result arrays and the arguments as they were. -/
theorem kernel (fh : ∀ c : Dev nD, ∀ i, ∃ r : ℝ, m (c.tc.loc main_arg0) i = (r : EReal))
    (fw : ∀ c : Dev nD, ∀ i, ∃ r : ℝ, m (c.tc.loc main_arg1) i = (r : EReal)) (ρ : Dev nD → PrngReg) :
    θ_run (defs (F := Ideal)) (onTc (τ := τ) (main (F := Ideal))) ⟨m, fun _ => 0, ρ⟩ fun r => ∀ c : Dev nD,
      r.2.mem ((c.tc : Thread nD τ).loc main_v17) = keyFn (m (c.tc.loc main_arg0)) (m (c.tc.loc main_arg1))
      ∧ r.2.mem ((c.tc : Thread nD τ).loc main_v18) = weightFn (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v17 (Pipeline.mem_restRefs_of main_v17 (by decide) (by decide))).trans (split_key (fh c) (fw c)),
      ((h c).2 main_v18 (Pipeline.mem_restRefs_of main_v18 (by decide) (by decide))).trans (split_weight (fh c) (fw c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩) (run_main m ρ)

/-! ## The reference -/

theorem ref_key (h : S16x16x2048.Idx → EReal) (w : S2048x7248.Idx → EReal) :
    extractStridedSlice Cert.IndexKeyStepRefIdeal.S16x16x64 ![0, 0, 4096] (Host.dotGeneral (F := Ideal) (φ₁ := .f32) (φ₂ := .f32) Cert.IndexKeyStepRefIdeal.dot_S16x16x2048_S2048x7248_S16x16x7248_2_0_01_1_n_n none h w)
      Cert.IndexKeyStepRefIdeal.Gen.slices_S16x16x7248_S16x16x64_0_0_4096 = keyFn h w := by
  funext y
  obtain ⟨b, s, n, rfl⟩ : ∃ (b : Fin 16) (s : Fin 16) (n : Fin 64), y = ix3 b s n :=
    ⟨y 0, y 1, y 2, by
      funext a
      match a with
      | ⟨0, _⟩ => rfl
      | ⟨1, _⟩ => rfl
      | ⟨2, _⟩ => rfl⟩
  pointwise
  rfl

theorem ref_weight (h : S16x16x2048.Idx → EReal) (w : S2048x7248.Idx → EReal) :
    extractStridedSlice Cert.IndexKeyStepRefIdeal.S16x16x16 ![0, 0, 4160] (Host.dotGeneral (F := Ideal) (φ₁ := .f32) (φ₂ := .f32) Cert.IndexKeyStepRefIdeal.dot_S16x16x2048_S2048x7248_S16x16x7248_2_0_01_1_n_n none h w)
      Cert.IndexKeyStepRefIdeal.Gen.slices_S16x16x7248_S16x16x16_0_0_4160 = weightFn h w := by
  funext y
  obtain ⟨b, s, n, rfl⟩ : ∃ (b : Fin 16) (s : Fin 16) (n : Fin 16), y = ix3 b s n :=
    ⟨y 0, y 1, y 2, by
      funext a
      match a with
      | ⟨0, _⟩ => rfl
      | ⟨1, _⟩ => rfl
      | ⟨2, _⟩ => rfl⟩
  pointwise
  rfl

/-- The reference ends with the same keys and head weights of its arguments. -/
theorem reference (m' : (ℓ : Loc Cert.IndexKeyStepRefIdeal.nD Cert.IndexKeyStepRefIdeal.τ Cert.IndexKeyStepRefIdeal.sig) → Buf (Elt Ideal) ℓ) (g : Dev Cert.IndexKeyStepRefIdeal.nD → PrngReg) :
    θ_run (Cert.IndexKeyStepRefIdeal.defs (F := Ideal)) (onTc (τ := Cert.IndexKeyStepRefIdeal.τ) (Cert.IndexKeyStepRefIdeal.main (F := Ideal))) ⟨m', fun _ => 0, g⟩ fun r => ∀ c : Dev Cert.IndexKeyStepRefIdeal.nD,
      r.2.mem ((c.tc : Thread Cert.IndexKeyStepRefIdeal.nD Cert.IndexKeyStepRefIdeal.τ).loc Cert.IndexKeyStepRefIdeal.main_v5) = keyFn (m' (c.tc.loc Cert.IndexKeyStepRefIdeal.main_arg0)) (m' (c.tc.loc Cert.IndexKeyStepRefIdeal.main_arg1))
      ∧ r.2.mem ((c.tc : Thread Cert.IndexKeyStepRefIdeal.nD Cert.IndexKeyStepRefIdeal.τ).loc Cert.IndexKeyStepRefIdeal.main_v6) = weightFn (m' (c.tc.loc Cert.IndexKeyStepRefIdeal.main_arg0)) (m' (c.tc.loc Cert.IndexKeyStepRefIdeal.main_arg1))
      ∧ r.2.mem ((c.tc : Thread Cert.IndexKeyStepRefIdeal.nD Cert.IndexKeyStepRefIdeal.τ).loc Cert.IndexKeyStepRefIdeal.main_arg0) = m' ((c.tc : Thread Cert.IndexKeyStepRefIdeal.nD Cert.IndexKeyStepRefIdeal.τ).loc Cert.IndexKeyStepRefIdeal.main_arg0)
      ∧ r.2.mem ((c.tc : Thread Cert.IndexKeyStepRefIdeal.nD Cert.IndexKeyStepRefIdeal.τ).loc Cert.IndexKeyStepRefIdeal.main_arg1) = m' ((c.tc : Thread Cert.IndexKeyStepRefIdeal.nD Cert.IndexKeyStepRefIdeal.τ).loc Cert.IndexKeyStepRefIdeal.main_arg1) :=
  (θ_run Cert.IndexKeyStepRefIdeal.defs _ _).mono (fun _ h c => ⟨(h c).1.trans (ref_key _ _), (h c).2.1.trans (ref_weight _ _), (h c).2.2⟩)
    (Cert.IndexKeyStepRefIdeal.Value.run (F := Ideal) m' g)

end Cert.IndexKeyStepValue
-- ==== Proof.IndexKeyStepClaims.lean ====
/- The claims of the projection of the sample batch onto the indexer's keys and head weights. -/
module

public import proofs.«01_k».proof.Defs
public import proofs.«01_k».proof.Proof.Gen.IndexKeyStep.Frame
public import proofs.«01_k».proof.Proof.Gen.Pre_finite_step
public import proofs.«01_k».proof.Proof.IndexKeyStepValue

@[expose] public section

noncomputable section

namespace Cert.IndexKeyStepClaims

open Idealize.ShloMosaic Idealize.ShloMosaic.TcCoe Idealize.SL.Sem

theorem frame_kernel : Cert.quiescent_IndexKeyStep := fun m ρ _ => Cert.IndexKeyStep.Gen.frame m ρ

theorem frame_ideal : Cert.quiescent_IndexKeyStepIdeal := fun m ρ _ => Cert.IndexKeyStepIdeal.Gen.frame m ρ

theorem frame_ideal_finite : Cert.quiescent_IndexKeyStepIdeal_pre_finite_step := fun m ρ _ => Cert.IndexKeyStepIdeal.Gen.frame m ρ

theorem frame_reference : Cert.quiescent_IndexKeyStepRefIdeal := fun m ρ _ =>
  (θ_run Cert.IndexKeyStepRefIdeal.defs _ _).mono (fun r h => ⟨fun c => (h c).2.2, Idealize.ShloMosaic.sem_eq_zero_of_no_sems (by decide) r.2⟩)
    (Cert.IndexKeyStepRefIdeal.Value.run (F := Ideal) m ρ)

theorem frame_reference_finite : Cert.quiescent_IndexKeyStepRefIdeal_pre_finite_step := fun m ρ _ => frame_reference m ρ trivial

/-- What the precondition gives on a device: a real input and a real weight. -/
theorem reals (m : (ℓ : Loc Cert.IndexKeyStepIdeal.nD Cert.IndexKeyStepIdeal.τ Cert.IndexKeyStepIdeal.sig) → Buf (Elt Ideal) ℓ)
    (h : Cert.Pre_IndexKeyStepIdeal_finite_step m) (c : Dev Cert.IndexKeyStepIdeal.nD) :
    (∀ i, ∃ r : ℝ, m (c.tc.loc Cert.IndexKeyStepIdeal.main_arg0) i = (r : EReal))
      ∧ ∀ i, ∃ r : ℝ, m (c.tc.loc Cert.IndexKeyStepIdeal.main_arg1) i = (r : EReal) :=
  Cert.IndexFinite.step_real _ _ (fun a => a.elim0) (congrFun (h c) _)

/-- The kernel's results and the reference's are the keys and the head weights of the same arguments. -/
theorem algebraic : Cert.algebraic_IndexKeyStepIdeal_IndexKeyStepRefIdeal_pre_finite_step := by
  intro m g m' g' hm hagree
  refine ⟨fun c => Cert.IndexKeyStepValue.keyFn (m (c.tc.loc Cert.IndexKeyStepIdeal.main_arg0)) (m (c.tc.loc Cert.IndexKeyStepIdeal.main_arg1)),
    fun c => Cert.IndexKeyStepValue.weightFn (m (c.tc.loc Cert.IndexKeyStepIdeal.main_arg0)) (m (c.tc.loc Cert.IndexKeyStepIdeal.main_arg1)),
    Cert.IndexKeyStepValue.kernel m (fun c => (reals m hm c).1) (fun c => (reals m hm c).2) g, ?_⟩
  refine (θ_run Cert.IndexKeyStepRefIdeal.defs _ _).mono (fun _ h c => ⟨(h c).1.trans ?_, (h c).2.1.trans ?_, (h c).2.2⟩)
    (Cert.IndexKeyStepValue.reference m' g')
  · rw [(hagree c).1, (hagree c).2]
  · rw [(hagree c).1, (hagree c).2]

end Cert.IndexKeyStepClaims
-- ==== Proof.lean ====
module

public import proofs.«01_k».proof.Defs
public import proofs.«01_k».proof.Proof.BandClaims
public import proofs.«01_k».proof.Proof.MergeClaims
public import proofs.«01_k».proof.Proof.OutprojClaims
public import proofs.«01_k».proof.Proof.KeysClaims
public import proofs.«01_k».proof.Proof.ValuesClaims
public import proofs.«01_k».proof.Proof.FfnClaims
public import proofs.«01_k».proof.Proof.TailClaims
public import proofs.«01_k».proof.Proof.KvbClaims
public import proofs.«01_k».proof.Proof.KeysStepClaims
public import proofs.«01_k».proof.Proof.ValuesStepClaims
public import proofs.«01_k».proof.Proof.TailStepClaims
public import proofs.«01_k».proof.Proof.QueryClaims
public import proofs.«01_k».proof.Proof.IndexQueryClaims
public import proofs.«01_k».proof.Proof.IndexKeyClaims
public import proofs.«01_k».proof.Proof.IndexKeyStepClaims
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.Pre_finite_prompt
public import proofs.«01_k».proof.Proof.Gen.Pre_finite_step
public import proofs.«01_k».proof.Proof.Gen.Merge
public import proofs.«01_k».proof.Proof.Gen.MergeIdeal
public import proofs.«01_k».proof.Proof.Gen.MergeRefIdeal
public import proofs.«01_k».proof.Proof.Gen.Outproj
public import proofs.«01_k».proof.Proof.Gen.OutprojIdeal
public import proofs.«01_k».proof.Proof.Gen.OutprojRefIdeal
public import proofs.«01_k».proof.Proof.Gen.Keys
public import proofs.«01_k».proof.Proof.Gen.KeysIdeal
public import proofs.«01_k».proof.Proof.Gen.KeysRefIdeal
public import proofs.«01_k».proof.Proof.Gen.Values
public import proofs.«01_k».proof.Proof.Gen.ValuesIdeal
public import proofs.«01_k».proof.Proof.Gen.ValuesRefIdeal
public import proofs.«01_k».proof.Proof.Gen.Ffn
public import proofs.«01_k».proof.Proof.Gen.FfnIdeal
public import proofs.«01_k».proof.Proof.Gen.FfnRefIdeal
public import proofs.«01_k».proof.Proof.Gen.Tail
public import proofs.«01_k».proof.Proof.Gen.TailIdeal
public import proofs.«01_k».proof.Proof.Gen.TailRefIdeal
public import proofs.«01_k».proof.Proof.Gen.Kvb
public import proofs.«01_k».proof.Proof.Gen.KvbIdeal
public import proofs.«01_k».proof.Proof.Gen.KvbRefIdeal
public import proofs.«01_k».proof.Proof.Gen.KeysStep
public import proofs.«01_k».proof.Proof.Gen.KeysStepIdeal
public import proofs.«01_k».proof.Proof.Gen.KeysStepRefIdeal
public import proofs.«01_k».proof.Proof.Gen.ValuesStep
public import proofs.«01_k».proof.Proof.Gen.ValuesStepIdeal
public import proofs.«01_k».proof.Proof.Gen.ValuesStepRefIdeal
public import proofs.«01_k».proof.Proof.Gen.TailStep
public import proofs.«01_k».proof.Proof.Gen.TailStepIdeal
public import proofs.«01_k».proof.Proof.Gen.TailStepRefIdeal
public import proofs.«01_k».proof.Proof.Gen.Query
public import proofs.«01_k».proof.Proof.Gen.QueryIdeal
public import proofs.«01_k».proof.Proof.Gen.QueryRefIdeal
public import proofs.«01_k».proof.Proof.Gen.IndexQuery
public import proofs.«01_k».proof.Proof.Gen.IndexQueryIdeal
public import proofs.«01_k».proof.Proof.Gen.IndexQueryRefIdeal
public import proofs.«01_k».proof.Proof.Gen.IndexKey
public import proofs.«01_k».proof.Proof.Gen.IndexKeyIdeal
public import proofs.«01_k».proof.Proof.Gen.IndexKeyRefIdeal
public import proofs.«01_k».proof.Proof.Gen.IndexKeyStep
public import proofs.«01_k».proof.Proof.Gen.IndexKeyStepIdeal
public import proofs.«01_k».proof.Proof.Gen.IndexKeyStepRefIdeal
public import proofs.«01_k».proof.Proof.Gen.Merge.Frame
public import proofs.«01_k».proof.Proof.Gen.MergeIdeal.Value
public import proofs.«01_k».proof.Proof.Gen.MergeRefIdeal.Run
public import proofs.«01_k».proof.Proof.Gen.Outproj.Frame
public import proofs.«01_k».proof.Proof.Gen.OutprojIdeal.Value
public import proofs.«01_k».proof.Proof.Gen.OutprojRefIdeal.Run
public import proofs.«01_k».proof.Proof.Gen.Keys.Frame
public import proofs.«01_k».proof.Proof.Gen.KeysIdeal.Frame
public import proofs.«01_k».proof.Proof.Gen.KeysRefIdeal.Run
public import proofs.«01_k».proof.Proof.Gen.Values.Frame
public import proofs.«01_k».proof.Proof.Gen.ValuesIdeal.Frame
public import proofs.«01_k».proof.Proof.Gen.ValuesRefIdeal.Run
public import proofs.«01_k».proof.Proof.Gen.Tail.Frame
public import proofs.«01_k».proof.Proof.Gen.TailIdeal.Value
public import proofs.«01_k».proof.Proof.Gen.TailRefIdeal.Run
public import proofs.«01_k».proof.Proof.Gen.Kvb.Frame
public import proofs.«01_k».proof.Proof.Gen.KvbIdeal.Value
public import proofs.«01_k».proof.Proof.Gen.KvbRefIdeal.Run
public import proofs.«01_k».proof.Proof.Gen.KeysStep.Frame
public import proofs.«01_k».proof.Proof.Gen.KeysStepIdeal.Frame
public import proofs.«01_k».proof.Proof.Gen.KeysStepRefIdeal.Run
public import proofs.«01_k».proof.Proof.Gen.ValuesStep.Frame
public import proofs.«01_k».proof.Proof.Gen.ValuesStepIdeal.Frame
public import proofs.«01_k».proof.Proof.Gen.ValuesStepRefIdeal.Run
public import proofs.«01_k».proof.Proof.Gen.TailStep.Frame
public import proofs.«01_k».proof.Proof.Gen.TailStepIdeal.Value
public import proofs.«01_k».proof.Proof.Gen.TailStepRefIdeal.Run
public import proofs.«01_k».proof.Proof.Gen.Query.Frame
public import proofs.«01_k».proof.Proof.Gen.QueryIdeal.Value
public import proofs.«01_k».proof.Proof.Gen.QueryRefIdeal.Run
public import proofs.«01_k».proof.Proof.Gen.IndexQuery.Frame
public import proofs.«01_k».proof.Proof.Gen.IndexQueryIdeal.Value
public import proofs.«01_k».proof.Proof.Gen.IndexQueryRefIdeal.Run
public import proofs.«01_k».proof.Proof.Gen.IndexKey.Frame
public import proofs.«01_k».proof.Proof.Gen.IndexKeyIdeal.Frame
public import proofs.«01_k».proof.Proof.Gen.IndexKeyRefIdeal.Run
public import proofs.«01_k».proof.Proof.Gen.IndexKeyStep.Frame
public import proofs.«01_k».proof.Proof.Gen.IndexKeyStepIdeal.Frame
public import proofs.«01_k».proof.Proof.Gen.IndexKeyStepRefIdeal.Run
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Merge.Gen.facts, Cert.MergeIdeal.Gen.facts, Cert.MergeRefIdeal.Gen.facts,
    Cert.Outproj.Gen.facts, Cert.OutprojIdeal.Gen.facts, Cert.OutprojRefIdeal.Gen.facts,
    Cert.Keys.Gen.facts, Cert.KeysIdeal.Gen.facts, Cert.KeysRefIdeal.Gen.facts,
    Cert.Values.Gen.facts, Cert.ValuesIdeal.Gen.facts, Cert.ValuesRefIdeal.Gen.facts,
    Cert.Ffn.Gen.facts, Cert.FfnIdeal.Gen.facts, Cert.FfnRefIdeal.Gen.facts,
    Cert.Tail.Gen.facts, Cert.TailIdeal.Gen.facts, Cert.TailRefIdeal.Gen.facts,
    Cert.Kvb.Gen.facts, Cert.KvbIdeal.Gen.facts, Cert.KvbRefIdeal.Gen.facts,
    Cert.KeysStep.Gen.facts, Cert.KeysStepIdeal.Gen.facts, Cert.KeysStepRefIdeal.Gen.facts,
    Cert.ValuesStep.Gen.facts, Cert.ValuesStepIdeal.Gen.facts, Cert.ValuesStepRefIdeal.Gen.facts,
    Cert.TailStep.Gen.facts, Cert.TailStepIdeal.Gen.facts, Cert.TailStepRefIdeal.Gen.facts,
    Cert.Query.Gen.facts, Cert.QueryIdeal.Gen.facts, Cert.QueryRefIdeal.Gen.facts,
    Cert.IndexQuery.Gen.facts, Cert.IndexQueryIdeal.Gen.facts, Cert.IndexQueryRefIdeal.Gen.facts,
    Cert.IndexKey.Gen.facts, Cert.IndexKeyIdeal.Gen.facts, Cert.IndexKeyRefIdeal.Gen.facts,
    Cert.IndexKeyStep.Gen.facts, Cert.IndexKeyStepIdeal.Gen.facts, Cert.IndexKeyStepRefIdeal.Gen.facts, Cert.Pre_finite.Gen.facts, Cert.Pre_finite_prompt.Gen.facts, Cert.Pre_finite_step.Gen.facts,
    BandClaims.frame_kernel, BandClaims.frame_ideal, BandClaims.frame_ideal_finite, BandClaims.frame_reference,
    BandClaims.frame_reference_finite,
    MergeClaims.frame_kernel, MergeClaims.frame_ideal, MergeClaims.frame_reference,
    OutprojClaims.frame_kernel, OutprojClaims.frame_ideal, OutprojClaims.frame_reference,
    KeysClaims.frame_kernel, KeysClaims.frame_ideal, KeysClaims.frame_reference,
    ValuesClaims.frame_kernel, ValuesClaims.frame_ideal, ValuesClaims.frame_reference,
    FfnClaims.frame_kernel, FfnClaims.frame_ideal, FfnClaims.frame_reference,
    TailClaims.frame_kernel, TailClaims.frame_ideal, TailClaims.frame_reference,
    KvbClaims.frame_kernel, KvbClaims.frame_ideal, KvbClaims.frame_reference,
    KeysStepClaims.frame_kernel, KeysStepClaims.frame_ideal, KeysStepClaims.frame_reference,
    ValuesStepClaims.frame_kernel, ValuesStepClaims.frame_ideal, ValuesStepClaims.frame_reference,
    TailStepClaims.frame_kernel, TailStepClaims.frame_ideal, TailStepClaims.frame_reference,
    QueryClaims.frame_kernel, QueryClaims.frame_ideal, QueryClaims.frame_reference,
    IndexQueryClaims.frame_kernel, IndexQueryClaims.frame_ideal, IndexQueryClaims.frame_ideal_finite, IndexQueryClaims.frame_reference, IndexQueryClaims.frame_reference_finite,
    IndexKeyClaims.frame_kernel, IndexKeyClaims.frame_ideal, IndexKeyClaims.frame_ideal_finite, IndexKeyClaims.frame_reference, IndexKeyClaims.frame_reference_finite,
    IndexKeyStepClaims.frame_kernel, IndexKeyStepClaims.frame_ideal, IndexKeyStepClaims.frame_ideal_finite, IndexKeyStepClaims.frame_reference, IndexKeyStepClaims.frame_reference_finite,
    BandClaims.preserves, BandClaims.algebraic,
    trivial, MergeClaims.algebraic,
    trivial, OutprojClaims.algebraic,
    trivial, KeysClaims.algebraic,
    trivial, ValuesClaims.algebraic,
    trivial, FfnClaims.algebraic,
    trivial, TailClaims.algebraic,
    trivial, KvbClaims.algebraic,
    trivial, KeysStepClaims.algebraic,
    trivial, ValuesStepClaims.algebraic,
    trivial, TailStepClaims.algebraic,
    trivial, QueryClaims.algebraic,
    trivial, IndexQueryClaims.algebraic,
    trivial, IndexKeyClaims.algebraic,
    trivial, IndexKeyStepClaims.algebraic⟩

end Cert.Proof

end
